-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits_and_a_kept_key [hPre_finite_logits_and_a_kept_key : Cert.Pre_finite_logits_and_a_kept_key.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits_and_a_kept_key.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits_and_a_kept_key [hPre_finite_logits_and_a_kept_key : Cert.Pre_finite_logits_and_a_kept_key.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits_and_a_kept_key.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResReferenceIdeal (m : (ℓ : Loc Cert.ResReferenceIdeal.nD Cert.ResReferenceIdeal.τ Cert.ResReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresReferenceIdeal (m : (ℓ : Loc Cert.ScoresReferenceIdeal.nD Cert.ScoresReferenceIdeal.τ Cert.ScoresReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits_and_a_kept_key [hKernelIdeal : Cert.KernelIdeal.Facts] [hPre_finite_logits_and_a_kept_key : Cert.Pre_finite_logits_and_a_kept_key.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits_and_a_kept_key m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits_and_a_kept_key [hReferenceIdeal : Cert.ReferenceIdeal.Facts] [hPre_finite_logits_and_a_kept_key : Cert.Pre_finite_logits_and_a_kept_key.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits_and_a_kept_key m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2))
      ∧ r.2.sem = fun _ => 0)

def quiescent_ResReferenceIdeal [hResReferenceIdeal : Cert.ResReferenceIdeal.Facts] : Prop :=
  ∀ (m : (ℓ : Loc Cert.ResReferenceIdeal.nD Cert.ResReferenceIdeal.τ Cert.ResReferenceIdeal.sig) → Buf (Elt Ideal) ℓ) (g : Dev Cert.ResReferenceIdeal.nD → PrngReg), Pre_ResReferenceIdeal m →
    θ_run (Cert.ResReferenceIdeal.defs (F := Ideal)) (onTc (τ := Cert.ResReferenceIdeal.τ) (Cert.ResReferenceIdeal.main (F := Ideal))) ⟨m, fun _ => 0, g⟩ (fun r => (∀ c : Dev Cert.ResReferenceIdeal.nD,
      r.2.mem ((c.tc : Thread Cert.ResReferenceIdeal.nD Cert.ResReferenceIdeal.τ).loc Cert.ResReferenceIdeal.main_arg0) = m ((c.tc : Thread Cert.ResReferenceIdeal.nD Cert.ResReferenceIdeal.τ).loc Cert.ResReferenceIdeal.main_arg0)
      ∧ r.2.mem ((c.tc : Thread Cert.ResReferenceIdeal.nD Cert.ResReferenceIdeal.τ).loc Cert.ResReferenceIdeal.main_arg1) = m ((c.tc : Thread Cert.ResReferenceIdeal.nD Cert.ResReferenceIdeal.τ).loc Cert.ResReferenceIdeal.main_arg1)
      ∧ r.2.mem ((c.tc : Thread Cert.ResReferenceIdeal.nD Cert.ResReferenceIdeal.τ).loc Cert.ResReferenceIdeal.main_arg2) = m ((c.tc : Thread Cert.ResReferenceIdeal.nD Cert.ResReferenceIdeal.τ).loc Cert.ResReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def preserves_Kernel_KernelIdeal : Prop :=
  IdealRules.named_const.Statement Cert.KernelIdeal.κ "neg_big" .f32 0xF149F2CA#32 ⊥
  ∧ IdealRules.named_const.Statement Cert.KernelIdeal.κ "log2e_scale" .f32 0x3E0293EE#32 (((Real.sqrt 128)⁻¹ * (Real.log 2)⁻¹ : ℝ) : EReal)

def algebraic_KernelIdeal_ReferenceIdeal_pre_finite_logits_and_a_kept_key [hKernelIdeal : Cert.KernelIdeal.Facts] [hReferenceIdeal : Cert.ReferenceIdeal.Facts] [hPre_finite_logits_and_a_kept_key : Cert.Pre_finite_logits_and_a_kept_key.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits_and_a_kept_key m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v15) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v14) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def preserves_Res_ResIdeal : Prop :=
  True

def algebraic_ResIdeal_ResReferenceIdeal [hResIdeal : Cert.ResIdeal.Facts] [hResReferenceIdeal : Cert.ResReferenceIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResReferenceIdeal.nD Cert.ResReferenceIdeal.τ Cert.ResReferenceIdeal.sig) → Buf (Elt Ideal) ℓ) (g' : Dev Cert.ResReferenceIdeal.nD → PrngReg), Pre_ResIdeal m →
    (∀ c : Dev Cert.ResIdeal.nD,
      m' ((c.tc : Thread Cert.ResReferenceIdeal.nD Cert.ResReferenceIdeal.τ).loc Cert.ResReferenceIdeal.main_arg0) = m ((c.tc : Thread Cert.ResIdeal.nD Cert.ResIdeal.τ).loc Cert.ResIdeal.main_arg0)
      ∧ m' ((c.tc : Thread Cert.ResReferenceIdeal.nD Cert.ResReferenceIdeal.τ).loc Cert.ResReferenceIdeal.main_arg1) = m ((c.tc : Thread Cert.ResIdeal.nD Cert.ResIdeal.τ).loc Cert.ResIdeal.main_arg1)
      ∧ m' ((c.tc : Thread Cert.ResReferenceIdeal.nD Cert.ResReferenceIdeal.τ).loc Cert.ResReferenceIdeal.main_arg2) = m ((c.tc : Thread Cert.ResIdeal.nD Cert.ResIdeal.τ).loc Cert.ResIdeal.main_arg2)) →
    ∃ (v0 : (c : Dev Cert.ResIdeal.nD) → Buf (Elt Ideal) ((c.tc : Thread Cert.ResIdeal.nD Cert.ResIdeal.τ).loc Cert.ResIdeal.main_v1)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v1) = v0 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2))
      ∧ θ_run (Cert.ResReferenceIdeal.defs (F := Ideal)) (onTc (τ := Cert.ResReferenceIdeal.τ) (Cert.ResReferenceIdeal.main (F := Ideal))) ⟨m', fun _ => 0, g'⟩ (fun r => ∀ c : Dev Cert.ResReferenceIdeal.nD,
          r.2.mem ((c.tc : Thread Cert.ResReferenceIdeal.nD Cert.ResReferenceIdeal.τ).loc Cert.ResReferenceIdeal.main_v13) = v0 c
          ∧ r.2.mem ((c.tc : Thread Cert.ResReferenceIdeal.nD Cert.ResReferenceIdeal.τ).loc Cert.ResReferenceIdeal.main_arg0) = m' ((c.tc : Thread Cert.ResReferenceIdeal.nD Cert.ResReferenceIdeal.τ).loc Cert.ResReferenceIdeal.main_arg0)
          ∧ r.2.mem ((c.tc : Thread Cert.ResReferenceIdeal.nD Cert.ResReferenceIdeal.τ).loc Cert.ResReferenceIdeal.main_arg1) = m' ((c.tc : Thread Cert.ResReferenceIdeal.nD Cert.ResReferenceIdeal.τ).loc Cert.ResReferenceIdeal.main_arg1)
          ∧ r.2.mem ((c.tc : Thread Cert.ResReferenceIdeal.nD Cert.ResReferenceIdeal.τ).loc Cert.ResReferenceIdeal.main_arg2) = m' ((c.tc : Thread Cert.ResReferenceIdeal.nD Cert.ResReferenceIdeal.τ).loc Cert.ResReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_v16) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Scores_ScoresIdeal : Prop :=
  True

def algebraic_ScoresIdeal_ScoresReferenceIdeal [hScoresIdeal : Cert.ScoresIdeal.Facts] [hScoresReferenceIdeal : Cert.ScoresReferenceIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)
      ∧ m' ((c.tc : Thread Cert.ScoresReferenceIdeal.nD Cert.ScoresReferenceIdeal.τ).loc Cert.ScoresReferenceIdeal.main_arg1) = m ((c.tc : Thread Cert.ScoresIdeal.nD Cert.ScoresIdeal.τ).loc Cert.ScoresIdeal.main_arg1)
      ∧ m' ((c.tc : Thread Cert.ScoresReferenceIdeal.nD Cert.ScoresReferenceIdeal.τ).loc Cert.ScoresReferenceIdeal.main_arg2) = m ((c.tc : Thread Cert.ScoresIdeal.nD Cert.ScoresIdeal.τ).loc Cert.ScoresIdeal.main_arg2)) →
    ∃ (v0 : (c : Dev Cert.ScoresIdeal.nD) → Buf (Elt Ideal) ((c.tc : Thread Cert.ScoresIdeal.nD Cert.ScoresIdeal.τ).loc Cert.ScoresIdeal.main_v3)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v3) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v6) = v0 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1)
          ∧ r.2.mem ((c.tc : Thread Cert.ScoresReferenceIdeal.nD Cert.ScoresReferenceIdeal.τ).loc Cert.ScoresReferenceIdeal.main_arg2) = m' ((c.tc : Thread Cert.ScoresReferenceIdeal.nD Cert.ScoresReferenceIdeal.τ).loc Cert.ScoresReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v75) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hGates : Cert.Gates.Facts) (hGatesIdeal : Cert.GatesIdeal.Facts) (hGatesReferenceIdeal : Cert.GatesReferenceIdeal.Facts) (hRes : Cert.Res.Facts) (hResIdeal : Cert.ResIdeal.Facts) (hResReferenceIdeal : Cert.ResReferenceIdeal.Facts) (hOut : Cert.Out.Facts) (hOutIdeal : Cert.OutIdeal.Facts) (hOutReferenceIdeal : Cert.OutReferenceIdeal.Facts) (hScores : Cert.Scores.Facts) (hScoresIdeal : Cert.ScoresIdeal.Facts) (hScoresReferenceIdeal : Cert.ScoresReferenceIdeal.Facts) (hMix : Cert.Mix.Facts) (hMixIdeal : Cert.MixIdeal.Facts) (hMixReferenceIdeal : Cert.MixReferenceIdeal.Facts) (hPre_finite_logits_and_a_kept_key : Cert.Pre_finite_logits_and_a_kept_key.Facts),
    quiescent_Kernel (hKernel := hKernel)
    ∧ quiescent_KernelIdeal (hKernelIdeal := hKernelIdeal)
    ∧ quiescent_KernelIdeal_pre_finite_logits_and_a_kept_key (hKernelIdeal := hKernelIdeal) (hPre_finite_logits_and_a_kept_key := hPre_finite_logits_and_a_kept_key)
    ∧ quiescent_ReferenceIdeal (hReferenceIdeal := hReferenceIdeal)
    ∧ quiescent_ReferenceIdeal_pre_finite_logits_and_a_kept_key (hReferenceIdeal := hReferenceIdeal) (hPre_finite_logits_and_a_kept_key := hPre_finite_logits_and_a_kept_key)
    ∧ quiescent_Proj (hProj := hProj)
    ∧ quiescent_ProjIdeal (hProjIdeal := hProjIdeal)
    ∧ quiescent_ProjReferenceIdeal (hProjReferenceIdeal := hProjReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Res (hRes := hRes)
    ∧ quiescent_ResIdeal (hResIdeal := hResIdeal)
    ∧ quiescent_ResReferenceIdeal (hResReferenceIdeal := hResReferenceIdeal)
    ∧ quiescent_Out (hOut := hOut)
    ∧ quiescent_OutIdeal (hOutIdeal := hOutIdeal)
    ∧ quiescent_OutReferenceIdeal (hOutReferenceIdeal := hOutReferenceIdeal)
    ∧ quiescent_Scores (hScores := hScores)
    ∧ quiescent_ScoresIdeal (hScoresIdeal := hScoresIdeal)
    ∧ quiescent_ScoresReferenceIdeal (hScoresReferenceIdeal := hScoresReferenceIdeal)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal_pre_finite_logits_and_a_kept_key (hKernelIdeal := hKernelIdeal) (hReferenceIdeal := hReferenceIdeal) (hPre_finite_logits_and_a_kept_key := hPre_finite_logits_and_a_kept_key)
    ∧ preserves_Proj_ProjIdeal
    ∧ algebraic_ProjIdeal_ProjReferenceIdeal (hProjIdeal := hProjIdeal) (hProjReferenceIdeal := hProjReferenceIdeal)
    ∧ preserves_Gates_GatesIdeal
    ∧ algebraic_GatesIdeal_GatesReferenceIdeal (hGatesIdeal := hGatesIdeal) (hGatesReferenceIdeal := hGatesReferenceIdeal)
    ∧ preserves_Res_ResIdeal
    ∧ algebraic_ResIdeal_ResReferenceIdeal (hResIdeal := hResIdeal) (hResReferenceIdeal := hResReferenceIdeal)
    ∧ preserves_Out_OutIdeal
    ∧ algebraic_OutIdeal_OutReferenceIdeal (hOutIdeal := hOutIdeal) (hOutReferenceIdeal := hOutReferenceIdeal)
    ∧ preserves_Scores_ScoresIdeal
    ∧ algebraic_ScoresIdeal_ScoresReferenceIdeal (hScoresIdeal := hScoresIdeal) (hScoresReferenceIdeal := hScoresReferenceIdeal)
    ∧ preserves_Mix_MixIdeal
    ∧ algebraic_MixIdeal_MixReferenceIdeal (hMixIdeal := hMixIdeal) (hMixReferenceIdeal := hMixReferenceIdeal)
-- ==== Pre_finite_logits_and_a_kept_key.lean ====
abbrev S2x16384x1024 : Shape := ⟨3, ![2, 16384, 1024]⟩
abbrev S2x16384x16384 : Shape := ⟨3, ![2, 16384, 16384]⟩
abbrev S16384 : Shape := ⟨1, ![16384]⟩
abbrev S_ : Shape := ⟨0, ![]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S2x16384 : Shape := ⟨2, ![2, 16384]⟩
abbrev S2x16384x1 : Shape := ⟨3, ![2, 16384, 1]⟩

class Facts : Prop where
  bcast_S_S2x16384x16384 : S_.BroadcastsInDim S2x16384x16384 (![] : Fin 0 → Fin S2x16384x16384.rank)
  bcast_S16384_S1x1x16384_2 : S16384.BroadcastsInDim S1x1x16384 (![2] : Fin 1 → Fin S1x1x16384.rank)
  bcast_S16384_S1x16384x1_1 : S16384.BroadcastsInDim S1x16384x1 (![1] : Fin 1 → Fin S1x16384x1.rank)
  bcast_S1x1x16384_S1x16384x16384_0_1_2 : S1x1x16384.BroadcastsInDim S1x16384x16384 (![0, 1, 2] : Fin 3 → Fin S1x16384x16384.rank)
  bcast_S1x16384x1_S1x16384x16384_0_1_2 : S1x16384x1.BroadcastsInDim S1x16384x16384 (![0, 1, 2] : Fin 3 → Fin S1x16384x16384.rank)
  bcast_S1x16384x16384_S2x16384x16384_0_1_2 : S1x16384x16384.BroadcastsInDim S2x16384x16384 (![0, 1, 2] : Fin 3 → Fin S2x16384x16384.rank)
  bcast_S_S2x16384x1024 : S_.BroadcastsInDim S2x16384x1024 (![] : Fin 0 → Fin S2x16384x1024.rank)
  reducesTo_S2x16384x16384_S2x16384_d2 : S2x16384x16384.ReducesTo [2] S2x16384
  h_S_ : 0 < S_.numel
  bcast_S2x16384_S2x16384x1_0_1 : S2x16384.BroadcastsInDim S2x16384x1 (![0, 1] : Fin 2 → Fin S2x16384x1.rank)
  bcast_S2x16384x1_S2x16384x1024_0_1_2 : S2x16384x1.BroadcastsInDim S2x16384x1024 (![0, 1, 2] : Fin 3 → Fin S2x16384x1024.rank)

variable [Facts]

def fn_part1 {F : FTy → Type} [FloatOps F] (main_v16 : IVec S2x16384x1024 1) (main_v19 : IVec S2x16384x1024 1) : IVec S2x16384x1024 1 :=
  let main_v20 : IVec S2x16384x1024 1 := andi main_v16 main_v19
  main_v20

def fn {F : FTy → Type} [FloatOps F] (main_arg0 : FVec F S2x16384x1024 .bf16) (main_arg1 : FVec F S2x16384x1024 .bf16) (main_arg2 : FVec F S2x16384x1024 .bf16) (main_arg3 : IVec S2x16384x16384 32) : IVec S2x16384x1024 1 :=
  let main_v0 : IVec S16384 32 := iotaInDim S16384 32 0
  let main_c : IVec S_ 32 := constantI S_ 32 0#32
  let main_v1 : IVec S2x16384x16384 32 := broadcastInDim S2x16384x16384 ![] bcast_S_S2x16384x16384 main_c
  let main_v2 : IVec S2x16384x16384 1 := cmpi .ne main_arg3 main_v1
  let main_v3 : IVec S1x1x16384 32 := broadcastInDim S1x1x16384 ![2] bcast_S16384_S1x1x16384_2 main_v0
  let main_v4 : IVec S1x16384x1 32 := broadcastInDim S1x16384x1 ![1] bcast_S16384_S1x16384x1_1 main_v0
  let main_v5 : IVec S1x16384x16384 32 := broadcastInDim S1x16384x16384 ![0, 1, 2] bcast_S1x1x16384_S1x16384x16384_0_1_2 main_v3
  let main_v6 : IVec S1x16384x16384 32 := broadcastInDim S1x16384x16384 ![0, 1, 2] bcast_S1x16384x1_S1x16384x16384_0_1_2 main_v4
  let main_v7 : IVec S1x16384x16384 1 := cmpi .sle main_v5 main_v6
  let main_v8 : IVec S2x16384x16384 1 := broadcastInDim S2x16384x16384 ![0, 1, 2] bcast_S1x16384x16384_S2x16384x16384_0_1_2 main_v7
  let main_v9 : IVec S2x16384x16384 1 := andi main_v2 main_v8
  let main_v10 : FVec F S2x16384x1024 .bf16 := Host.absf main_arg0
  let main_cst : FVec F S_ .bf16 := constant S_ .bf16 0x7F80#16
  let main_v11 : FVec F S2x16384x1024 .bf16 := broadcastInDim S2x16384x1024 ![] bcast_S_S2x16384x1024 main_cst
  let main_v12 : IVec S2x16384x1024 1 := cmpf .olt main_v10 main_v11
  let main_v13 : FVec F S2x16384x1024 .bf16 := Host.absf main_arg1
  let main_cst_0 : FVec F S_ .bf16 := constant S_ .bf16 0x7F80#16
  let main_v14 : FVec F S2x16384x1024 .bf16 := broadcastInDim S2x16384x1024 ![] bcast_S_S2x16384x1024 main_cst_0
  let main_v15 : IVec S2x16384x1024 1 := cmpf .olt main_v13 main_v14
  let main_v16 : IVec S2x16384x1024 1 := andi main_v12 main_v15
  let main_c_1 : IVec S_ 1 := constantI S_ 1 0#1
  let main_v17 : IVec S2x16384 1 := (fun x v => Host.reduce IntOp.ori x v reducesTo_S2x16384x16384_S2x16384_d2 h_S_) main_v9 main_c_1
  let main_v18 : IVec S2x16384x1 1 := broadcastInDim S2x16384x1 ![0, 1] bcast_S2x16384_S2x16384x1_0_1 main_v17
  let main_v19 : IVec S2x16384x1024 1 := broadcastInDim S2x16384x1024 ![0, 1, 2] bcast_S2x16384x1_S2x16384x1024_0_1_2 main_v18
  fn_part1 (F := F) main_v16 main_v19
-- ==== Kernel.lean ====
abbrev S2x16384x1024 : Shape := ⟨3, ![2, 16384, 1024]⟩
abbrev S2x16384x16384 : Shape := ⟨3, ![2, 16384, 16384]⟩
abbrev S528 : Shape := ⟨1, ![528]⟩
abbrev S16384 : Shape := ⟨1, ![16384]⟩
abbrev S_ : Shape := ⟨0, ![]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S1x512x1024 : Shape := ⟨3, ![1, 512, 1024]⟩
abbrev S1 : Shape := ⟨1, ![1]⟩
abbrev S1x512x512 : Shape := ⟨3, ![1, 512, 512]⟩
abbrev S8x512x128 : Shape := ⟨3, ![8, 512, 128]⟩
abbrev S8x512x256 : Shape := ⟨3, ![8, 512, 256]⟩
abbrev S512x128 : Shape := ⟨2, ![512, 128]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩

abbrev nBuf : Space → Nat
  | .hbm => 21
  | .vmem => 12
  | .smem => 2
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x1024, .bf16⟩
  | .hbm, ⟨3, _⟩ => ⟨S2x16384x16384, .i32⟩
  | .hbm, ⟨4, _⟩ => ⟨S16384, .i32⟩
  | .hbm, ⟨5, _⟩ => ⟨S_, .i32⟩
  | .hbm, ⟨6, _⟩ => ⟨S2x16384x16384, .i32⟩
  | .hbm, ⟨7, _⟩ => ⟨S2x16384x16384, .i1⟩
  | .hbm, ⟨8, _⟩ => ⟨S1x1x16384, .i32⟩
  | .hbm, ⟨9, _⟩ => ⟨S1x16384x1, .i32⟩
  | .hbm, ⟨10, _⟩ => ⟨S1x16384x16384, .i32⟩
  | .hbm, ⟨11, _⟩ => ⟨S1x16384x16384, .i32⟩
  | .hbm, ⟨12, _⟩ => ⟨S1x16384x16384, .i1⟩
  | .hbm, ⟨13, _⟩ => ⟨S2x16384x16384, .i1⟩
  | .hbm, ⟨14, _⟩ => ⟨S2x16384x16384, .i1⟩
  | .hbm, ⟨15, _⟩ => ⟨S_, .bf16⟩
  | .hbm, ⟨16, _⟩ => ⟨S2x16384x16384, .bf16⟩
  | .hbm, ⟨17, _⟩ => ⟨S_, .bf16⟩
  | .hbm, ⟨18, _⟩ => ⟨S2x16384x16384, .bf16⟩
  | .hbm, ⟨19, _⟩ => ⟨S2x16384x16384, .bf16⟩
  | .hbm, ⟨20, _⟩ => ⟨S2x16384x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S8x512x128, .f32⟩
  | .local _ .vmem, ⟨11, _⟩ => ⟨S8x512x256, .f32⟩
  | .local _ .smem, ⟨0, _⟩ => ⟨S528, .i32⟩
  | .local _ .smem, ⟨1, _⟩ => ⟨S528, .i32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 528], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (v1 : BitVec 32) (v3 : BitVec 32) : BitVec 1 :=
  let c512_i32 : BitVec 32 := 512#32
  let v4 : BitVec 32 := Scalar.muli v1 c512_i32
  let c512_i32_0 : BitVec 32 := 512#32
  let v5 : BitVec 32 := Scalar.addi v4 c512_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c512_i32_1 : BitVec 32 := 512#32
  let c0_i32_3 : BitVec 32 := 0#32
  let v13 : BitVec 1 := Scalar.cmpi .sgt c512_i32_1 c0_i32_3
  let v14 : BitVec 32 := Scalar.extui v13
  let c0_i32_4 : BitVec 32 := 0#32
  let v15 : BitVec 1 := Scalar.cmpi .slt c512_i32_1 c0_i32_4
  let v16 : BitVec 32 := Scalar.extui v15
  let v17 : BitVec 32 := Scalar.subi v14 v16
  let v18 : BitVec 1 := Scalar.cmpi .ne v12 v17
  let v19 : BitVec 32 := Scalar.remsi v6 c512_i32_1
  let c0_i32_5 : BitVec 32 := 0#32
  let v20 : BitVec 1 := Scalar.cmpi .ne v19 c0_i32_5
  let v21 : BitVec 1 := Scalar.andi v18 v20
  let v7 : BitVec 32 := Scalar.divsi v6 c512_i32_1
  let c1_i32_6 : BitVec 32 := 1#32
  let v22 : BitVec 32 := Scalar.subi v7 c1_i32_6
  let v23 : BitVec 32 := Scalar.select v21 v22 v7
  let v412 : BitVec 1 := Scalar.cmpi .eq v3 v23
  let v413 : BitVec 32 := Scalar.extui v412
  let c0_i32_218 : BitVec 32 := 0#32
  let v414 : BitVec 1 := Scalar.cmpi .ne v413 c0_i32_218
  v414

def cc0_transform_0 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let v2 : Index := Scalar.indexCast arg1
  let v3 : BitVec 32 := pf.at 1 (Rect.unit (s := S528) ![v2.toNat] S1.size (k0_off1_inb i)) numel1_S1
  let c0_i32 : BitVec 32 := 0#32
  ![arg0.toNat, v1.toNat, v3.toNat]

def cc0_transform_4 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e_scale" => some (((Real.sqrt 128)⁻¹ * (Real.log 2)⁻¹ : ℝ) : EReal)
  | "neg_big" => some ⊥
  | _ => none
-- ==== ReferenceIdeal.lean ====
abbrev S2x16384x1024 : Shape := ⟨3, ![2, 16384, 1024]⟩
abbrev S2x16384x16384 : Shape := ⟨3, ![2, 16384, 16384]⟩
abbrev S2x16384x8x128 : Shape := ⟨4, ![2, 16384, 8, 128]⟩
abbrev S16384 : Shape := ⟨1, ![16384]⟩
abbrev S_ : Shape := ⟨0, ![]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S2x8x16384x16384 : Shape := ⟨4, ![2, 8, 16384, 16384]⟩
abbrev S2x16384x8x16384 : Shape := ⟨4, ![2, 16384, 8, 16384]⟩
abbrev S2x16384x1x16384 : Shape := ⟨4, ![2, 16384, 1, 16384]⟩
abbrev S2x16384x8 : Shape := ⟨3, ![2, 16384, 8]⟩
abbrev S2x16384x8x1 : Shape := ⟨4, ![2, 16384, 8, 1]⟩
abbrev S2x8x128x16384 : Shape := ⟨4, ![2, 8, 128, 16384]⟩

abbrev nBuf : Space → Nat
  | .hbm => 51
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x1024, .bf16⟩
  | .hbm, ⟨3, _⟩ => ⟨S2x16384x16384, .i32⟩
  | .hbm, ⟨4, _⟩ => ⟨S2x16384x1024, .f32⟩
  | .hbm, ⟨5, _⟩ => ⟨S2x16384x8x128, .f32⟩
  | .hbm, ⟨6, _⟩ => ⟨S2x16384x1024, .f32⟩
  | .hbm, ⟨7, _⟩ => ⟨S2x16384x8x128, .f32⟩
  | .hbm, ⟨8, _⟩ => ⟨S2x16384x1024, .f32⟩
  | .hbm, ⟨9, _⟩ => ⟨S2x16384x8x128, .f32⟩
  | .hbm, ⟨10, _⟩ => ⟨S16384, .i32⟩
  | .hbm, ⟨11, _⟩ => ⟨S_, .i32⟩
  | .hbm, ⟨12, _⟩ => ⟨S2x16384x16384, .i32⟩
  | .hbm, ⟨13, _⟩ => ⟨S2x16384x16384, .i1⟩
  | .hbm, ⟨14, _⟩ => ⟨S1x1x16384, .i32⟩
  | .hbm, ⟨15, _⟩ => ⟨S1x16384x1, .i32⟩
  | .hbm, ⟨16, _⟩ => ⟨S1x16384x16384, .i32⟩
  | .hbm, ⟨17, _⟩ => ⟨S1x16384x16384, .i32⟩
  | .hbm, ⟨18, _⟩ => ⟨S1x16384x16384, .i1⟩
  | .hbm, ⟨19, _⟩ => ⟨S2x16384x16384, .i1⟩
  | .hbm, ⟨20, _⟩ => ⟨S2x16384x16384, .i1⟩
  | .hbm, ⟨21, _⟩ => ⟨S2x8x16384x16384, .f32⟩
  | .hbm, ⟨22, _⟩ => ⟨S2x16384x8x16384, .f32⟩
  | .hbm, ⟨23, _⟩ => ⟨S_, .f32⟩
  | .hbm, ⟨24, _⟩ => ⟨S_, .f32⟩
  | .hbm, ⟨25, _⟩ => ⟨S2x16384x8x16384, .f32⟩
  | .hbm, ⟨26, _⟩ => ⟨S2x16384x8x16384, .f32⟩
  | .hbm, ⟨27, _⟩ => ⟨S2x16384x1x16384, .i1⟩
  | .hbm, ⟨28, _⟩ => ⟨S_, .f32⟩
  | .hbm, ⟨29, _⟩ => ⟨S_, .f32⟩
  | .hbm, ⟨30, _⟩ => ⟨S2x16384x8x16384, .i1⟩
  | .hbm, ⟨31, _⟩ => ⟨S2x16384x8x16384, .f32⟩
  | .hbm, ⟨32, _⟩ => ⟨S2x16384x8x16384, .f32⟩
  | .hbm, ⟨33, _⟩ => ⟨S_, .f32⟩
  | .hbm, ⟨34, _⟩ => ⟨S2x16384x8, .f32⟩
  | .hbm, ⟨35, _⟩ => ⟨S_, .f32⟩
  | .hbm, ⟨36, _⟩ => ⟨S2x16384x8, .f32⟩
  | .hbm, ⟨37, _⟩ => ⟨S2x16384x8, .f32⟩
  | .hbm, ⟨38, _⟩ => ⟨S2x16384x8x1, .f32⟩
  | .hbm, ⟨39, _⟩ => ⟨S2x16384x8x16384, .f32⟩
  | .hbm, ⟨40, _⟩ => ⟨S2x16384x8x16384, .f32⟩
  | .hbm, ⟨41, _⟩ => ⟨S2x16384x8x16384, .f32⟩
  | .hbm, ⟨42, _⟩ => ⟨S_, .f32⟩
  | .hbm, ⟨43, _⟩ => ⟨S2x16384x8, .f32⟩
  | .hbm, ⟨44, _⟩ => ⟨S2x16384x8x1, .f32⟩
  | .hbm, ⟨45, _⟩ => ⟨S2x16384x8x16384, .f32⟩
  | .hbm, ⟨46, _⟩ => ⟨S2x16384x8x16384, .f32⟩
  | .hbm, ⟨47, _⟩ => ⟨S2x8x128x16384, .f32⟩
  | .hbm, ⟨48, _⟩ => ⟨S2x16384x8x128, .f32⟩
  | .hbm, ⟨49, _⟩ => ⟨S2x16384x1024, .f32⟩
  | .hbm, ⟨50, _⟩ => ⟨S2x16384x1024, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Proj.lean ====
abbrev S32768x2048 : Shape := ⟨2, ![32768, 2048]⟩
abbrev S2048 : Shape := ⟨1, ![2048]⟩
abbrev S2048x9800 : Shape := ⟨2, ![2048, 9800]⟩
abbrev S2048x3584 : Shape := ⟨2, ![2048, 3584]⟩
abbrev S1x2048 : Shape := ⟨2, ![1, 2048]⟩
abbrev S32768x3584 : Shape := ⟨2, ![32768, 3584]⟩
abbrev S1024x2048 : Shape := ⟨2, ![1024, 2048]⟩
abbrev S2048x896 : Shape := ⟨2, ![2048, 896]⟩
abbrev S1024x896 : Shape := ⟨2, ![1024, 896]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x9800, .f32⟩
  | .hbm, ⟨3, _⟩ => ⟨S2048x3584, .f32⟩
  | .hbm, ⟨4, _⟩ => ⟨S2048x3584, .bf16⟩
  | .hbm, ⟨5, _⟩ => ⟨S1x2048, .f32⟩
  | .hbm, ⟨6, _⟩ => ⟨S32768x3584, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x896, .bf16⟩
  | .local _ .vmem, ⟨4, _⟩ => ⟨S2048x896, .bf16⟩
  | .local _ .vmem, ⟨5, _⟩ => ⟨S1024x896, .bf16⟩
  | .local _ .vmem, ⟨6, _⟩ => ⟨S1024x896, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjReferenceIdeal.lean ====
abbrev S32768x2048 : Shape := ⟨2, ![32768, 2048]⟩
abbrev S2048 : Shape := ⟨1, ![2048]⟩
abbrev S2048x9800 : Shape := ⟨2, ![2048, 9800]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2048x3584 : Shape := ⟨2, ![2048, 3584]⟩
abbrev S32768x3584 : Shape := ⟨2, ![32768, 3584]⟩

abbrev nBuf : Space → Nat
  | .hbm => 22
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x9800, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S2048x3584, .f32⟩
  | .hbm, ⟨20, _⟩ => ⟨S32768x3584, .f32⟩
  | .hbm, ⟨21, _⟩ => ⟨S32768x3584, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Gates.lean ====
abbrev S32768x2048 : Shape := ⟨2, ![32768, 2048]⟩
abbrev S2048 : Shape := ⟨1, ![2048]⟩
abbrev S2048x9800 : Shape := ⟨2, ![2048, 9800]⟩
abbrev S2048x6144 : Shape := ⟨2, ![2048, 6144]⟩
abbrev S1x2048 : Shape := ⟨2, ![1, 2048]⟩
abbrev S32768x6144 : Shape := ⟨2, ![32768, 6144]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x9800, .f32⟩
  | .hbm, ⟨3, _⟩ => ⟨S2048x6144, .f32⟩
  | .hbm, ⟨4, _⟩ => ⟨S2048x6144, .bf16⟩
  | .hbm, ⟨5, _⟩ => ⟨S1x2048, .f32⟩
  | .hbm, ⟨6, _⟩ => ⟨S32768x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesReferenceIdeal.lean ====
abbrev S32768x2048 : Shape := ⟨2, ![32768, 2048]⟩
abbrev S2048 : Shape := ⟨1, ![2048]⟩
abbrev S2048x9800 : Shape := ⟨2, ![2048, 9800]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2048x6144 : Shape := ⟨2, ![2048, 6144]⟩
abbrev S32768x6144 : Shape := ⟨2, ![32768, 6144]⟩

abbrev nBuf : Space → Nat
  | .hbm => 21
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x9800, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S2048x6144, .f32⟩
  | .hbm, ⟨20, _⟩ => ⟨S32768x6144, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Res.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048, .f32⟩
  | .hbm, ⟨3, _⟩ => ⟨S1x2048, .f32⟩
  | .hbm, ⟨4, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResReferenceIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048, .f32⟩
  | .hbm, ⟨3, _⟩ => ⟨S32768x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Out.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S32768x2048, .f32⟩
  | .hbm, ⟨7, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .f32⟩
  | .hbm, ⟨3, _⟩ => ⟨S2048, .f32⟩
  | .hbm, ⟨4, _⟩ => ⟨S32768x2048, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Scores.lean ====
abbrev S32768x2048 : Shape := ⟨2, ![32768, 2048]⟩
abbrev S2048x2048 : Shape := ⟨2, ![2048, 2048]⟩
abbrev S8x2x128x128 : Shape := ⟨4, ![8, 2, 128, 128]⟩
abbrev S16x128x128 : Shape := ⟨3, ![16, 128, 128]⟩
abbrev S16x128x32768 : Shape := ⟨3, ![16, 128, 32768]⟩
abbrev S512x2048 : Shape := ⟨2, ![512, 2048]⟩
abbrev S16x128x512 : Shape := ⟨3, ![16, 128, 512]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 7
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S8x2x128x128, .f32⟩
  | .hbm, ⟨3, _⟩ => ⟨S16x128x128, .f32⟩
  | .hbm, ⟨4, _⟩ => ⟨S16x128x128, .bf16⟩
  | .hbm, ⟨5, _⟩ => ⟨S2048x2048, .bf16⟩
  | .hbm, ⟨6, _⟩ => ⟨S16x128x32768, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S16x128x128, .bf16⟩
  | .local _ .vmem, ⟨4, _⟩ => ⟨S16x128x512, .f32⟩
  | .local _ .vmem, ⟨5, _⟩ => ⟨S16x128x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ScoresReferenceIdeal.lean ====
abbrev S32768x2048 : Shape := ⟨2, ![32768, 2048]⟩
abbrev S2048x2048 : Shape := ⟨2, ![2048, 2048]⟩
abbrev S8x2x128x128 : Shape := ⟨4, ![8, 2, 128, 128]⟩
abbrev S32768x8x2x128 : Shape := ⟨4, ![32768, 8, 2, 128]⟩
abbrev S8x2x128x32768 : Shape := ⟨4, ![8, 2, 128, 32768]⟩
abbrev S16x128x32768 : Shape := ⟨3, ![16, 128, 32768]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S8x2x128x128, .f32⟩
  | .hbm, ⟨3, _⟩ => ⟨S32768x2048, .f32⟩
  | .hbm, ⟨4, _⟩ => ⟨S32768x2048, .f32⟩
  | .hbm, ⟨5, _⟩ => ⟨S32768x8x2x128, .f32⟩
  | .hbm, ⟨6, _⟩ => ⟨S8x2x128x32768, .f32⟩
  | .hbm, ⟨7, _⟩ => ⟨S32768x8x2x128, .f32⟩
  | .hbm, ⟨8, _⟩ => ⟨S8x2x128x32768, .f32⟩
  | .hbm, ⟨9, _⟩ => ⟨S16x128x32768, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mix.lean ====
abbrev S32768x6144 : Shape := ⟨2, ![32768, 6144]⟩
abbrev S32768x1024 : Shape := ⟨2, ![32768, 1024]⟩
abbrev S1024 : Shape := ⟨1, ![1024]⟩
abbrev S8x128x128 : Shape := ⟨3, ![8, 128, 128]⟩
abbrev S8x128 : Shape := ⟨2, ![8, 128]⟩
abbrev S1024x2048 : Shape := ⟨2, ![1024, 2048]⟩
abbrev S128x8 : Shape := ⟨2, ![128, 8]⟩
abbrev S1x1024 : Shape := ⟨2, ![1, 1024]⟩
abbrev S32768x2048 : Shape := ⟨2, ![32768, 2048]⟩
abbrev S256x1024 : Shape := ⟨2, ![256, 1024]⟩
abbrev S256x2048 : Shape := ⟨2, ![256, 2048]⟩
abbrev S128x128 : Shape := ⟨2, ![128, 128]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩

abbrev nBuf : Space → Nat
  | .hbm => 12
  | .vmem => 18
  | .smem => 0
  | _ => 0

abbrev bufTy : (tb : Table) → Fin (tcTables nBuf tb) → BufTy
  | .hbm, ⟨0, _⟩ => ⟨S32768x6144, .f32⟩
  | .hbm, ⟨1, _⟩ => ⟨S32768x1024, .bf16⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1024x2048, .f32⟩
  | .hbm, ⟨6, _⟩ => ⟨S1024x2048, .f32⟩
  | .hbm, ⟨7, _⟩ => ⟨S128x8, .f32⟩
  | .hbm, ⟨8, _⟩ => ⟨S1024x2048, .bf16⟩
  | .hbm, ⟨9, _⟩ => ⟨S1024x2048, .bf16⟩
  | .hbm, ⟨10, _⟩ => ⟨S1x1024, .f32⟩
  | .hbm, ⟨11, _⟩ => ⟨S32768x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S8x128x128, .f32⟩
  | .local _ .vmem, ⟨12, _⟩ => ⟨S128x8, .f32⟩
  | .local _ .vmem, ⟨13, _⟩ => ⟨S1024x2048, .bf16⟩
  | .local _ .vmem, ⟨14, _⟩ => ⟨S1024x2048, .bf16⟩
  | .local _ .vmem, ⟨15, _⟩ => ⟨S256x2048, .bf16⟩
  | .local _ .vmem, ⟨16, _⟩ => ⟨S256x2048, .bf16⟩
  | .local _ .vmem, ⟨17, _⟩ => ⟨S256x1024, .bf16⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixReferenceIdeal.lean ====
abbrev S32768x6144 : Shape := ⟨2, ![32768, 6144]⟩
abbrev S32768x1024 : Shape := ⟨2, ![32768, 1024]⟩
abbrev S1024 : Shape := ⟨1, ![1024]⟩
abbrev S8x128x128 : Shape := ⟨3, ![8, 128, 128]⟩
abbrev S8x128 : Shape := ⟨2, ![8, 128]⟩
abbrev S1024x2048 : Shape := ⟨2, ![1024, 2048]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S256x128x8x128 : Shape := ⟨4, ![256, 128, 8, 128]⟩
abbrev S128x128 : Shape := ⟨2, ![128, 128]⟩
abbrev S1x128x128 : Shape := ⟨3, ![1, 128, 128]⟩
abbrev S8x256x128x128 : Shape := ⟨4, ![8, 256, 128, 128]⟩
abbrev S128x8 : Shape := ⟨2, ![128, 8]⟩
abbrev S1x128x8x1 : Shape := ⟨4, ![1, 128, 8, 1]⟩

abbrev nBuf : Space → Nat
  | .hbm => 107
  | .vmem => 0
  | .smem => 0
  | _ => 0

abbrev bufTy : (tb : Table) → Fin (tcTables nBuf tb) → BufTy
  | .hbm, ⟨0, _⟩ => ⟨S32768x6144, .f32⟩
  | .hbm, ⟨1, _⟩ => ⟨S32768x1024, .bf16⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1024x2048, .f32⟩
  | .hbm, ⟨6, _⟩ => ⟨S1024x2048, .f32⟩
  | .hbm, ⟨7, _⟩ => ⟨S32768x1024, .f32⟩
  | .hbm, ⟨8, _⟩ => ⟨S32768x1024, .f32⟩
  | .hbm, ⟨9, _⟩ => ⟨S32768x2048, .f32⟩
  | .hbm, ⟨10, _⟩ => ⟨S32768x2048, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | .hbm, ⟨61, _⟩ => ⟨S256x128x8x128, .f32⟩
  | .hbm, ⟨62, _⟩ => ⟨S_, .f32⟩
  | .hbm, ⟨63, _⟩ => ⟨S128x128, .f32⟩
  | .hbm, ⟨64, _⟩ => ⟨S128x128, .i32⟩
  | .hbm, ⟨65, _⟩ => ⟨S_, .i32⟩
  | .hbm, ⟨66, _⟩ => ⟨S128x128, .i32⟩
  | .hbm, ⟨67, _⟩ => ⟨S128x128, .i32⟩
  | .hbm, ⟨68, _⟩ => ⟨S128x128, .i32⟩
  | .hbm, ⟨69, _⟩ => ⟨S128x128, .i1⟩
  | .hbm, ⟨70, _⟩ => ⟨S_, .f32⟩
  | .hbm, ⟨71, _⟩ => ⟨S128x128, .f32⟩
  | .hbm, ⟨72, _⟩ => ⟨S128x128, .f32⟩
  | .hbm, ⟨73, _⟩ => ⟨S1x128x128, .f32⟩
  | .hbm, ⟨74, _⟩ => ⟨S8x128x128, .f32⟩
  | .hbm, ⟨75, _⟩ => ⟨S8x128x128, .f32⟩
  | .hbm, ⟨76, _⟩ => ⟨S8x256x128x128, .f32⟩
  | .hbm, ⟨77, _⟩ => ⟨S256x128x8x128, .f32⟩
  | .hbm, ⟨78, _⟩ => ⟨S128x8, .f32⟩
  | .hbm, ⟨79, _⟩ => ⟨S1x128x8x1, .f32⟩
  | .hbm, ⟨80, _⟩ => ⟨S256x128x8x128, .f32⟩
  | .hbm, ⟨81, _⟩ => ⟨S256x128x8x128, .f32⟩
  | .hbm, ⟨82, _⟩ => ⟨S32768x1024, .f32⟩
  | .hbm, ⟨83, _⟩ => ⟨S32768x1024, .f32⟩
  | .hbm, ⟨84, _⟩ => ⟨S32768x2048, .f32⟩
  | .hbm, ⟨85, _⟩ => ⟨S32768x2048, .f32⟩
  | .hbm, ⟨86, _⟩ => ⟨S_, .f32⟩
  | .hbm, ⟨87, _⟩ => ⟨S32768x2048, .f32⟩
  | .hbm, ⟨88, _⟩ => ⟨S32768x2048, .f32⟩
  | .hbm, ⟨89, _⟩ => ⟨S_, .f32⟩
  | .hbm, ⟨90, _⟩ => ⟨S32768x2048, .f32⟩
  | .hbm, ⟨91, _⟩ => ⟨S32768x2048, .f32⟩
  | .hbm, ⟨92, _⟩ => ⟨S32768x1024, .f32⟩
  | .hbm, ⟨93, _⟩ => ⟨S32768x2048, .f32⟩
  | .hbm, ⟨94, _⟩ => ⟨S32768x2048, .f32⟩
  | .hbm, ⟨95, _⟩ => ⟨S32768x2048, .f32⟩
  | .hbm, ⟨96, _⟩ => ⟨S32768x2048, .f32⟩
  | .hbm, ⟨97, _⟩ => ⟨S_, .f32⟩
  | .hbm, ⟨98, _⟩ => ⟨S32768x2048, .f32⟩
  | .hbm, ⟨99, _⟩ => ⟨S32768x2048, .f32⟩
  | .hbm, ⟨100, _⟩ => ⟨S_, .f32⟩
  | .hbm, ⟨101, _⟩ => ⟨S32768x2048, .f32⟩
  | .hbm, ⟨102, _⟩ => ⟨S32768x2048, .f32⟩
  | .hbm, ⟨103, _⟩ => ⟨S32768x2048, .f32⟩
  | .hbm, ⟨104, _⟩ => ⟨S32768x2048, .f32⟩
  | .hbm, ⟨105, _⟩ => ⟨S32768x2048, .f32⟩
  | .hbm, ⟨106, _⟩ => ⟨S32768x2048, .bf16⟩
  | _, _ => ⟨S32768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_call0_v0 : Ref sig .tc := ⟨.hbm, 64, rfl⟩
abbrev main_call0_c : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_cst : Ref sig .tc := ⟨.hbm, 70, rfl⟩
abbrev main_call0_v5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]
-- ==== Proof.AttnBits.Blocks.lean ====
/-
Every window's block lies inside its array, at every point of the grid.
-/
module

public import proofs.«01_k».proof.Proof.AttnBits.Tables

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

theorem ok_pfN_0_0_inb : ∀ i : grid0.Coords, ∀ a, (cc0_transform_0 k0_off1_inb numel1_S1 (pfN ) i a + 1) * S1x512x1024.size a ≤ S2x16384x1024.size a := by decide +kernel
theorem ok_pfN_0_0 : (∀ i : grid0.Coords, ∃ h : (∀ a, (cc0_transform_0 k0_off1_inb numel1_S1 (pfN ) i a + 1) * S1x512x1024.size a ≤ S2x16384x1024.size a), EltTy.bits .bf16 = 32 ∨ (Rect.block (s := S2x16384x1024) S1x512x1024.size (cc0_transform_0 k0_off1_inb numel1_S1 (pfN ) i) h).WholeWords (EltTy.packing .bf16)) := fun i => ⟨ok_pfN_0_0_inb i, .inr (Affine.block_words_dvd (s := S2x16384x1024) (p := EltTy.packing .bf16) (by decide) (by decide))⟩
theorem ok_pfN_0_1_inb : ∀ i : grid0.Coords, ∀ a, (cc0_transform_1 k0_off1_inb numel1_S1 (pfN ) i a + 1) * S1x512x1024.size a ≤ S2x16384x1024.size a := by decide +kernel
theorem ok_pfN_0_1 : (∀ i : grid0.Coords, ∃ h : (∀ a, (cc0_transform_1 k0_off1_inb numel1_S1 (pfN ) i a + 1) * S1x512x1024.size a ≤ S2x16384x1024.size a), EltTy.bits .bf16 = 32 ∨ (Rect.block (s := S2x16384x1024) S1x512x1024.size (cc0_transform_1 k0_off1_inb numel1_S1 (pfN ) i) h).WholeWords (EltTy.packing .bf16)) := fun i => ⟨ok_pfN_0_1_inb i, .inr (Affine.block_words_dvd (s := S2x16384x1024) (p := EltTy.packing .bf16) (by decide) (by decide))⟩
theorem ok_pfN_0_2_inb : ∀ i : grid0.Coords, ∀ a, (cc0_transform_2 k0_off1_inb numel1_S1 (pfN ) i a + 1) * S1x512x1024.size a ≤ S2x16384x1024.size a := by decide +kernel
theorem ok_pfN_0_2 : (∀ i : grid0.Coords, ∃ h : (∀ a, (cc0_transform_2 k0_off1_inb numel1_S1 (pfN ) i a + 1) * S1x512x1024.size a ≤ S2x16384x1024.size a), EltTy.bits .bf16 = 32 ∨ (Rect.block (s := S2x16384x1024) S1x512x1024.size (cc0_transform_2 k0_off1_inb numel1_S1 (pfN ) i) h).WholeWords (EltTy.packing .bf16)) := fun i => ⟨ok_pfN_0_2_inb i, .inr (Affine.block_words_dvd (s := S2x16384x1024) (p := EltTy.packing .bf16) (by decide) (by decide))⟩
theorem ok_pfN_0_3_inb : ∀ i : grid0.Coords, ∀ a, (cc0_transform_3 k0_off1_inb numel1_S1 (pfN ) i a + 1) * S1x512x512.size a ≤ S2x16384x16384.size a := by decide +kernel
theorem ok_pfN_0_3 : (∀ i : grid0.Coords, ∃ h : (∀ a, (cc0_transform_3 k0_off1_inb numel1_S1 (pfN ) i a + 1) * S1x512x512.size a ≤ S2x16384x16384.size a), EltTy.bits .bf16 = 32 ∨ (Rect.block (s := S2x16384x16384) S1x512x512.size (cc0_transform_3 k0_off1_inb numel1_S1 (pfN ) i) h).WholeWords (EltTy.packing .bf16)) := fun i => ⟨ok_pfN_0_3_inb i, .inr (Affine.block_words_dvd (s := S2x16384x16384) (p := EltTy.packing .bf16) (by decide) (by decide))⟩
theorem ok_pfN_0_4_inb : ∀ i : grid0.Coords, ∀ a, (cc0_transform_4 k0_off1_inb numel1_S1 (pfN ) i a + 1) * S1x512x1024.size a ≤ S2x16384x1024.size a := by decide +kernel
theorem ok_pfN_0_4 : (∀ i : grid0.Coords, ∃ h : (∀ a, (cc0_transform_4 k0_off1_inb numel1_S1 (pfN ) i a + 1) * S1x512x1024.size a ≤ S2x16384x1024.size a), EltTy.bits .bf16 = 32 ∨ (Rect.block (s := S2x16384x1024) S1x512x1024.size (cc0_transform_4 k0_off1_inb numel1_S1 (pfN ) i) h).WholeWords (EltTy.packing .bf16)) := fun i => ⟨ok_pfN_0_4_inb i, .inr (Affine.block_words_dvd (s := S2x16384x1024) (p := EltTy.packing .bf16) (by decide) (by decide))⟩
theorem ok_pfN_0 : ok0 (F := Bits) (pfN ) := ⟨ok_pfN_0_0, ok_pfN_0_1, ok_pfN_0_2, ok_pfN_0_3, ok_pfN_0_4⟩

end Cert.Kernel.Attn

end
-- ==== Proof.AttnBits.Setup.lean ====
/-
The pipeline at those tables: its grid, staging buffers, blocks, and the two decisions of a point.
-/
module

public import proofs.«01_k».proof.Proof.AttnBits.Blocks

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

theorem ok_pfN : ok0 (F := Bits) pfN := ok_pfN_0

def adm : (pcfg0 (F := Bits)).Adm := ⟨pfN, ok_pfN⟩
abbrev cfgA : Pipeline.Cfg sig Λ₀ := cfg0 (F := Bits) (adm)
abbrev pcs : Fin 1 → Pipeline.Cfg sig Λ₀ := Pipeline.pin (pcfgs (F := Bits)) fun _ => adm

variable (V : (c : Dev nD) → (b : Ref sig .tc) → Buf (Elt Bits) ((c : Thread nD τ).loc b))

abbrev crd (t : Fin (cfgA).N) : (cfgA).grid.Coords := (cfgA).grid.coords t

abbrev ms0_0 (t : Fin (cfgA).N) : Memref sig .tc .vmem S1x512x1024 .bf16 := spec0_0.stage ((cfgA).slots t (0 : Fin 5))
abbrev hs0_0 (t : Fin (cfgA).N) : (ms0_0 t).IsWhole := hstage0_0 (((cfgA).slots t (0 : Fin 5)).cast nbuf0_0)
abbrev ms0_1 (t : Fin (cfgA).N) : Memref sig .tc .vmem S1x512x1024 .bf16 := spec0_1.stage ((cfgA).slots t (1 : Fin 5))
abbrev hs0_1 (t : Fin (cfgA).N) : (ms0_1 t).IsWhole := hstage0_1 (((cfgA).slots t (1 : Fin 5)).cast nbuf0_1)
abbrev ms0_2 (t : Fin (cfgA).N) : Memref sig .tc .vmem S1x512x1024 .bf16 := spec0_2.stage ((cfgA).slots t (2 : Fin 5))
abbrev hs0_2 (t : Fin (cfgA).N) : (ms0_2 t).IsWhole := hstage0_2 (((cfgA).slots t (2 : Fin 5)).cast nbuf0_2)
abbrev ms0_3 (t : Fin (cfgA).N) : Memref sig .tc .vmem S1x512x512 .bf16 := spec0_3.stage ((cfgA).slots t (3 : Fin 5))
abbrev hs0_3 (t : Fin (cfgA).N) : (ms0_3 t).IsWhole := hstage0_3 (((cfgA).slots t (3 : Fin 5)).cast nbuf0_3)
abbrev ms0_4 (t : Fin (cfgA).N) : Memref sig .tc .vmem S1x512x1024 .bf16 := spec0_4.stage ((cfgA).slots t (4 : Fin 5))
abbrev hs0_4 (t : Fin (cfgA).N) : (ms0_4 t).IsWhole := hstage0_4 (((cfgA).slots t (4 : Fin 5)).cast nbuf0_4)

def iblk (c : Dev nD) (w : Fin (cfgA).W) (t : Fin (cfgA).N) : (((cfgA).win w).xblock (crd t)).Idx → Elt Bits ((cfgA).win w).elt :=
  (((cfgA).win w).blk t).view.read (Elt Bits) (V c (Pipeline.arrRef (cfgA).spec w))

abbrev P0_0 (t : Fin (cfgA).N) : Prop := (Scalar.cmpi .ne (Scalar.extui (Scalar.cmpi .eq (View.readAt (Elt Bits) (tbM0_1).view (Rect.unit (s := S528) (k0_off1 (crd t)) S1.size (k0_off1_inb (crd t))).toLoadRect (pinT_1) (Shape.Idx.first (numel1_S1.symm ▸ Nat.one_pos))) 0#32)) 0#32) = 1#1
abbrev P0_1 (t : Fin (cfgA).N) : Prop := k0_cond2 (View.readAt (Elt Bits) (tbM0_0).view (Rect.unit (s := S528) (k0_off1 (crd t)) S1.size (k0_off1_inb (crd t))).toLoadRect (pinT_0) (Shape.Idx.first (numel1_S1.symm ▸ Nat.one_pos))) (View.readAt (Elt Bits) (tbM0_1).view (Rect.unit (s := S528) (k0_off1 (crd t)) S1.size (k0_off1_inb (crd t))).toLoadRect (pinT_1) (Shape.Idx.first (numel1_S1.symm ▸ Nat.one_pos))) = 1#1

def sfresh0_0 : ℕ → Bool
  | 0 => true
  | n + 1 => if h : n < (cfgA).N then (if P0_0 ⟨n, h⟩ then (if P0_1 ⟨n, h⟩ then false else false) else (if P0_1 ⟨n, h⟩ then sfresh0_0 n else sfresh0_0 n)) else true

def sfirst0_0 : ℕ := 0
def sfrTab0_0 : ℕ → Bool := fun n => decide (n ≤ sfirst0_0)

def sfresh0_1 : ℕ → Bool
  | 0 => true
  | n + 1 => if h : n < (cfgA).N then (if P0_0 ⟨n, h⟩ then (if P0_1 ⟨n, h⟩ then false else false) else (if P0_1 ⟨n, h⟩ then sfresh0_1 n else sfresh0_1 n)) else true

def sfirst0_1 : ℕ := 0
def sfrTab0_1 : ℕ → Bool := fun n => decide (n ≤ sfirst0_1)

set_option backward.proofsInPublic true in

def frMask0_4 : ℕ := 2 ^ 1056 - 1
def frTab0_4 : ℕ → Bool
  | 0 => true
  | n + 1 => (frMask0_4).testBit n

abbrev VO0_4 : View sig .tc .vmem S1x512x1024 .bf16 := (Memref.whole cc0_stg4_0 : Memref sig .tc .vmem S1x512x1024 .bf16).view

end Cert.Kernel.Attn

end
-- ==== Proof.AttnBits.PointFacts.lean ====
/-
What is decided at each point, as one decidable proposition.
-/
module

public import proofs.«01_k».proof.Proof.AttnBits.Setup

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev FactsAt (t : Fin (cfgA).N) : Prop :=
  (sfrTab0_0 (t.val + 1) = (if P0_0 t then (if P0_1 t then false else false) else (if P0_1 t then sfrTab0_0 t.val else sfrTab0_0 t.val)))
  ∧ (sfrTab0_1 (t.val + 1) = (if P0_0 t then (if P0_1 t then false else false) else (if P0_1 t then sfrTab0_1 t.val else sfrTab0_1 t.val)))
  ∧ (frTab0_4 (t.val + 1) = (((cfgA).win (4 : Fin 5)).flush t || ((cfgA).idle (4 : Fin 5) ((cfgA).grid.coords t) && frTab0_4 t.val)))
  ∧ (P0_0 t → P0_1 t → ((Scalar.cmpi .ne (Scalar.extui (Scalar.cmpi .eq (View.readAt (Elt Bits) (tbM0_1).view (Rect.unit (s := S528) (k0_off1 (crd t)) S1.size (k0_off1_inb (crd t))).toLoadRect (pinT_1) (Shape.Idx.first (numel1_S1.symm ▸ Nat.one_pos))) 0#32)) 0#32) = 1#1) ∧ ((k0_cond2 (View.readAt (Elt Bits) (tbM0_0).view (Rect.unit (s := S528) (k0_off1 (crd t)) S1.size (k0_off1_inb (crd t))).toLoadRect (pinT_0) (Shape.Idx.first (numel1_S1.symm ▸ Nat.one_pos))) (View.readAt (Elt Bits) (tbM0_1).view (Rect.unit (s := S528) (k0_off1 (crd t)) S1.size (k0_off1_inb (crd t))).toLoadRect (pinT_1) (Shape.Idx.first (numel1_S1.symm ▸ Nat.one_pos))) = 1#1) ∧ (True)))
  ∧ (P0_0 t → P0_1 t → (cfgA).idle (4 : Fin 5) ((cfgA).grid.coords t) = false ∧ ((cfgA).win (4 : Fin 5)).flush t = true ∧ frTab0_4 t.val = true ∧ sfrTab0_0 (t.val + 1) = false ∧ sfrTab0_1 (t.val + 1) = false)
  ∧ (P0_0 t → ¬P0_1 t → ((Scalar.cmpi .ne (Scalar.extui (Scalar.cmpi .eq (View.readAt (Elt Bits) (tbM0_1).view (Rect.unit (s := S528) (k0_off1 (crd t)) S1.size (k0_off1_inb (crd t))).toLoadRect (pinT_1) (Shape.Idx.first (numel1_S1.symm ▸ Nat.one_pos))) 0#32)) 0#32) = 1#1) ∧ ((¬(k0_cond2 (View.readAt (Elt Bits) (tbM0_0).view (Rect.unit (s := S528) (k0_off1 (crd t)) S1.size (k0_off1_inb (crd t))).toLoadRect (pinT_0) (Shape.Idx.first (numel1_S1.symm ▸ Nat.one_pos))) (View.readAt (Elt Bits) (tbM0_1).view (Rect.unit (s := S528) (k0_off1 (crd t)) S1.size (k0_off1_inb (crd t))).toLoadRect (pinT_1) (Shape.Idx.first (numel1_S1.symm ▸ Nat.one_pos))) = 1#1)) ∧ (True)))
  ∧ (P0_0 t → ¬P0_1 t → (cfgA).idle (4 : Fin 5) ((cfgA).grid.coords t) = true ∧ ((cfgA).win (4 : Fin 5)).flush t = false ∧ frTab0_4 t.val = true ∧ sfrTab0_0 t.val = false ∧ sfrTab0_0 (t.val + 1) = false ∧ sfrTab0_1 t.val = false ∧ sfrTab0_1 (t.val + 1) = false)
  ∧ (¬P0_0 t → P0_1 t → (¬((Scalar.cmpi .ne (Scalar.extui (Scalar.cmpi .eq (View.readAt (Elt Bits) (tbM0_1).view (Rect.unit (s := S528) (k0_off1 (crd t)) S1.size (k0_off1_inb (crd t))).toLoadRect (pinT_1) (Shape.Idx.first (numel1_S1.symm ▸ Nat.one_pos))) 0#32)) 0#32) = 1#1)) ∧ ((k0_cond2 (View.readAt (Elt Bits) (tbM0_0).view (Rect.unit (s := S528) (k0_off1 (crd t)) S1.size (k0_off1_inb (crd t))).toLoadRect (pinT_0) (Shape.Idx.first (numel1_S1.symm ▸ Nat.one_pos))) (View.readAt (Elt Bits) (tbM0_1).view (Rect.unit (s := S528) (k0_off1 (crd t)) S1.size (k0_off1_inb (crd t))).toLoadRect (pinT_1) (Shape.Idx.first (numel1_S1.symm ▸ Nat.one_pos))) = 1#1) ∧ (True)))
  ∧ (¬P0_0 t → P0_1 t → (cfgA).idle (4 : Fin 5) ((cfgA).grid.coords t) = false ∧ ((cfgA).win (4 : Fin 5)).flush t = true ∧ frTab0_4 t.val = true ∧ sfrTab0_0 t.val = false ∧ sfrTab0_0 (t.val + 1) = false ∧ sfrTab0_1 t.val = false ∧ sfrTab0_1 (t.val + 1) = false)
  ∧ (¬P0_0 t → ¬P0_1 t → (¬((Scalar.cmpi .ne (Scalar.extui (Scalar.cmpi .eq (View.readAt (Elt Bits) (tbM0_1).view (Rect.unit (s := S528) (k0_off1 (crd t)) S1.size (k0_off1_inb (crd t))).toLoadRect (pinT_1) (Shape.Idx.first (numel1_S1.symm ▸ Nat.one_pos))) 0#32)) 0#32) = 1#1)) ∧ ((¬(k0_cond2 (View.readAt (Elt Bits) (tbM0_0).view (Rect.unit (s := S528) (k0_off1 (crd t)) S1.size (k0_off1_inb (crd t))).toLoadRect (pinT_0) (Shape.Idx.first (numel1_S1.symm ▸ Nat.one_pos))) (View.readAt (Elt Bits) (tbM0_1).view (Rect.unit (s := S528) (k0_off1 (crd t)) S1.size (k0_off1_inb (crd t))).toLoadRect (pinT_1) (Shape.Idx.first (numel1_S1.symm ▸ Nat.one_pos))) = 1#1)) ∧ (True)))
  ∧ (¬P0_0 t → ¬P0_1 t → (cfgA).idle (4 : Fin 5) ((cfgA).grid.coords t) = true ∧ ((cfgA).win (4 : Fin 5)).flush t = false ∧ frTab0_4 t.val = true ∧ sfrTab0_0 t.val = false ∧ sfrTab0_0 (t.val + 1) = false ∧ sfrTab0_1 t.val = false ∧ sfrTab0_1 (t.val + 1) = false)

set_option synthInstance.maxSize 65536 in
instance FactsAt.dec (t : Fin (cfgA).N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))

end Cert.Kernel.Attn

end
-- ==== Proof.AttnBits.Points.lean ====
/-
The decided facts by path.
-/
module

public import proofs.«01_k».proof.Proof.AttnBits.PointFactsAll

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (V : (c : Dev nD) → (b : Ref sig .tc) → Buf (Elt Bits) ((c : Thread nD τ).loc b))
theorem allFacts : ∀ (t : Fin (cfgA).N), FactsAt t := allFacts_0

theorem sfrTab0_0_step : ∀ (t : Fin (cfgA).N), sfrTab0_0 (t.val + 1) = (if P0_0 t then (if P0_1 t then false else false) else (if P0_1 t then sfrTab0_0 t.val else sfrTab0_0 t.val)) := fun t => (allFacts t).1
theorem sfresh0_0_eq : ∀ n, n ≤ (cfgA).N → sfresh0_0 n = sfrTab0_0 n
  | 0, _ => by simp only [sfresh0_0, sfrTab0_0, Nat.zero_le, decide_true]
  | n + 1, h => by simp only [sfresh0_0, dif_pos (show n < (cfgA).N from h), sfresh0_0_eq n (Nat.le_of_lt h), sfrTab0_0_step ⟨n, h⟩]
theorem sfreshF0_0 (t : Fin (cfgA).N) : sfresh0_0 t.val = sfrTab0_0 t.val := sfresh0_0_eq t.val (Nat.le_of_lt t.isLt)
theorem sfreshS0_0 (t : Fin (cfgA).N) : sfresh0_0 (t.val + 1) = sfrTab0_0 (t.val + 1) := sfresh0_0_eq (t.val + 1) t.isLt

theorem sfrTab0_1_step : ∀ (t : Fin (cfgA).N), sfrTab0_1 (t.val + 1) = (if P0_0 t then (if P0_1 t then false else false) else (if P0_1 t then sfrTab0_1 t.val else sfrTab0_1 t.val)) := fun t => (allFacts t).2.1
theorem sfresh0_1_eq : ∀ n, n ≤ (cfgA).N → sfresh0_1 n = sfrTab0_1 n
  | 0, _ => by simp only [sfresh0_1, sfrTab0_1, Nat.zero_le, decide_true]
  | n + 1, h => by simp only [sfresh0_1, dif_pos (show n < (cfgA).N from h), sfresh0_1_eq n (Nat.le_of_lt h), sfrTab0_1_step ⟨n, h⟩]
theorem sfreshF0_1 (t : Fin (cfgA).N) : sfresh0_1 t.val = sfrTab0_1 t.val := sfresh0_1_eq t.val (Nat.le_of_lt t.isLt)
theorem sfreshS0_1 (t : Fin (cfgA).N) : sfresh0_1 (t.val + 1) = sfrTab0_1 (t.val + 1) := sfresh0_1_eq (t.val + 1) t.isLt

theorem frTab0_4_step : ∀ (t : Fin (cfgA).N),
    frTab0_4 (t.val + 1) = (((cfgA).win (4 : Fin 5)).flush t || ((cfgA).idle (4 : Fin 5) ((cfgA).grid.coords t) && frTab0_4 t.val)) := fun t => (allFacts t).2.2.1
theorem freshF0_4 (t : Fin (cfgA).N) : (cfgA).fresh (4 : Fin 5) t.val = frTab0_4 t.val :=
  Pipeline.Cfg.fresh_tab (cfgA) (4 : Fin 5) (frTab0_4) rfl (frTab0_4_step) t.val (Nat.le_of_lt t.isLt)

theorem hyps0_A : ∀ (t : Fin (cfgA).N), P0_0 t → P0_1 t →
    ((Scalar.cmpi .ne (Scalar.extui (Scalar.cmpi .eq (View.readAt (Elt Bits) (tbM0_1).view (Rect.unit (s := S528) (k0_off1 (crd t)) S1.size (k0_off1_inb (crd t))).toLoadRect (pinT_1) (Shape.Idx.first (numel1_S1.symm ▸ Nat.one_pos))) 0#32)) 0#32) = 1#1) ∧ ((k0_cond2 (View.readAt (Elt Bits) (tbM0_0).view (Rect.unit (s := S528) (k0_off1 (crd t)) S1.size (k0_off1_inb (crd t))).toLoadRect (pinT_0) (Shape.Idx.first (numel1_S1.symm ▸ Nat.one_pos))) (View.readAt (Elt Bits) (tbM0_1).view (Rect.unit (s := S528) (k0_off1 (crd t)) S1.size (k0_off1_inb (crd t))).toLoadRect (pinT_1) (Shape.Idx.first (numel1_S1.symm ▸ Nat.one_pos))) = 1#1) ∧ (True)) := fun t => (allFacts t).2.2.2.1

theorem hypsR0_A : ∀ (t : Fin (cfgA).N), P0_0 t → P0_1 t →
    ((Scalar.cmpi .ne (Scalar.extui (Scalar.cmpi .eq (View.readAt (Elt Bits) (tbM0_1).view (Rect.unit (s := S528) (k0_off1 (crd t)) S1.size (k0_off1_inb (crd t))).toLoadRect (pinT_1) (Shape.Idx.first (numel1_S1.symm ▸ Nat.one_pos))) 0#32)) 0#32) = 1#1) ∧ ((k0_cond2 (View.readAt (Elt Bits) (tbM0_0).view (Rect.unit (s := S528) (k0_off1 (crd t)) S1.size (k0_off1_inb (crd t))).toLoadRect (pinT_0) (Shape.Idx.first (numel1_S1.symm ▸ Nat.one_pos))) (View.readAt (Elt Bits) (tbM0_1).view (Rect.unit (s := S528) (k0_off1 (crd t)) S1.size (k0_off1_inb (crd t))).toLoadRect (pinT_1) (Shape.Idx.first (numel1_S1.symm ▸ Nat.one_pos))) = 1#1) ∧ (True)) := hyps0_A

theorem sched0_A : ∀ (t : Fin (cfgA).N), P0_0 t → P0_1 t →
    (cfgA).idle (4 : Fin 5) ((cfgA).grid.coords t) = false ∧ ((cfgA).win (4 : Fin 5)).flush t = true ∧ (cfgA).fresh (4 : Fin 5) t.val = true ∧ sfresh0_0 (t.val + 1) = false ∧ sfresh0_1 (t.val + 1) = false := by
  intro t; rw [freshF0_4 t, sfreshS0_0 t, sfreshS0_1 t]; exact (fun t => (allFacts t).2.2.2.2.1) t

theorem hyps0_B : ∀ (t : Fin (cfgA).N), P0_0 t → ¬P0_1 t →
    ((Scalar.cmpi .ne (Scalar.extui (Scalar.cmpi .eq (View.readAt (Elt Bits) (tbM0_1).view (Rect.unit (s := S528) (k0_off1 (crd t)) S1.size (k0_off1_inb (crd t))).toLoadRect (pinT_1) (Shape.Idx.first (numel1_S1.symm ▸ Nat.one_pos))) 0#32)) 0#32) = 1#1) ∧ ((¬(k0_cond2 (View.readAt (Elt Bits) (tbM0_0).view (Rect.unit (s := S528) (k0_off1 (crd t)) S1.size (k0_off1_inb (crd t))).toLoadRect (pinT_0) (Shape.Idx.first (numel1_S1.symm ▸ Nat.one_pos))) (View.readAt (Elt Bits) (tbM0_1).view (Rect.unit (s := S528) (k0_off1 (crd t)) S1.size (k0_off1_inb (crd t))).toLoadRect (pinT_1) (Shape.Idx.first (numel1_S1.symm ▸ Nat.one_pos))) = 1#1)) ∧ (True)) := fun t => (allFacts t).2.2.2.2.2.1

theorem hypsR0_B : ∀ (t : Fin (cfgA).N), P0_0 t → ¬P0_1 t →
    ((Scalar.cmpi .ne (Scalar.extui (Scalar.cmpi .eq (View.readAt (Elt Bits) (tbM0_1).view (Rect.unit (s := S528) (k0_off1 (crd t)) S1.size (k0_off1_inb (crd t))).toLoadRect (pinT_1) (Shape.Idx.first (numel1_S1.symm ▸ Nat.one_pos))) 0#32)) 0#32) = 1#1) ∧ ((¬(k0_cond2 (View.readAt (Elt Bits) (tbM0_0).view (Rect.unit (s := S528) (k0_off1 (crd t)) S1.size (k0_off1_inb (crd t))).toLoadRect (pinT_0) (Shape.Idx.first (numel1_S1.symm ▸ Nat.one_pos))) (View.readAt (Elt Bits) (tbM0_1).view (Rect.unit (s := S528) (k0_off1 (crd t)) S1.size (k0_off1_inb (crd t))).toLoadRect (pinT_1) (Shape.Idx.first (numel1_S1.symm ▸ Nat.one_pos))) = 1#1)) ∧ (True)) := hyps0_B

theorem sched0_B : ∀ (t : Fin (cfgA).N), P0_0 t → ¬P0_1 t →
    (cfgA).idle (4 : Fin 5) ((cfgA).grid.coords t) = true ∧ ((cfgA).win (4 : Fin 5)).flush t = false ∧ (cfgA).fresh (4 : Fin 5) t.val = true ∧ sfresh0_0 t.val = false ∧ sfresh0_0 (t.val + 1) = false ∧ sfresh0_1 t.val = false ∧ sfresh0_1 (t.val + 1) = false := by
  intro t; rw [freshF0_4 t, sfreshF0_0 t, sfreshS0_0 t, sfreshF0_1 t, sfreshS0_1 t]; exact (fun t => (allFacts t).2.2.2.2.2.2.1) t

theorem hyps0_C : ∀ (t : Fin (cfgA).N), ¬P0_0 t → P0_1 t →
    (¬((Scalar.cmpi .ne (Scalar.extui (Scalar.cmpi .eq (View.readAt (Elt Bits) (tbM0_1).view (Rect.unit (s := S528) (k0_off1 (crd t)) S1.size (k0_off1_inb (crd t))).toLoadRect (pinT_1) (Shape.Idx.first (numel1_S1.symm ▸ Nat.one_pos))) 0#32)) 0#32) = 1#1)) ∧ ((k0_cond2 (View.readAt (Elt Bits) (tbM0_0).view (Rect.unit (s := S528) (k0_off1 (crd t)) S1.size (k0_off1_inb (crd t))).toLoadRect (pinT_0) (Shape.Idx.first (numel1_S1.symm ▸ Nat.one_pos))) (View.readAt (Elt Bits) (tbM0_1).view (Rect.unit (s := S528) (k0_off1 (crd t)) S1.size (k0_off1_inb (crd t))).toLoadRect (pinT_1) (Shape.Idx.first (numel1_S1.symm ▸ Nat.one_pos))) = 1#1) ∧ (True)) := fun t => (allFacts t).2.2.2.2.2.2.2.1

theorem hypsR0_C : ∀ (t : Fin (cfgA).N), ¬P0_0 t → P0_1 t →
    (¬((Scalar.cmpi .ne (Scalar.extui (Scalar.cmpi .eq (View.readAt (Elt Bits) (tbM0_1).view (Rect.unit (s := S528) (k0_off1 (crd t)) S1.size (k0_off1_inb (crd t))).toLoadRect (pinT_1) (Shape.Idx.first (numel1_S1.symm ▸ Nat.one_pos))) 0#32)) 0#32) = 1#1)) ∧ ((k0_cond2 (View.readAt (Elt Bits) (tbM0_0).view (Rect.unit (s := S528) (k0_off1 (crd t)) S1.size (k0_off1_inb (crd t))).toLoadRect (pinT_0) (Shape.Idx.first (numel1_S1.symm ▸ Nat.one_pos))) (View.readAt (Elt Bits) (tbM0_1).view (Rect.unit (s := S528) (k0_off1 (crd t)) S1.size (k0_off1_inb (crd t))).toLoadRect (pinT_1) (Shape.Idx.first (numel1_S1.symm ▸ Nat.one_pos))) = 1#1) ∧ (True)) := hyps0_C

theorem sched0_C : ∀ (t : Fin (cfgA).N), ¬P0_0 t → P0_1 t →
    (cfgA).idle (4 : Fin 5) ((cfgA).grid.coords t) = false ∧ ((cfgA).win (4 : Fin 5)).flush t = true ∧ (cfgA).fresh (4 : Fin 5) t.val = true ∧ sfresh0_0 t.val = false ∧ sfresh0_0 (t.val + 1) = false ∧ sfresh0_1 t.val = false ∧ sfresh0_1 (t.val + 1) = false := by
  intro t; rw [freshF0_4 t, sfreshF0_0 t, sfreshS0_0 t, sfreshF0_1 t, sfreshS0_1 t]; exact (fun t => (allFacts t).2.2.2.2.2.2.2.2.1) t

theorem hyps0_D : ∀ (t : Fin (cfgA).N), ¬P0_0 t → ¬P0_1 t →
    (¬((Scalar.cmpi .ne (Scalar.extui (Scalar.cmpi .eq (View.readAt (Elt Bits) (tbM0_1).view (Rect.unit (s := S528) (k0_off1 (crd t)) S1.size (k0_off1_inb (crd t))).toLoadRect (pinT_1) (Shape.Idx.first (numel1_S1.symm ▸ Nat.one_pos))) 0#32)) 0#32) = 1#1)) ∧ ((¬(k0_cond2 (View.readAt (Elt Bits) (tbM0_0).view (Rect.unit (s := S528) (k0_off1 (crd t)) S1.size (k0_off1_inb (crd t))).toLoadRect (pinT_0) (Shape.Idx.first (numel1_S1.symm ▸ Nat.one_pos))) (View.readAt (Elt Bits) (tbM0_1).view (Rect.unit (s := S528) (k0_off1 (crd t)) S1.size (k0_off1_inb (crd t))).toLoadRect (pinT_1) (Shape.Idx.first (numel1_S1.symm ▸ Nat.one_pos))) = 1#1)) ∧ (True)) := fun t => (allFacts t).2.2.2.2.2.2.2.2.2.1

theorem hypsR0_D : ∀ (t : Fin (cfgA).N), ¬P0_0 t → ¬P0_1 t →
    (¬((Scalar.cmpi .ne (Scalar.extui (Scalar.cmpi .eq (View.readAt (Elt Bits) (tbM0_1).view (Rect.unit (s := S528) (k0_off1 (crd t)) S1.size (k0_off1_inb (crd t))).toLoadRect (pinT_1) (Shape.Idx.first (numel1_S1.symm ▸ Nat.one_pos))) 0#32)) 0#32) = 1#1)) ∧ ((¬(k0_cond2 (View.readAt (Elt Bits) (tbM0_0).view (Rect.unit (s := S528) (k0_off1 (crd t)) S1.size (k0_off1_inb (crd t))).toLoadRect (pinT_0) (Shape.Idx.first (numel1_S1.symm ▸ Nat.one_pos))) (View.readAt (Elt Bits) (tbM0_1).view (Rect.unit (s := S528) (k0_off1 (crd t)) S1.size (k0_off1_inb (crd t))).toLoadRect (pinT_1) (Shape.Idx.first (numel1_S1.symm ▸ Nat.one_pos))) = 1#1)) ∧ (True)) := hyps0_D

theorem sched0_D : ∀ (t : Fin (cfgA).N), ¬P0_0 t → ¬P0_1 t →
    (cfgA).idle (4 : Fin 5) ((cfgA).grid.coords t) = true ∧ ((cfgA).win (4 : Fin 5)).flush t = false ∧ (cfgA).fresh (4 : Fin 5) t.val = true ∧ sfresh0_0 t.val = false ∧ sfresh0_0 (t.val + 1) = false ∧ sfresh0_1 t.val = false ∧ sfresh0_1 (t.val + 1) = false := by
  intro t; rw [freshF0_4 t, sfreshF0_0 t, sfreshS0_0 t, sfreshF0_1 t, sfreshS0_1 t]; exact (fun t => (allFacts t).2.2.2.2.2.2.2.2.2.2) t

end Cert.Kernel.Attn

end
-- ==== Proof.AttnBits.RunA.lean ====
/-
One run of the kernel's body along one of its four paths.
-/
module

public import proofs.«01_k».proof.Proof.AttnBits.Setup

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

set_option backward.proofsInPublic true in
set_option maxHeartbeats 8000000 in

noncomputable def kernelRun0_A (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Bits .i32)) (T1 : (S528.Idx → Elt Bits .i32))
     (x0 : (S1x512x1024.Idx → Elt Bits .bf16)) (x1 : (S1x512x1024.Idx → Elt Bits .bf16)) (x2 : (S1x512x1024.Idx → Elt Bits .bf16)) (x3 : (S1x512x512.Idx → Elt Bits .bf16)) (hc0 : (Scalar.cmpi .ne (Scalar.extui (Scalar.cmpi .eq (View.readAt (Elt Bits) (tbM0_1).view (Rect.unit (s := S528) (k0_off1 i) S1.size (k0_off1_inb i)).toLoadRect T1 (Shape.Idx.first (numel1_S1.symm ▸ Nat.one_pos))) 0#32)) 0#32) = 1#1) (k0_h2 : k0_cond2 (View.readAt (Elt Bits) (tbM0_0).view (Rect.unit (s := S528) (k0_off1 i) S1.size (k0_off1_inb i)).toLoadRect T0 (Shape.Idx.first (numel1_S1.symm ▸ Nat.one_pos))) (View.readAt (Elt Bits) (tbM0_1).view (Rect.unit (s := S528) (k0_off1 i) S1.size (k0_off1_inb i)).toLoadRect T1 (Shape.Idx.first (numel1_S1.symm ▸ Nat.one_pos))) = 1#1) :
    Σ' (out0 : List (View.Piece (Elt Bits) S1x512x1024 .bf16)) (out1 : Buf (Elt Bits) ((c : Thread nD τ).loc cc0_scratch0)), { out2 : Buf (Elt Bits) ((c : Thread nD τ).loc cc0_scratch1) //
      ∀ (xa0 : Buf (Elt Bits) ((c : Thread nD τ).loc cc0_scratch0)) (xa1 : Buf (Elt Bits) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Bits) f out0)
              ∗ (scM0_0.view.loc (c : Thread nD τ) ↦{fullShare} out1)
              ∗ (scM0_1.view.loc (c : Thread nD τ) ↦{fullShare} out2)) -∗ K ⟨⟩))
          ⊢ wp frame (wpE (defs₀ (F := Bits)) Variants.none c none) Set.univ (cc0_dsa_attend i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, _, fun (xa0 : Buf (Elt Bits) ((c : Thread nD τ).loc cc0_scratch0)) (xa1 : Buf (Elt Bits) ((c : Thread nD τ).loc cc0_scratch1)) K => by
    unfold owns
    rw [cc0_dsa_attend_eq_skeleton]; unfold cc0_dsa_attend_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

theorem cover0_A_4 (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Bits .i32)) (T1 : (S528.Idx → Elt Bits .i32))
     (x0 : (S1x512x1024.Idx → Elt Bits .bf16)) (x1 : (S1x512x1024.Idx → Elt Bits .bf16)) (x2 : (S1x512x1024.Idx → Elt Bits .bf16)) (x3 : (S1x512x512.Idx → Elt Bits .bf16)) (hc0 : (Scalar.cmpi .ne (Scalar.extui (Scalar.cmpi .eq (View.readAt (Elt Bits) (tbM0_1).view (Rect.unit (s := S528) (k0_off1 i) S1.size (k0_off1_inb i)).toLoadRect T1 (Shape.Idx.first (numel1_S1.symm ▸ Nat.one_pos))) 0#32)) 0#32) = 1#1) (k0_h2 : k0_cond2 (View.readAt (Elt Bits) (tbM0_0).view (Rect.unit (s := S528) (k0_off1 i) S1.size (k0_off1_inb i)).toLoadRect T0 (Shape.Idx.first (numel1_S1.symm ▸ Nat.one_pos))) (View.readAt (Elt Bits) (tbM0_1).view (Rect.unit (s := S528) (k0_off1 i) S1.size (k0_off1_inb i)).toLoadRect T1 (Shape.Idx.first (numel1_S1.symm ▸ Nat.one_pos))) = 1#1) (y : S1x512x1024.Idx) :
    ∃ pc ∈ (kernelRun0_A c i arg4 harg4 arg5 harg5 arg6 harg6 arg7 harg7 arg8 harg8 T0 T1 x0 x1 x2 x3 hc0 k0_h2).1, y ∈ pc.1.set :=
  View.cover_of_tiledL (kernelRun0_A c i arg4 harg4 arg5 harg5 arg6 harg6 arg7 harg7 arg8 harg8 T0 T1 x0 x1 x2 x3 hc0 k0_h2).1 S1x512x128.size (by sl_kernel_rfl) y

def out0_A_4 (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Bits .i32)) (T1 : (S528.Idx → Elt Bits .i32))
     (x0 : (S1x512x1024.Idx → Elt Bits .bf16)) (x1 : (S1x512x1024.Idx → Elt Bits .bf16)) (x2 : (S1x512x1024.Idx → Elt Bits .bf16)) (x3 : (S1x512x512.Idx → Elt Bits .bf16)) (hc0 : (Scalar.cmpi .ne (Scalar.extui (Scalar.cmpi .eq (View.readAt (Elt Bits) (tbM0_1).view (Rect.unit (s := S528) (k0_off1 i) S1.size (k0_off1_inb i)).toLoadRect T1 (Shape.Idx.first (numel1_S1.symm ▸ Nat.one_pos))) 0#32)) 0#32) = 1#1) (k0_h2 : k0_cond2 (View.readAt (Elt Bits) (tbM0_0).view (Rect.unit (s := S528) (k0_off1 i) S1.size (k0_off1_inb i)).toLoadRect T0 (Shape.Idx.first (numel1_S1.symm ▸ Nat.one_pos))) (View.readAt (Elt Bits) (tbM0_1).view (Rect.unit (s := S528) (k0_off1 i) S1.size (k0_off1_inb i)).toLoadRect T1 (Shape.Idx.first (numel1_S1.symm ▸ Nat.one_pos))) = 1#1) : (S1x512x1024.Idx → Elt Bits .bf16) :=
  VO0_4.read (Elt Bits) (VO0_4.writes (Elt Bits) VO0_4.junk (kernelRun0_A c i arg4 harg4 arg5 harg5 arg6 harg6 arg7 harg7 arg8 harg8 T0 T1 x0 x1 x2 x3 hc0 k0_h2).1)

end Cert.Kernel.Attn

end
-- ==== Proof.AttnBits.RunB.lean ====
/-
One run of the kernel's body along one of its four paths.
-/
module

public import proofs.«01_k».proof.Proof.AttnBits.Setup

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

set_option backward.proofsInPublic true in
set_option maxHeartbeats 8000000 in

noncomputable def kernelRun0_B (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Bits .i32)) (T1 : (S528.Idx → Elt Bits .i32))
     (x0 : (S1x512x1024.Idx → Elt Bits .bf16)) (x1 : (S1x512x1024.Idx → Elt Bits .bf16)) (x2 : (S1x512x1024.Idx → Elt Bits .bf16)) (x3 : (S1x512x512.Idx → Elt Bits .bf16)) (hc0 : (Scalar.cmpi .ne (Scalar.extui (Scalar.cmpi .eq (View.readAt (Elt Bits) (tbM0_1).view (Rect.unit (s := S528) (k0_off1 i) S1.size (k0_off1_inb i)).toLoadRect T1 (Shape.Idx.first (numel1_S1.symm ▸ Nat.one_pos))) 0#32)) 0#32) = 1#1) (k0_h2 : ¬(k0_cond2 (View.readAt (Elt Bits) (tbM0_0).view (Rect.unit (s := S528) (k0_off1 i) S1.size (k0_off1_inb i)).toLoadRect T0 (Shape.Idx.first (numel1_S1.symm ▸ Nat.one_pos))) (View.readAt (Elt Bits) (tbM0_1).view (Rect.unit (s := S528) (k0_off1 i) S1.size (k0_off1_inb i)).toLoadRect T1 (Shape.Idx.first (numel1_S1.symm ▸ Nat.one_pos))) = 1#1)) :
    Σ' (out0 : Buf (Elt Bits) ((c : Thread nD τ).loc cc0_scratch0)), { out1 : Buf (Elt Bits) ((c : Thread nD τ).loc cc0_scratch1) //
      ∀ (y4 : (S1x512x1024.Idx → Elt Bits .bf16)) (xa0 : Buf (Elt Bits) ((c : Thread nD τ).loc cc0_scratch0)) (xa1 : Buf (Elt Bits) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Bits)) Variants.none c none) Set.univ (cc0_dsa_attend i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, fun (y4 : (S1x512x1024.Idx → Elt Bits .bf16)) (xa0 : Buf (Elt Bits) ((c : Thread nD τ).loc cc0_scratch0)) (xa1 : Buf (Elt Bits) ((c : Thread nD τ).loc cc0_scratch1)) K => by
    unfold owns
    rw [cc0_dsa_attend_eq_skeleton]; unfold cc0_dsa_attend_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1⟩

end Cert.Kernel.Attn

end
-- ==== Proof.AttnBits.RunC.lean ====
/-
One run of the kernel's body along one of its four paths.
-/
module

public import proofs.«01_k».proof.Proof.AttnBits.Setup

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

set_option backward.proofsInPublic true in
set_option maxHeartbeats 8000000 in

noncomputable def kernelRun0_C (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Bits .i32)) (T1 : (S528.Idx → Elt Bits .i32))
     (x0 : (S1x512x1024.Idx → Elt Bits .bf16)) (x1 : (S1x512x1024.Idx → Elt Bits .bf16)) (x2 : (S1x512x1024.Idx → Elt Bits .bf16)) (x3 : (S1x512x512.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (View.readAt (Elt Bits) (tbM0_1).view (Rect.unit (s := S528) (k0_off1 i) S1.size (k0_off1_inb i)).toLoadRect T1 (Shape.Idx.first (numel1_S1.symm ▸ Nat.one_pos))) 0#32)) 0#32) = 1#1)) (k0_h2 : k0_cond2 (View.readAt (Elt Bits) (tbM0_0).view (Rect.unit (s := S528) (k0_off1 i) S1.size (k0_off1_inb i)).toLoadRect T0 (Shape.Idx.first (numel1_S1.symm ▸ Nat.one_pos))) (View.readAt (Elt Bits) (tbM0_1).view (Rect.unit (s := S528) (k0_off1 i) S1.size (k0_off1_inb i)).toLoadRect T1 (Shape.Idx.first (numel1_S1.symm ▸ Nat.one_pos))) = 1#1) :
    Σ' (out0 : List (View.Piece (Elt Bits) S1x512x1024 .bf16)) (out1 : Buf (Elt Bits) ((c : Thread nD τ).loc cc0_scratch0)), { out2 : Buf (Elt Bits) ((c : Thread nD τ).loc cc0_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Bits) f out0)
              ∗ (scM0_0.view.loc (c : Thread nD τ) ↦{fullShare} out1)
              ∗ (scM0_1.view.loc (c : Thread nD τ) ↦{fullShare} out2)) -∗ K ⟨⟩))
          ⊢ wp frame (wpE (defs₀ (F := Bits)) Variants.none c none) Set.univ (cc0_dsa_attend i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, _, fun K => by
    unfold owns
    rw [cc0_dsa_attend_eq_skeleton]; unfold cc0_dsa_attend_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

theorem cover0_C_4 (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Bits .i32)) (T1 : (S528.Idx → Elt Bits .i32))
     (x0 : (S1x512x1024.Idx → Elt Bits .bf16)) (x1 : (S1x512x1024.Idx → Elt Bits .bf16)) (x2 : (S1x512x1024.Idx → Elt Bits .bf16)) (x3 : (S1x512x512.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (View.readAt (Elt Bits) (tbM0_1).view (Rect.unit (s := S528) (k0_off1 i) S1.size (k0_off1_inb i)).toLoadRect T1 (Shape.Idx.first (numel1_S1.symm ▸ Nat.one_pos))) 0#32)) 0#32) = 1#1)) (k0_h2 : k0_cond2 (View.readAt (Elt Bits) (tbM0_0).view (Rect.unit (s := S528) (k0_off1 i) S1.size (k0_off1_inb i)).toLoadRect T0 (Shape.Idx.first (numel1_S1.symm ▸ Nat.one_pos))) (View.readAt (Elt Bits) (tbM0_1).view (Rect.unit (s := S528) (k0_off1 i) S1.size (k0_off1_inb i)).toLoadRect T1 (Shape.Idx.first (numel1_S1.symm ▸ Nat.one_pos))) = 1#1) (y : S1x512x1024.Idx) :
    ∃ pc ∈ (kernelRun0_C c i arg4 harg4 arg5 harg5 arg6 harg6 arg7 harg7 arg8 harg8 T0 T1 x0 x1 x2 x3 xa0 xa1 hc0 k0_h2).1, y ∈ pc.1.set :=
  View.cover_of_tiledL (kernelRun0_C c i arg4 harg4 arg5 harg5 arg6 harg6 arg7 harg7 arg8 harg8 T0 T1 x0 x1 x2 x3 xa0 xa1 hc0 k0_h2).1 S1x512x128.size (by sl_kernel_rfl) y

def out0_C_4 (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Bits .i32)) (T1 : (S528.Idx → Elt Bits .i32))
     (x0 : (S1x512x1024.Idx → Elt Bits .bf16)) (x1 : (S1x512x1024.Idx → Elt Bits .bf16)) (x2 : (S1x512x1024.Idx → Elt Bits .bf16)) (x3 : (S1x512x512.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (View.readAt (Elt Bits) (tbM0_1).view (Rect.unit (s := S528) (k0_off1 i) S1.size (k0_off1_inb i)).toLoadRect T1 (Shape.Idx.first (numel1_S1.symm ▸ Nat.one_pos))) 0#32)) 0#32) = 1#1)) (k0_h2 : k0_cond2 (View.readAt (Elt Bits) (tbM0_0).view (Rect.unit (s := S528) (k0_off1 i) S1.size (k0_off1_inb i)).toLoadRect T0 (Shape.Idx.first (numel1_S1.symm ▸ Nat.one_pos))) (View.readAt (Elt Bits) (tbM0_1).view (Rect.unit (s := S528) (k0_off1 i) S1.size (k0_off1_inb i)).toLoadRect T1 (Shape.Idx.first (numel1_S1.symm ▸ Nat.one_pos))) = 1#1) : (S1x512x1024.Idx → Elt Bits .bf16) :=
  VO0_4.read (Elt Bits) (VO0_4.writes (Elt Bits) VO0_4.junk (kernelRun0_C c i arg4 harg4 arg5 harg5 arg6 harg6 arg7 harg7 arg8 harg8 T0 T1 x0 x1 x2 x3 xa0 xa1 hc0 k0_h2).1)

end Cert.Kernel.Attn

end
-- ==== Proof.AttnBits.RunD.lean ====
/-
One run of the kernel's body along one of its four paths.
-/
module

public import proofs.«01_k».proof.Proof.AttnBits.Setup

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

set_option backward.proofsInPublic true in
set_option maxHeartbeats 8000000 in

noncomputable def kernelRun0_D (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Bits .i32)) (T1 : (S528.Idx → Elt Bits .i32))
     (x0 : (S1x512x1024.Idx → Elt Bits .bf16)) (x1 : (S1x512x1024.Idx → Elt Bits .bf16)) (x2 : (S1x512x1024.Idx → Elt Bits .bf16)) (x3 : (S1x512x512.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (View.readAt (Elt Bits) (tbM0_1).view (Rect.unit (s := S528) (k0_off1 i) S1.size (k0_off1_inb i)).toLoadRect T1 (Shape.Idx.first (numel1_S1.symm ▸ Nat.one_pos))) 0#32)) 0#32) = 1#1)) (k0_h2 : ¬(k0_cond2 (View.readAt (Elt Bits) (tbM0_0).view (Rect.unit (s := S528) (k0_off1 i) S1.size (k0_off1_inb i)).toLoadRect T0 (Shape.Idx.first (numel1_S1.symm ▸ Nat.one_pos))) (View.readAt (Elt Bits) (tbM0_1).view (Rect.unit (s := S528) (k0_off1 i) S1.size (k0_off1_inb i)).toLoadRect T1 (Shape.Idx.first (numel1_S1.symm ▸ Nat.one_pos))) = 1#1)) :
    Σ' (out0 : Buf (Elt Bits) ((c : Thread nD τ).loc cc0_scratch0)), { out1 : Buf (Elt Bits) ((c : Thread nD τ).loc cc0_scratch1) //
      ∀ (y4 : (S1x512x1024.Idx → Elt Bits .bf16)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Bits)) Variants.none c none) Set.univ (cc0_dsa_attend i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, fun (y4 : (S1x512x1024.Idx → Elt Bits .bf16)) K => by
    unfold owns
    rw [cc0_dsa_attend_eq_skeleton]; unfold cc0_dsa_attend_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1⟩

end Cert.Kernel.Attn

end
-- ==== Proof.AttnBits.Trajectory.lean ====
/-
What the output block and the two scratch buffers hold after every point, and the proof data of the pipeline.
-/
module

public import proofs.«01_k».proof.Proof.AttnBits.Points
public import proofs.«01_k».proof.Proof.AttnBits.RunA
public import proofs.«01_k».proof.Proof.AttnBits.RunB
public import proofs.«01_k».proof.Proof.AttnBits.RunC
public import proofs.«01_k».proof.Proof.AttnBits.RunD

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (V : (c : Dev nD) → (b : Ref sig .tc) → Buf (Elt Bits) ((c : Thread nD τ).loc b))
def step0 (c : Dev nD) (t : Fin (cfgA).N) (prev : (S1x512x1024.Idx → Elt Bits .bf16) × Buf (Elt Bits) ((c : Thread nD τ).loc cc0_scratch0) × Buf (Elt Bits) ((c : Thread nD τ).loc cc0_scratch1)) : (S1x512x1024.Idx → Elt Bits .bf16) × Buf (Elt Bits) ((c : Thread nD τ).loc cc0_scratch0) × Buf (Elt Bits) ((c : Thread nD τ).loc cc0_scratch1) :=
  if q0 : P0_0 t then
    if q1 : P0_1 t then
      (out0_A_4 c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1, (kernelRun0_A c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1).2.1, (kernelRun0_A c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1).2.2.1)
    else
      ((if (cfgA).fresh (4 : Fin 5) t.val then default else prev.1), (kernelRun0_B c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_B t q0 q1).1 (hypsR0_B t q0 q1).2.1).1, (kernelRun0_B c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_B t q0 q1).1 (hypsR0_B t q0 q1).2.1).2.1)
  else
    if q1 : P0_1 t then
      (out0_C_4 c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1, (kernelRun0_C c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1).2.1, (kernelRun0_C c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1).2.2.1)
    else
      ((if (cfgA).fresh (4 : Fin 5) t.val then default else prev.1), (kernelRun0_D c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_D t q0 q1).1 (hypsR0_D t q0 q1).2.1).1, (kernelRun0_D c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_D t q0 q1).1 (hypsR0_D t q0 q1).2.1).2.1)

def traj0 (c : Dev nD) : (n : ℕ) → n < (cfgA).N → (S1x512x1024.Idx → Elt Bits .bf16) × Buf (Elt Bits) ((c : Thread nD τ).loc cc0_scratch0) × Buf (Elt Bits) ((c : Thread nD τ).loc cc0_scratch1)
  | 0, h => step0 V c ⟨0, h⟩ (default, default, default)
  | n + 1, h => step0 V c ⟨n + 1, h⟩ (traj0 c n (Nat.lt_of_succ_lt h))

def prev0 (c : Dev nD) (t : Fin (cfgA).N) : (S1x512x1024.Idx → Elt Bits .bf16) × Buf (Elt Bits) ((c : Thread nD τ).loc cc0_scratch0) × Buf (Elt Bits) ((c : Thread nD τ).loc cc0_scratch1) :=
  if h : t.val = 0 then (default, default, default) else traj0 V c (t.val - 1) (by omega)

theorem traj0_eq (c : Dev nD) (t : Fin (cfgA).N) : traj0 V c t.val t.isLt = step0 V c t (prev0 V c t) := by
  obtain ⟨n, hn⟩ := t
  cases n with
  | zero => rfl
  | succ n => unfold prev0; simp only [Nat.add_one_ne_zero, dif_neg, not_false_eq_true]; rfl

theorem step0_A (c : Dev nD) (t : Fin (cfgA).N) (prev : (S1x512x1024.Idx → Elt Bits .bf16) × Buf (Elt Bits) ((c : Thread nD τ).loc cc0_scratch0) × Buf (Elt Bits) ((c : Thread nD τ).loc cc0_scratch1)) (q0 : P0_0 t) (q1 : P0_1 t) :
    step0 V c t prev = (out0_A_4 c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1, (kernelRun0_A c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1).2.1, (kernelRun0_A c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1).2.2.1) := by
  unfold step0; simp only [dif_pos q0, dif_pos q1]

theorem step0_B (c : Dev nD) (t : Fin (cfgA).N) (prev : (S1x512x1024.Idx → Elt Bits .bf16) × Buf (Elt Bits) ((c : Thread nD τ).loc cc0_scratch0) × Buf (Elt Bits) ((c : Thread nD τ).loc cc0_scratch1)) (q0 : P0_0 t) (q1 : ¬P0_1 t) :
    step0 V c t prev = ((if (cfgA).fresh (4 : Fin 5) t.val then default else prev.1), (kernelRun0_B c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_B t q0 q1).1 (hypsR0_B t q0 q1).2.1).1, (kernelRun0_B c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_B t q0 q1).1 (hypsR0_B t q0 q1).2.1).2.1) := by
  unfold step0; simp only [dif_pos q0, dif_neg q1]

theorem step0_C (c : Dev nD) (t : Fin (cfgA).N) (prev : (S1x512x1024.Idx → Elt Bits .bf16) × Buf (Elt Bits) ((c : Thread nD τ).loc cc0_scratch0) × Buf (Elt Bits) ((c : Thread nD τ).loc cc0_scratch1)) (q0 : ¬P0_0 t) (q1 : P0_1 t) :
    step0 V c t prev = (out0_C_4 c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1, (kernelRun0_C c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1).2.1, (kernelRun0_C c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1).2.2.1) := by
  unfold step0; simp only [dif_neg q0, dif_pos q1]

theorem step0_D (c : Dev nD) (t : Fin (cfgA).N) (prev : (S1x512x1024.Idx → Elt Bits .bf16) × Buf (Elt Bits) ((c : Thread nD τ).loc cc0_scratch0) × Buf (Elt Bits) ((c : Thread nD τ).loc cc0_scratch1)) (q0 : ¬P0_0 t) (q1 : ¬P0_1 t) :
    step0 V c t prev = ((if (cfgA).fresh (4 : Fin 5) t.val then default else prev.1), (kernelRun0_D c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_D t q0 q1).1 (hypsR0_D t q0 q1).2.1).1, (kernelRun0_D c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_D t q0 q1).1 (hypsR0_D t q0 q1).2.1).2.1) := by
  unfold step0; simp only [dif_neg q0, dif_neg q1]

def prev0T (c : Dev nD) (t : Fin ((cfgA).N + 1)) : (S1x512x1024.Idx → Elt Bits .bf16) × Buf (Elt Bits) ((c : Thread nD τ).loc cc0_scratch0) × Buf (Elt Bits) ((c : Thread nD τ).loc cc0_scratch1) :=
  if h : t.val = 0 then (default, default, default) else traj0 V c (t.val - 1) (by omega)

theorem prev0T_castSucc (c : Dev nD) (t : Fin (cfgA).N) : prev0T V c t.castSucc = prev0 V c t := by
  unfold prev0T prev0; simp only [Fin.val_castSucc]
theorem prev0T_succ (c : Dev nD) (t : Fin (cfgA).N) : prev0T V c t.succ = traj0 V c t.val t.isLt := by
  unfold prev0T; simp only [Fin.val_succ, Nat.add_one_ne_zero, ↓reduceDIte, Nat.add_one_sub_one]

def Phi (c : Dev nD) (t : Fin ((cfgA).N + 1)) : sProp 𝕄 :=
  iprop((∃ a, ⌜sfresh0_0 t.val = false → a = (prev0T V c t).2.1⌝ ∗ (scM0_0.view.loc (c : Thread nD τ) ↦{fullShare} a)) ∗ (∃ a, ⌜sfresh0_1 t.val = false → a = (prev0T V c t).2.2⌝ ∗ (scM0_1.view.loc (c : Thread nD τ) ↦{fullShare} a)) ∗ (tbM0_0.view.loc (c : Thread nD τ) ↦{fullShare.right} pinT_0) ∗ (tbM0_1.view.loc (c : Thread nD τ) ↦{fullShare.right} pinT_1) ∗ (∃ r, prngReg c r))

def dats (_ : Fin 1) (c : Dev nD) : Dat τ (Elt Bits) Unit ℕ (UR sig nD τ) ℕ (cfgA) c where
  A w := V c (Pipeline.arrRef (cfgA).spec w)
  after w t := match w with
    | ⟨0, _⟩ => iblk V c (0 : Fin 5) t
    | ⟨1, _⟩ => iblk V c (1 : Fin 5) t
    | ⟨2, _⟩ => iblk V c (2 : Fin 5) t
    | ⟨3, _⟩ => iblk V c (3 : Fin 5) t
    | ⟨4, _⟩ => (traj0 V c t.val t.isLt).1
  Φ t := Phi V c t
  q _ := fullShare
  owed _ := 0

theorem after0_0 (c : Dev nD) (t : Fin (cfgA).N) : (dats V 0 c).after (0 : Fin 5) t = iblk V c (0 : Fin 5) t := rfl
theorem after0_1 (c : Dev nD) (t : Fin (cfgA).N) : (dats V 0 c).after (1 : Fin 5) t = iblk V c (1 : Fin 5) t := rfl
theorem after0_2 (c : Dev nD) (t : Fin (cfgA).N) : (dats V 0 c).after (2 : Fin 5) t = iblk V c (2 : Fin 5) t := rfl
theorem after0_3 (c : Dev nD) (t : Fin (cfgA).N) : (dats V 0 c).after (3 : Fin 5) t = iblk V c (3 : Fin 5) t := rfl
theorem after0_4 (c : Dev nD) (t : Fin (cfgA).N) : (dats V 0 c).after (4 : Fin 5) t = (traj0 V c t.val t.isLt).1 := rfl

theorem before0_0 (c : Dev nD) (t : Fin (cfgA).N) (d) : (dats V 0 c).before (0 : Fin 5) t d = iblk V c (0 : Fin 5) t :=
  ((dats V 0 c).before_in_eq_fetched (0 : Fin 5) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA).N) (d) : (dats V 0 c).before (1 : Fin 5) t d = iblk V c (1 : Fin 5) t :=
  ((dats V 0 c).before_in_eq_fetched (1 : Fin 5) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA).N) (d) : (dats V 0 c).before (2 : Fin 5) t d = iblk V c (2 : Fin 5) t :=
  ((dats V 0 c).before_in_eq_fetched (2 : Fin 5) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA).N) (d) : (dats V 0 c).before (3 : Fin 5) t d = iblk V c (3 : Fin 5) t :=
  ((dats V 0 c).before_in_eq_fetched (3 : Fin 5) rfl (fun _ => rfl) (fun _ _ _ => rfl) (fun t => by rw [after0_3]; unfold Dat.blockOf iblk; rfl) t d).trans
    (by unfold Dat.fetched Dat.blockOf iblk; rfl)

theorem hcarry0_4 (c : Dev nD) : ∀ (t : Fin (cfgA).N) (ht : t.val ≠ 0), (cfgA).idle (4 : Fin 5) ((cfgA).grid.coords t) = true → (cfgA).fresh (4 : Fin 5) t.val = false →
    (dats V 0 c).after (4 : Fin 5) t = (dats V 0 c).after (4 : Fin 5) ⟨t.val - 1, by omega⟩ := by
  intro t ht hi hf
  rw [after0_4, after0_4, traj0_eq]
  by_cases q0 : P0_0 t
  · by_cases q1 : P0_1 t
    · obtain ⟨i4, -, -, -, -⟩ := sched0_A t q0 q1
      rw [i4] at hi; exact absurd hi (by decide)
    · rw [step0_B V c t _ q0 q1]
      simp only [hf, Bool.false_eq_true, ↓reduceIte]
      unfold prev0; rw [dif_neg ht]
  · by_cases q1 : P0_1 t
    · obtain ⟨i4, -, -, -, -, -, -⟩ := sched0_C t q0 q1
      rw [i4] at hi; exact absurd hi (by decide)
    · rw [step0_D V c t _ q0 q1]
      simp only [hf, Bool.false_eq_true, ↓reduceIte]
      unfold prev0; rw [dif_neg ht]

theorem before0_4 (c : Dev nD) (t : Fin (cfgA).N) (d) :
    (dats V 0 c).before (4 : Fin 5) t d = if (cfgA).fresh (4 : Fin 5) t.val then d else (prev0 V c t).1 := by
  rw [(dats V 0 c).before_out_traj (4 : Fin 5) rfl (fun _ _ => rfl) (hcarry0_4 V c) t.val t rfl d]
  by_cases hf : (cfgA).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

end Cert.Kernel.Attn

end
-- ==== Proof.AttnBits.Frame.lean ====
/-
The launch: the host operations, then the pipeline, and what every buffer holds at the end.
-/
module

public import proofs.«01_k».proof.Proof.AttnBits.Obligation
public import Idealize.ShloMosaic.Lib.StableHlo.Run

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- What every buffer holds when the kernel starts: the launch memory after the host operations. -/
def V (m : (ℓ : Loc nD τ sig) → Buf (Elt Bits) ℓ) (c : Dev nD) (b : Ref sig .tc) : Buf (Elt Bits) ((c : Thread nD τ).loc b) :=
  StableHlo.after (hostOps0 (F := Bits)) (fun b => m (c, b)) b

variable (m : (ℓ : Loc nD τ sig) → Buf (Elt Bits) ℓ) (ρ : Dev nD → PrngReg)

theorem V_q (c : Dev nD) : V m c main_arg0 = m ((c : Thread nD τ).loc main_arg0) := by unfold V; after_results_simp <;> rfl
theorem V_k (c : Dev nD) : V m c main_arg1 = m ((c : Thread nD τ).loc main_arg1) := by unfold V; after_results_simp <;> rfl
theorem V_v (c : Dev nD) : V m c main_arg2 = m ((c : Thread nD τ).loc main_arg2) := by unfold V; after_results_simp <;> rfl
theorem V_sel (c : Dev nD) : V m c main_arg3 = m ((c : Thread nD τ).loc main_arg3) := by unfold V; after_results_simp <;> rfl
theorem V_table (c : Dev nD) (k : Fin 2) : V m c (pre0.ref k) = adm.1 k := by
  fin_cases k
  · change V m c main_c = pinT_0
    unfold V; after_results_simp <;> rfl
  · change V m c main_c_0 = pinT_1
    unfold V; after_results_simp <;> rfl

theorem share_eq (W : (c : Dev nD) → (b : Ref sig .tc) → Buf (Elt Bits) ((c : Thread nD τ).loc b)) (c : Dev nD) (w : Fin (cfgA).W) :
    (dats W 0 c).share w = fullShare := by unfold Dat.share; split <;> rfl

/-- The two tables as the region hands them over, one by one. -/
theorem tables_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

variable (W : (c : Dev nD) → (b : Ref sig .tc) → Buf (Elt Bits) ((c : Thread nD τ).loc b))

/-- What the invariant needs at the first point. -/
theorem enter (c : Dev nD) : iprop(Pipeline.ΦA spec0 c ∗ Pipeline.ΦT pre0 adm.1 c) ⊢ (dats W 0 c).Φ 0 := by
  unfold Pipeline.ΦA Pipeline.ΦT
  rw [tables_eq, scopedRest0_eq, show (dats W 0 c).Φ 0 = Phi W c 0 from rfl]
  unfold Phi
  iintro ⟨⟨⟨⟨%a0, HS0⟩, ⟨%a1, HS1⟩⟩, HP⟩, ⟨HT0, HT1⟩⟩
  isplitl [HS0]
  · iexists a0; isplitr; swap
    · iexact HS0
    · ipureintro; intro h; exact absurd (h.symm.trans (show sfresh0_0 0 = true from rfl)) Bool.false_ne_true
  isplitl [HS1]
  · iexists a1; isplitr; swap
    · iexact HS1
    · ipureintro; intro h; exact absurd (h.symm.trans (show sfresh0_1 0 = true from rfl)) Bool.false_ne_true
  isplitl [HT0]
  · iexact HT0
  isplitl [HT1]
  · iexact HT1
  iexact HP

/-- What it gives back after the last one. -/
theorem leave (c : Dev nD) : (dats W 0 c).Φ (Fin.last (cfgA).N) ⊢ Pipeline.ΦA spec0 c := by
  unfold Pipeline.ΦA
  rw [scopedRest0_eq, show (dats W 0 c).Φ (Fin.last (cfgA).N) = Phi W c (Fin.last _) from rfl]
  unfold Phi
  iintro ⟨⟨%a0, -, HS0⟩, ⟨%a1, -, HS1⟩, -, -, HP⟩
  isplitr [HP]
  · isplitl [HS0]
    · iexists a0; iexact HS0
    iexists a1; iexact HS1
  iexact HP

set_option backward.isDefEq.respectTransparency.types false in
set_option maxHeartbeats 4000000 in
/-- The whole run: every array ends at what the pipeline's proof data computes, every other buffer as the host code left it,
    and every counter at zero. -/
theorem run : θ_run (defs (F := Bits)) (onTc (τ := τ) (main (F := Bits))) (s₀ m ρ)
    (fun r => Pipeline.FramePost pcs (dats (V m)) 0 (V m) r ∧ r.2.sem = fun _ => 0) :=
  Pipeline.θ_run_frameP_track pcfgs (fun _ => adm) (dats (V m)) 0 launch0 defs₀ Variants.none m ρ main
    (hbody := fun c => (body_obligation (V m) c).loose)
    (hshare := fun c w => share_eq (V m) c w) (howed := fun _ _ => rfl)
    (V := V m)
    (hmain := Pipeline.hmainP_prefix pcfgs 0 defs₀ Variants.none m main hostOps0 hostOps0_sub
      (by refine ⟨?_, ?_, ?_, ?_, ?_, ?_, ?_, ?_, ?_, ?_, ?_, ?_, ?_, ?_, ?_, ?_, ?_, ?_⟩ <;> rfl) main_chain)
    (hA := fun _ _ => rfl) (hpf := V_table m) (hin := enter (V m)) (hout := leave (V m))
    (Q' := fun r => Pipeline.FramePost pcs (dats (V m)) 0 (V m) r ∧ r.2.sem = fun _ => 0) (hQ' := fun _ h => h)

theorem sel_bypasses : main_arg3 ∈ Pipeline.restRefs sig (cfgA).spec :=
  Pipeline.mem_restRefs_of main_arg3 rfl (by decide)

/-- The frame: the arguments end unchanged and every counter reads zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(((h.1 c).1 (0 : Fin 5)).trans ((dats (V m) 0 c).arrAt_in (0 : Fin 5) rfl _)).trans (V_q m c),
     (((h.1 c).1 (1 : Fin 5)).trans ((dats (V m) 0 c).arrAt_in (1 : Fin 5) rfl _)).trans (V_k m c),
     (((h.1 c).1 (2 : Fin 5)).trans ((dats (V m) 0 c).arrAt_in (2 : Fin 5) rfl _)).trans (V_v m c),
     ((h.1 c).2 main_arg3 sel_bypasses).trans (V_sel m c)⟩, h.2⟩) (run m ρ)

end Cert.Kernel.Attn

end
-- ==== Proof.AttnIdeal.Tables.lean ====
/-
The two prefetched tables the pipeline walks, as the host code writes them, and the memrefs of the kernel.
-/
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Claim
public import Idealize.ShloMosaic.Lib.Pipeline.Quiescent
public import Idealize.ShloMosaic.PureOps.BitExact
public import Idealize.ShloMosaic.PureOps.Ideal
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev tbM0_0 : Memref sig .tc .smem S528 .i32 := Memref.whole main_c
abbrev tbM0_1 : Memref sig .tc .smem S528 .i32 := Memref.whole main_c_0
abbrev scM0_0 : Memref sig .tc .vmem S8x512x128 .f32 := Memref.whole cc0_scratch0
abbrev scM0_1 : Memref sig .tc .vmem S8x512x256 .f32 := Memref.whole cc0_scratch1

/-- The table of query blocks, point by point. -/
def pinT_0 : S528.Idx → BitVec 32 := fun i => lit0 (S528.rowMajor i)

/-- The table of key blocks, point by point. -/
def pinT_1 : S528.Idx → BitVec 32 := fun i => lit1 (S528.rowMajor i)

set_option backward.proofsInPublic true in
/-- The two tables' contents. -/
def pfN : pre0.Contents (Elt Ideal) := fun | ⟨0, _⟩ => pinT_0 | ⟨1, _⟩ => pinT_1 | ⟨_ + 2, h⟩ => absurd h (by simp)

end Cert.KernelIdeal.Attn

end
-- ==== Proof.AttnIdeal.Blocks.lean ====
/-
Every window's block lies inside its array, at every point of the grid.
-/
module

public import proofs.«01_k».proof.Proof.AttnIdeal.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem ok_pfN_0_0_inb : ∀ i : grid0.Coords, ∀ a, (cc0_transform_0 k0_off1_inb numel1_S1 (pfN ) i a + 1) * S1x512x1024.size a ≤ S2x16384x1024.size a := by decide +kernel
theorem ok_pfN_0_0 : (∀ i : grid0.Coords, ∃ h : (∀ a, (cc0_transform_0 k0_off1_inb numel1_S1 (pfN ) i a + 1) * S1x512x1024.size a ≤ S2x16384x1024.size a), EltTy.bits .bf16 = 32 ∨ (Rect.block (s := S2x16384x1024) S1x512x1024.size (cc0_transform_0 k0_off1_inb numel1_S1 (pfN ) i) h).WholeWords (EltTy.packing .bf16)) := fun i => ⟨ok_pfN_0_0_inb i, .inr (Affine.block_words_dvd (s := S2x16384x1024) (p := EltTy.packing .bf16) (by decide) (by decide))⟩
theorem ok_pfN_0_1_inb : ∀ i : grid0.Coords, ∀ a, (cc0_transform_1 k0_off1_inb numel1_S1 (pfN ) i a + 1) * S1x512x1024.size a ≤ S2x16384x1024.size a := by decide +kernel
theorem ok_pfN_0_1 : (∀ i : grid0.Coords, ∃ h : (∀ a, (cc0_transform_1 k0_off1_inb numel1_S1 (pfN ) i a + 1) * S1x512x1024.size a ≤ S2x16384x1024.size a), EltTy.bits .bf16 = 32 ∨ (Rect.block (s := S2x16384x1024) S1x512x1024.size (cc0_transform_1 k0_off1_inb numel1_S1 (pfN ) i) h).WholeWords (EltTy.packing .bf16)) := fun i => ⟨ok_pfN_0_1_inb i, .inr (Affine.block_words_dvd (s := S2x16384x1024) (p := EltTy.packing .bf16) (by decide) (by decide))⟩
theorem ok_pfN_0_2_inb : ∀ i : grid0.Coords, ∀ a, (cc0_transform_2 k0_off1_inb numel1_S1 (pfN ) i a + 1) * S1x512x1024.size a ≤ S2x16384x1024.size a := by decide +kernel
theorem ok_pfN_0_2 : (∀ i : grid0.Coords, ∃ h : (∀ a, (cc0_transform_2 k0_off1_inb numel1_S1 (pfN ) i a + 1) * S1x512x1024.size a ≤ S2x16384x1024.size a), EltTy.bits .bf16 = 32 ∨ (Rect.block (s := S2x16384x1024) S1x512x1024.size (cc0_transform_2 k0_off1_inb numel1_S1 (pfN ) i) h).WholeWords (EltTy.packing .bf16)) := fun i => ⟨ok_pfN_0_2_inb i, .inr (Affine.block_words_dvd (s := S2x16384x1024) (p := EltTy.packing .bf16) (by decide) (by decide))⟩
theorem ok_pfN_0_3_inb : ∀ i : grid0.Coords, ∀ a, (cc0_transform_3 k0_off1_inb numel1_S1 (pfN ) i a + 1) * S1x512x512.size a ≤ S2x16384x16384.size a := by decide +kernel
theorem ok_pfN_0_3 : (∀ i : grid0.Coords, ∃ h : (∀ a, (cc0_transform_3 k0_off1_inb numel1_S1 (pfN ) i a + 1) * S1x512x512.size a ≤ S2x16384x16384.size a), EltTy.bits .bf16 = 32 ∨ (Rect.block (s := S2x16384x16384) S1x512x512.size (cc0_transform_3 k0_off1_inb numel1_S1 (pfN ) i) h).WholeWords (EltTy.packing .bf16)) := fun i => ⟨ok_pfN_0_3_inb i, .inr (Affine.block_words_dvd (s := S2x16384x16384) (p := EltTy.packing .bf16) (by decide) (by decide))⟩
theorem ok_pfN_0_4_inb : ∀ i : grid0.Coords, ∀ a, (cc0_transform_4 k0_off1_inb numel1_S1 (pfN ) i a + 1) * S1x512x1024.size a ≤ S2x16384x1024.size a := by decide +kernel
theorem ok_pfN_0_4 : (∀ i : grid0.Coords, ∃ h : (∀ a, (cc0_transform_4 k0_off1_inb numel1_S1 (pfN ) i a + 1) * S1x512x1024.size a ≤ S2x16384x1024.size a), EltTy.bits .bf16 = 32 ∨ (Rect.block (s := S2x16384x1024) S1x512x1024.size (cc0_transform_4 k0_off1_inb numel1_S1 (pfN ) i) h).WholeWords (EltTy.packing .bf16)) := fun i => ⟨ok_pfN_0_4_inb i, .inr (Affine.block_words_dvd (s := S2x16384x1024) (p := EltTy.packing .bf16) (by decide) (by decide))⟩
theorem ok_pfN_0 : ok0 (F := Ideal) (pfN ) := ⟨ok_pfN_0_0, ok_pfN_0_1, ok_pfN_0_2, ok_pfN_0_3, ok_pfN_0_4⟩

end Cert.KernelIdeal.Attn

end
-- ==== Proof.AttnIdeal.Setup.lean ====
/-
The pipeline at those tables: its grid, staging buffers, blocks, and the two decisions of a point.
-/
module

public import proofs.«01_k».proof.Proof.AttnIdeal.Blocks

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem ok_pfN : ok0 (F := Ideal) pfN := ok_pfN_0

def adm : (pcfg0 (F := Ideal)).Adm := ⟨pfN, ok_pfN⟩
abbrev cfgA : Pipeline.Cfg sig Λ₀ := cfg0 (F := Ideal) (adm)
abbrev pcs : Fin 1 → Pipeline.Cfg sig Λ₀ := Pipeline.pin (pcfgs (F := Ideal)) fun _ => adm

variable (V : (c : Dev nD) → (b : Ref sig .tc) → Buf (Elt Ideal) ((c : Thread nD τ).loc b))

abbrev crd (t : Fin (cfgA).N) : (cfgA).grid.Coords := (cfgA).grid.coords t

abbrev ms0_0 (t : Fin (cfgA).N) : Memref sig .tc .vmem S1x512x1024 .bf16 := spec0_0.stage ((cfgA).slots t (0 : Fin 5))
abbrev hs0_0 (t : Fin (cfgA).N) : (ms0_0 t).IsWhole := hstage0_0 (((cfgA).slots t (0 : Fin 5)).cast nbuf0_0)
abbrev ms0_1 (t : Fin (cfgA).N) : Memref sig .tc .vmem S1x512x1024 .bf16 := spec0_1.stage ((cfgA).slots t (1 : Fin 5))
abbrev hs0_1 (t : Fin (cfgA).N) : (ms0_1 t).IsWhole := hstage0_1 (((cfgA).slots t (1 : Fin 5)).cast nbuf0_1)
abbrev ms0_2 (t : Fin (cfgA).N) : Memref sig .tc .vmem S1x512x1024 .bf16 := spec0_2.stage ((cfgA).slots t (2 : Fin 5))
abbrev hs0_2 (t : Fin (cfgA).N) : (ms0_2 t).IsWhole := hstage0_2 (((cfgA).slots t (2 : Fin 5)).cast nbuf0_2)
abbrev ms0_3 (t : Fin (cfgA).N) : Memref sig .tc .vmem S1x512x512 .bf16 := spec0_3.stage ((cfgA).slots t (3 : Fin 5))
abbrev hs0_3 (t : Fin (cfgA).N) : (ms0_3 t).IsWhole := hstage0_3 (((cfgA).slots t (3 : Fin 5)).cast nbuf0_3)
abbrev ms0_4 (t : Fin (cfgA).N) : Memref sig .tc .vmem S1x512x1024 .bf16 := spec0_4.stage ((cfgA).slots t (4 : Fin 5))
abbrev hs0_4 (t : Fin (cfgA).N) : (ms0_4 t).IsWhole := hstage0_4 (((cfgA).slots t (4 : Fin 5)).cast nbuf0_4)

def iblk (c : Dev nD) (w : Fin (cfgA).W) (t : Fin (cfgA).N) : (((cfgA).win w).xblock (crd t)).Idx → Elt Ideal ((cfgA).win w).elt :=
  (((cfgA).win w).blk t).view.read (Elt Ideal) (V c (Pipeline.arrRef (cfgA).spec w))

abbrev P0_0 (t : Fin (cfgA).N) : Prop := (Scalar.cmpi .ne (Scalar.extui (Scalar.cmpi .eq (View.readAt (Elt Ideal) (tbM0_1).view (Rect.unit (s := S528) (k0_off1 (crd t)) S1.size (k0_off1_inb (crd t))).toLoadRect (pinT_1) (Shape.Idx.first (numel1_S1.symm ▸ Nat.one_pos))) 0#32)) 0#32) = 1#1
abbrev P0_1 (t : Fin (cfgA).N) : Prop := k0_cond2 (View.readAt (Elt Ideal) (tbM0_0).view (Rect.unit (s := S528) (k0_off1 (crd t)) S1.size (k0_off1_inb (crd t))).toLoadRect (pinT_0) (Shape.Idx.first (numel1_S1.symm ▸ Nat.one_pos))) (View.readAt (Elt Ideal) (tbM0_1).view (Rect.unit (s := S528) (k0_off1 (crd t)) S1.size (k0_off1_inb (crd t))).toLoadRect (pinT_1) (Shape.Idx.first (numel1_S1.symm ▸ Nat.one_pos))) = 1#1

def sfresh0_0 : ℕ → Bool
  | 0 => true
  | n + 1 => if h : n < (cfgA).N then (if P0_0 ⟨n, h⟩ then (if P0_1 ⟨n, h⟩ then false else false) else (if P0_1 ⟨n, h⟩ then sfresh0_0 n else sfresh0_0 n)) else true

def sfirst0_0 : ℕ := 0
def sfrTab0_0 : ℕ → Bool := fun n => decide (n ≤ sfirst0_0)

def sfresh0_1 : ℕ → Bool
  | 0 => true
  | n + 1 => if h : n < (cfgA).N then (if P0_0 ⟨n, h⟩ then (if P0_1 ⟨n, h⟩ then false else false) else (if P0_1 ⟨n, h⟩ then sfresh0_1 n else sfresh0_1 n)) else true

def sfirst0_1 : ℕ := 0
def sfrTab0_1 : ℕ → Bool := fun n => decide (n ≤ sfirst0_1)

set_option backward.proofsInPublic true in

def frMask0_4 : ℕ := 2 ^ 1056 - 1
def frTab0_4 : ℕ → Bool
  | 0 => true
  | n + 1 => (frMask0_4).testBit n

abbrev VO0_4 : View sig .tc .vmem S1x512x1024 .bf16 := (Memref.whole cc0_stg4_0 : Memref sig .tc .vmem S1x512x1024 .bf16).view

end Cert.KernelIdeal.Attn

end
-- ==== Proof.AttnIdeal.PointFacts.lean ====
/-
What is decided at each point, as one decidable proposition.
-/
module

public import proofs.«01_k».proof.Proof.AttnIdeal.Setup

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev FactsAt (t : Fin (cfgA).N) : Prop :=
  (sfrTab0_0 (t.val + 1) = (if P0_0 t then (if P0_1 t then false else false) else (if P0_1 t then sfrTab0_0 t.val else sfrTab0_0 t.val)))
  ∧ (sfrTab0_1 (t.val + 1) = (if P0_0 t then (if P0_1 t then false else false) else (if P0_1 t then sfrTab0_1 t.val else sfrTab0_1 t.val)))
  ∧ (frTab0_4 (t.val + 1) = (((cfgA).win (4 : Fin 5)).flush t || ((cfgA).idle (4 : Fin 5) ((cfgA).grid.coords t) && frTab0_4 t.val)))
  ∧ (P0_0 t → P0_1 t → ((Scalar.cmpi .ne (Scalar.extui (Scalar.cmpi .eq (View.readAt (Elt Ideal) (tbM0_1).view (Rect.unit (s := S528) (k0_off1 (crd t)) S1.size (k0_off1_inb (crd t))).toLoadRect (pinT_1) (Shape.Idx.first (numel1_S1.symm ▸ Nat.one_pos))) 0#32)) 0#32) = 1#1) ∧ ((k0_cond2 (View.readAt (Elt Ideal) (tbM0_0).view (Rect.unit (s := S528) (k0_off1 (crd t)) S1.size (k0_off1_inb (crd t))).toLoadRect (pinT_0) (Shape.Idx.first (numel1_S1.symm ▸ Nat.one_pos))) (View.readAt (Elt Ideal) (tbM0_1).view (Rect.unit (s := S528) (k0_off1 (crd t)) S1.size (k0_off1_inb (crd t))).toLoadRect (pinT_1) (Shape.Idx.first (numel1_S1.symm ▸ Nat.one_pos))) = 1#1) ∧ (True)))
  ∧ (P0_0 t → P0_1 t → (cfgA).idle (4 : Fin 5) ((cfgA).grid.coords t) = false ∧ ((cfgA).win (4 : Fin 5)).flush t = true ∧ frTab0_4 t.val = true ∧ sfrTab0_0 (t.val + 1) = false ∧ sfrTab0_1 (t.val + 1) = false)
  ∧ (P0_0 t → ¬P0_1 t → ((Scalar.cmpi .ne (Scalar.extui (Scalar.cmpi .eq (View.readAt (Elt Ideal) (tbM0_1).view (Rect.unit (s := S528) (k0_off1 (crd t)) S1.size (k0_off1_inb (crd t))).toLoadRect (pinT_1) (Shape.Idx.first (numel1_S1.symm ▸ Nat.one_pos))) 0#32)) 0#32) = 1#1) ∧ ((¬(k0_cond2 (View.readAt (Elt Ideal) (tbM0_0).view (Rect.unit (s := S528) (k0_off1 (crd t)) S1.size (k0_off1_inb (crd t))).toLoadRect (pinT_0) (Shape.Idx.first (numel1_S1.symm ▸ Nat.one_pos))) (View.readAt (Elt Ideal) (tbM0_1).view (Rect.unit (s := S528) (k0_off1 (crd t)) S1.size (k0_off1_inb (crd t))).toLoadRect (pinT_1) (Shape.Idx.first (numel1_S1.symm ▸ Nat.one_pos))) = 1#1)) ∧ (True)))
  ∧ (P0_0 t → ¬P0_1 t → (cfgA).idle (4 : Fin 5) ((cfgA).grid.coords t) = true ∧ ((cfgA).win (4 : Fin 5)).flush t = false ∧ frTab0_4 t.val = true ∧ sfrTab0_0 t.val = false ∧ sfrTab0_0 (t.val + 1) = false ∧ sfrTab0_1 t.val = false ∧ sfrTab0_1 (t.val + 1) = false)
  ∧ (¬P0_0 t → P0_1 t → (¬((Scalar.cmpi .ne (Scalar.extui (Scalar.cmpi .eq (View.readAt (Elt Ideal) (tbM0_1).view (Rect.unit (s := S528) (k0_off1 (crd t)) S1.size (k0_off1_inb (crd t))).toLoadRect (pinT_1) (Shape.Idx.first (numel1_S1.symm ▸ Nat.one_pos))) 0#32)) 0#32) = 1#1)) ∧ ((k0_cond2 (View.readAt (Elt Ideal) (tbM0_0).view (Rect.unit (s := S528) (k0_off1 (crd t)) S1.size (k0_off1_inb (crd t))).toLoadRect (pinT_0) (Shape.Idx.first (numel1_S1.symm ▸ Nat.one_pos))) (View.readAt (Elt Ideal) (tbM0_1).view (Rect.unit (s := S528) (k0_off1 (crd t)) S1.size (k0_off1_inb (crd t))).toLoadRect (pinT_1) (Shape.Idx.first (numel1_S1.symm ▸ Nat.one_pos))) = 1#1) ∧ (True)))
  ∧ (¬P0_0 t → P0_1 t → (cfgA).idle (4 : Fin 5) ((cfgA).grid.coords t) = false ∧ ((cfgA).win (4 : Fin 5)).flush t = true ∧ frTab0_4 t.val = true ∧ sfrTab0_0 t.val = false ∧ sfrTab0_0 (t.val + 1) = false ∧ sfrTab0_1 t.val = false ∧ sfrTab0_1 (t.val + 1) = false)
  ∧ (¬P0_0 t → ¬P0_1 t → (¬((Scalar.cmpi .ne (Scalar.extui (Scalar.cmpi .eq (View.readAt (Elt Ideal) (tbM0_1).view (Rect.unit (s := S528) (k0_off1 (crd t)) S1.size (k0_off1_inb (crd t))).toLoadRect (pinT_1) (Shape.Idx.first (numel1_S1.symm ▸ Nat.one_pos))) 0#32)) 0#32) = 1#1)) ∧ ((¬(k0_cond2 (View.readAt (Elt Ideal) (tbM0_0).view (Rect.unit (s := S528) (k0_off1 (crd t)) S1.size (k0_off1_inb (crd t))).toLoadRect (pinT_0) (Shape.Idx.first (numel1_S1.symm ▸ Nat.one_pos))) (View.readAt (Elt Ideal) (tbM0_1).view (Rect.unit (s := S528) (k0_off1 (crd t)) S1.size (k0_off1_inb (crd t))).toLoadRect (pinT_1) (Shape.Idx.first (numel1_S1.symm ▸ Nat.one_pos))) = 1#1)) ∧ (True)))
  ∧ (¬P0_0 t → ¬P0_1 t → (cfgA).idle (4 : Fin 5) ((cfgA).grid.coords t) = true ∧ ((cfgA).win (4 : Fin 5)).flush t = false ∧ frTab0_4 t.val = true ∧ sfrTab0_0 t.val = false ∧ sfrTab0_0 (t.val + 1) = false ∧ sfrTab0_1 t.val = false ∧ sfrTab0_1 (t.val + 1) = false)

set_option synthInstance.maxSize 65536 in
instance FactsAt.dec (t : Fin (cfgA).N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))

end Cert.KernelIdeal.Attn

end
-- ==== Proof.AttnIdeal.PointFactsAll.lean ====
/-
The decided facts hold at every point of the grid.
-/
module

public import proofs.«01_k».proof.Proof.AttnIdeal.PointFacts

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem allFacts_0_0 : ∀ t : Fin (cfgA).N, 0 ≤ t.val → t.val < 132 → FactsAt  t := by decide +kernel
theorem allFacts_0_1 : ∀ t : Fin (cfgA).N, 132 ≤ t.val → t.val < 264 → FactsAt  t := by decide +kernel
theorem allFacts_0_2 : ∀ t : Fin (cfgA).N, 264 ≤ t.val → t.val < 396 → FactsAt  t := by decide +kernel
theorem allFacts_0_3 : ∀ t : Fin (cfgA).N, 396 ≤ t.val → t.val < 528 → FactsAt  t := by decide +kernel
theorem allFacts_0_4 : ∀ t : Fin (cfgA).N, 528 ≤ t.val → t.val < 660 → FactsAt  t := by decide +kernel
theorem allFacts_0_5 : ∀ t : Fin (cfgA).N, 660 ≤ t.val → t.val < 792 → FactsAt  t := by decide +kernel
theorem allFacts_0_6 : ∀ t : Fin (cfgA).N, 792 ≤ t.val → t.val < 924 → FactsAt  t := by decide +kernel
theorem allFacts_0_7 : ∀ t : Fin (cfgA).N, 924 ≤ t.val → t.val < 1056 → FactsAt  t := by decide +kernel
theorem allFacts_0 : ∀ t : Fin (cfgA).N, FactsAt  t := fun t => by
  have h0 : 0 ≤ t.val := Nat.zero_le _
  rcases Nat.lt_or_ge t.val 132 with h1 | h1; · exact allFacts_0_0 t h0 h1
  rcases Nat.lt_or_ge t.val 264 with h2 | h2; · exact allFacts_0_1 t h1 h2
  rcases Nat.lt_or_ge t.val 396 with h3 | h3; · exact allFacts_0_2 t h2 h3
  rcases Nat.lt_or_ge t.val 528 with h4 | h4; · exact allFacts_0_3 t h3 h4
  rcases Nat.lt_or_ge t.val 660 with h5 | h5; · exact allFacts_0_4 t h4 h5
  rcases Nat.lt_or_ge t.val 792 with h6 | h6; · exact allFacts_0_5 t h5 h6
  rcases Nat.lt_or_ge t.val 924 with h7 | h7; · exact allFacts_0_6 t h6 h7
  exact allFacts_0_7 t h7 t.isLt

end Cert.KernelIdeal.Attn

end
-- ==== Proof.AttnIdeal.Points.lean ====
/-
The decided facts by path.
-/
module

public import proofs.«01_k».proof.Proof.AttnIdeal.PointFactsAll

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))
theorem allFacts : ∀ (t : Fin (cfgA).N), FactsAt t := allFacts_0

theorem sfrTab0_0_step : ∀ (t : Fin (cfgA).N), sfrTab0_0 (t.val + 1) = (if P0_0 t then (if P0_1 t then false else false) else (if P0_1 t then sfrTab0_0 t.val else sfrTab0_0 t.val)) := fun t => (allFacts t).1
theorem sfresh0_0_eq : ∀ n, n ≤ (cfgA).N → sfresh0_0 n = sfrTab0_0 n
  | 0, _ => by simp only [sfresh0_0, sfrTab0_0, Nat.zero_le, decide_true]
  | n + 1, h => by simp only [sfresh0_0, dif_pos (show n < (cfgA).N from h), sfresh0_0_eq n (Nat.le_of_lt h), sfrTab0_0_step ⟨n, h⟩]
theorem sfreshF0_0 (t : Fin (cfgA).N) : sfresh0_0 t.val = sfrTab0_0 t.val := sfresh0_0_eq t.val (Nat.le_of_lt t.isLt)
theorem sfreshS0_0 (t : Fin (cfgA).N) : sfresh0_0 (t.val + 1) = sfrTab0_0 (t.val + 1) := sfresh0_0_eq (t.val + 1) t.isLt

theorem sfrTab0_1_step : ∀ (t : Fin (cfgA).N), sfrTab0_1 (t.val + 1) = (if P0_0 t then (if P0_1 t then false else false) else (if P0_1 t then sfrTab0_1 t.val else sfrTab0_1 t.val)) := fun t => (allFacts t).2.1
theorem sfresh0_1_eq : ∀ n, n ≤ (cfgA).N → sfresh0_1 n = sfrTab0_1 n
  | 0, _ => by simp only [sfresh0_1, sfrTab0_1, Nat.zero_le, decide_true]
  | n + 1, h => by simp only [sfresh0_1, dif_pos (show n < (cfgA).N from h), sfresh0_1_eq n (Nat.le_of_lt h), sfrTab0_1_step ⟨n, h⟩]
theorem sfreshF0_1 (t : Fin (cfgA).N) : sfresh0_1 t.val = sfrTab0_1 t.val := sfresh0_1_eq t.val (Nat.le_of_lt t.isLt)
theorem sfreshS0_1 (t : Fin (cfgA).N) : sfresh0_1 (t.val + 1) = sfrTab0_1 (t.val + 1) := sfresh0_1_eq (t.val + 1) t.isLt

theorem frTab0_4_step : ∀ (t : Fin (cfgA).N),
    frTab0_4 (t.val + 1) = (((cfgA).win (4 : Fin 5)).flush t || ((cfgA).idle (4 : Fin 5) ((cfgA).grid.coords t) && frTab0_4 t.val)) := fun t => (allFacts t).2.2.1
theorem freshF0_4 (t : Fin (cfgA).N) : (cfgA).fresh (4 : Fin 5) t.val = frTab0_4 t.val :=
  Pipeline.Cfg.fresh_tab (cfgA) (4 : Fin 5) (frTab0_4) rfl (frTab0_4_step) t.val (Nat.le_of_lt t.isLt)

theorem hyps0_A : ∀ (t : Fin (cfgA).N), P0_0 t → P0_1 t →
    ((Scalar.cmpi .ne (Scalar.extui (Scalar.cmpi .eq (View.readAt (Elt Ideal) (tbM0_1).view (Rect.unit (s := S528) (k0_off1 (crd t)) S1.size (k0_off1_inb (crd t))).toLoadRect (pinT_1) (Shape.Idx.first (numel1_S1.symm ▸ Nat.one_pos))) 0#32)) 0#32) = 1#1) ∧ ((k0_cond2 (View.readAt (Elt Ideal) (tbM0_0).view (Rect.unit (s := S528) (k0_off1 (crd t)) S1.size (k0_off1_inb (crd t))).toLoadRect (pinT_0) (Shape.Idx.first (numel1_S1.symm ▸ Nat.one_pos))) (View.readAt (Elt Ideal) (tbM0_1).view (Rect.unit (s := S528) (k0_off1 (crd t)) S1.size (k0_off1_inb (crd t))).toLoadRect (pinT_1) (Shape.Idx.first (numel1_S1.symm ▸ Nat.one_pos))) = 1#1) ∧ (True)) := fun t => (allFacts t).2.2.2.1

theorem hypsR0_A : ∀ (t : Fin (cfgA).N), P0_0 t → P0_1 t →
    ((Scalar.cmpi .ne (Scalar.extui (Scalar.cmpi .eq (View.readAt (Elt Ideal) (tbM0_1).view (Rect.unit (s := S528) (k0_off1 (crd t)) S1.size (k0_off1_inb (crd t))).toLoadRect (pinT_1) (Shape.Idx.first (numel1_S1.symm ▸ Nat.one_pos))) 0#32)) 0#32) = 1#1) ∧ ((k0_cond2 (View.readAt (Elt Ideal) (tbM0_0).view (Rect.unit (s := S528) (k0_off1 (crd t)) S1.size (k0_off1_inb (crd t))).toLoadRect (pinT_0) (Shape.Idx.first (numel1_S1.symm ▸ Nat.one_pos))) (View.readAt (Elt Ideal) (tbM0_1).view (Rect.unit (s := S528) (k0_off1 (crd t)) S1.size (k0_off1_inb (crd t))).toLoadRect (pinT_1) (Shape.Idx.first (numel1_S1.symm ▸ Nat.one_pos))) = 1#1) ∧ (True)) := hyps0_A

theorem sched0_A : ∀ (t : Fin (cfgA).N), P0_0 t → P0_1 t →
    (cfgA).idle (4 : Fin 5) ((cfgA).grid.coords t) = false ∧ ((cfgA).win (4 : Fin 5)).flush t = true ∧ (cfgA).fresh (4 : Fin 5) t.val = true ∧ sfresh0_0 (t.val + 1) = false ∧ sfresh0_1 (t.val + 1) = false := by
  intro t; rw [freshF0_4 t, sfreshS0_0 t, sfreshS0_1 t]; exact (fun t => (allFacts t).2.2.2.2.1) t

theorem hyps0_B : ∀ (t : Fin (cfgA).N), P0_0 t → ¬P0_1 t →
    ((Scalar.cmpi .ne (Scalar.extui (Scalar.cmpi .eq (View.readAt (Elt Ideal) (tbM0_1).view (Rect.unit (s := S528) (k0_off1 (crd t)) S1.size (k0_off1_inb (crd t))).toLoadRect (pinT_1) (Shape.Idx.first (numel1_S1.symm ▸ Nat.one_pos))) 0#32)) 0#32) = 1#1) ∧ ((¬(k0_cond2 (View.readAt (Elt Ideal) (tbM0_0).view (Rect.unit (s := S528) (k0_off1 (crd t)) S1.size (k0_off1_inb (crd t))).toLoadRect (pinT_0) (Shape.Idx.first (numel1_S1.symm ▸ Nat.one_pos))) (View.readAt (Elt Ideal) (tbM0_1).view (Rect.unit (s := S528) (k0_off1 (crd t)) S1.size (k0_off1_inb (crd t))).toLoadRect (pinT_1) (Shape.Idx.first (numel1_S1.symm ▸ Nat.one_pos))) = 1#1)) ∧ (True)) := fun t => (allFacts t).2.2.2.2.2.1

theorem hypsR0_B : ∀ (t : Fin (cfgA).N), P0_0 t → ¬P0_1 t →
    ((Scalar.cmpi .ne (Scalar.extui (Scalar.cmpi .eq (View.readAt (Elt Ideal) (tbM0_1).view (Rect.unit (s := S528) (k0_off1 (crd t)) S1.size (k0_off1_inb (crd t))).toLoadRect (pinT_1) (Shape.Idx.first (numel1_S1.symm ▸ Nat.one_pos))) 0#32)) 0#32) = 1#1) ∧ ((¬(k0_cond2 (View.readAt (Elt Ideal) (tbM0_0).view (Rect.unit (s := S528) (k0_off1 (crd t)) S1.size (k0_off1_inb (crd t))).toLoadRect (pinT_0) (Shape.Idx.first (numel1_S1.symm ▸ Nat.one_pos))) (View.readAt (Elt Ideal) (tbM0_1).view (Rect.unit (s := S528) (k0_off1 (crd t)) S1.size (k0_off1_inb (crd t))).toLoadRect (pinT_1) (Shape.Idx.first (numel1_S1.symm ▸ Nat.one_pos))) = 1#1)) ∧ (True)) := hyps0_B

theorem sched0_B : ∀ (t : Fin (cfgA).N), P0_0 t → ¬P0_1 t →
    (cfgA).idle (4 : Fin 5) ((cfgA).grid.coords t) = true ∧ ((cfgA).win (4 : Fin 5)).flush t = false ∧ (cfgA).fresh (4 : Fin 5) t.val = true ∧ sfresh0_0 t.val = false ∧ sfresh0_0 (t.val + 1) = false ∧ sfresh0_1 t.val = false ∧ sfresh0_1 (t.val + 1) = false := by
  intro t; rw [freshF0_4 t, sfreshF0_0 t, sfreshS0_0 t, sfreshF0_1 t, sfreshS0_1 t]; exact (fun t => (allFacts t).2.2.2.2.2.2.1) t

theorem hyps0_C : ∀ (t : Fin (cfgA).N), ¬P0_0 t → P0_1 t →
    (¬((Scalar.cmpi .ne (Scalar.extui (Scalar.cmpi .eq (View.readAt (Elt Ideal) (tbM0_1).view (Rect.unit (s := S528) (k0_off1 (crd t)) S1.size (k0_off1_inb (crd t))).toLoadRect (pinT_1) (Shape.Idx.first (numel1_S1.symm ▸ Nat.one_pos))) 0#32)) 0#32) = 1#1)) ∧ ((k0_cond2 (View.readAt (Elt Ideal) (tbM0_0).view (Rect.unit (s := S528) (k0_off1 (crd t)) S1.size (k0_off1_inb (crd t))).toLoadRect (pinT_0) (Shape.Idx.first (numel1_S1.symm ▸ Nat.one_pos))) (View.readAt (Elt Ideal) (tbM0_1).view (Rect.unit (s := S528) (k0_off1 (crd t)) S1.size (k0_off1_inb (crd t))).toLoadRect (pinT_1) (Shape.Idx.first (numel1_S1.symm ▸ Nat.one_pos))) = 1#1) ∧ (True)) := fun t => (allFacts t).2.2.2.2.2.2.2.1

theorem hypsR0_C : ∀ (t : Fin (cfgA).N), ¬P0_0 t → P0_1 t →
    (¬((Scalar.cmpi .ne (Scalar.extui (Scalar.cmpi .eq (View.readAt (Elt Ideal) (tbM0_1).view (Rect.unit (s := S528) (k0_off1 (crd t)) S1.size (k0_off1_inb (crd t))).toLoadRect (pinT_1) (Shape.Idx.first (numel1_S1.symm ▸ Nat.one_pos))) 0#32)) 0#32) = 1#1)) ∧ ((k0_cond2 (View.readAt (Elt Ideal) (tbM0_0).view (Rect.unit (s := S528) (k0_off1 (crd t)) S1.size (k0_off1_inb (crd t))).toLoadRect (pinT_0) (Shape.Idx.first (numel1_S1.symm ▸ Nat.one_pos))) (View.readAt (Elt Ideal) (tbM0_1).view (Rect.unit (s := S528) (k0_off1 (crd t)) S1.size (k0_off1_inb (crd t))).toLoadRect (pinT_1) (Shape.Idx.first (numel1_S1.symm ▸ Nat.one_pos))) = 1#1) ∧ (True)) := hyps0_C

theorem sched0_C : ∀ (t : Fin (cfgA).N), ¬P0_0 t → P0_1 t →
    (cfgA).idle (4 : Fin 5) ((cfgA).grid.coords t) = false ∧ ((cfgA).win (4 : Fin 5)).flush t = true ∧ (cfgA).fresh (4 : Fin 5) t.val = true ∧ sfresh0_0 t.val = false ∧ sfresh0_0 (t.val + 1) = false ∧ sfresh0_1 t.val = false ∧ sfresh0_1 (t.val + 1) = false := by
  intro t; rw [freshF0_4 t, sfreshF0_0 t, sfreshS0_0 t, sfreshF0_1 t, sfreshS0_1 t]; exact (fun t => (allFacts t).2.2.2.2.2.2.2.2.1) t

theorem hyps0_D : ∀ (t : Fin (cfgA).N), ¬P0_0 t → ¬P0_1 t →
    (¬((Scalar.cmpi .ne (Scalar.extui (Scalar.cmpi .eq (View.readAt (Elt Ideal) (tbM0_1).view (Rect.unit (s := S528) (k0_off1 (crd t)) S1.size (k0_off1_inb (crd t))).toLoadRect (pinT_1) (Shape.Idx.first (numel1_S1.symm ▸ Nat.one_pos))) 0#32)) 0#32) = 1#1)) ∧ ((¬(k0_cond2 (View.readAt (Elt Ideal) (tbM0_0).view (Rect.unit (s := S528) (k0_off1 (crd t)) S1.size (k0_off1_inb (crd t))).toLoadRect (pinT_0) (Shape.Idx.first (numel1_S1.symm ▸ Nat.one_pos))) (View.readAt (Elt Ideal) (tbM0_1).view (Rect.unit (s := S528) (k0_off1 (crd t)) S1.size (k0_off1_inb (crd t))).toLoadRect (pinT_1) (Shape.Idx.first (numel1_S1.symm ▸ Nat.one_pos))) = 1#1)) ∧ (True)) := fun t => (allFacts t).2.2.2.2.2.2.2.2.2.1

theorem hypsR0_D : ∀ (t : Fin (cfgA).N), ¬P0_0 t → ¬P0_1 t →
    (¬((Scalar.cmpi .ne (Scalar.extui (Scalar.cmpi .eq (View.readAt (Elt Ideal) (tbM0_1).view (Rect.unit (s := S528) (k0_off1 (crd t)) S1.size (k0_off1_inb (crd t))).toLoadRect (pinT_1) (Shape.Idx.first (numel1_S1.symm ▸ Nat.one_pos))) 0#32)) 0#32) = 1#1)) ∧ ((¬(k0_cond2 (View.readAt (Elt Ideal) (tbM0_0).view (Rect.unit (s := S528) (k0_off1 (crd t)) S1.size (k0_off1_inb (crd t))).toLoadRect (pinT_0) (Shape.Idx.first (numel1_S1.symm ▸ Nat.one_pos))) (View.readAt (Elt Ideal) (tbM0_1).view (Rect.unit (s := S528) (k0_off1 (crd t)) S1.size (k0_off1_inb (crd t))).toLoadRect (pinT_1) (Shape.Idx.first (numel1_S1.symm ▸ Nat.one_pos))) = 1#1)) ∧ (True)) := hyps0_D

theorem sched0_D : ∀ (t : Fin (cfgA).N), ¬P0_0 t → ¬P0_1 t →
    (cfgA).idle (4 : Fin 5) ((cfgA).grid.coords t) = true ∧ ((cfgA).win (4 : Fin 5)).flush t = false ∧ (cfgA).fresh (4 : Fin 5) t.val = true ∧ sfresh0_0 t.val = false ∧ sfresh0_0 (t.val + 1) = false ∧ sfresh0_1 t.val = false ∧ sfresh0_1 (t.val + 1) = false := by
  intro t; rw [freshF0_4 t, sfreshF0_0 t, sfreshS0_0 t, sfreshF0_1 t, sfreshS0_1 t]; exact (fun t => (allFacts t).2.2.2.2.2.2.2.2.2.2) t

end Cert.KernelIdeal.Attn

end
-- ==== Proof.AttnIdeal.RunA.lean ====
/-
One run of the kernel's body along one of its four paths.
-/
module

public import proofs.«01_k».proof.Proof.AttnIdeal.Setup

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

set_option backward.proofsInPublic true in
set_option maxHeartbeats 8000000 in

noncomputable def kernelRun0_A (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (hc0 : (Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) :
    Σ' (out0 : List (View.Piece (Elt Ideal) S1x512x1024 .bf16)) (out1 : Buf (Elt Ideal) ((c : Thread nD τ).loc cc0_scratch0)), { out2 : Buf (Elt Ideal) ((c : Thread nD τ).loc cc0_scratch1) //
      ∀ (xa0 : Buf (Elt Ideal) ((c : Thread nD τ).loc cc0_scratch0)) (xa1 : Buf (Elt Ideal) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Ideal) f out0)
              ∗ (scM0_0.view.loc (c : Thread nD τ) ↦{fullShare} out1)
              ∗ (scM0_1.view.loc (c : Thread nD τ) ↦{fullShare} out2)) -∗ K ⟨⟩))
          ⊢ wp frame (wpE (defs₀ (F := Ideal)) Variants.none c none) Set.univ (cc0_dsa_attend i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, _, fun (xa0 : Buf (Elt Ideal) ((c : Thread nD τ).loc cc0_scratch0)) (xa1 : Buf (Elt Ideal) ((c : Thread nD τ).loc cc0_scratch1)) K => by
    unfold owns
    rw [cc0_dsa_attend_eq_skeleton]; unfold cc0_dsa_attend_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

theorem cover0_A_4 (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (hc0 : (Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) (y : S1x512x1024.Idx) :
    ∃ pc ∈ (kernelRun0_A c i arg4 harg4 arg5 harg5 arg6 harg6 arg7 harg7 arg8 harg8 T0 T1 x0 x1 x2 x3 hc0 k0_h2).1, y ∈ pc.1.set :=
  View.cover_of_tiledL (kernelRun0_A c i arg4 harg4 arg5 harg5 arg6 harg6 arg7 harg7 arg8 harg8 T0 T1 x0 x1 x2 x3 hc0 k0_h2).1 S1x512x128.size (by sl_kernel_rfl) y

def out0_A_4 (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (hc0 : (Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) : (S1x512x1024.Idx → Elt Ideal .bf16) :=
  VO0_4.read (Elt Ideal) (VO0_4.writes (Elt Ideal) VO0_4.junk (kernelRun0_A c i arg4 harg4 arg5 harg5 arg6 harg6 arg7 harg7 arg8 harg8 T0 T1 x0 x1 x2 x3 hc0 k0_h2).1)

end Cert.KernelIdeal.Attn

end
-- ==== Proof.AttnIdeal.RunB.lean ====
/-
One run of the kernel's body along one of its four paths.
-/
module

public import proofs.«01_k».proof.Proof.AttnIdeal.Setup

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

set_option backward.proofsInPublic true in
set_option maxHeartbeats 8000000 in

noncomputable def kernelRun0_B (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (hc0 : (Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1) (k0_h2 : ¬(k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1)) :
    Σ' (out0 : Buf (Elt Ideal) ((c : Thread nD τ).loc cc0_scratch0)), { out1 : Buf (Elt Ideal) ((c : Thread nD τ).loc cc0_scratch1) //
      ∀ (y4 : (S1x512x1024.Idx → Elt Ideal .bf16)) (xa0 : Buf (Elt Ideal) ((c : Thread nD τ).loc cc0_scratch0)) (xa1 : Buf (Elt Ideal) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Ideal)) Variants.none c none) Set.univ (cc0_dsa_attend i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, fun (y4 : (S1x512x1024.Idx → Elt Ideal .bf16)) (xa0 : Buf (Elt Ideal) ((c : Thread nD τ).loc cc0_scratch0)) (xa1 : Buf (Elt Ideal) ((c : Thread nD τ).loc cc0_scratch1)) K => by
    unfold owns
    rw [cc0_dsa_attend_eq_skeleton]; unfold cc0_dsa_attend_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1⟩

end Cert.KernelIdeal.Attn

end
-- ==== Proof.AttnIdeal.RunC.lean ====
/-
One run of the kernel's body along one of its four paths.
-/
module

public import proofs.«01_k».proof.Proof.AttnIdeal.Setup

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

set_option backward.proofsInPublic true in
set_option maxHeartbeats 8000000 in

noncomputable def kernelRun0_C (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) :
    Σ' (out0 : List (View.Piece (Elt Ideal) S1x512x1024 .bf16)) (out1 : Buf (Elt Ideal) ((c : Thread nD τ).loc cc0_scratch0)), { out2 : Buf (Elt Ideal) ((c : Thread nD τ).loc cc0_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Ideal) f out0)
              ∗ (scM0_0.view.loc (c : Thread nD τ) ↦{fullShare} out1)
              ∗ (scM0_1.view.loc (c : Thread nD τ) ↦{fullShare} out2)) -∗ K ⟨⟩))
          ⊢ wp frame (wpE (defs₀ (F := Ideal)) Variants.none c none) Set.univ (cc0_dsa_attend i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, _, fun K => by
    unfold owns
    rw [cc0_dsa_attend_eq_skeleton]; unfold cc0_dsa_attend_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

theorem cover0_C_4 (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) (y : S1x512x1024.Idx) :
    ∃ pc ∈ (kernelRun0_C c i arg4 harg4 arg5 harg5 arg6 harg6 arg7 harg7 arg8 harg8 T0 T1 x0 x1 x2 x3 xa0 xa1 hc0 k0_h2).1, y ∈ pc.1.set :=
  View.cover_of_tiledL (kernelRun0_C c i arg4 harg4 arg5 harg5 arg6 harg6 arg7 harg7 arg8 harg8 T0 T1 x0 x1 x2 x3 xa0 xa1 hc0 k0_h2).1 S1x512x128.size (by sl_kernel_rfl) y

def out0_C_4 (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) : (S1x512x1024.Idx → Elt Ideal .bf16) :=
  VO0_4.read (Elt Ideal) (VO0_4.writes (Elt Ideal) VO0_4.junk (kernelRun0_C c i arg4 harg4 arg5 harg5 arg6 harg6 arg7 harg7 arg8 harg8 T0 T1 x0 x1 x2 x3 xa0 xa1 hc0 k0_h2).1)

end Cert.KernelIdeal.Attn

end
-- ==== Proof.AttnIdeal.RunD.lean ====
/-
One run of the kernel's body along one of its four paths.
-/
module

public import proofs.«01_k».proof.Proof.AttnIdeal.Setup

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

set_option backward.proofsInPublic true in
set_option maxHeartbeats 8000000 in

noncomputable def kernelRun0_D (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1)) (k0_h2 : ¬(k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1)) :
    Σ' (out0 : Buf (Elt Ideal) ((c : Thread nD τ).loc cc0_scratch0)), { out1 : Buf (Elt Ideal) ((c : Thread nD τ).loc cc0_scratch1) //
      ∀ (y4 : (S1x512x1024.Idx → Elt Ideal .bf16)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Ideal)) Variants.none c none) Set.univ (cc0_dsa_attend i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, fun (y4 : (S1x512x1024.Idx → Elt Ideal .bf16)) K => by
    unfold owns
    rw [cc0_dsa_attend_eq_skeleton]; unfold cc0_dsa_attend_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1⟩

end Cert.KernelIdeal.Attn

end
-- ==== Proof.AttnIdeal.Trajectory.lean ====
/-
What the output block and the two scratch buffers hold after every point, and the proof data of the pipeline.
-/
module

public import proofs.«01_k».proof.Proof.AttnIdeal.Points
public import proofs.«01_k».proof.Proof.AttnIdeal.RunA
public import proofs.«01_k».proof.Proof.AttnIdeal.RunB
public import proofs.«01_k».proof.Proof.AttnIdeal.RunC
public import proofs.«01_k».proof.Proof.AttnIdeal.RunD

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))
def step0 (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) : (S1x512x1024.Idx → Elt Ideal .bf16) × Buf (Elt Ideal) ((c : Thread nD τ).loc cc0_scratch0) × Buf (Elt Ideal) ((c : Thread nD τ).loc cc0_scratch1) :=
  if q0 : P0_0 t then
    if q1 : P0_1 t then
      (out0_A_4 c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1, (kernelRun0_A c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1).2.1, (kernelRun0_A c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1).2.2.1)
    else
      ((if (cfgA).fresh (4 : Fin 5) t.val then default else prev.1), (kernelRun0_B c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_B t q0 q1).1 (hypsR0_B t q0 q1).2.1).1, (kernelRun0_B c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_B t q0 q1).1 (hypsR0_B t q0 q1).2.1).2.1)
  else
    if q1 : P0_1 t then
      (out0_C_4 c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1, (kernelRun0_C c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1).2.1, (kernelRun0_C c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1).2.2.1)
    else
      ((if (cfgA).fresh (4 : Fin 5) t.val then default else prev.1), (kernelRun0_D c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_D t q0 q1).1 (hypsR0_D t q0 q1).2.1).1, (kernelRun0_D c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_D t q0 q1).1 (hypsR0_D t q0 q1).2.1).2.1)

def traj0 (c : Dev nD) : (n : ℕ) → n < (cfgA).N → (S1x512x1024.Idx → Elt Ideal .bf16) × Buf (Elt Ideal) ((c : Thread nD τ).loc cc0_scratch0) × Buf (Elt Ideal) ((c : Thread nD τ).loc cc0_scratch1)
  | 0, h => step0 V c ⟨0, h⟩ (default, default, default)
  | n + 1, h => step0 V c ⟨n + 1, h⟩ (traj0 c n (Nat.lt_of_succ_lt h))

def prev0 (c : Dev nD) (t : Fin (cfgA).N) : (S1x512x1024.Idx → Elt Ideal .bf16) × Buf (Elt Ideal) ((c : Thread nD τ).loc cc0_scratch0) × Buf (Elt Ideal) ((c : Thread nD τ).loc cc0_scratch1) :=
  if h : t.val = 0 then (default, default, default) else traj0 V c (t.val - 1) (by omega)

theorem traj0_eq (c : Dev nD) (t : Fin (cfgA).N) : traj0 V c t.val t.isLt = step0 V c t (prev0 V c t) := by
  obtain ⟨n, hn⟩ := t
  cases n with
  | zero => rfl
  | succ n => unfold prev0; simp only [Nat.add_one_ne_zero, dif_neg, not_false_eq_true]; rfl

theorem step0_A (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) (q0 : P0_0 t) (q1 : P0_1 t) :
    step0 V c t prev = (out0_A_4 c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1, (kernelRun0_A c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1).2.1, (kernelRun0_A c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1).2.2.1) := by
  unfold step0; simp only [dif_pos q0, dif_pos q1]

theorem step0_B (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) (q0 : P0_0 t) (q1 : ¬P0_1 t) :
    step0 V c t prev = ((if (cfgA).fresh (4 : Fin 5) t.val then default else prev.1), (kernelRun0_B c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_B t q0 q1).1 (hypsR0_B t q0 q1).2.1).1, (kernelRun0_B c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_B t q0 q1).1 (hypsR0_B t q0 q1).2.1).2.1) := by
  unfold step0; simp only [dif_pos q0, dif_neg q1]

theorem step0_C (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) (q0 : ¬P0_0 t) (q1 : P0_1 t) :
    step0 V c t prev = (out0_C_4 c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1, (kernelRun0_C c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1).2.1, (kernelRun0_C c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1).2.2.1) := by
  unfold step0; simp only [dif_neg q0, dif_pos q1]

theorem step0_D (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) (q0 : ¬P0_0 t) (q1 : ¬P0_1 t) :
    step0 V c t prev = ((if (cfgA).fresh (4 : Fin 5) t.val then default else prev.1), (kernelRun0_D c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_D t q0 q1).1 (hypsR0_D t q0 q1).2.1).1, (kernelRun0_D c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_D t q0 q1).1 (hypsR0_D t q0 q1).2.1).2.1) := by
  unfold step0; simp only [dif_neg q0, dif_neg q1]

def prev0T (c : Dev nD) (t : Fin ((cfgA).N + 1)) : (S1x512x1024.Idx → Elt Ideal .bf16) × Buf (Elt Ideal) ((c : Thread nD τ).loc cc0_scratch0) × Buf (Elt Ideal) ((c : Thread nD τ).loc cc0_scratch1) :=
  if h : t.val = 0 then (default, default, default) else traj0 V c (t.val - 1) (by omega)

theorem prev0T_castSucc (c : Dev nD) (t : Fin (cfgA).N) : prev0T V c t.castSucc = prev0 V c t := by
  unfold prev0T prev0; simp only [Fin.val_castSucc]
theorem prev0T_succ (c : Dev nD) (t : Fin (cfgA).N) : prev0T V c t.succ = traj0 V c t.val t.isLt := by
  unfold prev0T; simp only [Fin.val_succ, Nat.add_one_ne_zero, ↓reduceDIte, Nat.add_one_sub_one]

def Phi (c : Dev nD) (t : Fin ((cfgA).N + 1)) : sProp 𝕄 :=
  iprop((∃ a, ⌜sfresh0_0 t.val = false → a = (prev0T V c t).2.1⌝ ∗ (scM0_0.view.loc (c : Thread nD τ) ↦{fullShare} a)) ∗ (∃ a, ⌜sfresh0_1 t.val = false → a = (prev0T V c t).2.2⌝ ∗ (scM0_1.view.loc (c : Thread nD τ) ↦{fullShare} a)) ∗ (tbM0_0.view.loc (c : Thread nD τ) ↦{fullShare.right} pinT_0) ∗ (tbM0_1.view.loc (c : Thread nD τ) ↦{fullShare.right} pinT_1) ∗ (∃ r, prngReg c r))

def dats (_ : Fin 1) (c : Dev nD) : Dat τ (Elt Ideal) Unit ℕ (UR sig nD τ) ℕ (cfgA) c where
  A w := V c (Pipeline.arrRef (cfgA).spec w)
  after w t := match w with
    | ⟨0, _⟩ => iblk V c (0 : Fin 5) t
    | ⟨1, _⟩ => iblk V c (1 : Fin 5) t
    | ⟨2, _⟩ => iblk V c (2 : Fin 5) t
    | ⟨3, _⟩ => iblk V c (3 : Fin 5) t
    | ⟨4, _⟩ => (traj0 V c t.val t.isLt).1
  Φ t := Phi V c t
  q _ := fullShare
  owed _ := 0

theorem after0_0 (c : Dev nD) (t : Fin (cfgA).N) : (dats V 0 c).after (0 : Fin 5) t = iblk V c (0 : Fin 5) t := rfl
theorem after0_1 (c : Dev nD) (t : Fin (cfgA).N) : (dats V 0 c).after (1 : Fin 5) t = iblk V c (1 : Fin 5) t := rfl
theorem after0_2 (c : Dev nD) (t : Fin (cfgA).N) : (dats V 0 c).after (2 : Fin 5) t = iblk V c (2 : Fin 5) t := rfl
theorem after0_3 (c : Dev nD) (t : Fin (cfgA).N) : (dats V 0 c).after (3 : Fin 5) t = iblk V c (3 : Fin 5) t := rfl
theorem after0_4 (c : Dev nD) (t : Fin (cfgA).N) : (dats V 0 c).after (4 : Fin 5) t = (traj0 V c t.val t.isLt).1 := rfl

theorem before0_0 (c : Dev nD) (t : Fin (cfgA).N) (d) : (dats V 0 c).before (0 : Fin 5) t d = iblk V c (0 : Fin 5) t :=
  ((dats V 0 c).before_in_eq_fetched (0 : Fin 5) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA).N) (d) : (dats V 0 c).before (1 : Fin 5) t d = iblk V c (1 : Fin 5) t :=
  ((dats V 0 c).before_in_eq_fetched (1 : Fin 5) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA).N) (d) : (dats V 0 c).before (2 : Fin 5) t d = iblk V c (2 : Fin 5) t :=
  ((dats V 0 c).before_in_eq_fetched (2 : Fin 5) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA).N) (d) : (dats V 0 c).before (3 : Fin 5) t d = iblk V c (3 : Fin 5) t :=
  ((dats V 0 c).before_in_eq_fetched (3 : Fin 5) rfl (fun _ => rfl) (fun _ _ _ => rfl) (fun t => by rw [after0_3]; unfold Dat.blockOf iblk; rfl) t d).trans
    (by unfold Dat.fetched Dat.blockOf iblk; rfl)

theorem hcarry0_4 (c : Dev nD) : ∀ (t : Fin (cfgA).N) (ht : t.val ≠ 0), (cfgA).idle (4 : Fin 5) ((cfgA).grid.coords t) = true → (cfgA).fresh (4 : Fin 5) t.val = false →
    (dats V 0 c).after (4 : Fin 5) t = (dats V 0 c).after (4 : Fin 5) ⟨t.val - 1, by omega⟩ := by
  intro t ht hi hf
  rw [after0_4, after0_4, traj0_eq]
  by_cases q0 : P0_0 t
  · by_cases q1 : P0_1 t
    · obtain ⟨i4, -, -, -, -⟩ := sched0_A t q0 q1
      rw [i4] at hi; exact absurd hi (by decide)
    · rw [step0_B V c t _ q0 q1]
      simp only [hf, Bool.false_eq_true, ↓reduceIte]
      unfold prev0; rw [dif_neg ht]
  · by_cases q1 : P0_1 t
    · obtain ⟨i4, -, -, -, -, -, -⟩ := sched0_C t q0 q1
      rw [i4] at hi; exact absurd hi (by decide)
    · rw [step0_D V c t _ q0 q1]
      simp only [hf, Bool.false_eq_true, ↓reduceIte]
      unfold prev0; rw [dif_neg ht]

theorem before0_4 (c : Dev nD) (t : Fin (cfgA).N) (d) :
    (dats V 0 c).before (4 : Fin 5) t d = if (cfgA).fresh (4 : Fin 5) t.val then d else (prev0 V c t).1 := by
  rw [(dats V 0 c).before_out_traj (4 : Fin 5) rfl (fun _ _ => rfl) (hcarry0_4 V c) t.val t rfl d]
  by_cases hf : (cfgA).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

end Cert.KernelIdeal.Attn

end
-- ==== Proof.AttnIdeal.Obligation.lean ====
/-
The body of the kernel does, at every point, what the trajectory says.
-/
module

public import proofs.«01_k».proof.Proof.AttnIdeal.Trajectory

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))
abbrev bodyAt0 (t : Fin (cfgA).N) : Prog (TpuEff nD τ sig (Elt Ideal) Λ₀ .tc) PUnit :=
  cc0_dsa_attend (crd t) (Memref.whole main_c) (Memref.isWhole_whole _) (Memref.whole main_c_0) (Memref.isWhole_whole _) (ms0_0 t) (hs0_0 t) (ms0_1 t) (hs0_1 t) (ms0_2 t) (hs0_2 t) (ms0_3 t) (hs0_3 t) (ms0_4 t) (hs0_4 t) (Memref.whole cc0_scratch0) (Memref.isWhole_whole _) (Memref.whole cc0_scratch1) (Memref.isWhole_whole _)

set_option maxHeartbeats 4000000 in

theorem sound_body (c : Dev nD) (t : Fin (cfgA).N) :
    iprop((dats V 0 c).Φ t.castSucc ∗ (dats V 0 c).owesAt () t.castSucc
        ∗ (∃ d, owns (c : Thread nD τ) (ms0_0 t) fullShare ((dats V 0 c).before (0 : Fin 5) t d))
        ∗ (∃ d, owns (c : Thread nD τ) (ms0_1 t) fullShare ((dats V 0 c).before (1 : Fin 5) t d))
        ∗ (∃ d, owns (c : Thread nD τ) (ms0_2 t) fullShare ((dats V 0 c).before (2 : Fin 5) t d))
        ∗ (∃ d, owns (c : Thread nD τ) (ms0_3 t) fullShare ((dats V 0 c).before (3 : Fin 5) t d))
        ∗ (∃ d, owns (c : Thread nD τ) (ms0_4 t) fullShare ((dats V 0 c).before (4 : Fin 5) t d)))
      ⊢ wp frame (wpE (defs₀ (F := Ideal)) Variants.none c none) Set.univ (bodyAt0 t) fun _ =>
          iprop((dats V 0 c).Φ t.succ ∗ (dats V 0 c).owesAt () t.succ
            ∗ bigSep Finset.univ fun w : Fin (cfgA).W =>
                match (cfgA).idle w ((cfgA).grid.coords t) with
                | true =>
                  match ((cfgA).win w).flush t with
                  | false => iprop(∃ d, owns (c : Thread nD τ) (((cfgA).win w).stage ((cfgA).slots t w)) fullShare ((dats V 0 c).before w t d))
                  | true => owns (c : Thread nD τ) (((cfgA).win w).stage ((cfgA).slots t w)) fullShare ((dats V 0 c).after w t)
                | false => owns (c : Thread nD τ) (((cfgA).win w).stage ((cfgA).slots t w)) fullShare ((dats V 0 c).after w t)) := by
  rw [bigSep_W0]
  by_cases q0 : P0_0 t
  · by_cases q1 : P0_1 t
    · obtain ⟨i4, f4, fr4, sfn0, sfn1⟩ := sched0_A t q0 q1
      have F0 := hypsR0_A t q0 q1
      have hc0 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats V 0 c).Φ t.succ = Phi V c t.succ from rfl, show (dats V 0 c).Φ t.castSucc = Phi V c t.castSucc from rfl,
        show (dats V 0 c).owesAt () t.succ = (dats V 0 c).owesAt () t.castSucc from rfl]
      try rewrite [traj0_eq, step0_A V c t _ q0 q1]
      unfold Phi; simp only [prev0T_castSucc, prev0T_succ, traj0_eq, step0_A V c t _ q0 q1, Fin.val_castSucc, Fin.val_succ]
      iintro ⟨⟨⟨%a0, %ha0, HS0⟩, ⟨%a1, %ha1, HS1⟩, HT0, HT1, HP⟩, Ho, ⟨%d0, H0⟩, ⟨%d1, H1⟩, ⟨%d2, H2⟩, ⟨%d3, H3⟩, ⟨%d4, H4⟩⟩
      iapply ((kernelRun0_A c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) hc0 k0_h2).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1 HP]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        iexact HP
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · obtain ⟨i4, f4, fr4, sf0, sfn0, sf1, sfn1⟩ := sched0_B t q0 q1
      have F0 := hypsR0_B t q0 q1
      have hc0 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats V 0 c).Φ t.succ = Phi V c t.succ from rfl, show (dats V 0 c).Φ t.castSucc = Phi V c t.castSucc from rfl,
        show (dats V 0 c).owesAt () t.succ = (dats V 0 c).owesAt () t.castSucc from rfl]
      try rewrite [traj0_eq, step0_B V c t _ q0 q1]
      unfold Phi; simp only [prev0T_castSucc, prev0T_succ, traj0_eq, step0_B V c t _ q0 q1, Fin.val_castSucc, Fin.val_succ]
      iintro ⟨⟨⟨%a0, %ha0, HS0⟩, ⟨%a1, %ha1, HS1⟩, HT0, HT1, HP⟩, Ho, ⟨%d0, H0⟩, ⟨%d1, H1⟩, ⟨%d2, H2⟩, ⟨%d3, H3⟩, ⟨%d4, H4⟩⟩
      iapply ((kernelRun0_B c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) hc0 k0_h2).2.2 _ a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1 HP]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        iexact HP
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
  · by_cases q1 : P0_1 t
    · obtain ⟨i4, f4, fr4, sf0, sfn0, sf1, sfn1⟩ := sched0_C t q0 q1
      have F0 := hypsR0_C t q0 q1
      have hc0 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats V 0 c).Φ t.succ = Phi V c t.succ from rfl, show (dats V 0 c).Φ t.castSucc = Phi V c t.castSucc from rfl,
        show (dats V 0 c).owesAt () t.succ = (dats V 0 c).owesAt () t.castSucc from rfl]
      try rewrite [traj0_eq, step0_C V c t _ q0 q1]
      unfold Phi; simp only [prev0T_castSucc, prev0T_succ, traj0_eq, step0_C V c t _ q0 q1, Fin.val_castSucc, Fin.val_succ]
      simp only [exists_held sf0, exists_held sf1]
      iintro ⟨⟨HS0, HS1, HT0, HT1, HP⟩, Ho, ⟨%d0, H0⟩, ⟨%d1, H1⟩, ⟨%d2, H2⟩, ⟨%d3, H3⟩, ⟨%d4, H4⟩⟩
      iapply ((kernelRun0_C c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) _ _ hc0 k0_h2).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1 HP]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        iexact HP
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _ _ _)
    · obtain ⟨i4, f4, fr4, sf0, sfn0, sf1, sfn1⟩ := sched0_D t q0 q1
      have F0 := hypsR0_D t q0 q1
      have hc0 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats V 0 c).Φ t.succ = Phi V c t.succ from rfl, show (dats V 0 c).Φ t.castSucc = Phi V c t.castSucc from rfl,
        show (dats V 0 c).owesAt () t.succ = (dats V 0 c).owesAt () t.castSucc from rfl]
      try rewrite [traj0_eq, step0_D V c t _ q0 q1]
      unfold Phi; simp only [prev0T_castSucc, prev0T_succ, traj0_eq, step0_D V c t _ q0 q1, Fin.val_castSucc, Fin.val_succ]
      simp only [exists_held sf0, exists_held sf1]
      iintro ⟨⟨HS0, HS1, HT0, HT1, HP⟩, Ho, ⟨%d0, H0⟩, ⟨%d1, H1⟩, ⟨%d2, H2⟩, ⟨%d3, H3⟩, ⟨%d4, H4⟩⟩
      iapply ((kernelRun0_D c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) _ _ hc0 k0_h2).2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1 HP]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        iexact HP
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

theorem body_obligation (c : Dev nD) : BodyObligation (dats V 0 c) (defs₀ (F := Ideal)) Variants.none () Set.univ := fun t => by
  rw [bigSep_W0]
  exact sound_body V c t

end Cert.KernelIdeal.Attn

end
-- ==== Proof.AttnIdeal.Frame.lean ====
/-
The launch: the host operations, then the pipeline, and what every buffer holds at the end.
-/
module

public import proofs.«01_k».proof.Proof.AttnIdeal.Obligation
public import Idealize.ShloMosaic.Lib.StableHlo.Run

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- What every buffer holds when the kernel starts: the launch memory after the host operations. -/
def V (m : (ℓ : Loc nD τ sig) → Buf (Elt Ideal) ℓ) (c : Dev nD) (b : Ref sig .tc) : Buf (Elt Ideal) ((c : Thread nD τ).loc b) :=
  StableHlo.after (hostOps0 (F := Ideal)) (fun b => m (c, b)) b

variable (m : (ℓ : Loc nD τ sig) → Buf (Elt Ideal) ℓ) (ρ : Dev nD → PrngReg)

theorem V_q (c : Dev nD) : V m c main_arg0 = m ((c : Thread nD τ).loc main_arg0) := by unfold V; after_results_simp <;> rfl
theorem V_k (c : Dev nD) : V m c main_arg1 = m ((c : Thread nD τ).loc main_arg1) := by unfold V; after_results_simp <;> rfl
theorem V_v (c : Dev nD) : V m c main_arg2 = m ((c : Thread nD τ).loc main_arg2) := by unfold V; after_results_simp <;> rfl
theorem V_sel (c : Dev nD) : V m c main_arg3 = m ((c : Thread nD τ).loc main_arg3) := by unfold V; after_results_simp <;> rfl
theorem V_table (c : Dev nD) (k : Fin 2) : V m c (pre0.ref k) = adm.1 k := by
  fin_cases k
  · change V m c main_c = pinT_0
    unfold V; after_results_simp <;> rfl
  · change V m c main_c_0 = pinT_1
    unfold V; after_results_simp <;> rfl

theorem share_eq (W : (c : Dev nD) → (b : Ref sig .tc) → Buf (Elt Ideal) ((c : Thread nD τ).loc b)) (c : Dev nD) (w : Fin (cfgA).W) :
    (dats W 0 c).share w = fullShare := by unfold Dat.share; split <;> rfl

/-- The two tables as the region hands them over, one by one. -/
theorem tables_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

variable (W : (c : Dev nD) → (b : Ref sig .tc) → Buf (Elt Ideal) ((c : Thread nD τ).loc b))

/-- What the invariant needs at the first point. -/
theorem enter (c : Dev nD) : iprop(Pipeline.ΦA spec0 c ∗ Pipeline.ΦT pre0 adm.1 c) ⊢ (dats W 0 c).Φ 0 := by
  unfold Pipeline.ΦA Pipeline.ΦT
  rw [tables_eq, scopedRest0_eq, show (dats W 0 c).Φ 0 = Phi W c 0 from rfl]
  unfold Phi
  iintro ⟨⟨⟨⟨%a0, HS0⟩, ⟨%a1, HS1⟩⟩, HP⟩, ⟨HT0, HT1⟩⟩
  isplitl [HS0]
  · iexists a0; isplitr; swap
    · iexact HS0
    · ipureintro; intro h; exact absurd (h.symm.trans (show sfresh0_0 0 = true from rfl)) Bool.false_ne_true
  isplitl [HS1]
  · iexists a1; isplitr; swap
    · iexact HS1
    · ipureintro; intro h; exact absurd (h.symm.trans (show sfresh0_1 0 = true from rfl)) Bool.false_ne_true
  isplitl [HT0]
  · iexact HT0
  isplitl [HT1]
  · iexact HT1
  iexact HP

/-- What it gives back after the last one. -/
theorem leave (c : Dev nD) : (dats W 0 c).Φ (Fin.last (cfgA).N) ⊢ Pipeline.ΦA spec0 c := by
  unfold Pipeline.ΦA
  rw [scopedRest0_eq, show (dats W 0 c).Φ (Fin.last (cfgA).N) = Phi W c (Fin.last _) from rfl]
  unfold Phi
  iintro ⟨⟨%a0, -, HS0⟩, ⟨%a1, -, HS1⟩, -, -, HP⟩
  isplitr [HP]
  · isplitl [HS0]
    · iexists a0; iexact HS0
    iexists a1; iexact HS1
  iexact HP

set_option backward.isDefEq.respectTransparency.types false in
set_option maxHeartbeats 4000000 in
/-- The whole run: every array ends at what the pipeline's proof data computes, every other buffer as the host code left it,
    and every counter at zero. -/
theorem run : θ_run (defs (F := Ideal)) (onTc (τ := τ) (main (F := Ideal))) (s₀ m ρ)
    (fun r => Pipeline.FramePost pcs (dats (V m)) 0 (V m) r ∧ r.2.sem = fun _ => 0) :=
  Pipeline.θ_run_frameP_track pcfgs (fun _ => adm) (dats (V m)) 0 launch0 defs₀ Variants.none m ρ main
    (hbody := fun c => (body_obligation (V m) c).loose)
    (hshare := fun c w => share_eq (V m) c w) (howed := fun _ _ => rfl)
    (V := V m)
    (hmain := Pipeline.hmainP_prefix pcfgs 0 defs₀ Variants.none m main hostOps0 hostOps0_sub
      (by refine ⟨?_, ?_, ?_, ?_, ?_, ?_, ?_, ?_, ?_, ?_, ?_, ?_, ?_, ?_, ?_, ?_, ?_, ?_⟩ <;> rfl) main_chain)
    (hA := fun _ _ => rfl) (hpf := V_table m) (hin := enter (V m)) (hout := leave (V m))
    (Q' := fun r => Pipeline.FramePost pcs (dats (V m)) 0 (V m) r ∧ r.2.sem = fun _ => 0) (hQ' := fun _ h => h)

theorem sel_bypasses : main_arg3 ∈ Pipeline.restRefs sig (cfgA).spec :=
  Pipeline.mem_restRefs_of main_arg3 rfl (by decide)

/-- The frame: the arguments end unchanged and every counter reads zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(((h.1 c).1 (0 : Fin 5)).trans ((dats (V m) 0 c).arrAt_in (0 : Fin 5) rfl _)).trans (V_q m c),
     (((h.1 c).1 (1 : Fin 5)).trans ((dats (V m) 0 c).arrAt_in (1 : Fin 5) rfl _)).trans (V_k m c),
     (((h.1 c).1 (2 : Fin 5)).trans ((dats (V m) 0 c).arrAt_in (2 : Fin 5) rfl _)).trans (V_v m c),
     ((h.1 c).2 main_arg3 sel_bypasses).trans (V_sel m c)⟩, h.2⟩) (run m ρ)

end Cert.KernelIdeal.Attn

end
-- ==== Proof.AttnValue.Heads.lean ====
/-
One head of the attention at one block of keys, as functions of the vectors the body loads, and what they hold entry by entry.
-/
module

public import proofs.«01_k».proof.Proof.AttnIdeal.Setup
public import Idealize.ShloMosaic.Lib.Pointwise

@[expose] public section

set_option maxRecDepth 16384

noncomputable section

namespace Cert.KernelIdeal.Attn

open Cert.KernelIdeal Cert.KernelIdeal.Gen
open Idealize.ShloMosaic

/-- The masked scores of one head against one block of keys. -/
def scoresV (qv kv : Vec Ideal S1x512x128 .bf16) (bv : Vec Ideal S1x512x512 .bf16) : FVec Ideal S512x512 .f32 :=
  k0_pay16 (k0_pay15 qv kv) bv

/-- The running maximum after the block. -/
def headM (qv kv : Vec Ideal S1x512x128 .bf16) (bv : Vec Ideal S1x512x512 .bf16) (mv : Vec Ideal S1x512x128 .f32) : FVec Ideal S1x512x128 .f32 :=
  k0_pay20 (k0_pay18 (k0_pay15 qv kv) bv mv)

/-- The running numerators (lanes 0 to 127) and denominators (lanes 128 to 255) after the block. -/
def headA (qv kv : Vec Ideal S1x512x128 .bf16) (bv : Vec Ideal S1x512x512 .bf16) (mv : Vec Ideal S1x512x128 .f32) (vv : Vec Ideal S1x512x128 .bf16)
    (av : Vec Ideal S1x512x256 .f32) : FVec Ideal S1x512x256 .f32 :=
  k0_pay19 k0_pay14 (k0_pay15 qv kv) bv mv vv av

/-- The head's result: numerators over denominators. -/
def headO (av : Vec Ideal S1x512x256 .f32) : FVec Ideal S1x512x128 .bf16 := k0_pay3 av

/-- The factor the scores are multiplied by: one over the root of the head's width, in units of log 2. -/
abbrev cst : EReal := (((Real.sqrt 128)⁻¹ * (Real.log 2)⁻¹ : ℝ) : EReal)

theorem cst_eq : (Named.named κ "log2e_scale" 0x3E0293EE#32 : Ideal .f32) = cst := rfl
theorem neg_eq : (Named.named κ "neg_big" 0xF149F2CA#32 : Ideal .f32) = (⊥ : EReal) := rfl

theorem pay12_apply (y : S8x512x128.Idx) : (k0_pay12 (F := Ideal)) y = (⊥ : EReal) := rfl
theorem pay13_apply (y : S8x512x256.Idx) : (k0_pay13 (F := Ideal)) y = (0 : EReal) := by
  show Ideal.ofBits .f32 0x00000000#32 = 0
  simp only [pointwise]
theorem one_eq : Ideal.ofBits .bf16 0x3F80#16 = (1 : EReal) := by
  simp only [Ideal.ofBits_one_bf16]
theorem negInf_eq : Ideal.ofBits .f32 0xFF800000#32 = (⊥ : EReal) := by
  simp [Ideal.ofBits, Ideal.ieee]

theorem scoresV_apply (qv kv : Vec Ideal S1x512x128 .bf16) (bv : Vec Ideal S1x512x512 .bf16) (r j : Fin 512) :
    scoresV qv kv bv (ix2 r j) = (∑ d : Fin 128, qv (ix3 0 r d) * kv (ix3 0 j d)) * cst + bv (ix3 0 r j) := by
  unfold scoresV
  pointwise [k0_pay16, k0_pay15]
  rfl

theorem headM_apply (qv kv : Vec Ideal S1x512x128 .bf16) (bv : Vec Ideal S1x512x512 .bf16) (mv : Vec Ideal S1x512x128 .f32) (r : Fin 512) (l : Fin 128) :
    headM qv kv bv mv (ix3 0 r l) = max (mv (ix3 0 r l)) (Finset.univ.fold max ⊥ fun j : Fin 512 => scoresV qv kv bv (ix2 r j)) := by
  unfold headM
  pointwise [k0_pay18, k0_pay20, k0_pay17]
  rw [negInf_eq]
  rfl

/-- Position `i` among lanes of 128. -/
abbrev lane {n : ℕ} (i : Fin n) : Fin 128 := ⟨i.val % 128, Nat.mod_lt _ (by decide)⟩

/-- What multiplies the weights at lane `l` of the wide product: the values first, then ones. -/
def vOnes (vv : Vec Ideal S1x512x128 .bf16) (j : Fin 512) (l : Fin 256) : EReal :=
  if h : l.val < 128 then vv (ix3 0 j ⟨l.val, h⟩) else 1

theorem headA_apply (qv kv : Vec Ideal S1x512x128 .bf16) (bv : Vec Ideal S1x512x512 .bf16) (mv : Vec Ideal S1x512x128 .f32) (vv : Vec Ideal S1x512x128 .bf16)
    (av : Vec Ideal S1x512x256 .f32) (r : Fin 512) (l : Fin 256) :
    headA qv kv bv mv vv av (ix3 0 r l)
      = Ideal.exp2 (mv (ix3 0 r (lane l)) - headM qv kv bv mv (ix3 0 r (lane l))) * av (ix3 0 r l)
        + ∑ j : Fin 512, Ideal.exp2 (scoresV qv kv bv (ix2 r j) - headM qv kv bv mv (ix3 0 r (lane j))) * vOnes vv j l := by
  have hM : ∀ l' : Fin 128, headM qv kv bv mv (ix3 0 r l') = k0_pay18 (k0_pay15 qv kv) bv mv (ix2 r l') := fun l' => by
    unfold headM; pointwise [k0_pay20]
  simp only [hM]
  unfold headA scoresV vOnes
  pointwise [k0_pay19, k0_pay14, k0_pay17]
  have hl := l.isLt
  refine congrArg₂ (· + ·) ?_ ?_
  · refine congrArg (· * _) ?_
    by_cases h : l.val < 128
    · rw [dif_pos h]
      have : (⟨l.val, h⟩ : Fin 128) = lane l := Fin.ext (Nat.mod_eq_of_lt h).symm
      rw [this]; rfl
    · rw [dif_neg h]
      have : (⟨l.val - 128, by omega⟩ : Fin 128) = lane l := Fin.ext (by show l.val - 128 = l.val % 128; omega)
      rw [this]; rfl
  · refine Finset.sum_congr rfl fun x _ => ?_
    have hx := x.isLt
    refine congrArg (· * _) ?_
    by_cases h1 : x.val < 128
    · rw [dif_pos h1]
      have : (⟨x.val, h1⟩ : Fin 128) = lane x := Fin.ext (Nat.mod_eq_of_lt h1).symm
      rw [this]; rfl
    rw [dif_neg h1]
    by_cases h2 : x.val - 128 < 128
    · rw [dif_pos h2]
      have e1 : (⟨128 + (x.val - 128), by omega⟩ : Fin 512) = x := Fin.ext (by show 128 + (x.val - 128) = x.val; omega)
      have e2 : (⟨x.val - 128, by omega⟩ : Fin 128) = lane x := Fin.ext (by show x.val - 128 = x.val % 128; omega)
      rw [e1, e2]; rfl
    rw [dif_neg h2]
    by_cases h3 : x.val - 128 - 128 < 128
    · rw [dif_pos h3]
      have e1 : (⟨256 + (x.val - 128 - 128), by omega⟩ : Fin 512) = x := Fin.ext (by show 256 + (x.val - 128 - 128) = x.val; omega)
      have e2 : (⟨x.val - 128 - 128, by omega⟩ : Fin 128) = lane x := Fin.ext (by show x.val - 128 - 128 = x.val % 128; omega)
      rw [e1, e2]; rfl
    · rw [dif_neg h3]
      have e1 : (⟨384 + (x.val - 128 - 128 - 128), by omega⟩ : Fin 512) = x := Fin.ext (by show 384 + (x.val - 128 - 128 - 128) = x.val; omega)
      have e2 : (⟨x.val - 128 - 128 - 128, by omega⟩ : Fin 128) = lane x := Fin.ext (by show x.val - 128 - 128 - 128 = x.val % 128; omega)
      rw [e1, e2]; rfl

theorem headO_apply (av : Vec Ideal S1x512x256 .f32) (r : Fin 512) (d : Fin 128) :
    headO av (ix3 0 r d) = Ideal.div (av (ix3 0 r ⟨d.val, by omega⟩)) (av (ix3 0 r ⟨128 + d.val, by omega⟩)) := by
  unfold headO
  pointwise [k0_pay3]

end Cert.KernelIdeal.Attn

end
-- ==== Proof.AttnValue.Pieces.lean ====
/-
Reading back the scratch buffers and the output block, which the body writes one head at a time.
-/
module

public import proofs.«01_k».proof.Proof.AttnValue.Heads
public import Idealize.ShloMosaic.Lib.WritesUnit
public import Idealize.ShloMosaic.Lib.VecWindow

@[expose] public section

set_option maxRecDepth 16384

noncomputable section

namespace Cert.KernelIdeal.Attn

open Cert.KernelIdeal Cert.KernelIdeal.Gen
open Idealize.ShloMosaic

/-- One head's rows of a scratch buffer. -/
abbrev SH (w : ℕ) : Shape := ⟨3, ![1, 512, w]⟩
/-- A scratch buffer of eight heads. -/
abbrev SB (w : ℕ) : Shape := ⟨3, ![8, 512, w]⟩

/-- Head `k`'s rows of a scratch buffer. -/
def row {α : Type} {w : ℕ} (x : (SB w).Idx → α) (k : ℕ) : (SH w).Idx → α := fun y => x (ix3 (Fin.ofNat 8 k) (y 1) (y 2))

/-- Head `k`'s 128 columns of a block of eight heads. -/
def win {α : Type} (x : S1x512x1024.Idx → α) (k : ℕ) : S1x512x128.Idx → α := fun y => x (ix3 0 (y 1) (Fin.ofNat 1024 (128 * k + (y 2).val)))

theorem inbH (n w : ℕ) : ∀ a, (![n % 8, 0, 0] : Fin 3 → ℕ) a + (SH w).size a ≤ (SB w).size a := fun a => by
  match a with
  | ⟨0, _⟩ => show n % 8 + 1 ≤ 8; omega
  | ⟨1, _⟩ => show 0 + 512 ≤ 512; omega
  | ⟨2, _⟩ => show 0 + w ≤ w; omega

theorem inbO (n : ℕ) : ∀ a, (![0, 0, 128 * (n % 8)] : Fin 3 → ℕ) a + S1x512x128.size a ≤ S1x512x1024.size a := fun a => by
  match a with
  | ⟨0, _⟩ => show 0 + 1 ≤ 1; omega
  | ⟨1, _⟩ => show 0 + 512 ≤ 512; omega
  | ⟨2, _⟩ => show 128 * (n % 8) + 128 ≤ 1024; omega

section
variable {κ : Kind} {sp : Space} {e : EltTy} {w : ℕ}

/-- Heads `0 … n-1` written over `L`, the last one newest. -/
def heads (W : ℕ → ((SH w).Idx → Elt Ideal e)) (L : List (View.Piece (Elt Ideal) (SB w) e)) : ℕ → List (View.Piece (Elt Ideal) (SB w) e)
  | 0 => L
  | n + 1 => ⟨Rect.unit (s := SB w) ![n % 8, 0, 0] (SH w).size (inbH n w), W n⟩ :: heads W L n

/-- Heads `0 … n-1` of the output block. -/
def outs (W : ℕ → (S1x512x128.Idx → Elt Ideal e)) : ℕ → List (View.Piece (Elt Ideal) S1x512x1024 e)
  | 0 => []
  | n + 1 => ⟨Rect.unit (s := S1x512x1024) ![0, 0, 128 * (n % 8)] S1x512x128.size (inbO n), W n⟩ :: outs W n

theorem heads_step {W : ℕ → ((SH w).Idx → Elt Ideal e)} {L L' : List (View.Piece (Elt Ideal) (SB w) e)} (n : ℕ) {x : (SH w).Idx → Elt Ideal e}
    (h : L' = heads W L n) (hx : x = W n) :
    (⟨Rect.unit (s := SB w) ![n % 8, 0, 0] (SH w).size (inbH n w), x⟩ : View.Piece (Elt Ideal) (SB w) e) :: L' = heads W L (n + 1) := by
  subst h hx; rfl

theorem outs_step {W : ℕ → (S1x512x128.Idx → Elt Ideal e)} {L' : List (View.Piece (Elt Ideal) S1x512x1024 e)} (n : ℕ) {x : S1x512x128.Idx → Elt Ideal e}
    (h : L' = outs W n) (hx : x = W n) :
    (⟨Rect.unit (s := S1x512x1024) ![0, 0, 128 * (n % 8)] S1x512x128.size (inbO n), x⟩ : View.Piece (Elt Ideal) S1x512x1024 e) :: L' = outs W (n + 1) := by
  subst h hx; rfl

variable (v : View sig κ sp (SB w) e)

theorem read_head_of_ne (f : v.ty.Contents (Elt Ideal)) (L : List (View.Piece (Elt Ideal) (SB w) e)) (n : ℕ) (x : (SH w).Idx → Elt Ideal e)
    (h : Fin 8) (hn : h.val ≠ n % 8) (r : Fin 512) (l : Fin w) :
    v.read (Elt Ideal) (v.writes (Elt Ideal) f (⟨Rect.unit (s := SB w) ![n % 8, 0, 0] (SH w).size (inbH n w), x⟩ :: L)) (ix3 h r l)
      = v.read (Elt Ideal) (v.writes (Elt Ideal) f L) (ix3 h r l) :=
  View.read_writes_cons_unit_of_not_mem v f (inbH n w) x L (ix3 h r l) rfl 0 (by
    show h.val < n % 8 ∨ n % 8 + 1 ≤ h.val
    omega)

theorem read_head (f : v.ty.Contents (Elt Ideal)) (L : List (View.Piece (Elt Ideal) (SB w) e)) (n : ℕ) (x : (SH w).Idx → Elt Ideal e)
    (h : Fin 8) (hn : h.val = n % 8) (r : Fin 512) (l : Fin w) :
    v.read (Elt Ideal) (v.writes (Elt Ideal) f (⟨Rect.unit (s := SB w) ![n % 8, 0, 0] (SH w).size (inbH n w), x⟩ :: L)) (ix3 h r l)
      = x (ix3 0 r l) :=
  View.read_writes_cons_unit_of_mem v f (inbH n w) x L (ix3 h r l) (ix3 0 r l) rfl (fun a => by
    match a with
    | ⟨0, _⟩ => show h.val = n % 8 + 0; omega
    | ⟨1, _⟩ => show r.val = 0 + r.val; omega
    | ⟨2, _⟩ => show l.val = 0 + l.val; omega)

theorem read_heads (f : v.ty.Contents (Elt Ideal)) (W : ℕ → ((SH w).Idx → Elt Ideal e)) (L : List (View.Piece (Elt Ideal) (SB w) e)) :
    ∀ n ≤ 8, ∀ (h : Fin 8), h.val < n → ∀ (r : Fin 512) (l : Fin w),
      v.read (Elt Ideal) (v.writes (Elt Ideal) f (heads W L n)) (ix3 h r l) = W h.val (ix3 0 r l)
  | 0, _, h, hh, _, _ => absurd hh (by omega)
  | n + 1, hn, h, hh, r, l => by
    by_cases hk : h.val = n
    · have := read_head v f (heads W L n) n (W n) h (by omega) r l
      rw [hk]; exact this
    · exact (read_head_of_ne v f (heads W L n) n (W n) h (by omega) r l).trans (read_heads f W L n (by omega) h (by omega) r l)

/-- Heads from `n` on still hold the constant `z`. -/
def Fresh (n : ℕ) (L : List (View.Piece (Elt Ideal) (SB w) e)) (z : Elt Ideal e) : Prop :=
  ∀ (h : Fin 8) (r : Fin 512) (l : Fin w), n ≤ h.val → v.read (Elt Ideal) (v.writes (Elt Ideal) v.junk L) (ix3 h r l) = z

theorem fresh_init (x : (SB w).Idx → Elt Ideal e) (z : Elt Ideal e) (hx : ∀ y, x y = z) (inb : ∀ a, (![0, 0, 0] : Fin 3 → ℕ) a + (SB w).size a ≤ (SB w).size a) :
    Fresh v 0 [⟨Rect.unit (s := SB w) ![0, 0, 0] (SB w).size inb, x⟩] z := fun h r l _ => by
  rw [View.read_writes_cons_unit_of_mem v v.junk inb x [] (ix3 h r l) (ix3 h r l) rfl (fun a => by
    match a with
    | ⟨0, _⟩ => show h.val = 0 + h.val; omega
    | ⟨1, _⟩ => show r.val = 0 + r.val; omega
    | ⟨2, _⟩ => show l.val = 0 + l.val; omega)]
  exact hx _

theorem fresh_step {n : ℕ} (hn : n < 8) {L : List (View.Piece (Elt Ideal) (SB w) e)} {z : Elt Ideal e} (hL : Fresh v n L z) (x : (SH w).Idx → Elt Ideal e) :
    Fresh v (n + 1) (⟨Rect.unit (s := SB w) ![n % 8, 0, 0] (SH w).size (inbH n w), x⟩ :: L) z := fun h r l hh => by
  rw [read_head_of_ne v v.junk L n x h (by omega) r l]
  exact hL h r l (by omega)

theorem readAt_row (f : v.ty.Contents (Elt Ideal)) (k : ℕ) :
    v.readAt (Elt Ideal) (Rect.unit (s := SB w) ![k % 8, 0, 0] (SH w).size (inbH k w)).toLoadRect f = row (v.read (Elt Ideal) f) k := by
  rw [View.readAt_unit v f (inbH k w) rfl (inbH k w)]
  funext y
  refine congrArg (v.read (Elt Ideal) f) (funext fun a => Fin.ext ?_)
  match a with
  | ⟨0, _⟩ =>
    have h0 : (y 0).val < 1 := (y 0).isLt
    show k % 8 + 1 * (y 0).val = k % 8
    omega
  | ⟨1, _⟩ => show 0 + 1 * (y 1).val = (y 1).val; omega
  | ⟨2, _⟩ => show 0 + 1 * (y 2).val = (y 2).val; omega

theorem fresh_read {n : ℕ} (hn : n < 8) {L : List (View.Piece (Elt Ideal) (SB w) e)} {z : Elt Ideal e} (hL : Fresh v n L z) :
    v.readCov L (Rect.unit (s := SB w) ![n % 8, 0, 0] (SH w).size (inbH n w)).toLoadRect = fun _ => z := by
  unfold View.readCov
  rw [readAt_row]
  funext y
  exact hL _ _ _ (by show n ≤ n % 8; omega)
end

section
variable {κ : Kind} {sp : Space} {e : EltTy}

theorem readAt_win (v : View sig κ sp S1x512x1024 e) (x : S1x512x1024.Idx → Elt Ideal e) (k : ℕ) :
    v.readAt (Elt Ideal) (Rect.unit (s := S1x512x1024) ![0, 0, 128 * (k % 8)] S1x512x128.size (inbO k)).toLoadRect (v.rep x) = win x (k % 8) := by
  rw [View.readAt_rep_unit v x (inbO k) rfl (inbO k)]
  funext y
  have h2 : (y 2).val < 128 := (y 2).isLt
  refine congrArg x (funext fun a => Fin.ext ?_)
  match a with
  | ⟨0, _⟩ =>
    have h0 : (y 0).val < 1 := (y 0).isLt
    show 0 + 1 * (y 0).val = 0
    omega
  | ⟨1, _⟩ => show 0 + 1 * (y 1).val = (y 1).val; omega
  | ⟨2, _⟩ => show 128 * (k % 8) + 1 * (y 2).val = (128 * (k % 8) + (y 2).val) % 1024; omega

theorem read_outs (v : View sig κ sp S1x512x1024 e) (f : v.ty.Contents (Elt Ideal)) (W : ℕ → (S1x512x128.Idx → Elt Ideal e)) :
    ∀ n ≤ 8, ∀ (k : Fin 8), k.val < n → ∀ (r : Fin 512) (d : Fin 128),
      v.read (Elt Ideal) (v.writes (Elt Ideal) f (outs W n)) (ix3 0 r ⟨128 * k.val + d.val, by omega⟩) = W k.val (ix3 0 r d)
  | 0, _, k, hk, _, _ => absurd hk (by omega)
  | n + 1, hn, k, hk, r, d => by
    by_cases h : k.val = n
    · refine (View.read_writes_cons_unit_of_mem v f (inbO n) (W n) (outs W n) _ (ix3 0 r d) rfl (fun a => by
        match a with
        | ⟨0, _⟩ => rfl
        | ⟨1, _⟩ => show r.val = 0 + r.val; omega
        | ⟨2, _⟩ => show 128 * k.val + d.val = 128 * (n % 8) + d.val; omega)).trans (by rw [h])
    · refine (View.read_writes_cons_unit_of_not_mem v f (inbO n) (W n) (outs W n) _ rfl 2 (Or.inl ?_)).trans
        (read_outs v f W n (by omega) k (by omega) r d)
      show 128 * k.val + d.val < 128 * (n % 8)
      have := d.isLt
      omega
end

/-- A head's rows of the second scratch buffer, loaded. -/
theorem readAt_acc (f : (SB 256).Idx → Elt Ideal .f32) (k : ℕ) :
    (View.whole cc0_scratch1).readAt (Elt Ideal) (Rect.unit (s := SB 256) ![k % 8, 0, 0] (SH 256).size (inbH k 256)).toLoadRect f = row (w := 256) f k :=
  readAt_row (w := 256) (View.whole cc0_scratch1) f k

theorem maxes_at (W : ℕ → ((SH 128).Idx → Elt Ideal .f32)) (L : List (View.Piece (Elt Ideal) (SB 128) .f32)) (h : Fin 8) (r : Fin 512) (l : Fin 128) :
    (View.whole cc0_scratch0).writes (Elt Ideal) (View.whole cc0_scratch0).junk (heads W L 8) (ix3 h r l) = W h.val (ix3 0 r l) := by
  have e := read_heads (View.whole cc0_scratch0) (View.whole cc0_scratch0).junk W L 8 le_rfl h h.isLt r l
  generalize (View.whole cc0_scratch0).writes (Elt Ideal) (View.whole cc0_scratch0).junk (heads W L 8) = f at e ⊢
  exact e

theorem accs_at (W : ℕ → ((SH 256).Idx → Elt Ideal .f32)) (L : List (View.Piece (Elt Ideal) (SB 256) .f32)) (h : Fin 8) (r : Fin 512) (l : Fin 256) :
    (View.whole cc0_scratch1).writes (Elt Ideal) (View.whole cc0_scratch1).junk (heads W L 8) (ix3 h r l) = W h.val (ix3 0 r l) := by
  have e := read_heads (View.whole cc0_scratch1) (View.whole cc0_scratch1).junk W L 8 le_rfl h h.isLt r l
  generalize (View.whole cc0_scratch1).writes (Elt Ideal) (View.whole cc0_scratch1).junk (heads W L 8) = f at e ⊢
  exact e

theorem headM_congr {q q' k k' : Vec Ideal S1x512x128 .bf16} {b b' : Vec Ideal S1x512x512 .bf16} {m m' : Vec Ideal S1x512x128 .f32}
    (hq : q = q') (hk : k = k') (hb : b = b') (hm : m = m') : headM q k b m = headM q' k' b' m' := by subst hq hk hb hm; rfl

theorem headA_congr {q q' k k' : Vec Ideal S1x512x128 .bf16} {b b' : Vec Ideal S1x512x512 .bf16} {m m' : Vec Ideal S1x512x128 .f32}
    {v v' : Vec Ideal S1x512x128 .bf16} {a a' : Vec Ideal S1x512x256 .f32}
    (hq : q = q') (hk : k = k') (hb : b = b') (hm : m = m') (hv : v = v') (ha : a = a') : headA q k b m v a = headA q' k' b' m' v' a' := by
  subst hq hk hb hm hv ha; rfl

end Cert.KernelIdeal.Attn

end
-- ==== Proof.AttnValue.PathA.lean ====
/-
A block with a single block of keys: what the body leaves, head by head.
-/
module

public import proofs.«01_k».proof.Proof.AttnValue.Pieces
public import proofs.«01_k».proof.Proof.AttnIdeal.RunA

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI

variable (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16)

theorem freshA_HS0_0 : Fresh (w := 128) scM0_0.view 0 (kernelRun0_A.sl.HS0_1) (⊥ : EReal) :=
  fresh_init scM0_0.view _ _ pay12_apply _
theorem freshA_HS0_1 (arg4 : Memref sig .tc .vmem S1x512x1024 .bf16) (arg5 : Memref sig .tc .vmem S1x512x1024 .bf16) (arg7 : Memref sig .tc .vmem S1x512x512 .bf16) (x0 x1 : S1x512x1024.Idx → Elt Ideal .bf16) (x3 : S1x512x512.Idx → Elt Ideal .bf16) : Fresh (w := 128) scM0_0.view 1 (kernelRun0_A.sl.HS0_2 arg4 arg5 arg7 x0 x1 x3) (⊥ : EReal) :=
  fresh_step (w := 128) scM0_0.view (n := 0) (by decide) (freshA_HS0_0) _
theorem freshA_HS0_2 (arg4 : Memref sig .tc .vmem S1x512x1024 .bf16) (arg5 : Memref sig .tc .vmem S1x512x1024 .bf16) (arg7 : Memref sig .tc .vmem S1x512x512 .bf16) (x0 x1 : S1x512x1024.Idx → Elt Ideal .bf16) (x3 : S1x512x512.Idx → Elt Ideal .bf16) : Fresh (w := 128) scM0_0.view 2 (kernelRun0_A.sl.HS0_3 arg4 arg5 arg7 x0 x1 x3) (⊥ : EReal) :=
  fresh_step (w := 128) scM0_0.view (n := 1) (by decide) (freshA_HS0_1 arg4 arg5 arg7 x0 x1 x3) _
theorem freshA_HS0_3 (arg4 : Memref sig .tc .vmem S1x512x1024 .bf16) (arg5 : Memref sig .tc .vmem S1x512x1024 .bf16) (arg7 : Memref sig .tc .vmem S1x512x512 .bf16) (x0 x1 : S1x512x1024.Idx → Elt Ideal .bf16) (x3 : S1x512x512.Idx → Elt Ideal .bf16) : Fresh (w := 128) scM0_0.view 3 (kernelRun0_A.sl.HS0_4 arg4 arg5 arg7 x0 x1 x3) (⊥ : EReal) :=
  fresh_step (w := 128) scM0_0.view (n := 2) (by decide) (freshA_HS0_2 arg4 arg5 arg7 x0 x1 x3) _
theorem freshA_HS0_4 (arg4 : Memref sig .tc .vmem S1x512x1024 .bf16) (arg5 : Memref sig .tc .vmem S1x512x1024 .bf16) (arg7 : Memref sig .tc .vmem S1x512x512 .bf16) (x0 x1 : S1x512x1024.Idx → Elt Ideal .bf16) (x3 : S1x512x512.Idx → Elt Ideal .bf16) : Fresh (w := 128) scM0_0.view 4 (kernelRun0_A.sl.HS0_5 arg4 arg5 arg7 x0 x1 x3) (⊥ : EReal) :=
  fresh_step (w := 128) scM0_0.view (n := 3) (by decide) (freshA_HS0_3 arg4 arg5 arg7 x0 x1 x3) _
theorem freshA_HS0_5 (arg4 : Memref sig .tc .vmem S1x512x1024 .bf16) (arg5 : Memref sig .tc .vmem S1x512x1024 .bf16) (arg7 : Memref sig .tc .vmem S1x512x512 .bf16) (x0 x1 : S1x512x1024.Idx → Elt Ideal .bf16) (x3 : S1x512x512.Idx → Elt Ideal .bf16) : Fresh (w := 128) scM0_0.view 5 (kernelRun0_A.sl.HS0_6 arg4 arg5 arg7 x0 x1 x3) (⊥ : EReal) :=
  fresh_step (w := 128) scM0_0.view (n := 4) (by decide) (freshA_HS0_4 arg4 arg5 arg7 x0 x1 x3) _
theorem freshA_HS0_6 (arg4 : Memref sig .tc .vmem S1x512x1024 .bf16) (arg5 : Memref sig .tc .vmem S1x512x1024 .bf16) (arg7 : Memref sig .tc .vmem S1x512x512 .bf16) (x0 x1 : S1x512x1024.Idx → Elt Ideal .bf16) (x3 : S1x512x512.Idx → Elt Ideal .bf16) : Fresh (w := 128) scM0_0.view 6 (kernelRun0_A.sl.HS0_7 arg4 arg5 arg7 x0 x1 x3) (⊥ : EReal) :=
  fresh_step (w := 128) scM0_0.view (n := 5) (by decide) (freshA_HS0_5 arg4 arg5 arg7 x0 x1 x3) _
theorem freshA_HS0_7 (arg4 : Memref sig .tc .vmem S1x512x1024 .bf16) (arg5 : Memref sig .tc .vmem S1x512x1024 .bf16) (arg7 : Memref sig .tc .vmem S1x512x512 .bf16) (x0 x1 : S1x512x1024.Idx → Elt Ideal .bf16) (x3 : S1x512x512.Idx → Elt Ideal .bf16) : Fresh (w := 128) scM0_0.view 7 (kernelRun0_A.sl.HS0_8 arg4 arg5 arg7 x0 x1 x3) (⊥ : EReal) :=
  fresh_step (w := 128) scM0_0.view (n := 6) (by decide) (freshA_HS0_6 arg4 arg5 arg7 x0 x1 x3) _
theorem freshA_HS1_0 : Fresh (w := 256) scM0_1.view 0 (kernelRun0_A.sl.HS1_1) (0 : EReal) :=
  fresh_init scM0_1.view _ _ pay13_apply _
theorem freshA_HS1_1 (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) : Fresh (w := 256) scM0_1.view 1 (kernelRun0_A.sl.HS1_2 arg4 arg5 arg6 arg7 x0 x1 x2 x3) (0 : EReal) :=
  fresh_step (w := 256) scM0_1.view (n := 0) (by decide) (freshA_HS1_0) _
theorem freshA_HS1_2 (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) : Fresh (w := 256) scM0_1.view 2 (kernelRun0_A.sl.HS1_3 arg4 arg5 arg6 arg7 x0 x1 x2 x3) (0 : EReal) :=
  fresh_step (w := 256) scM0_1.view (n := 1) (by decide) (freshA_HS1_1 arg4 arg5 arg6 arg7 x0 x1 x2 x3) _
theorem freshA_HS1_3 (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) : Fresh (w := 256) scM0_1.view 3 (kernelRun0_A.sl.HS1_4 arg4 arg5 arg6 arg7 x0 x1 x2 x3) (0 : EReal) :=
  fresh_step (w := 256) scM0_1.view (n := 2) (by decide) (freshA_HS1_2 arg4 arg5 arg6 arg7 x0 x1 x2 x3) _
theorem freshA_HS1_4 (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) : Fresh (w := 256) scM0_1.view 4 (kernelRun0_A.sl.HS1_5 arg4 arg5 arg6 arg7 x0 x1 x2 x3) (0 : EReal) :=
  fresh_step (w := 256) scM0_1.view (n := 3) (by decide) (freshA_HS1_3 arg4 arg5 arg6 arg7 x0 x1 x2 x3) _
theorem freshA_HS1_5 (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) : Fresh (w := 256) scM0_1.view 5 (kernelRun0_A.sl.HS1_6 arg4 arg5 arg6 arg7 x0 x1 x2 x3) (0 : EReal) :=
  fresh_step (w := 256) scM0_1.view (n := 4) (by decide) (freshA_HS1_4 arg4 arg5 arg6 arg7 x0 x1 x2 x3) _
theorem freshA_HS1_6 (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) : Fresh (w := 256) scM0_1.view 6 (kernelRun0_A.sl.HS1_7 arg4 arg5 arg6 arg7 x0 x1 x2 x3) (0 : EReal) :=
  fresh_step (w := 256) scM0_1.view (n := 5) (by decide) (freshA_HS1_5 arg4 arg5 arg6 arg7 x0 x1 x2 x3) _
theorem freshA_HS1_7 (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) : Fresh (w := 256) scM0_1.view 7 (kernelRun0_A.sl.HS1_8 arg4 arg5 arg6 arg7 x0 x1 x2 x3) (0 : EReal) :=
  fresh_step (w := 256) scM0_1.view (n := 6) (by decide) (freshA_HS1_6 arg4 arg5 arg6 arg7 x0 x1 x2 x3) _

theorem listA_m_0 : kernelRun0_A.sl.HS0_2 arg4 arg5 arg7 x0 x1 x3 = heads (w := 128) (fun k => headM (win x0 (k % 8)) (win x1 (k % 8)) x3 (fun _ => (⊥ : EReal))) (kernelRun0_A.sl.HS0_1) 1 :=
  (show kernelRun0_A.sl.HS0_2 arg4 arg5 arg7 x0 x1 x3 = ⟨Rect.unit (s := SB 128) ![0 % 8, 0, 0] (SH 128).size (inbH 0 128), headM (arg4.view.readAt (Elt Ideal) (Rect.unit (s := S1x512x1024) ![0, 0, 128 * (0 % 8)] S1x512x128.size (inbO 0)).toLoadRect (arg4.view.rep x0)) (arg5.view.readAt (Elt Ideal) (Rect.unit (s := S1x512x1024) ![0, 0, 128 * (0 % 8)] S1x512x128.size (inbO 0)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_1) (Rect.unit (s := SB 128) ![0 % 8, 0, 0] (SH 128).size (inbH 0 128)).toLoadRect)⟩ :: kernelRun0_A.sl.HS0_1 from by sl_kernel_rfl).trans
    (heads_step (w := 128) (e := .f32) 0 rfl (headM_congr (readAt_win arg4.view x0 0) (readAt_win arg5.view x1 0) (View.readAt_rep_full arg7.view x3 inb_S1x512x512_S1x512x512_0_0_0) (fresh_read (w := 128) scM0_0.view (n := 0) (by decide) (freshA_HS0_0))))

theorem listA_a_0 : kernelRun0_A.sl.HS1_2 arg4 arg5 arg6 arg7 x0 x1 x2 x3 = heads (w := 256) (fun k => headA (win x0 (k % 8)) (win x1 (k % 8)) x3 (fun _ => (⊥ : EReal)) (win x2 (k % 8)) (fun _ => (0 : EReal))) (kernelRun0_A.sl.HS1_1) 1 :=
  (show kernelRun0_A.sl.HS1_2 arg4 arg5 arg6 arg7 x0 x1 x2 x3 = ⟨Rect.unit (s := SB 256) ![0 % 8, 0, 0] (SH 256).size (inbH 0 256), headA (arg4.view.readAt (Elt Ideal) (Rect.unit (s := S1x512x1024) ![0, 0, 128 * (0 % 8)] S1x512x128.size (inbO 0)).toLoadRect (arg4.view.rep x0)) (arg5.view.readAt (Elt Ideal) (Rect.unit (s := S1x512x1024) ![0, 0, 128 * (0 % 8)] S1x512x128.size (inbO 0)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_1) (Rect.unit (s := SB 128) ![0 % 8, 0, 0] (SH 128).size (inbH 0 128)).toLoadRect) (arg6.view.readAt (Elt Ideal) (Rect.unit (s := S1x512x1024) ![0, 0, 128 * (0 % 8)] S1x512x128.size (inbO 0)).toLoadRect (arg6.view.rep x2)) (scM0_1.view.readCov (kernelRun0_A.sl.HS1_1) (Rect.unit (s := SB 256) ![0 % 8, 0, 0] (SH 256).size (inbH 0 256)).toLoadRect)⟩ :: kernelRun0_A.sl.HS1_1 from by sl_kernel_rfl).trans
    (heads_step (w := 256) (e := .f32) 0 rfl (headA_congr (readAt_win arg4.view x0 0) (readAt_win arg5.view x1 0) (View.readAt_rep_full arg7.view x3 inb_S1x512x512_S1x512x512_0_0_0) (fresh_read (w := 128) scM0_0.view (n := 0) (by decide) (freshA_HS0_0)) (readAt_win arg6.view x2 0) (fresh_read (w := 256) scM0_1.view (n := 0) (by decide) (freshA_HS1_0))))

theorem listA_m_1 : kernelRun0_A.sl.HS0_3 arg4 arg5 arg7 x0 x1 x3 = heads (w := 128) (fun k => headM (win x0 (k % 8)) (win x1 (k % 8)) x3 (fun _ => (⊥ : EReal))) (kernelRun0_A.sl.HS0_1) 2 :=
  (show kernelRun0_A.sl.HS0_3 arg4 arg5 arg7 x0 x1 x3 = ⟨Rect.unit (s := SB 128) ![1 % 8, 0, 0] (SH 128).size (inbH 1 128), headM (arg4.view.readAt (Elt Ideal) (Rect.unit (s := S1x512x1024) ![0, 0, 128 * (1 % 8)] S1x512x128.size (inbO 1)).toLoadRect (arg4.view.rep x0)) (arg5.view.readAt (Elt Ideal) (Rect.unit (s := S1x512x1024) ![0, 0, 128 * (1 % 8)] S1x512x128.size (inbO 1)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_2 arg4 arg5 arg7 x0 x1 x3) (Rect.unit (s := SB 128) ![1 % 8, 0, 0] (SH 128).size (inbH 1 128)).toLoadRect)⟩ :: kernelRun0_A.sl.HS0_2 arg4 arg5 arg7 x0 x1 x3 from by sl_kernel_rfl).trans
    (heads_step (w := 128) (e := .f32) 1 (listA_m_0 arg4 arg5 arg7 x0 x1 x3) (headM_congr (readAt_win arg4.view x0 1) (readAt_win arg5.view x1 1) (View.readAt_rep_full arg7.view x3 inb_S1x512x512_S1x512x512_0_0_0) (fresh_read (w := 128) scM0_0.view (n := 1) (by decide) (freshA_HS0_1 arg4 arg5 arg7 x0 x1 x3))))

theorem listA_a_1 : kernelRun0_A.sl.HS1_3 arg4 arg5 arg6 arg7 x0 x1 x2 x3 = heads (w := 256) (fun k => headA (win x0 (k % 8)) (win x1 (k % 8)) x3 (fun _ => (⊥ : EReal)) (win x2 (k % 8)) (fun _ => (0 : EReal))) (kernelRun0_A.sl.HS1_1) 2 :=
  (show kernelRun0_A.sl.HS1_3 arg4 arg5 arg6 arg7 x0 x1 x2 x3 = ⟨Rect.unit (s := SB 256) ![1 % 8, 0, 0] (SH 256).size (inbH 1 256), headA (arg4.view.readAt (Elt Ideal) (Rect.unit (s := S1x512x1024) ![0, 0, 128 * (1 % 8)] S1x512x128.size (inbO 1)).toLoadRect (arg4.view.rep x0)) (arg5.view.readAt (Elt Ideal) (Rect.unit (s := S1x512x1024) ![0, 0, 128 * (1 % 8)] S1x512x128.size (inbO 1)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_2 arg4 arg5 arg7 x0 x1 x3) (Rect.unit (s := SB 128) ![1 % 8, 0, 0] (SH 128).size (inbH 1 128)).toLoadRect) (arg6.view.readAt (Elt Ideal) (Rect.unit (s := S1x512x1024) ![0, 0, 128 * (1 % 8)] S1x512x128.size (inbO 1)).toLoadRect (arg6.view.rep x2)) (scM0_1.view.readCov (kernelRun0_A.sl.HS1_2 arg4 arg5 arg6 arg7 x0 x1 x2 x3) (Rect.unit (s := SB 256) ![1 % 8, 0, 0] (SH 256).size (inbH 1 256)).toLoadRect)⟩ :: kernelRun0_A.sl.HS1_2 arg4 arg5 arg6 arg7 x0 x1 x2 x3 from by sl_kernel_rfl).trans
    (heads_step (w := 256) (e := .f32) 1 (listA_a_0 arg4 arg5 arg6 arg7 x0 x1 x2 x3) (headA_congr (readAt_win arg4.view x0 1) (readAt_win arg5.view x1 1) (View.readAt_rep_full arg7.view x3 inb_S1x512x512_S1x512x512_0_0_0) (fresh_read (w := 128) scM0_0.view (n := 1) (by decide) (freshA_HS0_1 arg4 arg5 arg7 x0 x1 x3)) (readAt_win arg6.view x2 1) (fresh_read (w := 256) scM0_1.view (n := 1) (by decide) (freshA_HS1_1 arg4 arg5 arg6 arg7 x0 x1 x2 x3))))

theorem listA_m_2 : kernelRun0_A.sl.HS0_4 arg4 arg5 arg7 x0 x1 x3 = heads (w := 128) (fun k => headM (win x0 (k % 8)) (win x1 (k % 8)) x3 (fun _ => (⊥ : EReal))) (kernelRun0_A.sl.HS0_1) 3 :=
  (show kernelRun0_A.sl.HS0_4 arg4 arg5 arg7 x0 x1 x3 = ⟨Rect.unit (s := SB 128) ![2 % 8, 0, 0] (SH 128).size (inbH 2 128), headM (arg4.view.readAt (Elt Ideal) (Rect.unit (s := S1x512x1024) ![0, 0, 128 * (2 % 8)] S1x512x128.size (inbO 2)).toLoadRect (arg4.view.rep x0)) (arg5.view.readAt (Elt Ideal) (Rect.unit (s := S1x512x1024) ![0, 0, 128 * (2 % 8)] S1x512x128.size (inbO 2)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_3 arg4 arg5 arg7 x0 x1 x3) (Rect.unit (s := SB 128) ![2 % 8, 0, 0] (SH 128).size (inbH 2 128)).toLoadRect)⟩ :: kernelRun0_A.sl.HS0_3 arg4 arg5 arg7 x0 x1 x3 from by sl_kernel_rfl).trans
    (heads_step (w := 128) (e := .f32) 2 (listA_m_1 arg4 arg5 arg7 x0 x1 x3) (headM_congr (readAt_win arg4.view x0 2) (readAt_win arg5.view x1 2) (View.readAt_rep_full arg7.view x3 inb_S1x512x512_S1x512x512_0_0_0) (fresh_read (w := 128) scM0_0.view (n := 2) (by decide) (freshA_HS0_2 arg4 arg5 arg7 x0 x1 x3))))

theorem listA_a_2 : kernelRun0_A.sl.HS1_4 arg4 arg5 arg6 arg7 x0 x1 x2 x3 = heads (w := 256) (fun k => headA (win x0 (k % 8)) (win x1 (k % 8)) x3 (fun _ => (⊥ : EReal)) (win x2 (k % 8)) (fun _ => (0 : EReal))) (kernelRun0_A.sl.HS1_1) 3 :=
  (show kernelRun0_A.sl.HS1_4 arg4 arg5 arg6 arg7 x0 x1 x2 x3 = ⟨Rect.unit (s := SB 256) ![2 % 8, 0, 0] (SH 256).size (inbH 2 256), headA (arg4.view.readAt (Elt Ideal) (Rect.unit (s := S1x512x1024) ![0, 0, 128 * (2 % 8)] S1x512x128.size (inbO 2)).toLoadRect (arg4.view.rep x0)) (arg5.view.readAt (Elt Ideal) (Rect.unit (s := S1x512x1024) ![0, 0, 128 * (2 % 8)] S1x512x128.size (inbO 2)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_3 arg4 arg5 arg7 x0 x1 x3) (Rect.unit (s := SB 128) ![2 % 8, 0, 0] (SH 128).size (inbH 2 128)).toLoadRect) (arg6.view.readAt (Elt Ideal) (Rect.unit (s := S1x512x1024) ![0, 0, 128 * (2 % 8)] S1x512x128.size (inbO 2)).toLoadRect (arg6.view.rep x2)) (scM0_1.view.readCov (kernelRun0_A.sl.HS1_3 arg4 arg5 arg6 arg7 x0 x1 x2 x3) (Rect.unit (s := SB 256) ![2 % 8, 0, 0] (SH 256).size (inbH 2 256)).toLoadRect)⟩ :: kernelRun0_A.sl.HS1_3 arg4 arg5 arg6 arg7 x0 x1 x2 x3 from by sl_kernel_rfl).trans
    (heads_step (w := 256) (e := .f32) 2 (listA_a_1 arg4 arg5 arg6 arg7 x0 x1 x2 x3) (headA_congr (readAt_win arg4.view x0 2) (readAt_win arg5.view x1 2) (View.readAt_rep_full arg7.view x3 inb_S1x512x512_S1x512x512_0_0_0) (fresh_read (w := 128) scM0_0.view (n := 2) (by decide) (freshA_HS0_2 arg4 arg5 arg7 x0 x1 x3)) (readAt_win arg6.view x2 2) (fresh_read (w := 256) scM0_1.view (n := 2) (by decide) (freshA_HS1_2 arg4 arg5 arg6 arg7 x0 x1 x2 x3))))

theorem listA_m_3 : kernelRun0_A.sl.HS0_5 arg4 arg5 arg7 x0 x1 x3 = heads (w := 128) (fun k => headM (win x0 (k % 8)) (win x1 (k % 8)) x3 (fun _ => (⊥ : EReal))) (kernelRun0_A.sl.HS0_1) 4 :=
  (show kernelRun0_A.sl.HS0_5 arg4 arg5 arg7 x0 x1 x3 = ⟨Rect.unit (s := SB 128) ![3 % 8, 0, 0] (SH 128).size (inbH 3 128), headM (arg4.view.readAt (Elt Ideal) (Rect.unit (s := S1x512x1024) ![0, 0, 128 * (3 % 8)] S1x512x128.size (inbO 3)).toLoadRect (arg4.view.rep x0)) (arg5.view.readAt (Elt Ideal) (Rect.unit (s := S1x512x1024) ![0, 0, 128 * (3 % 8)] S1x512x128.size (inbO 3)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_4 arg4 arg5 arg7 x0 x1 x3) (Rect.unit (s := SB 128) ![3 % 8, 0, 0] (SH 128).size (inbH 3 128)).toLoadRect)⟩ :: kernelRun0_A.sl.HS0_4 arg4 arg5 arg7 x0 x1 x3 from by sl_kernel_rfl).trans
    (heads_step (w := 128) (e := .f32) 3 (listA_m_2 arg4 arg5 arg7 x0 x1 x3) (headM_congr (readAt_win arg4.view x0 3) (readAt_win arg5.view x1 3) (View.readAt_rep_full arg7.view x3 inb_S1x512x512_S1x512x512_0_0_0) (fresh_read (w := 128) scM0_0.view (n := 3) (by decide) (freshA_HS0_3 arg4 arg5 arg7 x0 x1 x3))))

theorem listA_a_3 : kernelRun0_A.sl.HS1_5 arg4 arg5 arg6 arg7 x0 x1 x2 x3 = heads (w := 256) (fun k => headA (win x0 (k % 8)) (win x1 (k % 8)) x3 (fun _ => (⊥ : EReal)) (win x2 (k % 8)) (fun _ => (0 : EReal))) (kernelRun0_A.sl.HS1_1) 4 :=
  (show kernelRun0_A.sl.HS1_5 arg4 arg5 arg6 arg7 x0 x1 x2 x3 = ⟨Rect.unit (s := SB 256) ![3 % 8, 0, 0] (SH 256).size (inbH 3 256), headA (arg4.view.readAt (Elt Ideal) (Rect.unit (s := S1x512x1024) ![0, 0, 128 * (3 % 8)] S1x512x128.size (inbO 3)).toLoadRect (arg4.view.rep x0)) (arg5.view.readAt (Elt Ideal) (Rect.unit (s := S1x512x1024) ![0, 0, 128 * (3 % 8)] S1x512x128.size (inbO 3)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_4 arg4 arg5 arg7 x0 x1 x3) (Rect.unit (s := SB 128) ![3 % 8, 0, 0] (SH 128).size (inbH 3 128)).toLoadRect) (arg6.view.readAt (Elt Ideal) (Rect.unit (s := S1x512x1024) ![0, 0, 128 * (3 % 8)] S1x512x128.size (inbO 3)).toLoadRect (arg6.view.rep x2)) (scM0_1.view.readCov (kernelRun0_A.sl.HS1_4 arg4 arg5 arg6 arg7 x0 x1 x2 x3) (Rect.unit (s := SB 256) ![3 % 8, 0, 0] (SH 256).size (inbH 3 256)).toLoadRect)⟩ :: kernelRun0_A.sl.HS1_4 arg4 arg5 arg6 arg7 x0 x1 x2 x3 from by sl_kernel_rfl).trans
    (heads_step (w := 256) (e := .f32) 3 (listA_a_2 arg4 arg5 arg6 arg7 x0 x1 x2 x3) (headA_congr (readAt_win arg4.view x0 3) (readAt_win arg5.view x1 3) (View.readAt_rep_full arg7.view x3 inb_S1x512x512_S1x512x512_0_0_0) (fresh_read (w := 128) scM0_0.view (n := 3) (by decide) (freshA_HS0_3 arg4 arg5 arg7 x0 x1 x3)) (readAt_win arg6.view x2 3) (fresh_read (w := 256) scM0_1.view (n := 3) (by decide) (freshA_HS1_3 arg4 arg5 arg6 arg7 x0 x1 x2 x3))))

theorem listA_m_4 : kernelRun0_A.sl.HS0_6 arg4 arg5 arg7 x0 x1 x3 = heads (w := 128) (fun k => headM (win x0 (k % 8)) (win x1 (k % 8)) x3 (fun _ => (⊥ : EReal))) (kernelRun0_A.sl.HS0_1) 5 :=
  (show kernelRun0_A.sl.HS0_6 arg4 arg5 arg7 x0 x1 x3 = ⟨Rect.unit (s := SB 128) ![4 % 8, 0, 0] (SH 128).size (inbH 4 128), headM (arg4.view.readAt (Elt Ideal) (Rect.unit (s := S1x512x1024) ![0, 0, 128 * (4 % 8)] S1x512x128.size (inbO 4)).toLoadRect (arg4.view.rep x0)) (arg5.view.readAt (Elt Ideal) (Rect.unit (s := S1x512x1024) ![0, 0, 128 * (4 % 8)] S1x512x128.size (inbO 4)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_5 arg4 arg5 arg7 x0 x1 x3) (Rect.unit (s := SB 128) ![4 % 8, 0, 0] (SH 128).size (inbH 4 128)).toLoadRect)⟩ :: kernelRun0_A.sl.HS0_5 arg4 arg5 arg7 x0 x1 x3 from by sl_kernel_rfl).trans
    (heads_step (w := 128) (e := .f32) 4 (listA_m_3 arg4 arg5 arg7 x0 x1 x3) (headM_congr (readAt_win arg4.view x0 4) (readAt_win arg5.view x1 4) (View.readAt_rep_full arg7.view x3 inb_S1x512x512_S1x512x512_0_0_0) (fresh_read (w := 128) scM0_0.view (n := 4) (by decide) (freshA_HS0_4 arg4 arg5 arg7 x0 x1 x3))))

theorem listA_a_4 : kernelRun0_A.sl.HS1_6 arg4 arg5 arg6 arg7 x0 x1 x2 x3 = heads (w := 256) (fun k => headA (win x0 (k % 8)) (win x1 (k % 8)) x3 (fun _ => (⊥ : EReal)) (win x2 (k % 8)) (fun _ => (0 : EReal))) (kernelRun0_A.sl.HS1_1) 5 :=
  (show kernelRun0_A.sl.HS1_6 arg4 arg5 arg6 arg7 x0 x1 x2 x3 = ⟨Rect.unit (s := SB 256) ![4 % 8, 0, 0] (SH 256).size (inbH 4 256), headA (arg4.view.readAt (Elt Ideal) (Rect.unit (s := S1x512x1024) ![0, 0, 128 * (4 % 8)] S1x512x128.size (inbO 4)).toLoadRect (arg4.view.rep x0)) (arg5.view.readAt (Elt Ideal) (Rect.unit (s := S1x512x1024) ![0, 0, 128 * (4 % 8)] S1x512x128.size (inbO 4)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_5 arg4 arg5 arg7 x0 x1 x3) (Rect.unit (s := SB 128) ![4 % 8, 0, 0] (SH 128).size (inbH 4 128)).toLoadRect) (arg6.view.readAt (Elt Ideal) (Rect.unit (s := S1x512x1024) ![0, 0, 128 * (4 % 8)] S1x512x128.size (inbO 4)).toLoadRect (arg6.view.rep x2)) (scM0_1.view.readCov (kernelRun0_A.sl.HS1_5 arg4 arg5 arg6 arg7 x0 x1 x2 x3) (Rect.unit (s := SB 256) ![4 % 8, 0, 0] (SH 256).size (inbH 4 256)).toLoadRect)⟩ :: kernelRun0_A.sl.HS1_5 arg4 arg5 arg6 arg7 x0 x1 x2 x3 from by sl_kernel_rfl).trans
    (heads_step (w := 256) (e := .f32) 4 (listA_a_3 arg4 arg5 arg6 arg7 x0 x1 x2 x3) (headA_congr (readAt_win arg4.view x0 4) (readAt_win arg5.view x1 4) (View.readAt_rep_full arg7.view x3 inb_S1x512x512_S1x512x512_0_0_0) (fresh_read (w := 128) scM0_0.view (n := 4) (by decide) (freshA_HS0_4 arg4 arg5 arg7 x0 x1 x3)) (readAt_win arg6.view x2 4) (fresh_read (w := 256) scM0_1.view (n := 4) (by decide) (freshA_HS1_4 arg4 arg5 arg6 arg7 x0 x1 x2 x3))))

theorem listA_m_5 : kernelRun0_A.sl.HS0_7 arg4 arg5 arg7 x0 x1 x3 = heads (w := 128) (fun k => headM (win x0 (k % 8)) (win x1 (k % 8)) x3 (fun _ => (⊥ : EReal))) (kernelRun0_A.sl.HS0_1) 6 :=
  (show kernelRun0_A.sl.HS0_7 arg4 arg5 arg7 x0 x1 x3 = ⟨Rect.unit (s := SB 128) ![5 % 8, 0, 0] (SH 128).size (inbH 5 128), headM (arg4.view.readAt (Elt Ideal) (Rect.unit (s := S1x512x1024) ![0, 0, 128 * (5 % 8)] S1x512x128.size (inbO 5)).toLoadRect (arg4.view.rep x0)) (arg5.view.readAt (Elt Ideal) (Rect.unit (s := S1x512x1024) ![0, 0, 128 * (5 % 8)] S1x512x128.size (inbO 5)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_6 arg4 arg5 arg7 x0 x1 x3) (Rect.unit (s := SB 128) ![5 % 8, 0, 0] (SH 128).size (inbH 5 128)).toLoadRect)⟩ :: kernelRun0_A.sl.HS0_6 arg4 arg5 arg7 x0 x1 x3 from by sl_kernel_rfl).trans
    (heads_step (w := 128) (e := .f32) 5 (listA_m_4 arg4 arg5 arg7 x0 x1 x3) (headM_congr (readAt_win arg4.view x0 5) (readAt_win arg5.view x1 5) (View.readAt_rep_full arg7.view x3 inb_S1x512x512_S1x512x512_0_0_0) (fresh_read (w := 128) scM0_0.view (n := 5) (by decide) (freshA_HS0_5 arg4 arg5 arg7 x0 x1 x3))))

theorem listA_a_5 : kernelRun0_A.sl.HS1_7 arg4 arg5 arg6 arg7 x0 x1 x2 x3 = heads (w := 256) (fun k => headA (win x0 (k % 8)) (win x1 (k % 8)) x3 (fun _ => (⊥ : EReal)) (win x2 (k % 8)) (fun _ => (0 : EReal))) (kernelRun0_A.sl.HS1_1) 6 :=
  (show kernelRun0_A.sl.HS1_7 arg4 arg5 arg6 arg7 x0 x1 x2 x3 = ⟨Rect.unit (s := SB 256) ![5 % 8, 0, 0] (SH 256).size (inbH 5 256), headA (arg4.view.readAt (Elt Ideal) (Rect.unit (s := S1x512x1024) ![0, 0, 128 * (5 % 8)] S1x512x128.size (inbO 5)).toLoadRect (arg4.view.rep x0)) (arg5.view.readAt (Elt Ideal) (Rect.unit (s := S1x512x1024) ![0, 0, 128 * (5 % 8)] S1x512x128.size (inbO 5)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_6 arg4 arg5 arg7 x0 x1 x3) (Rect.unit (s := SB 128) ![5 % 8, 0, 0] (SH 128).size (inbH 5 128)).toLoadRect) (arg6.view.readAt (Elt Ideal) (Rect.unit (s := S1x512x1024) ![0, 0, 128 * (5 % 8)] S1x512x128.size (inbO 5)).toLoadRect (arg6.view.rep x2)) (scM0_1.view.readCov (kernelRun0_A.sl.HS1_6 arg4 arg5 arg6 arg7 x0 x1 x2 x3) (Rect.unit (s := SB 256) ![5 % 8, 0, 0] (SH 256).size (inbH 5 256)).toLoadRect)⟩ :: kernelRun0_A.sl.HS1_6 arg4 arg5 arg6 arg7 x0 x1 x2 x3 from by sl_kernel_rfl).trans
    (heads_step (w := 256) (e := .f32) 5 (listA_a_4 arg4 arg5 arg6 arg7 x0 x1 x2 x3) (headA_congr (readAt_win arg4.view x0 5) (readAt_win arg5.view x1 5) (View.readAt_rep_full arg7.view x3 inb_S1x512x512_S1x512x512_0_0_0) (fresh_read (w := 128) scM0_0.view (n := 5) (by decide) (freshA_HS0_5 arg4 arg5 arg7 x0 x1 x3)) (readAt_win arg6.view x2 5) (fresh_read (w := 256) scM0_1.view (n := 5) (by decide) (freshA_HS1_5 arg4 arg5 arg6 arg7 x0 x1 x2 x3))))

theorem listA_m_6 : kernelRun0_A.sl.HS0_8 arg4 arg5 arg7 x0 x1 x3 = heads (w := 128) (fun k => headM (win x0 (k % 8)) (win x1 (k % 8)) x3 (fun _ => (⊥ : EReal))) (kernelRun0_A.sl.HS0_1) 7 :=
  (show kernelRun0_A.sl.HS0_8 arg4 arg5 arg7 x0 x1 x3 = ⟨Rect.unit (s := SB 128) ![6 % 8, 0, 0] (SH 128).size (inbH 6 128), headM (arg4.view.readAt (Elt Ideal) (Rect.unit (s := S1x512x1024) ![0, 0, 128 * (6 % 8)] S1x512x128.size (inbO 6)).toLoadRect (arg4.view.rep x0)) (arg5.view.readAt (Elt Ideal) (Rect.unit (s := S1x512x1024) ![0, 0, 128 * (6 % 8)] S1x512x128.size (inbO 6)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_7 arg4 arg5 arg7 x0 x1 x3) (Rect.unit (s := SB 128) ![6 % 8, 0, 0] (SH 128).size (inbH 6 128)).toLoadRect)⟩ :: kernelRun0_A.sl.HS0_7 arg4 arg5 arg7 x0 x1 x3 from by sl_kernel_rfl).trans
    (heads_step (w := 128) (e := .f32) 6 (listA_m_5 arg4 arg5 arg7 x0 x1 x3) (headM_congr (readAt_win arg4.view x0 6) (readAt_win arg5.view x1 6) (View.readAt_rep_full arg7.view x3 inb_S1x512x512_S1x512x512_0_0_0) (fresh_read (w := 128) scM0_0.view (n := 6) (by decide) (freshA_HS0_6 arg4 arg5 arg7 x0 x1 x3))))

theorem listA_a_6 : kernelRun0_A.sl.HS1_8 arg4 arg5 arg6 arg7 x0 x1 x2 x3 = heads (w := 256) (fun k => headA (win x0 (k % 8)) (win x1 (k % 8)) x3 (fun _ => (⊥ : EReal)) (win x2 (k % 8)) (fun _ => (0 : EReal))) (kernelRun0_A.sl.HS1_1) 7 :=
  (show kernelRun0_A.sl.HS1_8 arg4 arg5 arg6 arg7 x0 x1 x2 x3 = ⟨Rect.unit (s := SB 256) ![6 % 8, 0, 0] (SH 256).size (inbH 6 256), headA (arg4.view.readAt (Elt Ideal) (Rect.unit (s := S1x512x1024) ![0, 0, 128 * (6 % 8)] S1x512x128.size (inbO 6)).toLoadRect (arg4.view.rep x0)) (arg5.view.readAt (Elt Ideal) (Rect.unit (s := S1x512x1024) ![0, 0, 128 * (6 % 8)] S1x512x128.size (inbO 6)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_7 arg4 arg5 arg7 x0 x1 x3) (Rect.unit (s := SB 128) ![6 % 8, 0, 0] (SH 128).size (inbH 6 128)).toLoadRect) (arg6.view.readAt (Elt Ideal) (Rect.unit (s := S1x512x1024) ![0, 0, 128 * (6 % 8)] S1x512x128.size (inbO 6)).toLoadRect (arg6.view.rep x2)) (scM0_1.view.readCov (kernelRun0_A.sl.HS1_7 arg4 arg5 arg6 arg7 x0 x1 x2 x3) (Rect.unit (s := SB 256) ![6 % 8, 0, 0] (SH 256).size (inbH 6 256)).toLoadRect)⟩ :: kernelRun0_A.sl.HS1_7 arg4 arg5 arg6 arg7 x0 x1 x2 x3 from by sl_kernel_rfl).trans
    (heads_step (w := 256) (e := .f32) 6 (listA_a_5 arg4 arg5 arg6 arg7 x0 x1 x2 x3) (headA_congr (readAt_win arg4.view x0 6) (readAt_win arg5.view x1 6) (View.readAt_rep_full arg7.view x3 inb_S1x512x512_S1x512x512_0_0_0) (fresh_read (w := 128) scM0_0.view (n := 6) (by decide) (freshA_HS0_6 arg4 arg5 arg7 x0 x1 x3)) (readAt_win arg6.view x2 6) (fresh_read (w := 256) scM0_1.view (n := 6) (by decide) (freshA_HS1_6 arg4 arg5 arg6 arg7 x0 x1 x2 x3))))

theorem listA_m_7 : kernelRun0_A.sl.HS0_9 arg4 arg5 arg7 x0 x1 x3 = heads (w := 128) (fun k => headM (win x0 (k % 8)) (win x1 (k % 8)) x3 (fun _ => (⊥ : EReal))) (kernelRun0_A.sl.HS0_1) 8 :=
  (show kernelRun0_A.sl.HS0_9 arg4 arg5 arg7 x0 x1 x3 = ⟨Rect.unit (s := SB 128) ![7 % 8, 0, 0] (SH 128).size (inbH 7 128), headM (arg4.view.readAt (Elt Ideal) (Rect.unit (s := S1x512x1024) ![0, 0, 128 * (7 % 8)] S1x512x128.size (inbO 7)).toLoadRect (arg4.view.rep x0)) (arg5.view.readAt (Elt Ideal) (Rect.unit (s := S1x512x1024) ![0, 0, 128 * (7 % 8)] S1x512x128.size (inbO 7)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_8 arg4 arg5 arg7 x0 x1 x3) (Rect.unit (s := SB 128) ![7 % 8, 0, 0] (SH 128).size (inbH 7 128)).toLoadRect)⟩ :: kernelRun0_A.sl.HS0_8 arg4 arg5 arg7 x0 x1 x3 from by sl_kernel_rfl).trans
    (heads_step (w := 128) (e := .f32) 7 (listA_m_6 arg4 arg5 arg7 x0 x1 x3) (headM_congr (readAt_win arg4.view x0 7) (readAt_win arg5.view x1 7) (View.readAt_rep_full arg7.view x3 inb_S1x512x512_S1x512x512_0_0_0) (fresh_read (w := 128) scM0_0.view (n := 7) (by decide) (freshA_HS0_7 arg4 arg5 arg7 x0 x1 x3))))

theorem listA_a_7 : kernelRun0_A.sl.HS1_9 arg4 arg5 arg6 arg7 x0 x1 x2 x3 = heads (w := 256) (fun k => headA (win x0 (k % 8)) (win x1 (k % 8)) x3 (fun _ => (⊥ : EReal)) (win x2 (k % 8)) (fun _ => (0 : EReal))) (kernelRun0_A.sl.HS1_1) 8 :=
  (show kernelRun0_A.sl.HS1_9 arg4 arg5 arg6 arg7 x0 x1 x2 x3 = ⟨Rect.unit (s := SB 256) ![7 % 8, 0, 0] (SH 256).size (inbH 7 256), headA (arg4.view.readAt (Elt Ideal) (Rect.unit (s := S1x512x1024) ![0, 0, 128 * (7 % 8)] S1x512x128.size (inbO 7)).toLoadRect (arg4.view.rep x0)) (arg5.view.readAt (Elt Ideal) (Rect.unit (s := S1x512x1024) ![0, 0, 128 * (7 % 8)] S1x512x128.size (inbO 7)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_A.sl.HS0_8 arg4 arg5 arg7 x0 x1 x3) (Rect.unit (s := SB 128) ![7 % 8, 0, 0] (SH 128).size (inbH 7 128)).toLoadRect) (arg6.view.readAt (Elt Ideal) (Rect.unit (s := S1x512x1024) ![0, 0, 128 * (7 % 8)] S1x512x128.size (inbO 7)).toLoadRect (arg6.view.rep x2)) (scM0_1.view.readCov (kernelRun0_A.sl.HS1_8 arg4 arg5 arg6 arg7 x0 x1 x2 x3) (Rect.unit (s := SB 256) ![7 % 8, 0, 0] (SH 256).size (inbH 7 256)).toLoadRect)⟩ :: kernelRun0_A.sl.HS1_8 arg4 arg5 arg6 arg7 x0 x1 x2 x3 from by sl_kernel_rfl).trans
    (heads_step (w := 256) (e := .f32) 7 (listA_a_6 arg4 arg5 arg6 arg7 x0 x1 x2 x3) (headA_congr (readAt_win arg4.view x0 7) (readAt_win arg5.view x1 7) (View.readAt_rep_full arg7.view x3 inb_S1x512x512_S1x512x512_0_0_0) (fresh_read (w := 128) scM0_0.view (n := 7) (by decide) (freshA_HS0_7 arg4 arg5 arg7 x0 x1 x3)) (readAt_win arg6.view x2 7) (fresh_read (w := 256) scM0_1.view (n := 7) (by decide) (freshA_HS1_7 arg4 arg5 arg6 arg7 x0 x1 x2 x3))))

theorem listA_o : kernelRun0_A.sl.HO4_8 arg4 arg5 arg6 arg7 x0 x1 x2 x3 = outs (fun k => headO (row (w := 256) ((View.whole cc0_scratch1).writes (Elt Ideal) (View.whole cc0_scratch1).junk (kernelRun0_A.sl.HS1_9 arg4 arg5 arg6 arg7 x0 x1 x2 x3)) k)) 8 :=
  (show kernelRun0_A.sl.HO4_8 arg4 arg5 arg6 arg7 x0 x1 x2 x3 = outs (fun k => headO ((View.whole cc0_scratch1).readAt (Elt Ideal) (Rect.unit (s := SB 256) ![k % 8, 0, 0] (SH 256).size (inbH k 256)).toLoadRect ((View.whole cc0_scratch1).writes (Elt Ideal) (View.whole cc0_scratch1).junk (kernelRun0_A.sl.HS1_9 arg4 arg5 arg6 arg7 x0 x1 x2 x3)))) 8 from by sl_kernel_rfl).trans
    (congrArg (fun W => outs W 8) (funext fun k => congrArg headO (readAt_acc ((View.whole cc0_scratch1).writes (Elt Ideal) (View.whole cc0_scratch1).junk (kernelRun0_A.sl.HS1_9 arg4 arg5 arg6 arg7 x0 x1 x2 x3)) k)))

end Cert.KernelIdeal.Attn

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI

theorem tupA_m (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (hc0 : (Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) : (kernelRun0_A c i arg4 harg4 arg5 harg5 arg6 harg6 arg7 harg7 arg8 harg8 T0 T1 x0 x1 x2 x3 hc0 k0_h2).2.1 = (View.whole cc0_scratch0).writes (Elt Ideal) (View.whole cc0_scratch0).junk (kernelRun0_A.sl.HS0_9 arg4 arg5 arg7 x0 x1 x3) := by sl_kernel_rfl

theorem tupA_a (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (hc0 : (Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) : (kernelRun0_A c i arg4 harg4 arg5 harg5 arg6 harg6 arg7 harg7 arg8 harg8 T0 T1 x0 x1 x2 x3 hc0 k0_h2).2.2.1 = (View.whole cc0_scratch1).writes (Elt Ideal) (View.whole cc0_scratch1).junk (kernelRun0_A.sl.HS1_9 arg4 arg5 arg6 arg7 x0 x1 x2 x3) := by sl_kernel_rfl

theorem tupA_o (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (hc0 : (Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) : (kernelRun0_A c i arg4 harg4 arg5 harg5 arg6 harg6 arg7 harg7 arg8 harg8 T0 T1 x0 x1 x2 x3 hc0 k0_h2).1 = kernelRun0_A.sl.HO4_8 arg4 arg5 arg6 arg7 x0 x1 x2 x3 := by sl_kernel_rfl

theorem valA_m (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (hc0 : (Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) (h : Fin 8) (r : Fin 512) (l : Fin 128) :
    (kernelRun0_A c i arg4 harg4 arg5 harg5 arg6 harg6 arg7 harg7 arg8 harg8 T0 T1 x0 x1 x2 x3 hc0 k0_h2).2.1 (ix3 h r l) = headM (win x0 h.val) (win x1 h.val) x3 (fun _ => (⊥ : EReal)) (ix3 0 r l) :=
  (congrFun ((tupA_m c i arg4 harg4 arg5 harg5 arg6 harg6 arg7 harg7 arg8 harg8 T0 T1 x0 x1 x2 x3 hc0 k0_h2).trans (congrArg ((View.whole cc0_scratch0).writes (Elt Ideal) (View.whole cc0_scratch0).junk) (listA_m_7 arg4 arg5 arg7 x0 x1 x3))) (ix3 h r l)).trans
    ((maxes_at (fun k => headM (win x0 (k % 8)) (win x1 (k % 8)) x3 (fun _ => (⊥ : EReal))) (kernelRun0_A.sl.HS0_1) h r l).trans (by rw [Nat.mod_eq_of_lt h.isLt]))

theorem valA_a (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (hc0 : (Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) (h : Fin 8) (r : Fin 512) (l : Fin 256) :
    (kernelRun0_A c i arg4 harg4 arg5 harg5 arg6 harg6 arg7 harg7 arg8 harg8 T0 T1 x0 x1 x2 x3 hc0 k0_h2).2.2.1 (ix3 h r l) = headA (win x0 h.val) (win x1 h.val) x3 (fun _ => (⊥ : EReal)) (win x2 h.val) (fun _ => (0 : EReal)) (ix3 0 r l) :=
  (congrFun ((tupA_a c i arg4 harg4 arg5 harg5 arg6 harg6 arg7 harg7 arg8 harg8 T0 T1 x0 x1 x2 x3 hc0 k0_h2).trans (congrArg ((View.whole cc0_scratch1).writes (Elt Ideal) (View.whole cc0_scratch1).junk) (listA_a_7 arg4 arg5 arg6 arg7 x0 x1 x2 x3))) (ix3 h r l)).trans
    ((accs_at (fun k => headA (win x0 (k % 8)) (win x1 (k % 8)) x3 (fun _ => (⊥ : EReal)) (win x2 (k % 8)) (fun _ => (0 : EReal))) (kernelRun0_A.sl.HS1_1) h r l).trans (by rw [Nat.mod_eq_of_lt h.isLt]))

theorem valA_o (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (hc0 : (Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) (h : Fin 8) (r : Fin 512) (d : Fin 128) :
    out0_A_4 c i arg4 harg4 arg5 harg5 arg6 harg6 arg7 harg7 arg8 harg8 T0 T1 x0 x1 x2 x3 hc0 k0_h2 (ix3 0 r ⟨128 * h.val + d.val, by omega⟩) = headO (row (w := 256) ((kernelRun0_A c i arg4 harg4 arg5 harg5 arg6 harg6 arg7 harg7 arg8 harg8 T0 T1 x0 x1 x2 x3 hc0 k0_h2).2.2.1) h.val) (ix3 0 r d) :=
  (congrArg (fun L => VO0_4.read (Elt Ideal) (VO0_4.writes (Elt Ideal) VO0_4.junk L) (ix3 0 r ⟨128 * h.val + d.val, by omega⟩)) ((tupA_o c i arg4 harg4 arg5 harg5 arg6 harg6 arg7 harg7 arg8 harg8 T0 T1 x0 x1 x2 x3 hc0 k0_h2).trans (listA_o arg4 arg5 arg6 arg7 x0 x1 x2 x3))).trans <|
    (read_outs VO0_4 _ (fun k => headO (row (w := 256) ((View.whole cc0_scratch1).writes (Elt Ideal) (View.whole cc0_scratch1).junk (kernelRun0_A.sl.HS1_9 arg4 arg5 arg6 arg7 x0 x1 x2 x3)) k)) 8 le_rfl h h.isLt r d).trans (congrArg (fun x => headO (row (w := 256) x h.val) (ix3 0 r d)) (tupA_a c i arg4 harg4 arg5 harg5 arg6 harg6 arg7 harg7 arg8 harg8 T0 T1 x0 x1 x2 x3 hc0 k0_h2).symm)

end Cert.KernelIdeal.Attn

end
-- ==== Proof.AttnValue.PathB.lean ====
/-
The first block of keys: what the body leaves, head by head.
-/
module

public import proofs.«01_k».proof.Proof.AttnValue.Pieces
public import proofs.«01_k».proof.Proof.AttnIdeal.RunB

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI

variable (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16)

theorem freshB_HS0_0 : Fresh (w := 128) scM0_0.view 0 (kernelRun0_B.sl.HS0_1) (⊥ : EReal) :=
  fresh_init scM0_0.view _ _ pay12_apply _
theorem freshB_HS0_1 (arg4 : Memref sig .tc .vmem S1x512x1024 .bf16) (arg5 : Memref sig .tc .vmem S1x512x1024 .bf16) (arg7 : Memref sig .tc .vmem S1x512x512 .bf16) (x0 x1 : S1x512x1024.Idx → Elt Ideal .bf16) (x3 : S1x512x512.Idx → Elt Ideal .bf16) : Fresh (w := 128) scM0_0.view 1 (kernelRun0_B.sl.HS0_2 arg4 arg5 arg7 x0 x1 x3) (⊥ : EReal) :=
  fresh_step (w := 128) scM0_0.view (n := 0) (by decide) (freshB_HS0_0) _
theorem freshB_HS0_2 (arg4 : Memref sig .tc .vmem S1x512x1024 .bf16) (arg5 : Memref sig .tc .vmem S1x512x1024 .bf16) (arg7 : Memref sig .tc .vmem S1x512x512 .bf16) (x0 x1 : S1x512x1024.Idx → Elt Ideal .bf16) (x3 : S1x512x512.Idx → Elt Ideal .bf16) : Fresh (w := 128) scM0_0.view 2 (kernelRun0_B.sl.HS0_3 arg4 arg5 arg7 x0 x1 x3) (⊥ : EReal) :=
  fresh_step (w := 128) scM0_0.view (n := 1) (by decide) (freshB_HS0_1 arg4 arg5 arg7 x0 x1 x3) _
theorem freshB_HS0_3 (arg4 : Memref sig .tc .vmem S1x512x1024 .bf16) (arg5 : Memref sig .tc .vmem S1x512x1024 .bf16) (arg7 : Memref sig .tc .vmem S1x512x512 .bf16) (x0 x1 : S1x512x1024.Idx → Elt Ideal .bf16) (x3 : S1x512x512.Idx → Elt Ideal .bf16) : Fresh (w := 128) scM0_0.view 3 (kernelRun0_B.sl.HS0_4 arg4 arg5 arg7 x0 x1 x3) (⊥ : EReal) :=
  fresh_step (w := 128) scM0_0.view (n := 2) (by decide) (freshB_HS0_2 arg4 arg5 arg7 x0 x1 x3) _
theorem freshB_HS0_4 (arg4 : Memref sig .tc .vmem S1x512x1024 .bf16) (arg5 : Memref sig .tc .vmem S1x512x1024 .bf16) (arg7 : Memref sig .tc .vmem S1x512x512 .bf16) (x0 x1 : S1x512x1024.Idx → Elt Ideal .bf16) (x3 : S1x512x512.Idx → Elt Ideal .bf16) : Fresh (w := 128) scM0_0.view 4 (kernelRun0_B.sl.HS0_5 arg4 arg5 arg7 x0 x1 x3) (⊥ : EReal) :=
  fresh_step (w := 128) scM0_0.view (n := 3) (by decide) (freshB_HS0_3 arg4 arg5 arg7 x0 x1 x3) _
theorem freshB_HS0_5 (arg4 : Memref sig .tc .vmem S1x512x1024 .bf16) (arg5 : Memref sig .tc .vmem S1x512x1024 .bf16) (arg7 : Memref sig .tc .vmem S1x512x512 .bf16) (x0 x1 : S1x512x1024.Idx → Elt Ideal .bf16) (x3 : S1x512x512.Idx → Elt Ideal .bf16) : Fresh (w := 128) scM0_0.view 5 (kernelRun0_B.sl.HS0_6 arg4 arg5 arg7 x0 x1 x3) (⊥ : EReal) :=
  fresh_step (w := 128) scM0_0.view (n := 4) (by decide) (freshB_HS0_4 arg4 arg5 arg7 x0 x1 x3) _
theorem freshB_HS0_6 (arg4 : Memref sig .tc .vmem S1x512x1024 .bf16) (arg5 : Memref sig .tc .vmem S1x512x1024 .bf16) (arg7 : Memref sig .tc .vmem S1x512x512 .bf16) (x0 x1 : S1x512x1024.Idx → Elt Ideal .bf16) (x3 : S1x512x512.Idx → Elt Ideal .bf16) : Fresh (w := 128) scM0_0.view 6 (kernelRun0_B.sl.HS0_7 arg4 arg5 arg7 x0 x1 x3) (⊥ : EReal) :=
  fresh_step (w := 128) scM0_0.view (n := 5) (by decide) (freshB_HS0_5 arg4 arg5 arg7 x0 x1 x3) _
theorem freshB_HS0_7 (arg4 : Memref sig .tc .vmem S1x512x1024 .bf16) (arg5 : Memref sig .tc .vmem S1x512x1024 .bf16) (arg7 : Memref sig .tc .vmem S1x512x512 .bf16) (x0 x1 : S1x512x1024.Idx → Elt Ideal .bf16) (x3 : S1x512x512.Idx → Elt Ideal .bf16) : Fresh (w := 128) scM0_0.view 7 (kernelRun0_B.sl.HS0_8 arg4 arg5 arg7 x0 x1 x3) (⊥ : EReal) :=
  fresh_step (w := 128) scM0_0.view (n := 6) (by decide) (freshB_HS0_6 arg4 arg5 arg7 x0 x1 x3) _
theorem freshB_HS1_0 : Fresh (w := 256) scM0_1.view 0 (kernelRun0_B.sl.HS1_1) (0 : EReal) :=
  fresh_init scM0_1.view _ _ pay13_apply _
theorem freshB_HS1_1 (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) : Fresh (w := 256) scM0_1.view 1 (kernelRun0_B.sl.HS1_2 arg4 arg5 arg6 arg7 x0 x1 x2 x3) (0 : EReal) :=
  fresh_step (w := 256) scM0_1.view (n := 0) (by decide) (freshB_HS1_0) _
theorem freshB_HS1_2 (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) : Fresh (w := 256) scM0_1.view 2 (kernelRun0_B.sl.HS1_3 arg4 arg5 arg6 arg7 x0 x1 x2 x3) (0 : EReal) :=
  fresh_step (w := 256) scM0_1.view (n := 1) (by decide) (freshB_HS1_1 arg4 arg5 arg6 arg7 x0 x1 x2 x3) _
theorem freshB_HS1_3 (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) : Fresh (w := 256) scM0_1.view 3 (kernelRun0_B.sl.HS1_4 arg4 arg5 arg6 arg7 x0 x1 x2 x3) (0 : EReal) :=
  fresh_step (w := 256) scM0_1.view (n := 2) (by decide) (freshB_HS1_2 arg4 arg5 arg6 arg7 x0 x1 x2 x3) _
theorem freshB_HS1_4 (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) : Fresh (w := 256) scM0_1.view 4 (kernelRun0_B.sl.HS1_5 arg4 arg5 arg6 arg7 x0 x1 x2 x3) (0 : EReal) :=
  fresh_step (w := 256) scM0_1.view (n := 3) (by decide) (freshB_HS1_3 arg4 arg5 arg6 arg7 x0 x1 x2 x3) _
theorem freshB_HS1_5 (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) : Fresh (w := 256) scM0_1.view 5 (kernelRun0_B.sl.HS1_6 arg4 arg5 arg6 arg7 x0 x1 x2 x3) (0 : EReal) :=
  fresh_step (w := 256) scM0_1.view (n := 4) (by decide) (freshB_HS1_4 arg4 arg5 arg6 arg7 x0 x1 x2 x3) _
theorem freshB_HS1_6 (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) : Fresh (w := 256) scM0_1.view 6 (kernelRun0_B.sl.HS1_7 arg4 arg5 arg6 arg7 x0 x1 x2 x3) (0 : EReal) :=
  fresh_step (w := 256) scM0_1.view (n := 5) (by decide) (freshB_HS1_5 arg4 arg5 arg6 arg7 x0 x1 x2 x3) _
theorem freshB_HS1_7 (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) : Fresh (w := 256) scM0_1.view 7 (kernelRun0_B.sl.HS1_8 arg4 arg5 arg6 arg7 x0 x1 x2 x3) (0 : EReal) :=
  fresh_step (w := 256) scM0_1.view (n := 6) (by decide) (freshB_HS1_6 arg4 arg5 arg6 arg7 x0 x1 x2 x3) _

theorem listB_m_0 : kernelRun0_B.sl.HS0_2 arg4 arg5 arg7 x0 x1 x3 = heads (w := 128) (fun k => headM (win x0 (k % 8)) (win x1 (k % 8)) x3 (fun _ => (⊥ : EReal))) (kernelRun0_B.sl.HS0_1) 1 :=
  (show kernelRun0_B.sl.HS0_2 arg4 arg5 arg7 x0 x1 x3 = ⟨Rect.unit (s := SB 128) ![0 % 8, 0, 0] (SH 128).size (inbH 0 128), headM (arg4.view.readAt (Elt Ideal) (Rect.unit (s := S1x512x1024) ![0, 0, 128 * (0 % 8)] S1x512x128.size (inbO 0)).toLoadRect (arg4.view.rep x0)) (arg5.view.readAt (Elt Ideal) (Rect.unit (s := S1x512x1024) ![0, 0, 128 * (0 % 8)] S1x512x128.size (inbO 0)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_1) (Rect.unit (s := SB 128) ![0 % 8, 0, 0] (SH 128).size (inbH 0 128)).toLoadRect)⟩ :: kernelRun0_B.sl.HS0_1 from by sl_kernel_rfl).trans
    (heads_step (w := 128) (e := .f32) 0 rfl (headM_congr (readAt_win arg4.view x0 0) (readAt_win arg5.view x1 0) (View.readAt_rep_full arg7.view x3 inb_S1x512x512_S1x512x512_0_0_0) (fresh_read (w := 128) scM0_0.view (n := 0) (by decide) (freshB_HS0_0))))

theorem listB_a_0 : kernelRun0_B.sl.HS1_2 arg4 arg5 arg6 arg7 x0 x1 x2 x3 = heads (w := 256) (fun k => headA (win x0 (k % 8)) (win x1 (k % 8)) x3 (fun _ => (⊥ : EReal)) (win x2 (k % 8)) (fun _ => (0 : EReal))) (kernelRun0_B.sl.HS1_1) 1 :=
  (show kernelRun0_B.sl.HS1_2 arg4 arg5 arg6 arg7 x0 x1 x2 x3 = ⟨Rect.unit (s := SB 256) ![0 % 8, 0, 0] (SH 256).size (inbH 0 256), headA (arg4.view.readAt (Elt Ideal) (Rect.unit (s := S1x512x1024) ![0, 0, 128 * (0 % 8)] S1x512x128.size (inbO 0)).toLoadRect (arg4.view.rep x0)) (arg5.view.readAt (Elt Ideal) (Rect.unit (s := S1x512x1024) ![0, 0, 128 * (0 % 8)] S1x512x128.size (inbO 0)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_1) (Rect.unit (s := SB 128) ![0 % 8, 0, 0] (SH 128).size (inbH 0 128)).toLoadRect) (arg6.view.readAt (Elt Ideal) (Rect.unit (s := S1x512x1024) ![0, 0, 128 * (0 % 8)] S1x512x128.size (inbO 0)).toLoadRect (arg6.view.rep x2)) (scM0_1.view.readCov (kernelRun0_B.sl.HS1_1) (Rect.unit (s := SB 256) ![0 % 8, 0, 0] (SH 256).size (inbH 0 256)).toLoadRect)⟩ :: kernelRun0_B.sl.HS1_1 from by sl_kernel_rfl).trans
    (heads_step (w := 256) (e := .f32) 0 rfl (headA_congr (readAt_win arg4.view x0 0) (readAt_win arg5.view x1 0) (View.readAt_rep_full arg7.view x3 inb_S1x512x512_S1x512x512_0_0_0) (fresh_read (w := 128) scM0_0.view (n := 0) (by decide) (freshB_HS0_0)) (readAt_win arg6.view x2 0) (fresh_read (w := 256) scM0_1.view (n := 0) (by decide) (freshB_HS1_0))))

theorem listB_m_1 : kernelRun0_B.sl.HS0_3 arg4 arg5 arg7 x0 x1 x3 = heads (w := 128) (fun k => headM (win x0 (k % 8)) (win x1 (k % 8)) x3 (fun _ => (⊥ : EReal))) (kernelRun0_B.sl.HS0_1) 2 :=
  (show kernelRun0_B.sl.HS0_3 arg4 arg5 arg7 x0 x1 x3 = ⟨Rect.unit (s := SB 128) ![1 % 8, 0, 0] (SH 128).size (inbH 1 128), headM (arg4.view.readAt (Elt Ideal) (Rect.unit (s := S1x512x1024) ![0, 0, 128 * (1 % 8)] S1x512x128.size (inbO 1)).toLoadRect (arg4.view.rep x0)) (arg5.view.readAt (Elt Ideal) (Rect.unit (s := S1x512x1024) ![0, 0, 128 * (1 % 8)] S1x512x128.size (inbO 1)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_2 arg4 arg5 arg7 x0 x1 x3) (Rect.unit (s := SB 128) ![1 % 8, 0, 0] (SH 128).size (inbH 1 128)).toLoadRect)⟩ :: kernelRun0_B.sl.HS0_2 arg4 arg5 arg7 x0 x1 x3 from by sl_kernel_rfl).trans
    (heads_step (w := 128) (e := .f32) 1 (listB_m_0 arg4 arg5 arg7 x0 x1 x3) (headM_congr (readAt_win arg4.view x0 1) (readAt_win arg5.view x1 1) (View.readAt_rep_full arg7.view x3 inb_S1x512x512_S1x512x512_0_0_0) (fresh_read (w := 128) scM0_0.view (n := 1) (by decide) (freshB_HS0_1 arg4 arg5 arg7 x0 x1 x3))))

theorem listB_a_1 : kernelRun0_B.sl.HS1_3 arg4 arg5 arg6 arg7 x0 x1 x2 x3 = heads (w := 256) (fun k => headA (win x0 (k % 8)) (win x1 (k % 8)) x3 (fun _ => (⊥ : EReal)) (win x2 (k % 8)) (fun _ => (0 : EReal))) (kernelRun0_B.sl.HS1_1) 2 :=
  (show kernelRun0_B.sl.HS1_3 arg4 arg5 arg6 arg7 x0 x1 x2 x3 = ⟨Rect.unit (s := SB 256) ![1 % 8, 0, 0] (SH 256).size (inbH 1 256), headA (arg4.view.readAt (Elt Ideal) (Rect.unit (s := S1x512x1024) ![0, 0, 128 * (1 % 8)] S1x512x128.size (inbO 1)).toLoadRect (arg4.view.rep x0)) (arg5.view.readAt (Elt Ideal) (Rect.unit (s := S1x512x1024) ![0, 0, 128 * (1 % 8)] S1x512x128.size (inbO 1)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_2 arg4 arg5 arg7 x0 x1 x3) (Rect.unit (s := SB 128) ![1 % 8, 0, 0] (SH 128).size (inbH 1 128)).toLoadRect) (arg6.view.readAt (Elt Ideal) (Rect.unit (s := S1x512x1024) ![0, 0, 128 * (1 % 8)] S1x512x128.size (inbO 1)).toLoadRect (arg6.view.rep x2)) (scM0_1.view.readCov (kernelRun0_B.sl.HS1_2 arg4 arg5 arg6 arg7 x0 x1 x2 x3) (Rect.unit (s := SB 256) ![1 % 8, 0, 0] (SH 256).size (inbH 1 256)).toLoadRect)⟩ :: kernelRun0_B.sl.HS1_2 arg4 arg5 arg6 arg7 x0 x1 x2 x3 from by sl_kernel_rfl).trans
    (heads_step (w := 256) (e := .f32) 1 (listB_a_0 arg4 arg5 arg6 arg7 x0 x1 x2 x3) (headA_congr (readAt_win arg4.view x0 1) (readAt_win arg5.view x1 1) (View.readAt_rep_full arg7.view x3 inb_S1x512x512_S1x512x512_0_0_0) (fresh_read (w := 128) scM0_0.view (n := 1) (by decide) (freshB_HS0_1 arg4 arg5 arg7 x0 x1 x3)) (readAt_win arg6.view x2 1) (fresh_read (w := 256) scM0_1.view (n := 1) (by decide) (freshB_HS1_1 arg4 arg5 arg6 arg7 x0 x1 x2 x3))))

theorem listB_m_2 : kernelRun0_B.sl.HS0_4 arg4 arg5 arg7 x0 x1 x3 = heads (w := 128) (fun k => headM (win x0 (k % 8)) (win x1 (k % 8)) x3 (fun _ => (⊥ : EReal))) (kernelRun0_B.sl.HS0_1) 3 :=
  (show kernelRun0_B.sl.HS0_4 arg4 arg5 arg7 x0 x1 x3 = ⟨Rect.unit (s := SB 128) ![2 % 8, 0, 0] (SH 128).size (inbH 2 128), headM (arg4.view.readAt (Elt Ideal) (Rect.unit (s := S1x512x1024) ![0, 0, 128 * (2 % 8)] S1x512x128.size (inbO 2)).toLoadRect (arg4.view.rep x0)) (arg5.view.readAt (Elt Ideal) (Rect.unit (s := S1x512x1024) ![0, 0, 128 * (2 % 8)] S1x512x128.size (inbO 2)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_3 arg4 arg5 arg7 x0 x1 x3) (Rect.unit (s := SB 128) ![2 % 8, 0, 0] (SH 128).size (inbH 2 128)).toLoadRect)⟩ :: kernelRun0_B.sl.HS0_3 arg4 arg5 arg7 x0 x1 x3 from by sl_kernel_rfl).trans
    (heads_step (w := 128) (e := .f32) 2 (listB_m_1 arg4 arg5 arg7 x0 x1 x3) (headM_congr (readAt_win arg4.view x0 2) (readAt_win arg5.view x1 2) (View.readAt_rep_full arg7.view x3 inb_S1x512x512_S1x512x512_0_0_0) (fresh_read (w := 128) scM0_0.view (n := 2) (by decide) (freshB_HS0_2 arg4 arg5 arg7 x0 x1 x3))))

theorem listB_a_2 : kernelRun0_B.sl.HS1_4 arg4 arg5 arg6 arg7 x0 x1 x2 x3 = heads (w := 256) (fun k => headA (win x0 (k % 8)) (win x1 (k % 8)) x3 (fun _ => (⊥ : EReal)) (win x2 (k % 8)) (fun _ => (0 : EReal))) (kernelRun0_B.sl.HS1_1) 3 :=
  (show kernelRun0_B.sl.HS1_4 arg4 arg5 arg6 arg7 x0 x1 x2 x3 = ⟨Rect.unit (s := SB 256) ![2 % 8, 0, 0] (SH 256).size (inbH 2 256), headA (arg4.view.readAt (Elt Ideal) (Rect.unit (s := S1x512x1024) ![0, 0, 128 * (2 % 8)] S1x512x128.size (inbO 2)).toLoadRect (arg4.view.rep x0)) (arg5.view.readAt (Elt Ideal) (Rect.unit (s := S1x512x1024) ![0, 0, 128 * (2 % 8)] S1x512x128.size (inbO 2)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_3 arg4 arg5 arg7 x0 x1 x3) (Rect.unit (s := SB 128) ![2 % 8, 0, 0] (SH 128).size (inbH 2 128)).toLoadRect) (arg6.view.readAt (Elt Ideal) (Rect.unit (s := S1x512x1024) ![0, 0, 128 * (2 % 8)] S1x512x128.size (inbO 2)).toLoadRect (arg6.view.rep x2)) (scM0_1.view.readCov (kernelRun0_B.sl.HS1_3 arg4 arg5 arg6 arg7 x0 x1 x2 x3) (Rect.unit (s := SB 256) ![2 % 8, 0, 0] (SH 256).size (inbH 2 256)).toLoadRect)⟩ :: kernelRun0_B.sl.HS1_3 arg4 arg5 arg6 arg7 x0 x1 x2 x3 from by sl_kernel_rfl).trans
    (heads_step (w := 256) (e := .f32) 2 (listB_a_1 arg4 arg5 arg6 arg7 x0 x1 x2 x3) (headA_congr (readAt_win arg4.view x0 2) (readAt_win arg5.view x1 2) (View.readAt_rep_full arg7.view x3 inb_S1x512x512_S1x512x512_0_0_0) (fresh_read (w := 128) scM0_0.view (n := 2) (by decide) (freshB_HS0_2 arg4 arg5 arg7 x0 x1 x3)) (readAt_win arg6.view x2 2) (fresh_read (w := 256) scM0_1.view (n := 2) (by decide) (freshB_HS1_2 arg4 arg5 arg6 arg7 x0 x1 x2 x3))))

theorem listB_m_3 : kernelRun0_B.sl.HS0_5 arg4 arg5 arg7 x0 x1 x3 = heads (w := 128) (fun k => headM (win x0 (k % 8)) (win x1 (k % 8)) x3 (fun _ => (⊥ : EReal))) (kernelRun0_B.sl.HS0_1) 4 :=
  (show kernelRun0_B.sl.HS0_5 arg4 arg5 arg7 x0 x1 x3 = ⟨Rect.unit (s := SB 128) ![3 % 8, 0, 0] (SH 128).size (inbH 3 128), headM (arg4.view.readAt (Elt Ideal) (Rect.unit (s := S1x512x1024) ![0, 0, 128 * (3 % 8)] S1x512x128.size (inbO 3)).toLoadRect (arg4.view.rep x0)) (arg5.view.readAt (Elt Ideal) (Rect.unit (s := S1x512x1024) ![0, 0, 128 * (3 % 8)] S1x512x128.size (inbO 3)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_4 arg4 arg5 arg7 x0 x1 x3) (Rect.unit (s := SB 128) ![3 % 8, 0, 0] (SH 128).size (inbH 3 128)).toLoadRect)⟩ :: kernelRun0_B.sl.HS0_4 arg4 arg5 arg7 x0 x1 x3 from by sl_kernel_rfl).trans
    (heads_step (w := 128) (e := .f32) 3 (listB_m_2 arg4 arg5 arg7 x0 x1 x3) (headM_congr (readAt_win arg4.view x0 3) (readAt_win arg5.view x1 3) (View.readAt_rep_full arg7.view x3 inb_S1x512x512_S1x512x512_0_0_0) (fresh_read (w := 128) scM0_0.view (n := 3) (by decide) (freshB_HS0_3 arg4 arg5 arg7 x0 x1 x3))))

theorem listB_a_3 : kernelRun0_B.sl.HS1_5 arg4 arg5 arg6 arg7 x0 x1 x2 x3 = heads (w := 256) (fun k => headA (win x0 (k % 8)) (win x1 (k % 8)) x3 (fun _ => (⊥ : EReal)) (win x2 (k % 8)) (fun _ => (0 : EReal))) (kernelRun0_B.sl.HS1_1) 4 :=
  (show kernelRun0_B.sl.HS1_5 arg4 arg5 arg6 arg7 x0 x1 x2 x3 = ⟨Rect.unit (s := SB 256) ![3 % 8, 0, 0] (SH 256).size (inbH 3 256), headA (arg4.view.readAt (Elt Ideal) (Rect.unit (s := S1x512x1024) ![0, 0, 128 * (3 % 8)] S1x512x128.size (inbO 3)).toLoadRect (arg4.view.rep x0)) (arg5.view.readAt (Elt Ideal) (Rect.unit (s := S1x512x1024) ![0, 0, 128 * (3 % 8)] S1x512x128.size (inbO 3)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_4 arg4 arg5 arg7 x0 x1 x3) (Rect.unit (s := SB 128) ![3 % 8, 0, 0] (SH 128).size (inbH 3 128)).toLoadRect) (arg6.view.readAt (Elt Ideal) (Rect.unit (s := S1x512x1024) ![0, 0, 128 * (3 % 8)] S1x512x128.size (inbO 3)).toLoadRect (arg6.view.rep x2)) (scM0_1.view.readCov (kernelRun0_B.sl.HS1_4 arg4 arg5 arg6 arg7 x0 x1 x2 x3) (Rect.unit (s := SB 256) ![3 % 8, 0, 0] (SH 256).size (inbH 3 256)).toLoadRect)⟩ :: kernelRun0_B.sl.HS1_4 arg4 arg5 arg6 arg7 x0 x1 x2 x3 from by sl_kernel_rfl).trans
    (heads_step (w := 256) (e := .f32) 3 (listB_a_2 arg4 arg5 arg6 arg7 x0 x1 x2 x3) (headA_congr (readAt_win arg4.view x0 3) (readAt_win arg5.view x1 3) (View.readAt_rep_full arg7.view x3 inb_S1x512x512_S1x512x512_0_0_0) (fresh_read (w := 128) scM0_0.view (n := 3) (by decide) (freshB_HS0_3 arg4 arg5 arg7 x0 x1 x3)) (readAt_win arg6.view x2 3) (fresh_read (w := 256) scM0_1.view (n := 3) (by decide) (freshB_HS1_3 arg4 arg5 arg6 arg7 x0 x1 x2 x3))))

theorem listB_m_4 : kernelRun0_B.sl.HS0_6 arg4 arg5 arg7 x0 x1 x3 = heads (w := 128) (fun k => headM (win x0 (k % 8)) (win x1 (k % 8)) x3 (fun _ => (⊥ : EReal))) (kernelRun0_B.sl.HS0_1) 5 :=
  (show kernelRun0_B.sl.HS0_6 arg4 arg5 arg7 x0 x1 x3 = ⟨Rect.unit (s := SB 128) ![4 % 8, 0, 0] (SH 128).size (inbH 4 128), headM (arg4.view.readAt (Elt Ideal) (Rect.unit (s := S1x512x1024) ![0, 0, 128 * (4 % 8)] S1x512x128.size (inbO 4)).toLoadRect (arg4.view.rep x0)) (arg5.view.readAt (Elt Ideal) (Rect.unit (s := S1x512x1024) ![0, 0, 128 * (4 % 8)] S1x512x128.size (inbO 4)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_5 arg4 arg5 arg7 x0 x1 x3) (Rect.unit (s := SB 128) ![4 % 8, 0, 0] (SH 128).size (inbH 4 128)).toLoadRect)⟩ :: kernelRun0_B.sl.HS0_5 arg4 arg5 arg7 x0 x1 x3 from by sl_kernel_rfl).trans
    (heads_step (w := 128) (e := .f32) 4 (listB_m_3 arg4 arg5 arg7 x0 x1 x3) (headM_congr (readAt_win arg4.view x0 4) (readAt_win arg5.view x1 4) (View.readAt_rep_full arg7.view x3 inb_S1x512x512_S1x512x512_0_0_0) (fresh_read (w := 128) scM0_0.view (n := 4) (by decide) (freshB_HS0_4 arg4 arg5 arg7 x0 x1 x3))))

theorem listB_a_4 : kernelRun0_B.sl.HS1_6 arg4 arg5 arg6 arg7 x0 x1 x2 x3 = heads (w := 256) (fun k => headA (win x0 (k % 8)) (win x1 (k % 8)) x3 (fun _ => (⊥ : EReal)) (win x2 (k % 8)) (fun _ => (0 : EReal))) (kernelRun0_B.sl.HS1_1) 5 :=
  (show kernelRun0_B.sl.HS1_6 arg4 arg5 arg6 arg7 x0 x1 x2 x3 = ⟨Rect.unit (s := SB 256) ![4 % 8, 0, 0] (SH 256).size (inbH 4 256), headA (arg4.view.readAt (Elt Ideal) (Rect.unit (s := S1x512x1024) ![0, 0, 128 * (4 % 8)] S1x512x128.size (inbO 4)).toLoadRect (arg4.view.rep x0)) (arg5.view.readAt (Elt Ideal) (Rect.unit (s := S1x512x1024) ![0, 0, 128 * (4 % 8)] S1x512x128.size (inbO 4)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_5 arg4 arg5 arg7 x0 x1 x3) (Rect.unit (s := SB 128) ![4 % 8, 0, 0] (SH 128).size (inbH 4 128)).toLoadRect) (arg6.view.readAt (Elt Ideal) (Rect.unit (s := S1x512x1024) ![0, 0, 128 * (4 % 8)] S1x512x128.size (inbO 4)).toLoadRect (arg6.view.rep x2)) (scM0_1.view.readCov (kernelRun0_B.sl.HS1_5 arg4 arg5 arg6 arg7 x0 x1 x2 x3) (Rect.unit (s := SB 256) ![4 % 8, 0, 0] (SH 256).size (inbH 4 256)).toLoadRect)⟩ :: kernelRun0_B.sl.HS1_5 arg4 arg5 arg6 arg7 x0 x1 x2 x3 from by sl_kernel_rfl).trans
    (heads_step (w := 256) (e := .f32) 4 (listB_a_3 arg4 arg5 arg6 arg7 x0 x1 x2 x3) (headA_congr (readAt_win arg4.view x0 4) (readAt_win arg5.view x1 4) (View.readAt_rep_full arg7.view x3 inb_S1x512x512_S1x512x512_0_0_0) (fresh_read (w := 128) scM0_0.view (n := 4) (by decide) (freshB_HS0_4 arg4 arg5 arg7 x0 x1 x3)) (readAt_win arg6.view x2 4) (fresh_read (w := 256) scM0_1.view (n := 4) (by decide) (freshB_HS1_4 arg4 arg5 arg6 arg7 x0 x1 x2 x3))))

theorem listB_m_5 : kernelRun0_B.sl.HS0_7 arg4 arg5 arg7 x0 x1 x3 = heads (w := 128) (fun k => headM (win x0 (k % 8)) (win x1 (k % 8)) x3 (fun _ => (⊥ : EReal))) (kernelRun0_B.sl.HS0_1) 6 :=
  (show kernelRun0_B.sl.HS0_7 arg4 arg5 arg7 x0 x1 x3 = ⟨Rect.unit (s := SB 128) ![5 % 8, 0, 0] (SH 128).size (inbH 5 128), headM (arg4.view.readAt (Elt Ideal) (Rect.unit (s := S1x512x1024) ![0, 0, 128 * (5 % 8)] S1x512x128.size (inbO 5)).toLoadRect (arg4.view.rep x0)) (arg5.view.readAt (Elt Ideal) (Rect.unit (s := S1x512x1024) ![0, 0, 128 * (5 % 8)] S1x512x128.size (inbO 5)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_6 arg4 arg5 arg7 x0 x1 x3) (Rect.unit (s := SB 128) ![5 % 8, 0, 0] (SH 128).size (inbH 5 128)).toLoadRect)⟩ :: kernelRun0_B.sl.HS0_6 arg4 arg5 arg7 x0 x1 x3 from by sl_kernel_rfl).trans
    (heads_step (w := 128) (e := .f32) 5 (listB_m_4 arg4 arg5 arg7 x0 x1 x3) (headM_congr (readAt_win arg4.view x0 5) (readAt_win arg5.view x1 5) (View.readAt_rep_full arg7.view x3 inb_S1x512x512_S1x512x512_0_0_0) (fresh_read (w := 128) scM0_0.view (n := 5) (by decide) (freshB_HS0_5 arg4 arg5 arg7 x0 x1 x3))))

theorem listB_a_5 : kernelRun0_B.sl.HS1_7 arg4 arg5 arg6 arg7 x0 x1 x2 x3 = heads (w := 256) (fun k => headA (win x0 (k % 8)) (win x1 (k % 8)) x3 (fun _ => (⊥ : EReal)) (win x2 (k % 8)) (fun _ => (0 : EReal))) (kernelRun0_B.sl.HS1_1) 6 :=
  (show kernelRun0_B.sl.HS1_7 arg4 arg5 arg6 arg7 x0 x1 x2 x3 = ⟨Rect.unit (s := SB 256) ![5 % 8, 0, 0] (SH 256).size (inbH 5 256), headA (arg4.view.readAt (Elt Ideal) (Rect.unit (s := S1x512x1024) ![0, 0, 128 * (5 % 8)] S1x512x128.size (inbO 5)).toLoadRect (arg4.view.rep x0)) (arg5.view.readAt (Elt Ideal) (Rect.unit (s := S1x512x1024) ![0, 0, 128 * (5 % 8)] S1x512x128.size (inbO 5)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_6 arg4 arg5 arg7 x0 x1 x3) (Rect.unit (s := SB 128) ![5 % 8, 0, 0] (SH 128).size (inbH 5 128)).toLoadRect) (arg6.view.readAt (Elt Ideal) (Rect.unit (s := S1x512x1024) ![0, 0, 128 * (5 % 8)] S1x512x128.size (inbO 5)).toLoadRect (arg6.view.rep x2)) (scM0_1.view.readCov (kernelRun0_B.sl.HS1_6 arg4 arg5 arg6 arg7 x0 x1 x2 x3) (Rect.unit (s := SB 256) ![5 % 8, 0, 0] (SH 256).size (inbH 5 256)).toLoadRect)⟩ :: kernelRun0_B.sl.HS1_6 arg4 arg5 arg6 arg7 x0 x1 x2 x3 from by sl_kernel_rfl).trans
    (heads_step (w := 256) (e := .f32) 5 (listB_a_4 arg4 arg5 arg6 arg7 x0 x1 x2 x3) (headA_congr (readAt_win arg4.view x0 5) (readAt_win arg5.view x1 5) (View.readAt_rep_full arg7.view x3 inb_S1x512x512_S1x512x512_0_0_0) (fresh_read (w := 128) scM0_0.view (n := 5) (by decide) (freshB_HS0_5 arg4 arg5 arg7 x0 x1 x3)) (readAt_win arg6.view x2 5) (fresh_read (w := 256) scM0_1.view (n := 5) (by decide) (freshB_HS1_5 arg4 arg5 arg6 arg7 x0 x1 x2 x3))))

theorem listB_m_6 : kernelRun0_B.sl.HS0_8 arg4 arg5 arg7 x0 x1 x3 = heads (w := 128) (fun k => headM (win x0 (k % 8)) (win x1 (k % 8)) x3 (fun _ => (⊥ : EReal))) (kernelRun0_B.sl.HS0_1) 7 :=
  (show kernelRun0_B.sl.HS0_8 arg4 arg5 arg7 x0 x1 x3 = ⟨Rect.unit (s := SB 128) ![6 % 8, 0, 0] (SH 128).size (inbH 6 128), headM (arg4.view.readAt (Elt Ideal) (Rect.unit (s := S1x512x1024) ![0, 0, 128 * (6 % 8)] S1x512x128.size (inbO 6)).toLoadRect (arg4.view.rep x0)) (arg5.view.readAt (Elt Ideal) (Rect.unit (s := S1x512x1024) ![0, 0, 128 * (6 % 8)] S1x512x128.size (inbO 6)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_7 arg4 arg5 arg7 x0 x1 x3) (Rect.unit (s := SB 128) ![6 % 8, 0, 0] (SH 128).size (inbH 6 128)).toLoadRect)⟩ :: kernelRun0_B.sl.HS0_7 arg4 arg5 arg7 x0 x1 x3 from by sl_kernel_rfl).trans
    (heads_step (w := 128) (e := .f32) 6 (listB_m_5 arg4 arg5 arg7 x0 x1 x3) (headM_congr (readAt_win arg4.view x0 6) (readAt_win arg5.view x1 6) (View.readAt_rep_full arg7.view x3 inb_S1x512x512_S1x512x512_0_0_0) (fresh_read (w := 128) scM0_0.view (n := 6) (by decide) (freshB_HS0_6 arg4 arg5 arg7 x0 x1 x3))))

theorem listB_a_6 : kernelRun0_B.sl.HS1_8 arg4 arg5 arg6 arg7 x0 x1 x2 x3 = heads (w := 256) (fun k => headA (win x0 (k % 8)) (win x1 (k % 8)) x3 (fun _ => (⊥ : EReal)) (win x2 (k % 8)) (fun _ => (0 : EReal))) (kernelRun0_B.sl.HS1_1) 7 :=
  (show kernelRun0_B.sl.HS1_8 arg4 arg5 arg6 arg7 x0 x1 x2 x3 = ⟨Rect.unit (s := SB 256) ![6 % 8, 0, 0] (SH 256).size (inbH 6 256), headA (arg4.view.readAt (Elt Ideal) (Rect.unit (s := S1x512x1024) ![0, 0, 128 * (6 % 8)] S1x512x128.size (inbO 6)).toLoadRect (arg4.view.rep x0)) (arg5.view.readAt (Elt Ideal) (Rect.unit (s := S1x512x1024) ![0, 0, 128 * (6 % 8)] S1x512x128.size (inbO 6)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_7 arg4 arg5 arg7 x0 x1 x3) (Rect.unit (s := SB 128) ![6 % 8, 0, 0] (SH 128).size (inbH 6 128)).toLoadRect) (arg6.view.readAt (Elt Ideal) (Rect.unit (s := S1x512x1024) ![0, 0, 128 * (6 % 8)] S1x512x128.size (inbO 6)).toLoadRect (arg6.view.rep x2)) (scM0_1.view.readCov (kernelRun0_B.sl.HS1_7 arg4 arg5 arg6 arg7 x0 x1 x2 x3) (Rect.unit (s := SB 256) ![6 % 8, 0, 0] (SH 256).size (inbH 6 256)).toLoadRect)⟩ :: kernelRun0_B.sl.HS1_7 arg4 arg5 arg6 arg7 x0 x1 x2 x3 from by sl_kernel_rfl).trans
    (heads_step (w := 256) (e := .f32) 6 (listB_a_5 arg4 arg5 arg6 arg7 x0 x1 x2 x3) (headA_congr (readAt_win arg4.view x0 6) (readAt_win arg5.view x1 6) (View.readAt_rep_full arg7.view x3 inb_S1x512x512_S1x512x512_0_0_0) (fresh_read (w := 128) scM0_0.view (n := 6) (by decide) (freshB_HS0_6 arg4 arg5 arg7 x0 x1 x3)) (readAt_win arg6.view x2 6) (fresh_read (w := 256) scM0_1.view (n := 6) (by decide) (freshB_HS1_6 arg4 arg5 arg6 arg7 x0 x1 x2 x3))))

theorem listB_m_7 : kernelRun0_B.sl.HS0_9 arg4 arg5 arg7 x0 x1 x3 = heads (w := 128) (fun k => headM (win x0 (k % 8)) (win x1 (k % 8)) x3 (fun _ => (⊥ : EReal))) (kernelRun0_B.sl.HS0_1) 8 :=
  (show kernelRun0_B.sl.HS0_9 arg4 arg5 arg7 x0 x1 x3 = ⟨Rect.unit (s := SB 128) ![7 % 8, 0, 0] (SH 128).size (inbH 7 128), headM (arg4.view.readAt (Elt Ideal) (Rect.unit (s := S1x512x1024) ![0, 0, 128 * (7 % 8)] S1x512x128.size (inbO 7)).toLoadRect (arg4.view.rep x0)) (arg5.view.readAt (Elt Ideal) (Rect.unit (s := S1x512x1024) ![0, 0, 128 * (7 % 8)] S1x512x128.size (inbO 7)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_8 arg4 arg5 arg7 x0 x1 x3) (Rect.unit (s := SB 128) ![7 % 8, 0, 0] (SH 128).size (inbH 7 128)).toLoadRect)⟩ :: kernelRun0_B.sl.HS0_8 arg4 arg5 arg7 x0 x1 x3 from by sl_kernel_rfl).trans
    (heads_step (w := 128) (e := .f32) 7 (listB_m_6 arg4 arg5 arg7 x0 x1 x3) (headM_congr (readAt_win arg4.view x0 7) (readAt_win arg5.view x1 7) (View.readAt_rep_full arg7.view x3 inb_S1x512x512_S1x512x512_0_0_0) (fresh_read (w := 128) scM0_0.view (n := 7) (by decide) (freshB_HS0_7 arg4 arg5 arg7 x0 x1 x3))))

theorem listB_a_7 : kernelRun0_B.sl.HS1_9 arg4 arg5 arg6 arg7 x0 x1 x2 x3 = heads (w := 256) (fun k => headA (win x0 (k % 8)) (win x1 (k % 8)) x3 (fun _ => (⊥ : EReal)) (win x2 (k % 8)) (fun _ => (0 : EReal))) (kernelRun0_B.sl.HS1_1) 8 :=
  (show kernelRun0_B.sl.HS1_9 arg4 arg5 arg6 arg7 x0 x1 x2 x3 = ⟨Rect.unit (s := SB 256) ![7 % 8, 0, 0] (SH 256).size (inbH 7 256), headA (arg4.view.readAt (Elt Ideal) (Rect.unit (s := S1x512x1024) ![0, 0, 128 * (7 % 8)] S1x512x128.size (inbO 7)).toLoadRect (arg4.view.rep x0)) (arg5.view.readAt (Elt Ideal) (Rect.unit (s := S1x512x1024) ![0, 0, 128 * (7 % 8)] S1x512x128.size (inbO 7)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readCov (kernelRun0_B.sl.HS0_8 arg4 arg5 arg7 x0 x1 x3) (Rect.unit (s := SB 128) ![7 % 8, 0, 0] (SH 128).size (inbH 7 128)).toLoadRect) (arg6.view.readAt (Elt Ideal) (Rect.unit (s := S1x512x1024) ![0, 0, 128 * (7 % 8)] S1x512x128.size (inbO 7)).toLoadRect (arg6.view.rep x2)) (scM0_1.view.readCov (kernelRun0_B.sl.HS1_8 arg4 arg5 arg6 arg7 x0 x1 x2 x3) (Rect.unit (s := SB 256) ![7 % 8, 0, 0] (SH 256).size (inbH 7 256)).toLoadRect)⟩ :: kernelRun0_B.sl.HS1_8 arg4 arg5 arg6 arg7 x0 x1 x2 x3 from by sl_kernel_rfl).trans
    (heads_step (w := 256) (e := .f32) 7 (listB_a_6 arg4 arg5 arg6 arg7 x0 x1 x2 x3) (headA_congr (readAt_win arg4.view x0 7) (readAt_win arg5.view x1 7) (View.readAt_rep_full arg7.view x3 inb_S1x512x512_S1x512x512_0_0_0) (fresh_read (w := 128) scM0_0.view (n := 7) (by decide) (freshB_HS0_7 arg4 arg5 arg7 x0 x1 x3)) (readAt_win arg6.view x2 7) (fresh_read (w := 256) scM0_1.view (n := 7) (by decide) (freshB_HS1_7 arg4 arg5 arg6 arg7 x0 x1 x2 x3))))

end Cert.KernelIdeal.Attn

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI

theorem tupB_m (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (hc0 : (Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1) (k0_h2 : ¬(k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1)) : (kernelRun0_B c i arg4 harg4 arg5 harg5 arg6 harg6 arg7 harg7 arg8 harg8 T0 T1 x0 x1 x2 x3 hc0 k0_h2).1 = (View.whole cc0_scratch0).writes (Elt Ideal) (View.whole cc0_scratch0).junk (kernelRun0_B.sl.HS0_9 arg4 arg5 arg7 x0 x1 x3) := by sl_kernel_rfl

theorem tupB_a (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (hc0 : (Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1) (k0_h2 : ¬(k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1)) : (kernelRun0_B c i arg4 harg4 arg5 harg5 arg6 harg6 arg7 harg7 arg8 harg8 T0 T1 x0 x1 x2 x3 hc0 k0_h2).2.1 = (View.whole cc0_scratch1).writes (Elt Ideal) (View.whole cc0_scratch1).junk (kernelRun0_B.sl.HS1_9 arg4 arg5 arg6 arg7 x0 x1 x2 x3) := by sl_kernel_rfl

theorem valB_m (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (hc0 : (Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1) (k0_h2 : ¬(k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1)) (h : Fin 8) (r : Fin 512) (l : Fin 128) :
    (kernelRun0_B c i arg4 harg4 arg5 harg5 arg6 harg6 arg7 harg7 arg8 harg8 T0 T1 x0 x1 x2 x3 hc0 k0_h2).1 (ix3 h r l) = headM (win x0 h.val) (win x1 h.val) x3 (fun _ => (⊥ : EReal)) (ix3 0 r l) :=
  (congrFun ((tupB_m c i arg4 harg4 arg5 harg5 arg6 harg6 arg7 harg7 arg8 harg8 T0 T1 x0 x1 x2 x3 hc0 k0_h2).trans (congrArg ((View.whole cc0_scratch0).writes (Elt Ideal) (View.whole cc0_scratch0).junk) (listB_m_7 arg4 arg5 arg7 x0 x1 x3))) (ix3 h r l)).trans
    ((maxes_at (fun k => headM (win x0 (k % 8)) (win x1 (k % 8)) x3 (fun _ => (⊥ : EReal))) (kernelRun0_B.sl.HS0_1) h r l).trans (by rw [Nat.mod_eq_of_lt h.isLt]))

theorem valB_a (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (hc0 : (Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1) (k0_h2 : ¬(k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1)) (h : Fin 8) (r : Fin 512) (l : Fin 256) :
    (kernelRun0_B c i arg4 harg4 arg5 harg5 arg6 harg6 arg7 harg7 arg8 harg8 T0 T1 x0 x1 x2 x3 hc0 k0_h2).2.1 (ix3 h r l) = headA (win x0 h.val) (win x1 h.val) x3 (fun _ => (⊥ : EReal)) (win x2 h.val) (fun _ => (0 : EReal)) (ix3 0 r l) :=
  (congrFun ((tupB_a c i arg4 harg4 arg5 harg5 arg6 harg6 arg7 harg7 arg8 harg8 T0 T1 x0 x1 x2 x3 hc0 k0_h2).trans (congrArg ((View.whole cc0_scratch1).writes (Elt Ideal) (View.whole cc0_scratch1).junk) (listB_a_7 arg4 arg5 arg6 arg7 x0 x1 x2 x3))) (ix3 h r l)).trans
    ((accs_at (fun k => headA (win x0 (k % 8)) (win x1 (k % 8)) x3 (fun _ => (⊥ : EReal)) (win x2 (k % 8)) (fun _ => (0 : EReal))) (kernelRun0_B.sl.HS1_1) h r l).trans (by rw [Nat.mod_eq_of_lt h.isLt]))

end Cert.KernelIdeal.Attn

end
-- ==== Proof.AttnValue.PathC.lean ====
/-
The last block of keys: what the body leaves, head by head.
-/
module

public import proofs.«01_k».proof.Proof.AttnValue.Pieces
public import proofs.«01_k».proof.Proof.AttnIdeal.RunC

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI

variable (c : Dev nD) (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) (xa0 : Buf (Elt Ideal) ((c : Thread nD τ).loc cc0_scratch0)) (xa1 : Buf (Elt Ideal) ((c : Thread nD τ).loc cc0_scratch1))

theorem listC_m : kernelRun0_C.sl.HS0_8 c arg4 arg5 arg7 x0 x1 x3 xa0 = heads (w := 128) (fun k => headM (win x0 (k % 8)) (win x1 (k % 8)) x3 (row (w := 128) xa0 k)) [] 8 :=
  (show kernelRun0_C.sl.HS0_8 c arg4 arg5 arg7 x0 x1 x3 xa0 = heads (w := 128) (fun k => headM (arg4.view.readAt (Elt Ideal) (Rect.unit (s := S1x512x1024) ![0, 0, 128 * (k % 8)] S1x512x128.size (inbO k)).toLoadRect (arg4.view.rep x0)) (arg5.view.readAt (Elt Ideal) (Rect.unit (s := S1x512x1024) ![0, 0, 128 * (k % 8)] S1x512x128.size (inbO k)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readAt (Elt Ideal) (Rect.unit (s := SB 128) ![k % 8, 0, 0] (SH 128).size (inbH k 128)).toLoadRect xa0)) [] 8 from by sl_kernel_rfl).trans
    (congrArg (fun W => heads (w := 128) W [] 8) (funext fun k => (headM_congr (readAt_win arg4.view x0 k) (readAt_win arg5.view x1 k) (View.readAt_rep_full arg7.view x3 inb_S1x512x512_S1x512x512_0_0_0) (readAt_row (w := 128) scM0_0.view xa0 k))))

theorem listC_a : kernelRun0_C.sl.HS1_8 c arg4 arg5 arg6 arg7 x0 x1 x2 x3 xa0 xa1 = heads (w := 256) (fun k => headA (win x0 (k % 8)) (win x1 (k % 8)) x3 (row (w := 128) xa0 k) (win x2 (k % 8)) (row (w := 256) xa1 k)) [] 8 :=
  (show kernelRun0_C.sl.HS1_8 c arg4 arg5 arg6 arg7 x0 x1 x2 x3 xa0 xa1 = heads (w := 256) (fun k => headA (arg4.view.readAt (Elt Ideal) (Rect.unit (s := S1x512x1024) ![0, 0, 128 * (k % 8)] S1x512x128.size (inbO k)).toLoadRect (arg4.view.rep x0)) (arg5.view.readAt (Elt Ideal) (Rect.unit (s := S1x512x1024) ![0, 0, 128 * (k % 8)] S1x512x128.size (inbO k)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readAt (Elt Ideal) (Rect.unit (s := SB 128) ![k % 8, 0, 0] (SH 128).size (inbH k 128)).toLoadRect xa0) (arg6.view.readAt (Elt Ideal) (Rect.unit (s := S1x512x1024) ![0, 0, 128 * (k % 8)] S1x512x128.size (inbO k)).toLoadRect (arg6.view.rep x2)) (scM0_1.view.readAt (Elt Ideal) (Rect.unit (s := SB 256) ![k % 8, 0, 0] (SH 256).size (inbH k 256)).toLoadRect xa1)) [] 8 from by sl_kernel_rfl).trans
    (congrArg (fun W => heads (w := 256) W [] 8) (funext fun k => (headA_congr (readAt_win arg4.view x0 k) (readAt_win arg5.view x1 k) (View.readAt_rep_full arg7.view x3 inb_S1x512x512_S1x512x512_0_0_0) (readAt_row (w := 128) scM0_0.view xa0 k) (readAt_win arg6.view x2 k) (readAt_row (w := 256) scM0_1.view xa1 k))))

theorem listC_o : kernelRun0_C.sl.HO4_8 c arg4 arg5 arg6 arg7 x0 x1 x2 x3 xa0 xa1 = outs (fun k => headO (row (w := 256) ((View.whole cc0_scratch1).writes (Elt Ideal) (View.whole cc0_scratch1).junk (kernelRun0_C.sl.HS1_8 c arg4 arg5 arg6 arg7 x0 x1 x2 x3 xa0 xa1)) k)) 8 :=
  (show kernelRun0_C.sl.HO4_8 c arg4 arg5 arg6 arg7 x0 x1 x2 x3 xa0 xa1 = outs (fun k => headO ((View.whole cc0_scratch1).readAt (Elt Ideal) (Rect.unit (s := SB 256) ![k % 8, 0, 0] (SH 256).size (inbH k 256)).toLoadRect ((View.whole cc0_scratch1).writes (Elt Ideal) (View.whole cc0_scratch1).junk (kernelRun0_C.sl.HS1_8 c arg4 arg5 arg6 arg7 x0 x1 x2 x3 xa0 xa1)))) 8 from by sl_kernel_rfl).trans
    (congrArg (fun W => outs W 8) (funext fun k => congrArg headO (readAt_acc ((View.whole cc0_scratch1).writes (Elt Ideal) (View.whole cc0_scratch1).junk (kernelRun0_C.sl.HS1_8 c arg4 arg5 arg6 arg7 x0 x1 x2 x3 xa0 xa1)) k)))

end Cert.KernelIdeal.Attn

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI

theorem tupC_m (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) : (kernelRun0_C c i arg4 harg4 arg5 harg5 arg6 harg6 arg7 harg7 arg8 harg8 T0 T1 x0 x1 x2 x3 xa0 xa1 hc0 k0_h2).2.1 = (View.whole cc0_scratch0).writes (Elt Ideal) (View.whole cc0_scratch0).junk (kernelRun0_C.sl.HS0_8 c arg4 arg5 arg7 x0 x1 x3 xa0) := by sl_kernel_rfl

theorem tupC_a (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) : (kernelRun0_C c i arg4 harg4 arg5 harg5 arg6 harg6 arg7 harg7 arg8 harg8 T0 T1 x0 x1 x2 x3 xa0 xa1 hc0 k0_h2).2.2.1 = (View.whole cc0_scratch1).writes (Elt Ideal) (View.whole cc0_scratch1).junk (kernelRun0_C.sl.HS1_8 c arg4 arg5 arg6 arg7 x0 x1 x2 x3 xa0 xa1) := by sl_kernel_rfl

theorem tupC_o (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) : (kernelRun0_C c i arg4 harg4 arg5 harg5 arg6 harg6 arg7 harg7 arg8 harg8 T0 T1 x0 x1 x2 x3 xa0 xa1 hc0 k0_h2).1 = kernelRun0_C.sl.HO4_8 c arg4 arg5 arg6 arg7 x0 x1 x2 x3 xa0 xa1 := by sl_kernel_rfl

theorem valC_m (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) (h : Fin 8) (r : Fin 512) (l : Fin 128) :
    (kernelRun0_C c i arg4 harg4 arg5 harg5 arg6 harg6 arg7 harg7 arg8 harg8 T0 T1 x0 x1 x2 x3 xa0 xa1 hc0 k0_h2).2.1 (ix3 h r l) = headM (win x0 h.val) (win x1 h.val) x3 (row (w := 128) xa0 h.val) (ix3 0 r l) :=
  (congrFun ((tupC_m c i arg4 harg4 arg5 harg5 arg6 harg6 arg7 harg7 arg8 harg8 T0 T1 x0 x1 x2 x3 xa0 xa1 hc0 k0_h2).trans (congrArg ((View.whole cc0_scratch0).writes (Elt Ideal) (View.whole cc0_scratch0).junk) (listC_m c arg4 arg5 arg7 x0 x1 x3 xa0))) (ix3 h r l)).trans
    ((maxes_at (fun k => headM (win x0 (k % 8)) (win x1 (k % 8)) x3 (row (w := 128) xa0 k)) ([]) h r l).trans (by rw [Nat.mod_eq_of_lt h.isLt]))

theorem valC_a (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) (h : Fin 8) (r : Fin 512) (l : Fin 256) :
    (kernelRun0_C c i arg4 harg4 arg5 harg5 arg6 harg6 arg7 harg7 arg8 harg8 T0 T1 x0 x1 x2 x3 xa0 xa1 hc0 k0_h2).2.2.1 (ix3 h r l) = headA (win x0 h.val) (win x1 h.val) x3 (row (w := 128) xa0 h.val) (win x2 h.val) (row (w := 256) xa1 h.val) (ix3 0 r l) :=
  (congrFun ((tupC_a c i arg4 harg4 arg5 harg5 arg6 harg6 arg7 harg7 arg8 harg8 T0 T1 x0 x1 x2 x3 xa0 xa1 hc0 k0_h2).trans (congrArg ((View.whole cc0_scratch1).writes (Elt Ideal) (View.whole cc0_scratch1).junk) (listC_a c arg4 arg5 arg6 arg7 x0 x1 x2 x3 xa0 xa1))) (ix3 h r l)).trans
    ((accs_at (fun k => headA (win x0 (k % 8)) (win x1 (k % 8)) x3 (row (w := 128) xa0 k) (win x2 (k % 8)) (row (w := 256) xa1 k)) ([]) h r l).trans (by rw [Nat.mod_eq_of_lt h.isLt]))

theorem valC_o (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1) (h : Fin 8) (r : Fin 512) (d : Fin 128) :
    out0_C_4 c i arg4 harg4 arg5 harg5 arg6 harg6 arg7 harg7 arg8 harg8 T0 T1 x0 x1 x2 x3 xa0 xa1 hc0 k0_h2 (ix3 0 r ⟨128 * h.val + d.val, by omega⟩) = headO (row (w := 256) ((kernelRun0_C c i arg4 harg4 arg5 harg5 arg6 harg6 arg7 harg7 arg8 harg8 T0 T1 x0 x1 x2 x3 xa0 xa1 hc0 k0_h2).2.2.1) h.val) (ix3 0 r d) :=
  (congrArg (fun L => VO0_4.read (Elt Ideal) (VO0_4.writes (Elt Ideal) VO0_4.junk L) (ix3 0 r ⟨128 * h.val + d.val, by omega⟩)) ((tupC_o c i arg4 harg4 arg5 harg5 arg6 harg6 arg7 harg7 arg8 harg8 T0 T1 x0 x1 x2 x3 xa0 xa1 hc0 k0_h2).trans (listC_o c arg4 arg5 arg6 arg7 x0 x1 x2 x3 xa0 xa1))).trans <|
    (read_outs VO0_4 _ (fun k => headO (row (w := 256) ((View.whole cc0_scratch1).writes (Elt Ideal) (View.whole cc0_scratch1).junk (kernelRun0_C.sl.HS1_8 c arg4 arg5 arg6 arg7 x0 x1 x2 x3 xa0 xa1)) k)) 8 le_rfl h h.isLt r d).trans (congrArg (fun x => headO (row (w := 256) x h.val) (ix3 0 r d)) (tupC_a c i arg4 harg4 arg5 harg5 arg6 harg6 arg7 harg7 arg8 harg8 T0 T1 x0 x1 x2 x3 xa0 xa1 hc0 k0_h2).symm)

end Cert.KernelIdeal.Attn

end
-- ==== Proof.AttnValue.PathD.lean ====
/-
A block of keys between the first and the last: what the body leaves, head by head.
-/
module

public import proofs.«01_k».proof.Proof.AttnValue.Pieces
public import proofs.«01_k».proof.Proof.AttnIdeal.RunD

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI

variable (c : Dev nD) (arg4 : Memref sig .tc .vmem S1x512x1024 .bf16) (arg5 : Memref sig .tc .vmem S1x512x1024 .bf16) (arg6 : Memref sig .tc .vmem S1x512x1024 .bf16) (arg7 : Memref sig .tc .vmem S1x512x512 .bf16) (x0 x1 x2 : S1x512x1024.Idx → Elt Ideal .bf16) (x3 : S1x512x512.Idx → Elt Ideal .bf16) (xa0 : Buf (Elt Ideal) ((c : Thread nD τ).loc cc0_scratch0)) (xa1 : Buf (Elt Ideal) ((c : Thread nD τ).loc cc0_scratch1))

theorem listD_m : kernelRun0_D.sl.HS0_8 c arg4 arg5 arg7 x0 x1 x3 xa0 = heads (w := 128) (fun k => headM (win x0 (k % 8)) (win x1 (k % 8)) x3 (row (w := 128) xa0 k)) [] 8 :=
  (show kernelRun0_D.sl.HS0_8 c arg4 arg5 arg7 x0 x1 x3 xa0 = heads (w := 128) (fun k => headM (arg4.view.readAt (Elt Ideal) (Rect.unit (s := S1x512x1024) ![0, 0, 128 * (k % 8)] S1x512x128.size (inbO k)).toLoadRect (arg4.view.rep x0)) (arg5.view.readAt (Elt Ideal) (Rect.unit (s := S1x512x1024) ![0, 0, 128 * (k % 8)] S1x512x128.size (inbO k)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readAt (Elt Ideal) (Rect.unit (s := SB 128) ![k % 8, 0, 0] (SH 128).size (inbH k 128)).toLoadRect xa0)) [] 8 from by sl_kernel_rfl).trans
    (congrArg (fun W => heads (w := 128) W [] 8) (funext fun k => (headM_congr (readAt_win arg4.view x0 k) (readAt_win arg5.view x1 k) (View.readAt_rep_full arg7.view x3 inb_S1x512x512_S1x512x512_0_0_0) (readAt_row (w := 128) scM0_0.view xa0 k))))

theorem listD_a : kernelRun0_D.sl.HS1_8 c arg4 arg5 arg6 arg7 x0 x1 x2 x3 xa0 xa1 = heads (w := 256) (fun k => headA (win x0 (k % 8)) (win x1 (k % 8)) x3 (row (w := 128) xa0 k) (win x2 (k % 8)) (row (w := 256) xa1 k)) [] 8 :=
  (show kernelRun0_D.sl.HS1_8 c arg4 arg5 arg6 arg7 x0 x1 x2 x3 xa0 xa1 = heads (w := 256) (fun k => headA (arg4.view.readAt (Elt Ideal) (Rect.unit (s := S1x512x1024) ![0, 0, 128 * (k % 8)] S1x512x128.size (inbO k)).toLoadRect (arg4.view.rep x0)) (arg5.view.readAt (Elt Ideal) (Rect.unit (s := S1x512x1024) ![0, 0, 128 * (k % 8)] S1x512x128.size (inbO k)).toLoadRect (arg5.view.rep x1)) (arg7.view.readAt (Elt Ideal) (Rect.unit (s := S1x512x512) ![0, 0, 0] S1x512x512.size inb_S1x512x512_S1x512x512_0_0_0).toLoadRect (arg7.view.rep x3)) (scM0_0.view.readAt (Elt Ideal) (Rect.unit (s := SB 128) ![k % 8, 0, 0] (SH 128).size (inbH k 128)).toLoadRect xa0) (arg6.view.readAt (Elt Ideal) (Rect.unit (s := S1x512x1024) ![0, 0, 128 * (k % 8)] S1x512x128.size (inbO k)).toLoadRect (arg6.view.rep x2)) (scM0_1.view.readAt (Elt Ideal) (Rect.unit (s := SB 256) ![k % 8, 0, 0] (SH 256).size (inbH k 256)).toLoadRect xa1)) [] 8 from by sl_kernel_rfl).trans
    (congrArg (fun W => heads (w := 256) W [] 8) (funext fun k => (headA_congr (readAt_win arg4.view x0 k) (readAt_win arg5.view x1 k) (View.readAt_rep_full arg7.view x3 inb_S1x512x512_S1x512x512_0_0_0) (readAt_row (w := 128) scM0_0.view xa0 k) (readAt_win arg6.view x2 k) (readAt_row (w := 256) scM0_1.view xa1 k))))

end Cert.KernelIdeal.Attn

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI

theorem tupD_m (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1)) (k0_h2 : ¬(k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1)) : (kernelRun0_D c i arg4 harg4 arg5 harg5 arg6 harg6 arg7 harg7 arg8 harg8 T0 T1 x0 x1 x2 x3 xa0 xa1 hc0 k0_h2).1 = (View.whole cc0_scratch0).writes (Elt Ideal) (View.whole cc0_scratch0).junk (kernelRun0_D.sl.HS0_8 c arg4 arg5 arg7 x0 x1 x3 xa0) := by sl_kernel_rfl

theorem tupD_a (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1)) (k0_h2 : ¬(k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1)) : (kernelRun0_D c i arg4 harg4 arg5 harg5 arg6 harg6 arg7 harg7 arg8 harg8 T0 T1 x0 x1 x2 x3 xa0 xa1 hc0 k0_h2).2.1 = (View.whole cc0_scratch1).writes (Elt Ideal) (View.whole cc0_scratch1).junk (kernelRun0_D.sl.HS1_8 c arg4 arg5 arg6 arg7 x0 x1 x2 x3 xa0 xa1) := by sl_kernel_rfl

theorem valD_m (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1)) (k0_h2 : ¬(k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1)) (h : Fin 8) (r : Fin 512) (l : Fin 128) :
    (kernelRun0_D c i arg4 harg4 arg5 harg5 arg6 harg6 arg7 harg7 arg8 harg8 T0 T1 x0 x1 x2 x3 xa0 xa1 hc0 k0_h2).1 (ix3 h r l) = headM (win x0 h.val) (win x1 h.val) x3 (row (w := 128) xa0 h.val) (ix3 0 r l) :=
  (congrFun ((tupD_m c i arg4 harg4 arg5 harg5 arg6 harg6 arg7 harg7 arg8 harg8 T0 T1 x0 x1 x2 x3 xa0 xa1 hc0 k0_h2).trans (congrArg ((View.whole cc0_scratch0).writes (Elt Ideal) (View.whole cc0_scratch0).junk) (listD_m c arg4 arg5 arg7 x0 x1 x3 xa0))) (ix3 h r l)).trans
    ((maxes_at (fun k => headM (win x0 (k % 8)) (win x1 (k % 8)) x3 (row (w := 128) xa0 k)) ([]) h r l).trans (by rw [Nat.mod_eq_of_lt h.isLt]))

theorem valD_a (c : Dev nD) (i : grid0.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x512 .bf16) (harg7 : arg7.IsWhole) (arg8 : Memref sig .tc .vmem S1x512x1024 .bf16) (harg8 : arg8.IsWhole) (T0 : (S528.Idx → Elt Ideal .i32)) (T1 : (S528.Idx → Elt Ideal .i32))
     (x0 : (S1x512x1024.Idx → Elt Ideal .bf16)) (x1 : (S1x512x1024.Idx → Elt Ideal .bf16)) (x2 : (S1x512x1024.Idx → Elt Ideal .bf16)) (x3 : (S1x512x512.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (View.readAt (Elt Ideal) (tbM0_1).view (Rect.unit (s := S528) (k0_off1 i) S1.size (k0_off1_inb i)).toLoadRect T1 (Shape.Idx.first (numel1_S1.symm ▸ Nat.one_pos))) 0#32)) 0#32) = 1#1)) (k0_h2 : ¬(k0_cond2 (View.readAt (Elt Ideal) (tbM0_0).view (Rect.unit (s := S528) (k0_off1 i) S1.size (k0_off1_inb i)).toLoadRect T0 (Shape.Idx.first (numel1_S1.symm ▸ Nat.one_pos))) (View.readAt (Elt Ideal) (tbM0_1).view (Rect.unit (s := S528) (k0_off1 i) S1.size (k0_off1_inb i)).toLoadRect T1 (Shape.Idx.first (numel1_S1.symm ▸ Nat.one_pos))) = 1#1)) (h : Fin 8) (r : Fin 512) (l : Fin 256) :
    (kernelRun0_D c i arg4 harg4 arg5 harg5 arg6 harg6 arg7 harg7 arg8 harg8 T0 T1 x0 x1 x2 x3 xa0 xa1 hc0 k0_h2).2.1 (ix3 h r l) = headA (win x0 h.val) (win x1 h.val) x3 (row (w := 128) xa0 h.val) (win x2 h.val) (row (w := 256) xa1 h.val) (ix3 0 r l) :=
  (congrFun ((tupD_a c i arg4 harg4 arg5 harg5 arg6 harg6 arg7 harg7 arg8 harg8 T0 T1 x0 x1 x2 x3 xa0 xa1 hc0 k0_h2).trans (congrArg ((View.whole cc0_scratch1).writes (Elt Ideal) (View.whole cc0_scratch1).junk) (listD_a c arg4 arg5 arg6 arg7 x0 x1 x2 x3 xa0 xa1))) (ix3 h r l)).trans
    ((accs_at (fun k => headA (win x0 (k % 8)) (win x1 (k % 8)) x3 (row (w := 128) xa0 k) (win x2 (k % 8)) (row (w := 256) xa1 k)) ([]) h r l).trans (by rw [Nat.mod_eq_of_lt h.isLt]))

end Cert.KernelIdeal.Attn

end
-- ==== Proof.AttnValue.Grid.lean ====
/-
The grid point by point: which batch, which query block and which key block a point works on.
-/
module

public import proofs.«01_k».proof.Proof.AttnIdeal.PointFactsAll
public import Idealize.ShloMosaic.Lib.Pipeline.ValueKit

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.ShloMosaic.Pipeline (Dat Cfg Window)

/-- The batch a point works on. -/
abbrev bO (n : ℕ) : ℕ := n / 528
/-- The query block a point works on. -/
abbrev qO (n : ℕ) : ℕ := (lit0 ⟨n % 528, Nat.mod_lt _ (by decide)⟩).toNat
/-- The key block a point works on. -/
abbrev kO (n : ℕ) : ℕ := (lit1 ⟨n % 528, Nat.mod_lt _ (by decide)⟩).toNat

/-- What is to be known of a point: its two decisions, the block of every window, and the point before it. -/
abbrev GridAt (t : Fin (cfgA).N) : Prop :=
  (P0_0 t ↔ kO t.val = 0) ∧ (P0_1 t ↔ kO t.val = qO t.val) ∧ kO t.val ≤ qO t.val ∧ qO t.val < 32
  ∧ (((cfgA).win (0 : Fin 5)).index t (0 : Fin 3) = bO t.val ∧ ((cfgA).win (0 : Fin 5)).index t (1 : Fin 3) = qO t.val ∧ ((cfgA).win (0 : Fin 5)).index t (2 : Fin 3) = 0)
  ∧ (((cfgA).win (1 : Fin 5)).index t (0 : Fin 3) = bO t.val ∧ ((cfgA).win (1 : Fin 5)).index t (1 : Fin 3) = kO t.val ∧ ((cfgA).win (1 : Fin 5)).index t (2 : Fin 3) = 0)
  ∧ (((cfgA).win (2 : Fin 5)).index t (0 : Fin 3) = bO t.val ∧ ((cfgA).win (2 : Fin 5)).index t (1 : Fin 3) = kO t.val ∧ ((cfgA).win (2 : Fin 5)).index t (2 : Fin 3) = 0)
  ∧ (((cfgA).win (3 : Fin 5)).index t (0 : Fin 3) = bO t.val ∧ ((cfgA).win (3 : Fin 5)).index t (1 : Fin 3) = qO t.val ∧ ((cfgA).win (3 : Fin 5)).index t (2 : Fin 3) = kO t.val)
  ∧ (((cfgA).win (4 : Fin 5)).index t (0 : Fin 3) = bO t.val ∧ ((cfgA).win (4 : Fin 5)).index t (1 : Fin 3) = qO t.val ∧ ((cfgA).win (4 : Fin 5)).index t (2 : Fin 3) = 0)
  ∧ (((cfgA).win (4 : Fin 5)).flush t = true → kO t.val = qO t.val)
  ∧ (kO t.val = 0 ∨ (0 < t.val ∧ kO (t.val - 1) + 1 = kO t.val ∧ qO (t.val - 1) = qO t.val ∧ bO (t.val - 1) = bO t.val))

theorem grid_0 : ∀ t : Fin (cfgA).N, 0 ≤ t.val → t.val < 132 → GridAt t := by decide +kernel
theorem grid_1 : ∀ t : Fin (cfgA).N, 132 ≤ t.val → t.val < 264 → GridAt t := by decide +kernel
theorem grid_2 : ∀ t : Fin (cfgA).N, 264 ≤ t.val → t.val < 396 → GridAt t := by decide +kernel
theorem grid_3 : ∀ t : Fin (cfgA).N, 396 ≤ t.val → t.val < 528 → GridAt t := by decide +kernel
theorem grid_4 : ∀ t : Fin (cfgA).N, 528 ≤ t.val → t.val < 660 → GridAt t := by decide +kernel
theorem grid_5 : ∀ t : Fin (cfgA).N, 660 ≤ t.val → t.val < 792 → GridAt t := by decide +kernel
theorem grid_6 : ∀ t : Fin (cfgA).N, 792 ≤ t.val → t.val < 924 → GridAt t := by decide +kernel
theorem grid_7 : ∀ t : Fin (cfgA).N, 924 ≤ t.val → t.val < 1056 → GridAt t := by decide +kernel

theorem gridAt (t : Fin (cfgA).N) : GridAt t := by
  have hN : t.val < 1056 := t.isLt
  by_cases h0 : t.val < 132
  · exact grid_0 t (by omega) h0
  by_cases h1 : t.val < 264
  · exact grid_1 t (by omega) h1
  by_cases h2 : t.val < 396
  · exact grid_2 t (by omega) h2
  by_cases h3 : t.val < 528
  · exact grid_3 t (by omega) h3
  by_cases h4 : t.val < 660
  · exact grid_4 t (by omega) h4
  by_cases h5 : t.val < 792
  · exact grid_5 t (by omega) h5
  by_cases h6 : t.val < 924
  · exact grid_6 t (by omega) h6
  exact grid_7 t (by omega) (by omega)

theorem covers4 : ((cfgA).win (4 : Fin 5)).Covers := by decide +kernel

end Cert.KernelIdeal.Attn
-- ==== Proof.AttnValue.BlocksAt.lean ====
/-
The blocks of a point, entry by entry, in terms of the arrays the launch is given.
-/
module

public import proofs.«01_k».proof.Proof.AttnValue.Grid
public import proofs.«01_k».proof.Proof.AttnValue.Heads
public import proofs.«01_k».proof.Proof.AttnIdeal.Frame
public import Idealize.ShloMosaic.Lib.WordCmp

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.ShloMosaic.Pipeline (Dat Cfg Window)
open Idealize.ShloMosaic.Pointwise

section
variable (V : (c : Dev nD) → (b : Ref sig .tc) → Buf (Elt Ideal) ((c : Thread nD τ).loc b))

/-- An entry of a batched matrix of width 1024, by the numbers of its row and column. -/
def at3 (X : S2x16384x1024.Idx → EReal) (b r x : ℕ) : EReal := X (ix3 (Fin.ofNat 2 b) (Fin.ofNat 16384 r) (Fin.ofNat 1024 x))

/-- An entry of a batched square matrix of width 16384, by the numbers of its row and column. -/
def at4 {α : Type} (X : S2x16384x16384.Idx → α) (b r x : ℕ) : α := X (ix3 (Fin.ofNat 2 b) (Fin.ofNat 16384 r) (Fin.ofNat 16384 x))

theorem emb_0 (t : Fin (cfgA).N) (y : (((cfgA).win (0 : Fin 5)).xblock (crd t)).Idx) (a : Fin 3) :
    (((((cfgA).win (0 : Fin 5)).blk t).view.emb y a : Fin _) : ℕ) = ((cfgA).win (0 : Fin 5)).index t a * (![1, 512, 1024] : Fin 3 → ℕ) a + (y a : ℕ) := by
  fin_cases a
  · change ((cfgA).win (0 : Fin 5)).index t (0 : Fin 3) * 1 + 1 * (y (0 : Fin 3)).val = ((cfgA).win (0 : Fin 5)).index t (0 : Fin 3) * 1 + (y (0 : Fin 3)).val
    rw [Nat.one_mul]
  · change ((cfgA).win (0 : Fin 5)).index t (1 : Fin 3) * 512 + 1 * (y (1 : Fin 3)).val = ((cfgA).win (0 : Fin 5)).index t (1 : Fin 3) * 512 + (y (1 : Fin 3)).val
    rw [Nat.one_mul]
  · change ((cfgA).win (0 : Fin 5)).index t (2 : Fin 3) * 1024 + 1 * (y (2 : Fin 3)).val = ((cfgA).win (0 : Fin 5)).index t (2 : Fin 3) * 1024 + (y (2 : Fin 3)).val
    rw [Nat.one_mul]

theorem emb_1 (t : Fin (cfgA).N) (y : (((cfgA).win (1 : Fin 5)).xblock (crd t)).Idx) (a : Fin 3) :
    (((((cfgA).win (1 : Fin 5)).blk t).view.emb y a : Fin _) : ℕ) = ((cfgA).win (1 : Fin 5)).index t a * (![1, 512, 1024] : Fin 3 → ℕ) a + (y a : ℕ) := by
  fin_cases a
  · change ((cfgA).win (1 : Fin 5)).index t (0 : Fin 3) * 1 + 1 * (y (0 : Fin 3)).val = ((cfgA).win (1 : Fin 5)).index t (0 : Fin 3) * 1 + (y (0 : Fin 3)).val
    rw [Nat.one_mul]
  · change ((cfgA).win (1 : Fin 5)).index t (1 : Fin 3) * 512 + 1 * (y (1 : Fin 3)).val = ((cfgA).win (1 : Fin 5)).index t (1 : Fin 3) * 512 + (y (1 : Fin 3)).val
    rw [Nat.one_mul]
  · change ((cfgA).win (1 : Fin 5)).index t (2 : Fin 3) * 1024 + 1 * (y (2 : Fin 3)).val = ((cfgA).win (1 : Fin 5)).index t (2 : Fin 3) * 1024 + (y (2 : Fin 3)).val
    rw [Nat.one_mul]

theorem emb_2 (t : Fin (cfgA).N) (y : (((cfgA).win (2 : Fin 5)).xblock (crd t)).Idx) (a : Fin 3) :
    (((((cfgA).win (2 : Fin 5)).blk t).view.emb y a : Fin _) : ℕ) = ((cfgA).win (2 : Fin 5)).index t a * (![1, 512, 1024] : Fin 3 → ℕ) a + (y a : ℕ) := by
  fin_cases a
  · change ((cfgA).win (2 : Fin 5)).index t (0 : Fin 3) * 1 + 1 * (y (0 : Fin 3)).val = ((cfgA).win (2 : Fin 5)).index t (0 : Fin 3) * 1 + (y (0 : Fin 3)).val
    rw [Nat.one_mul]
  · change ((cfgA).win (2 : Fin 5)).index t (1 : Fin 3) * 512 + 1 * (y (1 : Fin 3)).val = ((cfgA).win (2 : Fin 5)).index t (1 : Fin 3) * 512 + (y (1 : Fin 3)).val
    rw [Nat.one_mul]
  · change ((cfgA).win (2 : Fin 5)).index t (2 : Fin 3) * 1024 + 1 * (y (2 : Fin 3)).val = ((cfgA).win (2 : Fin 5)).index t (2 : Fin 3) * 1024 + (y (2 : Fin 3)).val
    rw [Nat.one_mul]

theorem emb_3 (t : Fin (cfgA).N) (y : (((cfgA).win (3 : Fin 5)).xblock (crd t)).Idx) (a : Fin 3) :
    (((((cfgA).win (3 : Fin 5)).blk t).view.emb y a : Fin _) : ℕ) = ((cfgA).win (3 : Fin 5)).index t a * (![1, 512, 512] : Fin 3 → ℕ) a + (y a : ℕ) := by
  fin_cases a
  · change ((cfgA).win (3 : Fin 5)).index t (0 : Fin 3) * 1 + 1 * (y (0 : Fin 3)).val = ((cfgA).win (3 : Fin 5)).index t (0 : Fin 3) * 1 + (y (0 : Fin 3)).val
    rw [Nat.one_mul]
  · change ((cfgA).win (3 : Fin 5)).index t (1 : Fin 3) * 512 + 1 * (y (1 : Fin 3)).val = ((cfgA).win (3 : Fin 5)).index t (1 : Fin 3) * 512 + (y (1 : Fin 3)).val
    rw [Nat.one_mul]
  · change ((cfgA).win (3 : Fin 5)).index t (2 : Fin 3) * 512 + 1 * (y (2 : Fin 3)).val = ((cfgA).win (3 : Fin 5)).index t (2 : Fin 3) * 512 + (y (2 : Fin 3)).val
    rw [Nat.one_mul]

theorem emb_4 (t : Fin (cfgA).N) (y : (((cfgA).win (4 : Fin 5)).xblock (crd t)).Idx) (a : Fin 3) :
    (((((cfgA).win (4 : Fin 5)).blk t).view.emb y a : Fin _) : ℕ) = ((cfgA).win (4 : Fin 5)).index t a * (![1, 512, 1024] : Fin 3 → ℕ) a + (y a : ℕ) := by
  fin_cases a
  · change ((cfgA).win (4 : Fin 5)).index t (0 : Fin 3) * 1 + 1 * (y (0 : Fin 3)).val = ((cfgA).win (4 : Fin 5)).index t (0 : Fin 3) * 1 + (y (0 : Fin 3)).val
    rw [Nat.one_mul]
  · change ((cfgA).win (4 : Fin 5)).index t (1 : Fin 3) * 512 + 1 * (y (1 : Fin 3)).val = ((cfgA).win (4 : Fin 5)).index t (1 : Fin 3) * 512 + (y (1 : Fin 3)).val
    rw [Nat.one_mul]
  · change ((cfgA).win (4 : Fin 5)).index t (2 : Fin 3) * 1024 + 1 * (y (2 : Fin 3)).val = ((cfgA).win (4 : Fin 5)).index t (2 : Fin 3) * 1024 + (y (2 : Fin 3)).val
    rw [Nat.one_mul]

theorem iblk_0 (c : Dev nD) (t : Fin (cfgA).N) (r : Fin 512) (x : Fin 1024) :
    iblk V c (0 : Fin 5) t (ix3 0 r x) = at3 (V c main_arg0) (bO t.val) (512 * qO t.val + r.val) (x.val) := by
  obtain ⟨e0, e1, e2⟩ := (gridAt t).2.2.2.2.1
  have hq := (gridAt t).2.2.2.1
  have hk := (gridAt t).2.2.1
  have hN : t.val < 1056 := t.isLt
  have hr := r.isLt
  have hx := x.isLt
  refine congrArg (V c main_arg0) (funext fun a => Fin.ext ?_)
  have e := emb_0 t (ix3 0 r x) a
  fin_cases a
  · refine e.trans ?_
    change ((cfgA).win (0 : Fin 5)).index t (0 : Fin 3) * 1 + 0 = bO t.val % 2
    rw [e0]
    have : t.val / 528 < 2 := by omega
    change t.val / 528 * 1 + 0 = t.val / 528 % 2
    omega
  · refine e.trans ?_
    change ((cfgA).win (0 : Fin 5)).index t (1 : Fin 3) * 512 + r.val = (512 * qO t.val + r.val) % 16384
    rw [e1, Nat.mod_eq_of_lt (by omega), mul_comm]
  · refine e.trans ?_
    change ((cfgA).win (0 : Fin 5)).index t (2 : Fin 3) * 1024 + x.val = (x.val) % 1024
    rw [e2, Nat.mod_eq_of_lt (by omega)]
    omega

theorem iblk_1 (c : Dev nD) (t : Fin (cfgA).N) (r : Fin 512) (x : Fin 1024) :
    iblk V c (1 : Fin 5) t (ix3 0 r x) = at3 (V c main_arg1) (bO t.val) (512 * kO t.val + r.val) (x.val) := by
  obtain ⟨e0, e1, e2⟩ := (gridAt t).2.2.2.2.2.1
  have hq := (gridAt t).2.2.2.1
  have hk := (gridAt t).2.2.1
  have hN : t.val < 1056 := t.isLt
  have hr := r.isLt
  have hx := x.isLt
  refine congrArg (V c main_arg1) (funext fun a => Fin.ext ?_)
  have e := emb_1 t (ix3 0 r x) a
  fin_cases a
  · refine e.trans ?_
    change ((cfgA).win (1 : Fin 5)).index t (0 : Fin 3) * 1 + 0 = bO t.val % 2
    rw [e0]
    have : t.val / 528 < 2 := by omega
    change t.val / 528 * 1 + 0 = t.val / 528 % 2
    omega
  · refine e.trans ?_
    change ((cfgA).win (1 : Fin 5)).index t (1 : Fin 3) * 512 + r.val = (512 * kO t.val + r.val) % 16384
    rw [e1, Nat.mod_eq_of_lt (by omega), mul_comm]
  · refine e.trans ?_
    change ((cfgA).win (1 : Fin 5)).index t (2 : Fin 3) * 1024 + x.val = (x.val) % 1024
    rw [e2, Nat.mod_eq_of_lt (by omega)]
    omega

theorem iblk_2 (c : Dev nD) (t : Fin (cfgA).N) (r : Fin 512) (x : Fin 1024) :
    iblk V c (2 : Fin 5) t (ix3 0 r x) = at3 (V c main_arg2) (bO t.val) (512 * kO t.val + r.val) (x.val) := by
  obtain ⟨e0, e1, e2⟩ := (gridAt t).2.2.2.2.2.2.1
  have hq := (gridAt t).2.2.2.1
  have hk := (gridAt t).2.2.1
  have hN : t.val < 1056 := t.isLt
  have hr := r.isLt
  have hx := x.isLt
  refine congrArg (V c main_arg2) (funext fun a => Fin.ext ?_)
  have e := emb_2 t (ix3 0 r x) a
  fin_cases a
  · refine e.trans ?_
    change ((cfgA).win (2 : Fin 5)).index t (0 : Fin 3) * 1 + 0 = bO t.val % 2
    rw [e0]
    have : t.val / 528 < 2 := by omega
    change t.val / 528 * 1 + 0 = t.val / 528 % 2
    omega
  · refine e.trans ?_
    change ((cfgA).win (2 : Fin 5)).index t (1 : Fin 3) * 512 + r.val = (512 * kO t.val + r.val) % 16384
    rw [e1, Nat.mod_eq_of_lt (by omega), mul_comm]
  · refine e.trans ?_
    change ((cfgA).win (2 : Fin 5)).index t (2 : Fin 3) * 1024 + x.val = (x.val) % 1024
    rw [e2, Nat.mod_eq_of_lt (by omega)]
    omega

theorem iblk_3 (c : Dev nD) (t : Fin (cfgA).N) (r : Fin 512) (x : Fin 512) :
    iblk V c (3 : Fin 5) t (ix3 0 r x) = at4 (V c main_v12) (bO t.val) (512 * qO t.val + r.val) (512 * kO t.val + x.val) := by
  obtain ⟨e0, e1, e2⟩ := (gridAt t).2.2.2.2.2.2.2.1
  have hq := (gridAt t).2.2.2.1
  have hk := (gridAt t).2.2.1
  have hN : t.val < 1056 := t.isLt
  have hr := r.isLt
  have hx := x.isLt
  refine congrArg (V c main_v12) (funext fun a => Fin.ext ?_)
  have e := emb_3 t (ix3 0 r x) a
  fin_cases a
  · refine e.trans ?_
    change ((cfgA).win (3 : Fin 5)).index t (0 : Fin 3) * 1 + 0 = bO t.val % 2
    rw [e0]
    have : t.val / 528 < 2 := by omega
    change t.val / 528 * 1 + 0 = t.val / 528 % 2
    omega
  · refine e.trans ?_
    change ((cfgA).win (3 : Fin 5)).index t (1 : Fin 3) * 512 + r.val = (512 * qO t.val + r.val) % 16384
    rw [e1, Nat.mod_eq_of_lt (by omega), mul_comm]
  · refine e.trans ?_
    change ((cfgA).win (3 : Fin 5)).index t (2 : Fin 3) * 512 + x.val = (512 * kO t.val + x.val) % 16384
    rw [e2, Nat.mod_eq_of_lt (by omega)]
    rw [mul_comm]

end

/-- A key is kept for a row when it is selected and does not come after it. -/
def kept (sel : S2x16384x16384.Idx → BitVec 32) (b r j : ℕ) : Prop := at4 sel b r j ≠ 0#32 ∧ j ≤ r

instance (sel : S2x16384x16384.Idx → BitVec 32) (b r j : ℕ) : Decidable (kept sel b r j) := by unfold kept; infer_instance

open Cert.KernelIdeal.Facts₀ Cert.KernelIdeal.Facts in
theorem V_bias (m : (ℓ : Loc nD τ sig) → Buf (Elt Ideal) ℓ) (c : Dev nD) (b : Fin 2) (r j : Fin 16384) :
    (V m c main_v12 : S2x16384x16384.Idx → EReal) (ix3 b r j)
      = if ((m ((c : Thread nD τ).loc main_arg3) : S2x16384x16384.Idx → BitVec 32) (ix3 b r j) ≠ 0#32 ∧ j.val ≤ r.val) then (0 : EReal) else ⊥ := by
  unfold V; after_results_simp
  generalize m (c, Proc.tc.devRef main_arg3) = sel
  pointwise
  have hb : Ideal.ofBits FTy.bf16 65408#16 = (⊥ : EReal) := by simp [Ideal.ofBits, Ideal.ieee]
  have hj := j.isLt
  have hr := r.isLt
  rw [hb, WordCmp.cmpi_ne_eq, WordCmp.cmpi_sle_ofNat (by omega) (by omega), WordCmp.andi_ofBool]
  by_cases h1 : sel (ix3 b r j) = 0#32 <;> by_cases h2 : j.val ≤ r.val <;> simp [h1, h2, Scalar.select]

end Cert.KernelIdeal.Attn
-- ==== Proof.AttnValue.Online.lean ====
/-
Softmax taken block by block: the running maximum and the rescaled running sums are the maximum and the sums over the keys seen so far.
-/
module

public import proofs.«01_k».proof.Proof.AttnValue.Heads

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.ShloMosaic.Pipeline (Dat Cfg Window)

/-- The greatest of the first `n` scores. -/
def mx (s : ℕ → EReal) (n : ℕ) : EReal := (Finset.range n).sup s

/-- The sum of the first `n` weights, each times its value. -/
def ac (s w : ℕ → EReal) (n : ℕ) : EReal := ∑ j ∈ Finset.range n, Ideal.exp2 (s j - mx s n) * w j

/-- A score is a real number, or below every real number where the key is not kept. -/
def Score (x : EReal) : Prop := x = ⊥ ∨ ∃ r : ℝ, x = (r : EReal)

theorem fold_max_eq_sup {k : ℕ} (f : Fin k → EReal) : Finset.univ.fold max ⊥ f = Finset.univ.sup f := rfl

theorem mx_zero (s : ℕ → EReal) : mx s 0 = ⊥ := rfl
theorem ac_zero (s w : ℕ → EReal) : ac s w 0 = 0 := rfl

theorem mx_add (s : ℕ → EReal) (n k : ℕ) :
    max (mx s n) (Finset.univ.fold max ⊥ fun j : Fin k => s (n + j.val)) = mx s (n + k) := by
  rw [fold_max_eq_sup]
  refine le_antisymm (max_le (Finset.sup_mono (Finset.range_mono (Nat.le_add_right n k))) (Finset.sup_le fun j _ => ?_))
    (Finset.sup_le fun j hj => ?_)
  · exact Finset.le_sup (f := s) (Finset.mem_range.mpr (Nat.add_lt_add_left j.isLt n))
  · rw [Finset.mem_range] at hj
    by_cases h : j < n
    · exact le_max_of_le_left (Finset.le_sup (f := s) (Finset.mem_range.mpr h))
    · refine le_max_of_le_right ?_
      have e := Finset.le_sup (f := fun j : Fin k => s (n + j.val)) (Finset.mem_univ (⟨j - n, by omega⟩ : Fin k))
      have e' : n + (j - n) = j := by omega
      simpa only [e'] using e

theorem score_sup {ι : Type} (S : Finset ι) (s : ι → EReal) (hs : ∀ j ∈ S, Score (s j)) : Score (S.sup s) := by
  classical
  induction S using Finset.induction_on with
  | empty => exact Or.inl rfl
  | insert a S ha ih =>
    rw [Finset.sup_insert]
    have h1 := hs a (Finset.mem_insert_self a S)
    have h2 := ih fun j hj => hs j (Finset.mem_insert_of_mem hj)
    rcases le_total (s a) (S.sup s) with h | h
    · rw [sup_eq_right.mpr h]; exact h2
    · rw [sup_eq_left.mpr h]; exact h1

theorem score_mx {s : ℕ → EReal} {n : ℕ} (hs : ∀ j, j < n → Score (s j)) : Score (mx s n) :=
  score_sup _ _ fun j hj => hs j (Finset.mem_range.mp hj)

/-- A weight is a real number, not below zero. -/
theorem exp2_sub_real {x y : EReal} (hx : Score x) (hy : Score y) (h : x ≤ y) :
    ∃ r : ℝ, 0 ≤ r ∧ Ideal.exp2 (x - y) = (r : EReal) := by
  rcases hx with rfl | ⟨a, rfl⟩
  · exact ⟨0, le_refl _, by rw [EReal.bot_sub]; simp⟩
  · rcases hy with rfl | ⟨b, rfl⟩
    · exact absurd (le_bot_iff.mp h) (EReal.coe_ne_bot a)
    · exact ⟨Real.rpow 2 (a - b), Real.rpow_nonneg (by norm_num) _, by rw [← EReal.coe_sub, Ideal.exp2_coe]⟩

/-- Rescaling a weight from one maximum to a greater one. -/
theorem exp2_rescale {x y z : EReal} (hx : Score x) (hy : Score y) (hz : Score z) (hxy : x ≤ y) (hyz : y ≤ z) :
    Ideal.exp2 (y - z) * Ideal.exp2 (x - y) = Ideal.exp2 (x - z) := by
  rcases hx with rfl | ⟨a, rfl⟩
  · rw [EReal.bot_sub, EReal.bot_sub]; simp
  · rcases hy with rfl | ⟨b, rfl⟩
    · exact absurd (le_bot_iff.mp hxy) (EReal.coe_ne_bot a)
    · rcases hz with rfl | ⟨d, rfl⟩
      · exact absurd (le_bot_iff.mp hyz) (EReal.coe_ne_bot b)
      · rw [← EReal.coe_sub, ← EReal.coe_sub, ← EReal.coe_sub, Ideal.exp2_coe, Ideal.exp2_coe, Ideal.exp2_coe, ← EReal.coe_mul]
        congr 1
        change (2 : ℝ) ^ (b - d) * (2 : ℝ) ^ (a - b) = (2 : ℝ) ^ (a - d)
        rw [← Real.rpow_add (by norm_num)]
        congr 1; ring

/-- A real factor that is not below zero goes into a sum. -/
theorem coe_mul_sum {ι : Type} (S : Finset ι) (r : ℝ) (hr : 0 ≤ r) (f : ι → EReal) :
    (r : EReal) * ∑ j ∈ S, f j = ∑ j ∈ S, (r : EReal) * f j := by
  classical
  induction S using Finset.induction_on with
  | empty => simp
  | insert a S ha ih => rw [Finset.sum_insert ha, Finset.sum_insert ha, EReal.left_distrib_of_nonneg_of_ne_top (EReal.coe_nonneg.mpr hr) (EReal.coe_ne_top r), ih]

theorem ac_add (s w : ℕ → EReal) (n k : ℕ) (hs : ∀ j, j < n + k → Score (s j)) :
    Ideal.exp2 (mx s n - mx s (n + k)) * ac s w n
      + ∑ j : Fin k, Ideal.exp2 (s (n + j.val) - mx s (n + k)) * w (n + j.val) = ac s w (n + k) := by
  have hn : Score (mx s n) := score_mx fun j hj => hs j (by omega)
  have hk : Score (mx s (n + k)) := score_mx hs
  have hle : mx s n ≤ mx s (n + k) := Finset.sup_mono (Finset.range_mono (Nat.le_add_right n k))
  obtain ⟨r, hr, er⟩ := exp2_sub_real hn hk hle
  unfold ac
  rw [Finset.sum_range_add, Finset.sum_range fun j => Ideal.exp2 (s (n + j) - mx s (n + k)) * w (n + j)]
  congr 1
  rw [er, coe_mul_sum _ r hr]
  refine Finset.sum_congr rfl fun j hj => ?_
  rw [Finset.mem_range] at hj
  rw [← mul_assoc, ← er, exp2_rescale (hs j (by omega)) hn hk (Finset.le_sup (f := s) (Finset.mem_range.mpr hj)) hle]

theorem mx_extend (s : ℕ → EReal) (n k : ℕ) (h : ∀ j, n ≤ j → j < n + k → s j = ⊥) : mx s n = mx s (n + k) := by
  rw [← mx_add]
  refine (max_eq_left ?_).symm
  rw [fold_max_eq_sup]
  exact Finset.sup_le fun j _ => by
    have e := h (n + j.val) (Nat.le_add_right _ _) (Nat.add_lt_add_left j.isLt n)
    change s (n + j.val) ≤ _
    rw [e]; exact bot_le

theorem ac_extend (s w : ℕ → EReal) (n k : ℕ) (h : ∀ j, n ≤ j → j < n + k → s j = ⊥) : ac s w n = ac s w (n + k) := by
  unfold ac
  rw [Finset.sum_range_add, ← mx_extend s n k h]
  have e : ∑ j ∈ Finset.range k, Ideal.exp2 (s (n + j) - mx s n) * w (n + j) = 0 := Finset.sum_eq_zero fun j hj => ?_
  · rw [e, add_zero]
  rw [h (n + j) (Nat.le_add_right _ _) (Nat.add_lt_add_left (Finset.mem_range.mp hj) n), EReal.bot_sub]
  simp

/-- The two forms of one score: the kernel's, in powers of two, and the reference's, in powers of `e`. -/
def Same (x z : EReal) : Prop := (x = ⊥ ∧ z = ⊥) ∨ ∃ r : ℝ, x = ((r * (Real.log 2)⁻¹ : ℝ) : EReal) ∧ z = (r : EReal)

theorem Same.score {x z : EReal} (h : Same x z) : Score x := by
  rcases h with ⟨h, _⟩ | ⟨r, h, _⟩
  · exact Or.inl h
  · exact Or.inr ⟨_, h⟩

theorem same_sup {ι : Type} (S : Finset ι) (x z : ι → EReal) (h : ∀ j ∈ S, Same (x j) (z j)) : Same (S.sup x) (S.sup z) := by
  classical
  have hl : 0 < (Real.log 2)⁻¹ := inv_pos.mpr (Real.log_pos (by norm_num))
  induction S using Finset.induction_on with
  | empty => exact Or.inl ⟨rfl, rfl⟩
  | insert a S ha ih =>
    rw [Finset.sup_insert, Finset.sup_insert]
    have h1 := h a (Finset.mem_insert_self a S)
    have h2 := ih fun j hj => h j (Finset.mem_insert_of_mem hj)
    generalize S.sup x = X at h2 ⊢
    generalize S.sup z = Z at h2 ⊢
    rcases h1 with ⟨e1, e2⟩ | ⟨r, e1, e2⟩
    · rw [e1, e2, bot_sup_eq, bot_sup_eq]; exact h2
    · rcases h2 with ⟨rfl, rfl⟩ | ⟨q, rfl, rfl⟩
      · rw [sup_bot_eq, sup_bot_eq]; exact Or.inr ⟨r, e1, e2⟩
      · rw [e1, e2]
        rcases le_total r q with hq | hq
        · refine Or.inr ⟨q, ?_, ?_⟩
          · exact sup_eq_right.mpr (EReal.coe_le_coe_iff.mpr (mul_le_mul_of_nonneg_right hq hl.le))
          · exact sup_eq_right.mpr (EReal.coe_le_coe_iff.mpr hq)
        · refine Or.inr ⟨r, ?_, ?_⟩
          · exact sup_eq_left.mpr (EReal.coe_le_coe_iff.mpr (mul_le_mul_of_nonneg_right hq hl.le))
          · exact sup_eq_left.mpr (EReal.coe_le_coe_iff.mpr hq)

/-- The kernel's weight in powers of two is the reference's in powers of `e`. -/
theorem exp2_eq_exp {x z y u : EReal} (h : Same x z) (h' : Same y u) : Ideal.exp2 (x - y) = Ideal.exp (z - u) := by
  rcases h with ⟨rfl, rfl⟩ | ⟨r, rfl, rfl⟩
  · rw [EReal.bot_sub, EReal.bot_sub]; simp
  · rcases h' with ⟨rfl, rfl⟩ | ⟨q, rfl, rfl⟩
    · rw [EReal.coe_sub_bot, EReal.coe_sub_bot]; simp
    · rw [← EReal.coe_sub, ← EReal.coe_sub, Ideal.exp2_coe, Ideal.exp_coe]
      congr 1
      change (2 : ℝ) ^ (r * (Real.log 2)⁻¹ - q * (Real.log 2)⁻¹) = Real.exp (r - q)
      have hl : Real.log 2 ≠ 0 := (Real.log_pos (by norm_num)).ne'
      rw [Real.rpow_def_of_pos (by norm_num)]
      congr 1
      field_simp

/-- Where a key is kept, the weighted sum over the sum of the weights is the softmax's weighted sum. -/
theorem softmax_eq {N : ℕ} (x z v : Fin N → EReal) (h : ∀ j, Same (x j) (z j)) (hex : ∃ j, z j ≠ ⊥) :
    Ideal.div (∑ j, Ideal.exp2 (x j - Finset.univ.sup x) * v j) (∑ j, Ideal.exp2 (x j - Finset.univ.sup x) * 1)
      = ∑ j, v j * Ideal.div (Ideal.exp (z j - Finset.univ.sup z)) (∑ j, Ideal.exp (z j - Finset.univ.sup z)) := by
  have hM : Same (Finset.univ.sup x) (Finset.univ.sup z) := same_sup _ _ _ fun j _ => h j
  have he : ∀ j, ∃ r : ℝ, 0 ≤ r ∧ Ideal.exp2 (x j - Finset.univ.sup x) = (r : EReal) := fun j =>
    exp2_sub_real (h j).score hM.score (Finset.le_sup (Finset.mem_univ j))
  obtain ⟨j₀, hj₀⟩ := hex
  have hpos : ∃ r : ℝ, 0 < r ∧ Ideal.exp2 (x j₀ - Finset.univ.sup x) = (r : EReal) := by
    rcases h j₀ with ⟨_, e⟩ | ⟨r, e, _⟩
    · exact absurd e hj₀
    · have hle : x j₀ ≤ Finset.univ.sup x := Finset.le_sup (Finset.mem_univ j₀)
      rcases hM.score with eM | ⟨q, eM⟩
      · rw [eM, e] at hle; exact absurd (le_bot_iff.mp hle) (EReal.coe_ne_bot _)
      · rw [e, eM, ← EReal.coe_sub, Ideal.exp2_coe]
        exact ⟨_, Real.rpow_pos_of_pos (by norm_num) _, rfl⟩
  simp only [fun j => (exp2_eq_exp (h j) hM).symm, mul_one]
  choose e he0 hee using he
  simp only [hee]
  have hZ : ∑ j, (e j : EReal) = ((∑ j, e j : ℝ) : EReal) := by
    induction (Finset.univ : Finset (Fin N)) using Finset.induction_on with
    | empty => simp
    | insert a S ha ih => rw [Finset.sum_insert ha, Finset.sum_insert ha, ih, EReal.coe_add]
  have hZ0 : 0 < ∑ j, e j := by
    obtain ⟨r, hr, er⟩ := hpos
    rw [hee j₀] at er
    refine Finset.sum_pos' (fun j _ => he0 j) ⟨j₀, Finset.mem_univ _, ?_⟩
    rw [EReal.coe_eq_coe_iff.mp er]; exact hr
  rw [hZ]
  have hdiv : ∀ y : EReal, Ideal.div y ((∑ j, e j : ℝ) : EReal) = (((∑ j, e j)⁻¹ : ℝ) : EReal) * y := fun y => by
    unfold Ideal.div
    rw [if_neg (by exact_mod_cast hZ0.ne'), mul_comm, EReal.coe_inv]
  simp only [hdiv]
  rw [coe_mul_sum _ _ (inv_nonneg.mpr hZ0.le)]
  refine Finset.sum_congr rfl fun j _ => ?_
  rw [← mul_assoc, mul_comm]

end Cert.KernelIdeal.Attn
-- ==== Proof.AttnValue.Scores.lean ====
/-
What the scratch holds after every point: the running maximum and the running sums over the keys up to the end of the point's key block.
-/
module

public import proofs.«01_k».proof.Proof.AttnValue.Pieces
public import proofs.«01_k».proof.Proof.AttnValue.BlocksAt
public import proofs.«01_k».proof.Proof.AttnValue.Online

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.ShloMosaic.Pipeline (Dat Cfg Window)
open Idealize.ShloMosaic.Pointwise

variable (V : (c : Dev nD) → (b : Ref sig .tc) → Buf (Elt Ideal) ((c : Thread nD τ).loc b))

/-- The score of key `j` for row `r` of head `h` in batch `b`, in powers of two. -/
def scV (c : Dev nD) (b h r : ℕ) (j : ℕ) : EReal :=
  (∑ d : Fin 128, at3 (V c main_arg0) b r (128 * h + d.val) * at3 (V c main_arg1) b j (128 * h + d.val)) * cst + at4 (α := EReal) (V c main_v12) b r j

/-- What key `j` adds up: its value in the first 128 columns, one in the others. -/
def woV (c : Dev nD) (b h l : ℕ) (j : ℕ) : EReal :=
  if l < 128 then at3 (V c main_arg2) b j (128 * h + l) else 1

theorem win_at (x : S1x512x1024.Idx → EReal) (h : Fin 8) (r : Fin 512) (d : Fin 128) :
    win x h.val (ix3 0 r d) = x (ix3 0 r ⟨128 * h.val + d.val, by omega⟩) := by
  change x (ix3 0 r (Fin.ofNat 1024 (128 * h.val + d.val))) = _
  congr 2
  exact Fin.ext (Nat.mod_eq_of_lt (by omega))

theorem row_at {w : ℕ} (x : (SB w).Idx → EReal) (h : Fin 8) (r : Fin 512) (d : Fin w) :
    row (w := w) x h.val (ix3 0 r d) = x (ix3 h r d) := by
  change x (ix3 (Fin.ofNat 8 h.val) r d) = _
  congr 2
  exact Fin.ext (Nat.mod_eq_of_lt h.isLt)

theorem scores_at (c : Dev nD) (t : Fin (cfgA).N) (h : Fin 8) (r j : Fin 512) :
    scoresV (win (iblk V c (0 : Fin 5) t) h.val) (win (iblk V c (1 : Fin 5) t) h.val) (iblk V c (3 : Fin 5) t) (ix2 r j)
      = scV V c (bO t.val) h.val (512 * qO t.val + r.val) (512 * kO t.val + j.val) := by
  rw [scoresV_apply]
  unfold scV
  rw [iblk_3]
  congr 2
  refine Finset.sum_congr rfl fun d _ => ?_
  rw [win_at, win_at, iblk_0, iblk_1]

theorem values_at (c : Dev nD) (t : Fin (cfgA).N) (h : Fin 8) (j : Fin 512) (l : Fin 256) :
    vOnes (win (iblk V c (2 : Fin 5) t) h.val) j l = woV V c (bO t.val) h.val l.val (512 * kO t.val + j.val) := by
  unfold vOnes woV
  by_cases hl : l.val < 128
  · rw [dif_pos hl, if_pos hl, win_at, iblk_2]
  · rw [dif_neg hl, if_neg hl]

/-- Scratch contents that are the running maximum and sums over the first `n` keys. -/
def Holds (c : Dev nD) (b q n : ℕ) (h : Fin 8) (M : S1x512x128.Idx → EReal) (A : S1x512x256.Idx → EReal) : Prop :=
  (∀ (r : Fin 512) (l : Fin 128), M (ix3 0 r l) = mx (scV V c b h.val (512 * q + r.val)) n)
  ∧ ∀ (r : Fin 512) (l : Fin 256), A (ix3 0 r l) = ac (scV V c b h.val (512 * q + r.val)) (woV V c b h.val l.val) n

theorem head_step (c : Dev nD) (t : Fin (cfgA).N) (h : Fin 8) (M : S1x512x128.Idx → EReal) (A : S1x512x256.Idx → EReal)
    (hs : ∀ b h r j, Score (scV V c b h r j))
    (H : Holds V c (bO t.val) (qO t.val) (512 * kO t.val) h M A) :
    Holds V c (bO t.val) (qO t.val) (512 * kO t.val + 512) h
      (headM (win (iblk V c (0 : Fin 5) t) h.val) (win (iblk V c (1 : Fin 5) t) h.val) (iblk V c (3 : Fin 5) t) M)
      (headA (win (iblk V c (0 : Fin 5) t) h.val) (win (iblk V c (1 : Fin 5) t) h.val) (iblk V c (3 : Fin 5) t) M (win (iblk V c (2 : Fin 5) t) h.val) A) := by
  have hM : ∀ (r : Fin 512) (l : Fin 128),
      headM (win (iblk V c (0 : Fin 5) t) h.val) (win (iblk V c (1 : Fin 5) t) h.val) (iblk V c (3 : Fin 5) t) M (ix3 0 r l)
        = mx (scV V c (bO t.val) h.val (512 * qO t.val + r.val)) (512 * kO t.val + 512) := fun r l => by
    rw [headM_apply, H.1 r l, ← mx_add]
    congr 1
    exact Finset.fold_congr fun j _ => scores_at V c t h r j
  refine ⟨hM, fun r l => ?_⟩
  rw [headA_apply, hM r (lane l), H.1 r (lane l), H.2 r l, ← ac_add _ _ _ _ fun j _ => hs _ _ _ j]
  congr 1
  refine Finset.sum_congr rfl fun j _ => ?_
  rw [hM r (lane j), scores_at, values_at]

theorem holds_start (c : Dev nD) (b q : ℕ) (h : Fin 8) : Holds V c b q 0 h (fun _ => (⊥ : EReal)) (fun _ => (0 : EReal)) :=
  ⟨fun _ _ => rfl, fun _ _ => rfl⟩

end Cert.KernelIdeal.Attn
-- ==== Proof.AttnValue.Steps.lean ====
/-
What a point leaves in the scratch and in the output, whichever of the four paths it takes.
-/
module

public import proofs.«01_k».proof.Proof.AttnValue.PathA
public import proofs.«01_k».proof.Proof.AttnValue.PathB
public import proofs.«01_k».proof.Proof.AttnValue.PathC
public import proofs.«01_k».proof.Proof.AttnValue.PathD
public import proofs.«01_k».proof.Proof.AttnValue.Scores

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.ShloMosaic.Pipeline (Dat Cfg Window)
open Idealize.ShloMosaic.Pointwise

variable (V : (c : Dev nD) → (b : Ref sig .tc) → Buf (Elt Ideal) ((c : Thread nD τ).loc b))

/-- The scratch after a point. -/
def After (c : Dev nD) (b q n : ℕ) (p : (S1x512x1024.Idx → Elt Ideal .bf16) × Buf (Elt Ideal) ((c : Thread nD τ).loc cc0_scratch0) × Buf (Elt Ideal) ((c : Thread nD τ).loc cc0_scratch1)) : Prop :=
  ∀ h : Fin 8, Holds V c b q n h (row (w := 128) p.2.1 h.val) (row (w := 256) p.2.2 h.val)

theorem part_o {α β γ : Type} {x : α × β × γ} {o : α} {m : β} {a : γ} (e : x = (o, m, a)) : x.1 = o := by rw [e]
theorem part_m {α β γ : Type} {x : α × β × γ} {o : α} {m : β} {a : γ} (e : x = (o, m, a)) : x.2.1 = m := by rw [e]
theorem part_a {α β γ : Type} {x : α × β × γ} {o : α} {m : β} {a : γ} (e : x = (o, m, a)) : x.2.2 = a := by rw [e]

theorem step_A_m (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) (q0 : P0_0 t) (q1 : P0_1 t) (h : Fin 8) (r : Fin 512) (l : Fin 128) :
    row (w := 128) (step0 V c t prev).2.1 h.val (ix3 0 r l)
      = headM (win (iblk V c (0 : Fin 5) t) h.val) (win (iblk V c (1 : Fin 5) t) h.val) (iblk V c (3 : Fin 5) t) (fun _ => (⊥ : EReal)) (ix3 0 r l) :=
  (row_at (step0 V c t prev).2.1 h r l).trans ((congrFun (part_m (step0_A V c t prev q0 q1)) (ix3 h r l)).trans (valA_m c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1 h r l))

theorem step_A_a (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) (q0 : P0_0 t) (q1 : P0_1 t) (h : Fin 8) (r : Fin 512) (l : Fin 256) :
    row (w := 256) (step0 V c t prev).2.2 h.val (ix3 0 r l)
      = headA (win (iblk V c (0 : Fin 5) t) h.val) (win (iblk V c (1 : Fin 5) t) h.val) (iblk V c (3 : Fin 5) t) (fun _ => (⊥ : EReal)) (win (iblk V c (2 : Fin 5) t) h.val) (fun _ => (0 : EReal)) (ix3 0 r l) :=
  (row_at (step0 V c t prev).2.2 h r l).trans ((congrFun (part_a (step0_A V c t prev q0 q1)) (ix3 h r l)).trans (valA_a c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1 h r l))

theorem step_A_o (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) (q0 : P0_0 t) (q1 : P0_1 t) (h : Fin 8) (r : Fin 512) (d : Fin 128) :
    (step0 V c t prev).1 (ix3 0 r ⟨128 * h.val + d.val, by omega⟩) = headO (row (w := 256) (step0 V c t prev).2.2 h.val) (ix3 0 r d) :=
  (congrFun (part_o (step0_A V c t prev q0 q1)) (ix3 0 r ⟨128 * h.val + d.val, by omega⟩)).trans ((valA_o c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_A t q0 q1).1 (hypsR0_A t q0 q1).2.1 h r d).trans
    (congrArg (fun x => headO (row (w := 256) x h.val) (ix3 0 r d)) (part_a (step0_A V c t prev q0 q1)).symm))

theorem step_B_m (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) (q0 : P0_0 t) (q1 : ¬P0_1 t) (h : Fin 8) (r : Fin 512) (l : Fin 128) :
    row (w := 128) (step0 V c t prev).2.1 h.val (ix3 0 r l)
      = headM (win (iblk V c (0 : Fin 5) t) h.val) (win (iblk V c (1 : Fin 5) t) h.val) (iblk V c (3 : Fin 5) t) (fun _ => (⊥ : EReal)) (ix3 0 r l) :=
  (row_at (step0 V c t prev).2.1 h r l).trans ((congrFun (part_m (step0_B V c t prev q0 q1)) (ix3 h r l)).trans (valB_m c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_B t q0 q1).1 (hypsR0_B t q0 q1).2.1 h r l))

theorem step_B_a (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) (q0 : P0_0 t) (q1 : ¬P0_1 t) (h : Fin 8) (r : Fin 512) (l : Fin 256) :
    row (w := 256) (step0 V c t prev).2.2 h.val (ix3 0 r l)
      = headA (win (iblk V c (0 : Fin 5) t) h.val) (win (iblk V c (1 : Fin 5) t) h.val) (iblk V c (3 : Fin 5) t) (fun _ => (⊥ : EReal)) (win (iblk V c (2 : Fin 5) t) h.val) (fun _ => (0 : EReal)) (ix3 0 r l) :=
  (row_at (step0 V c t prev).2.2 h r l).trans ((congrFun (part_a (step0_B V c t prev q0 q1)) (ix3 h r l)).trans (valB_a c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) (hypsR0_B t q0 q1).1 (hypsR0_B t q0 q1).2.1 h r l))

theorem step_C_m (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) (q0 : ¬P0_0 t) (q1 : P0_1 t) (h : Fin 8) (r : Fin 512) (l : Fin 128) :
    row (w := 128) (step0 V c t prev).2.1 h.val (ix3 0 r l)
      = headM (win (iblk V c (0 : Fin 5) t) h.val) (win (iblk V c (1 : Fin 5) t) h.val) (iblk V c (3 : Fin 5) t) (row (w := 128) prev.2.1 h.val) (ix3 0 r l) :=
  (row_at (step0 V c t prev).2.1 h r l).trans ((congrFun (part_m (step0_C V c t prev q0 q1)) (ix3 h r l)).trans (valC_m c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1 h r l))

theorem step_C_a (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) (q0 : ¬P0_0 t) (q1 : P0_1 t) (h : Fin 8) (r : Fin 512) (l : Fin 256) :
    row (w := 256) (step0 V c t prev).2.2 h.val (ix3 0 r l)
      = headA (win (iblk V c (0 : Fin 5) t) h.val) (win (iblk V c (1 : Fin 5) t) h.val) (iblk V c (3 : Fin 5) t) (row (w := 128) prev.2.1 h.val) (win (iblk V c (2 : Fin 5) t) h.val) (row (w := 256) prev.2.2 h.val) (ix3 0 r l) :=
  (row_at (step0 V c t prev).2.2 h r l).trans ((congrFun (part_a (step0_C V c t prev q0 q1)) (ix3 h r l)).trans (valC_a c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1 h r l))

theorem step_C_o (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) (q0 : ¬P0_0 t) (q1 : P0_1 t) (h : Fin 8) (r : Fin 512) (d : Fin 128) :
    (step0 V c t prev).1 (ix3 0 r ⟨128 * h.val + d.val, by omega⟩) = headO (row (w := 256) (step0 V c t prev).2.2 h.val) (ix3 0 r d) :=
  (congrFun (part_o (step0_C V c t prev q0 q1)) (ix3 0 r ⟨128 * h.val + d.val, by omega⟩)).trans ((valC_o c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_C t q0 q1).1 (hypsR0_C t q0 q1).2.1 h r d).trans
    (congrArg (fun x => headO (row (w := 256) x h.val) (ix3 0 r d)) (part_a (step0_C V c t prev q0 q1)).symm))

theorem step_D_m (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) (q0 : ¬P0_0 t) (q1 : ¬P0_1 t) (h : Fin 8) (r : Fin 512) (l : Fin 128) :
    row (w := 128) (step0 V c t prev).2.1 h.val (ix3 0 r l)
      = headM (win (iblk V c (0 : Fin 5) t) h.val) (win (iblk V c (1 : Fin 5) t) h.val) (iblk V c (3 : Fin 5) t) (row (w := 128) prev.2.1 h.val) (ix3 0 r l) :=
  (row_at (step0 V c t prev).2.1 h r l).trans ((congrFun (part_m (step0_D V c t prev q0 q1)) (ix3 h r l)).trans (valD_m c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_D t q0 q1).1 (hypsR0_D t q0 q1).2.1 h r l))

theorem step_D_a (c : Dev nD) (t : Fin (cfgA).N) (prev : (S1x512x1024.Idx → Elt Ideal .bf16) × Buf (Elt Ideal) ((c : Thread nD τ).loc cc0_scratch0) × Buf (Elt Ideal) ((c : Thread nD τ).loc cc0_scratch1)) (q0 : ¬P0_0 t) (q1 : ¬P0_1 t) (h : Fin 8) (r : Fin 512) (l : Fin 256) :
    row (w := 256) (step0 V c t prev).2.2 h.val (ix3 0 r l)
      = headA (win (iblk V c (0 : Fin 5) t) h.val) (win (iblk V c (1 : Fin 5) t) h.val) (iblk V c (3 : Fin 5) t) (row (w := 128) prev.2.1 h.val) (win (iblk V c (2 : Fin 5) t) h.val) (row (w := 256) prev.2.2 h.val) (ix3 0 r l) :=
  (row_at (step0 V c t prev).2.2 h r l).trans ((congrFun (part_a (step0_D V c t prev q0 q1)) (ix3 h r l)).trans (valD_a c (crd t) (ms0_0 t) (hs0_0 t) (ms0_1 t) (hs0_1 t) (ms0_2 t) (hs0_2 t) (ms0_3 t) (hs0_3 t) (ms0_4 t) (hs0_4 t) (pinT_0) (pinT_1) (iblk V c (0 : Fin 5) t) (iblk V c (1 : Fin 5) t) (iblk V c (2 : Fin 5) t) (iblk V c (3 : Fin 5) t) prev.2.1 prev.2.2 (hypsR0_D t q0 q1).1 (hypsR0_D t q0 q1).2.1 h r l))

end Cert.KernelIdeal.Attn
-- ==== Proof.AttnValue.Invariant.lean ====
/-
What the scratch holds after every point: the running maximum and the running sums over the keys up to the end of the point's key block.
-/
module

public import proofs.«01_k».proof.Proof.AttnValue.Steps

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.ShloMosaic.Pipeline (Dat Cfg Window)
open Idealize.ShloMosaic.Pointwise

variable (V : (c : Dev nD) → (b : Ref sig .tc) → Buf (Elt Ideal) ((c : Thread nD τ).loc b))

theorem after_step (c : Dev nD) (t : Fin (cfgA).N) (prev : (S1x512x1024.Idx → Elt Ideal .bf16) × Buf (Elt Ideal) ((c : Thread nD τ).loc cc0_scratch0) × Buf (Elt Ideal) ((c : Thread nD τ).loc cc0_scratch1))
    (hs : ∀ b h r j, Score (scV V c b h r j))
    (hp : kO t.val ≠ 0 → After V c (bO t.val) (qO t.val) (512 * kO t.val) prev) :
    After V c (bO t.val) (qO t.val) (512 * kO t.val + 512) (step0 V c t prev) := by
  intro h
  have g := gridAt t
  by_cases q0 : P0_0 t
  · have hk := g.1.mp q0
    have H := head_step V c t h _ _ hs (by rw [hk]; exact holds_start V c (bO t.val) (qO t.val) h)
    by_cases q1 : P0_1 t
    · exact ⟨fun r l => (step_A_m V c t prev q0 q1 h r l).trans (H.1 r l), fun r l => (step_A_a V c t prev q0 q1 h r l).trans (H.2 r l)⟩
    · exact ⟨fun r l => (step_B_m V c t prev q0 q1 h r l).trans (H.1 r l), fun r l => (step_B_a V c t prev q0 q1 h r l).trans (H.2 r l)⟩
  · have hk : kO t.val ≠ 0 := fun e => q0 (g.1.mpr e)
    have H := head_step V c t h _ _ hs (hp hk h)
    by_cases q1 : P0_1 t
    · exact ⟨fun r l => (step_C_m V c t prev q0 q1 h r l).trans (H.1 r l), fun r l => (step_C_a V c t prev q0 q1 h r l).trans (H.2 r l)⟩
    · exact ⟨fun r l => (step_D_m V c t prev q0 q1 h r l).trans (H.1 r l), fun r l => (step_D_a V c t prev q0 q1 h r l).trans (H.2 r l)⟩

theorem after_traj (c : Dev nD) (hs : ∀ b h r j, Score (scV V c b h r j)) :
    ∀ (n : ℕ) (hn : n < (cfgA).N), After V c (bO n) (qO n) (512 * kO n + 512) (traj0 V c n hn) := by
  intro n
  induction n with
  | zero =>
    intro hn
    have e := traj0_eq V c ⟨0, hn⟩
    have g := after_step V c ⟨0, hn⟩ (prev0 V c ⟨0, hn⟩) hs fun hk => by
      rcases (gridAt ⟨0, hn⟩).2.2.2.2.2.2.2.2.2.2 with h | h
      · exact absurd h hk
      · exact absurd h.1 (Nat.lt_irrefl 0)
    rw [← e] at g
    dsimp only at g
    exact g
  | succ n ih =>
    intro hn
    have e := traj0_eq V c ⟨n + 1, hn⟩
    have g := after_step V c ⟨n + 1, hn⟩ (prev0 V c ⟨n + 1, hn⟩) hs fun hk => by
      rcases (gridAt ⟨n + 1, hn⟩).2.2.2.2.2.2.2.2.2.2 with h | h
      · exact absurd h hk
      · obtain ⟨_, h1, h2, h3⟩ := h
        have i := ih (Nat.lt_of_succ_lt hn)
        have ep : prev0 V c ⟨n + 1, hn⟩ = traj0 V c n (Nat.lt_of_succ_lt hn) := by
          unfold prev0
          rw [dif_neg (Nat.succ_ne_zero n)]
          rfl
        rw [ep]
        change kO n + 1 = kO (n + 1) at h1
        change qO n = qO (n + 1) at h2
        change bO n = bO (n + 1) at h3
        change After V c (bO (n + 1)) (qO (n + 1)) (512 * kO (n + 1)) _
        rw [← h1, ← h2, ← h3, Nat.mul_succ]
        exact i
    rw [← e] at g
    exact g

/-- What the last key block of a row block leaves in the output: the weighted sum over the sum of the weights. -/
theorem out_traj (c : Dev nD) (hs : ∀ b h r j, Score (scV V c b h r j)) (t : Fin (cfgA).N) (hl : kO t.val = qO t.val)
    (h : Fin 8) (r : Fin 512) (d : Fin 128) :
    (traj0 V c t.val t.isLt).1 (ix3 0 r ⟨128 * h.val + d.val, by omega⟩)
      = Ideal.div (ac (scV V c (bO t.val) h.val (512 * qO t.val + r.val)) (woV V c (bO t.val) h.val d.val) (512 * qO t.val + 512))
          (ac (scV V c (bO t.val) h.val (512 * qO t.val + r.val)) (fun _ => 1) (512 * qO t.val + 512)) := by
  have g := after_traj V c hs t.val t.isLt h
  have q1 : P0_1 t := (gridAt t).2.1.mpr hl
  have e : (traj0 V c t.val t.isLt).1 (ix3 0 r ⟨128 * h.val + d.val, by omega⟩) = headO (row (w := 256) (traj0 V c t.val t.isLt).2.2 h.val) (ix3 0 r d) := by
    rw [traj0_eq V c t]
    by_cases q0 : P0_0 t
    · exact step_A_o V c t _ q0 q1 h r d
    · exact step_C_o V c t _ q0 q1 h r d
  rw [e, headO_apply, g.2, g.2, hl]
  congr 1
  congr 1
  funext j
  unfold woV
  rw [if_neg (by simp)]

end Cert.KernelIdeal.Attn
-- ==== Proof.AttnValue.Output.lean ====
/-
The array the launch leaves: every entry the weighted sum over the sum of the weights of its row.
-/
module

public import proofs.«01_k».proof.Proof.AttnValue.Invariant

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.ShloMosaic.Pipeline (Dat Cfg Window)
open Idealize.ShloMosaic.Pointwise

variable (V : (c : Dev nD) → (b : Ref sig .tc) → Buf (Elt Ideal) ((c : Thread nD τ).loc b))

/-- The attention of row `r`, head `h`, column `d` of batch `b`, over the first `n` keys. -/
def attV (c : Dev nD) (b h r d n : ℕ) : EReal :=
  Ideal.div (ac (scV V c b h r) (woV V c b h d) n) (ac (scV V c b h r) (fun _ => 1) n)

/-- What the launch leaves in its result. -/
def outV (c : Dev nD) : S2x16384x1024.Idx → EReal := fun i =>
  attV V c (i 0).val ((i 2).val / 128) (i 1).val ((i 2).val % 128) (512 * ((i 1).val / 512) + 512)

theorem outV_at (c : Dev nD) (i : S2x16384x1024.Idx) (b q r h d : ℕ) (hr : r < 512) (hd : d < 128)
    (e0 : (i 0).val = b) (e1 : (i 1).val = 512 * q + r) (e2 : (i 2).val = 128 * h + d) :
    outV V c i = attV V c b h (512 * q + r) d (512 * q + 512) := by
  unfold outV
  rw [e0, e1, e2]
  have a1 : (128 * h + d) / 128 = h := by omega
  have a2 : (128 * h + d) % 128 = d := by omega
  have a3 : (512 * q + r) / 512 = q := by omega
  rw [a1, a2, a3]

theorem after_at (c : Dev nD) (hs : ∀ b h r j, Score (scV V c b h r j)) (t : Fin (cfgA).N)
    (hl : kO t.val = qO t.val) (y : S1x512x1024.Idx) :
    (traj0 V c t.val t.isLt).1 y
      = attV V c (bO t.val) ((y 2).val / 128) (512 * qO t.val + (y 1).val) ((y 2).val % 128) (512 * qO t.val + 512) := by
  have h2 : (y 2).val < 1024 := (y 2).isLt
  have h1 : (y 1).val < 512 := (y 1).isLt
  have h0 : (y 0).val < 1 := (y 0).isLt
  have e := out_traj V c hs t hl ⟨(y 2).val / 128, by omega⟩ ⟨(y 1).val, h1⟩ ⟨(y 2).val % 128, by omega⟩
  refine Eq.trans (congrArg (traj0 V c t.val t.isLt).1 ?_) e
  funext a
  fin_cases a
  · exact Fin.ext (show (y 0).val = 0 by omega)
  · rfl
  · exact Fin.ext (show (y 2).val = 128 * ((y 2).val / 128) + (y 2).val % 128 by omega)

theorem arrAt_eq (c : Dev nD) (hs : ∀ b h r j, Score (scV V c b h r j)) :
    (dats V 0 c).arrAt (4 : Fin 5) (cfgA).N = outV V c := by
  refine (dats V 0 c).arrAt_eq_of_covers (4 : Fin 5) (outV V c) covers4 fun t hf y => ?_
  have g := gridAt t
  obtain ⟨i0, i1, i2⟩ := g.2.2.2.2.2.2.2.2.1
  have hl := g.2.2.2.2.2.2.2.2.2.1 hf
  have y2 : (y (2 : Fin 3)).val < 1024 := (y (2 : Fin 3)).isLt
  have y1 : (y (1 : Fin 3)).val < 512 := (y (1 : Fin 3)).isLt
  have y0 : (y (0 : Fin 3)).val < 1 := (y (0 : Fin 3)).isLt
  have f0 := emb_4 t y (0 : Fin 3)
  have f1 := emb_4 t y (1 : Fin 3)
  have f2 := emb_4 t y (2 : Fin 3)
  rw [i0] at f0
  rw [i1] at f1
  rw [i2] at f2
  have key : ∀ i : S2x16384x1024.Idx, (i 0).val = bO t.val * 1 + (y (0 : Fin 3)).val → (i 1).val = qO t.val * 512 + (y (1 : Fin 3)).val →
      (i 2).val = 0 * 1024 + (y (2 : Fin 3)).val → (traj0 V c t.val t.isLt).1 y = outV V c i := fun i a0 a1 a2 =>
    (after_at V c hs t hl y).trans (outV_at V c i (bO t.val) (qO t.val) (y (1 : Fin 3)).val ((y (2 : Fin 3)).val / 128) ((y (2 : Fin 3)).val % 128) y1
      (by omega) (by omega) (by omega) (by omega)).symm
  generalize outV V c = G at key ⊢
  generalize hT : (traj0 V c t.val t.isLt).1 = T at key
  have hA : (dats V 0 c).after (4 : Fin 5) t = T := (after0_4 V c t).trans hT
  rw [hA]
  exact key _ f0 f1 f2

end Cert.KernelIdeal.Attn
-- ==== Proof.AttnValue.Reference.lean ====
/-
The reference, entry by entry.
-/
module

public import proofs.«01_k».proof.Proof.Gen.ReferenceIdeal.Run
public import Idealize.ShloMosaic.Lib.Pointwise
public import Idealize.ShloMosaic.Lib.WordCmp

@[expose] public section

set_option maxRecDepth 16384
set_option Elab.async false

noncomputable section

namespace Cert.ReferenceIdeal.Attn

open Cert.ReferenceIdeal Cert.ReferenceIdeal.Gen
open Idealize.ShloMosaic
open Idealize.ShloMosaic.TcCoe Idealize.ShloMosaic.Tactic
open Idealize.ShloMosaic.Pipeline (Dat Cfg Window)
open Idealize.ShloMosaic.Pointwise
open Cert.ReferenceIdeal.Facts

/-- The reference's masked logits. -/
def refZ (q k : FVec Ideal S2x16384x1024 .bf16) (sel : IVec S2x16384x16384 32) : FVec Ideal S2x16384x8x16384 .f32 :=
  select (broadcastInDim S2x16384x8x16384 ![0, 1, 2, 3] bcast_S2x16384x1x16384_S2x16384x8x16384_0_1_2_3 (broadcastInDim S2x16384x1x16384 ![0, 1, 3] bcast_S2x16384x16384_S2x16384x1x16384_0_1_3 (andi (cmpi .ne sel (broadcastInDim S2x16384x16384 ![] bcast_S_S2x16384x16384 (constantI S_ 32 0#32))) (broadcastInDim S2x16384x16384 ![0, 1, 2] bcast_S1x16384x16384_S2x16384x16384_0_1_2 (cmpi .sle (broadcastInDim S1x16384x16384 ![0, 1, 2] bcast_S1x1x16384_S1x16384x16384_0_1_2 (broadcastInDim S1x1x16384 ![2] bcast_S16384_S1x1x16384_2 (iotaInDim S16384 32 0))) (broadcastInDim S1x16384x16384 ![0, 1, 2] bcast_S1x16384x1_S1x16384x16384_0_1_2 (broadcastInDim S1x16384x1 ![1] bcast_S16384_S1x16384x1_1 (iotaInDim S16384 32 0)))))))) (Host.divf (transpose S2x16384x8x16384 [0, 3, 1, 2] (Host.dotGeneral dot_S2x16384x8x128_S2x16384x8x128_S2x8x16384x16384_3_3_1_1_02_02 none (shapeCast _ (extf .f32 k bitsLt_bf16_f32) shapeCasts_S2x16384x1024_S2x16384x8x128) (shapeCast _ (extf .f32 q bitsLt_bf16_f32) shapeCasts_S2x16384x1024_S2x16384x8x128)) transposes_S2x8x16384x16384_S2x16384x8x16384_0_3_1_2) (broadcastInDim S2x16384x8x16384 ![] bcast_S_S2x16384x8x16384 (Host.sqrt (constant S_ .f32 0x43000000#32)))) (broadcastInDim S2x16384x8x16384 ![] bcast_S_S2x16384x8x16384 (id (constant S_ .f32 0xFF800000#32)))

/-- The greatest masked logit of every row. -/
def refM (Z : FVec Ideal S2x16384x8x16384 .f32) : FVec Ideal S2x16384x8 .f32 :=
  maximumf (broadcastInDim S2x16384x8 ![] bcast_S_S2x16384x8 (constant S_ .f32 0xFF800000#32)) (Host.reduce FloatOps.maximumf Z (constant S_ .f32 0xFF800000#32) reducesTo_S2x16384x8x16384_S2x16384x8_d3 h_S_)

/-- The exponentials. -/
def refE (Z : FVec Ideal S2x16384x8x16384 .f32) : FVec Ideal S2x16384x8x16384 .f32 :=
  Host.exp (subf Z (broadcastInDim S2x16384x8x16384 ![0, 1, 2, 3] bcast_S2x16384x8x1_S2x16384x8x16384_0_1_2_3 (broadcastInDim S2x16384x8x1 ![0, 1, 2] bcast_S2x16384x8_S2x16384x8x1_0_1_2 (refM Z))))

/-- The weights. -/
def refP (E : FVec Ideal S2x16384x8x16384 .f32) : FVec Ideal S2x16384x8x16384 .f32 :=
  Host.divf E (broadcastInDim S2x16384x8x16384 ![0, 1, 2, 3] bcast_S2x16384x8x1_S2x16384x8x16384_0_1_2_3 (broadcastInDim S2x16384x8x1 ![0, 1, 2] bcast_S2x16384x8_S2x16384x8x1_0_1_2 (Host.reduceAdd E (constant S_ .f32 0x00000000#32) reducesTo_S2x16384x8x16384_S2x16384x8_d3 h_S_)))

/-- The weighted sums of the values. -/
def refO (P : FVec Ideal S2x16384x8x16384 .f32) (v : FVec Ideal S2x16384x1024 .bf16) : FVec Ideal S2x16384x1024 .bf16 :=
  truncf .bf16 (shapeCast _ (transpose S2x16384x8x128 [0, 3, 1, 2] (Host.dotGeneral dot_S2x16384x8x128_S2x16384x8x16384_S2x8x128x16384_1_3_3_1_02_02 none (shapeCast _ (extf .f32 v bitsLt_bf16_f32) shapeCasts_S2x16384x1024_S2x16384x8x128) P) transposes_S2x8x128x16384_S2x16384x8x128_0_3_1_2) shapeCasts_S2x16384x8x128_S2x16384x1024) bitsLt_bf16_f32

/-- The reference's result, cut into its stages. -/
theorem res_eq (m : (ℓ : Loc nD τ sig) → Buf (Elt Ideal) ℓ) (c : Dev nD) :
    Value.res_main_v37 m c = refO (refP (refE (refZ (m ((c.tc : Thread nD τ).loc main_arg0)) (m ((c.tc : Thread nD τ).loc main_arg1)) (m ((c.tc : Thread nD τ).loc main_arg3))))) (m ((c.tc : Thread nD τ).loc main_arg2)) := by
  unfold Value.res_main_v37 refO refP refE refM refZ
  rfl

/-- The reference's masked scores. -/
theorem refZ_apply (q k : S2x16384x1024.Idx → EReal) (sel : S2x16384x16384.Idx → BitVec 32) (b : Fin 2) (r : Fin 16384) (h : Fin 8) (j : Fin 16384) :
    refZ q k sel (ix4 b r h j) = if sel (ix3 b r j) ≠ 0#32 ∧ j.val ≤ r.val then
      Ideal.div (∑ d : Fin 128, k (ix3 b j ⟨128 * h.val + d.val, by omega⟩) * q (ix3 b r ⟨128 * h.val + d.val, by omega⟩)) ((Real.sqrt 128 : ℝ) : EReal) else ⊥ := by
  unfold refZ
  pointwise
  have hb : (id (constant (F := Ideal) S_ FTy.f32 0xFF800000#32) ix0 : EReal) = ⊥ := by
    change Ideal.ofBits .f32 0xFF800000#32 = (⊥ : EReal)
    simp [Ideal.ofBits, Ideal.ieee]
  have h128 : Ideal.sqrt (Ideal.ofBits FTy.f32 1124073472#32) = ((Real.sqrt 128 : ℝ) : EReal) := by
    have e : Ideal.ofBits FTy.f32 1124073472#32 = ((128 : ℝ) : EReal) := by
      simp [Ideal.ofBits, Ideal.ieee]
      norm_num
      rw [← EReal.coe_mul]; norm_num
    rw [e, Ideal.sqrt_coe, if_neg (by norm_num)]
  have hj := j.isLt
  have hr := r.isLt
  rw [hb, h128, WordCmp.cmpi_ne_eq, WordCmp.cmpi_sle_ofNat (by omega) (by omega), WordCmp.andi_ofBool]
  simp only [mul_comm h.val 128]
  by_cases h1 : sel (ix3 b r j) = 0#32 <;> by_cases h2 : j.val ≤ r.val <;> simp [h1, h2, Scalar.select]

/-- A fold over the last of four axes. -/
theorem fold_gen {n0 n1 n2 n3 : ℕ} {t u : Shape} (f : EReal → EReal → EReal) [Std.Commutative f] [Std.Associative f] (h : (⟨4, ![n0, n1, n2, n3]⟩ : Shape).ReducesTo [3] t) (hu : 0 < u.numel)
    (Z : (⟨4, ![n0, n1, n2, n3]⟩ : Shape).Idx → EReal) (init : u.Idx → EReal) (j : t.Idx) :
    Host.reduce f Z init h hu j = (Finset.univ : Finset (Fin n3)).fold f (init (Shape.Idx.first hu)) (fun k => Z (ix4 ⟨(j ⟨0, h.lt_r4_a3_0⟩).val, Shape.coordLt (j ⟨0, h.lt_r4_a3_0⟩) h.size_r4_a3_0⟩ ⟨(j ⟨1, h.lt_r4_a3_1⟩).val, Shape.coordLt (j ⟨1, h.lt_r4_a3_1⟩) h.size_r4_a3_1⟩ ⟨(j ⟨2, h.lt_r4_a3_2⟩).val, Shape.coordLt (j ⟨2, h.lt_r4_a3_2⟩) h.size_r4_a3_2⟩ k)) :=
  (Host.reduce_eq_fold _ _ _ _ _ _).trans (Shape.ReducesTo.fold_fiber_r4_a3 _ _ _ _ _)

/-- The maximum of two arrays, entry by entry. -/
theorem maxf_at {s : Shape} (x y : FVec Ideal s .f32) (i : s.Idx) : maximumf x y i = max (α := EReal) (x i) (y i) := rfl

/-- The row maxima. -/
theorem refM_apply (Z : S2x16384x8x16384.Idx → EReal) (b : Fin 2) (r : Fin 16384) (h : Fin 8) :
    refM Z (ix3 b r h) = Finset.univ.sup fun k : Fin 16384 => Z (ix4 b r h k) := by
  unfold refM
  refine (maxf_at _ _ _).trans ?_
  have e := fold_gen (f := (FloatOps.maximumf : Ideal .f32 → Ideal .f32 → Ideal .f32)) reducesTo_S2x16384x8x16384_S2x16384x8_d3 h_S_ Z (constant (F := Ideal) S_ .f32 0xFF800000#32) (ix3 b r h)
  have hb : Ideal.ofBits .f32 0xFF800000#32 = (⊥ : EReal) := by simp [Ideal.ofBits, Ideal.ieee]
  refine (congrArg₂ (max : EReal → EReal → EReal) (show _ = (⊥ : EReal) from hb) (e.trans ?_)).trans (max_eq_right bot_le)
  have hc : (constant (F := Ideal) S_ .f32 0xFF800000#32) (Shape.Idx.first h_S_) = (⊥ : EReal) := hb
  rw [hc]
  rfl

/-- The exponentials, entry by entry. -/
theorem refE_apply (Z : S2x16384x8x16384.Idx → EReal) (b : Fin 2) (r : Fin 16384) (h : Fin 8) (j : Fin 16384) :
    refE Z (ix4 b r h j) = Ideal.exp (Z (ix4 b r h j) - refM Z (ix3 b r h)) := by
  unfold refE
  generalize refM Z = M
  pointwise

/-- The weights, entry by entry. -/
theorem refP_apply (E : S2x16384x8x16384.Idx → EReal) (b : Fin 2) (r : Fin 16384) (h : Fin 8) (j : Fin 16384) :
    refP E (ix4 b r h j) = Ideal.div (E (ix4 b r h j)) (∑ k : Fin 16384, E (ix4 b r h k)) := by
  unfold refP
  pointwise

/-- The weighted sums, entry by entry. -/
theorem refO_apply (P : S2x16384x8x16384.Idx → EReal) (v : S2x16384x1024.Idx → EReal) (b : Fin 2) (r : Fin 16384) (h : Fin 8) (d : Fin 128) :
    refO P v (ix3 b r ⟨128 * h.val + d.val, by omega⟩) = ∑ j : Fin 16384, v (ix3 b j ⟨128 * h.val + d.val, by omega⟩) * P (ix4 b r h j) := by
  unfold refO
  pointwise
  refine Finset.sum_congr rfl fun j _ => ?_
  congr 3
  exact Fin.ext (by simp only [mul_comm])

end Cert.ReferenceIdeal.Attn
-- ==== Proof.AttnValue.Equal.lean ====
/-
The attention the launch leaves is the reference's, where the queries and keys are real numbers and every row keeps a
key at or before itself.
-/
module

public import proofs.«01_k».proof.Proof.AttnValue.Output
public import proofs.«01_k».proof.Proof.AttnValue.Reference

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.ShloMosaic.Pipeline (Dat Cfg Window)
open Idealize.ShloMosaic.Pointwise
open Cert.ReferenceIdeal.Attn (refZ refM refE refP refO refZ_apply refM_apply refE_apply refP_apply refO_apply)

variable (V : (c : Dev nD) → (b : Ref sig .tc) → Buf (Elt Ideal) ((c : Thread nD τ).loc b))

/-- The queries, keys and values of a device, as arrays of extended reals. -/
def qV (c : Dev nD) : S2x16384x1024.Idx → EReal := V c main_arg0
def kV (c : Dev nD) : S2x16384x1024.Idx → EReal := V c main_arg1
def vV (c : Dev nD) : S2x16384x1024.Idx → EReal := V c main_arg2
/-- The bias of a device. -/
def bV (c : Dev nD) : S2x16384x16384.Idx → EReal := V c main_v12

/-- What a launch is given: real queries and keys, a bias of zero at the kept pairs and below every number elsewhere, and
    a kept key in every row. -/
structure Given (c : Dev nD) (sel : S2x16384x16384.Idx → BitVec 32) : Prop where
  q : ∀ b r x, ∃ t : ℝ, qV V c (ix3 b r x) = (t : EReal)
  k : ∀ b r x, ∃ t : ℝ, kV V c (ix3 b r x) = (t : EReal)
  bias : ∀ (b : Fin 2) (r j : Fin 16384), bV V c (ix3 b r j) = if sel (ix3 b r j) ≠ 0#32 ∧ j.val ≤ r.val then (0 : EReal) else ⊥
  some : ∀ (b : Fin 2) (r : Fin 16384), ∃ j : Fin 16384, sel (ix3 b r j) ≠ 0#32 ∧ j.val ≤ r.val

theorem real_sum {ι : Type} (S : Finset ι) (f : ι → EReal) (h : ∀ i ∈ S, ∃ t : ℝ, f i = (t : EReal)) : ∃ t : ℝ, ∑ i ∈ S, f i = (t : EReal) := by
  classical
  induction S using Finset.induction_on with
  | empty => exact ⟨0, by simp⟩
  | insert a S ha ih =>
    obtain ⟨t, ht⟩ := ih fun i hi => h i (Finset.mem_insert_of_mem hi)
    obtain ⟨u, hu⟩ := h a (Finset.mem_insert_self a S)
    exact ⟨u + t, by rw [Finset.sum_insert ha, ht, hu, EReal.coe_add]⟩

variable {V}

/-- The product of a query row and a key row is a real number. -/
theorem dot_real {c : Dev nD} {sel : S2x16384x16384.Idx → BitVec 32} (g : Given V c sel) (b h r j : ℕ) :
    ∃ t : ℝ, (∑ d : Fin 128, at3 (V c main_arg0) b r (128 * h + d.val) * at3 (V c main_arg1) b j (128 * h + d.val)) = (t : EReal) :=
  real_sum _ _ fun d _ => by
    obtain ⟨s, hs⟩ := g.q (Fin.ofNat 2 b) (Fin.ofNat 16384 r) (Fin.ofNat 1024 (128 * h + d.val))
    obtain ⟨u, hu⟩ := g.k (Fin.ofNat 2 b) (Fin.ofNat 16384 j) (Fin.ofNat 1024 (128 * h + d.val))
    exact ⟨s * u, (congrArg₂ (· * ·) hs hu).trans (EReal.coe_mul s u).symm⟩

theorem score_scV {c : Dev nD} {sel : S2x16384x16384.Idx → BitVec 32} (g : Given V c sel) (b h r j : ℕ) : Score (scV V c b h r j) := by
  obtain ⟨t, ht⟩ := dot_real g b h r j
  unfold scV
  rw [ht]
  have hb : at4 (α := EReal) (V c main_v12) b r j = _ := g.bias (Fin.ofNat 2 b) (Fin.ofNat 16384 r) (Fin.ofNat 16384 j)
  rw [hb]
  unfold cst
  split
  · exact Or.inr ⟨_, by rw [add_zero, ← EReal.coe_mul]⟩
  · exact Or.inl (EReal.add_bot _)

theorem at3_fin (X : S2x16384x1024.Idx → EReal) (b : Fin 2) (r : Fin 16384) (x : ℕ) (hx : x < 1024) :
    at3 X b.val r.val x = X (ix3 b r ⟨x, hx⟩) := by
  unfold at3
  congr 2
  · exact Fin.ext (Nat.mod_eq_of_lt b.isLt)
  · exact Fin.ext (Nat.mod_eq_of_lt r.isLt)
  · exact Fin.ext (Nat.mod_eq_of_lt hx)

theorem at4_fin {α : Type} (X : S2x16384x16384.Idx → α) (b : Fin 2) (r j : Fin 16384) :
    at4 X b.val r.val j.val = X (ix3 b r j) := by
  unfold at4
  congr 2
  · exact Fin.ext (Nat.mod_eq_of_lt b.isLt)
  · exact Fin.ext (Nat.mod_eq_of_lt r.isLt)
  · exact Fin.ext (Nat.mod_eq_of_lt j.isLt)

/-- A key past its row is masked. -/
theorem scV_bot {c : Dev nD} {sel : S2x16384x16384.Idx → BitVec 32} (g : Given V c sel) (b : Fin 2) (h : ℕ) (r j : Fin 16384) (hj : r.val < j.val) :
    scV V c b.val h r.val j.val = ⊥ := by
  unfold scV
  have hb : at4 (α := EReal) (V c main_v12) b.val r.val j.val = ⊥ := (at4_fin _ b r j).trans ((g.bias b r j).trans (if_neg fun e => by omega))
  rw [hb, EReal.add_bot]

/-- The launch's score is the reference's, measured in halvings. -/
theorem same_scV {c : Dev nD} {sel : S2x16384x16384.Idx → BitVec 32} (g : Given V c sel) (b : Fin 2) (h : Fin 8) (r j : Fin 16384) :
    Same (scV V c b.val h.val r.val j.val) (refZ (qV V c) (kV V c) sel (ix4 b r h j)) := by
  have e : (∑ d : Fin 128, kV V c (ix3 b j ⟨128 * h.val + d.val, by omega⟩) * qV V c (ix3 b r ⟨128 * h.val + d.val, by omega⟩))
      = ∑ d : Fin 128, at3 (V c main_arg0) b.val r.val (128 * h.val + d.val) * at3 (V c main_arg1) b.val j.val (128 * h.val + d.val) :=
    Finset.sum_congr rfl fun d _ => by
      rw [at3_fin (V c main_arg0) b r (128 * h.val + d.val) (by omega), at3_fin (V c main_arg1) b j (128 * h.val + d.val) (by omega)]
      exact mul_comm _ _
  obtain ⟨t, ht⟩ := dot_real g b.val h.val r.val j.val
  rw [refZ_apply, e]
  unfold scV
  have hb : at4 (α := EReal) (V c main_v12) b.val r.val j.val = _ := (at4_fin _ b r j).trans (g.bias b r j)
  rw [hb, ht]
  by_cases hkj : sel (ix3 b r j) ≠ 0#32 ∧ j.val ≤ r.val
  · rw [if_pos hkj, if_pos hkj]
    have h0 : (Real.sqrt 128) ≠ 0 := (Real.sqrt_pos.mpr (by norm_num)).ne'
    refine Or.inr ⟨t * (Real.sqrt 128)⁻¹, ?_, ?_⟩
    · unfold cst
      rw [add_zero, ← EReal.coe_mul, mul_assoc]
    · unfold Ideal.div
      rw [if_neg (by simpa using h0), ← EReal.coe_inv, ← EReal.coe_mul]
  · rw [if_neg hkj, if_neg hkj, EReal.add_bot]
    exact Or.inl ⟨rfl, rfl⟩

theorem mx_fin (s : ℕ → EReal) (N : ℕ) : mx s N = Finset.univ.sup fun j : Fin N => s j.val := by
  unfold mx
  refine le_antisymm (Finset.sup_le fun j hj => ?_) (Finset.sup_le fun j _ => Finset.le_sup (f := s) (Finset.mem_range.mpr j.isLt))
  exact Finset.le_sup (f := fun j : Fin N => s j.val) (Finset.mem_univ ⟨j, Finset.mem_range.mp hj⟩)

theorem ac_fin (s w : ℕ → EReal) (N : ℕ) :
    ac s w N = ∑ j : Fin N, Ideal.exp2 (s j.val - Finset.univ.sup fun j : Fin N => s j.val) * w j.val := by
  unfold ac
  rw [mx_fin, Finset.sum_range]

theorem woV_eq (V : (c : Dev nD) → (b : Ref sig .tc) → Buf (Elt Ideal) ((c : Thread nD τ).loc b)) (c : Dev nD) (b : Fin 2) (h : Fin 8) (d : Fin 128) (j : Fin 16384) :
    woV V c b.val h.val d.val j.val = vV V c (ix3 b j ⟨128 * h.val + d.val, by omega⟩) := by
  unfold woV
  rw [if_pos d.isLt]
  exact at3_fin (V c main_arg2) b j (128 * h.val + d.val) (by omega)

/-- The reference's weights over its scores. -/
theorem weights_eq (Z : Cert.ReferenceIdeal.S2x16384x8x16384.Idx → EReal) (b : Fin 2) (r : Fin 16384) (h : Fin 8) (j : Fin 16384) :
    refP (refE Z) (ix4 b r h j) = Ideal.div (Ideal.exp (Z (ix4 b r h j) - Finset.univ.sup fun k : Fin 16384 => Z (ix4 b r h k)))
      (∑ l : Fin 16384, Ideal.exp (Z (ix4 b r h l) - Finset.univ.sup fun k : Fin 16384 => Z (ix4 b r h k))) := by
  rw [refP_apply]
  simp only [refE_apply, refM_apply]

/-- Entry by entry, the launch's result is the reference's. -/
theorem att_eq {c : Dev nD} {sel : S2x16384x16384.Idx → BitVec 32} (g : Given V c sel) (b : Fin 2) (r : Fin 16384) (h : Fin 8) (d : Fin 128) :
    attV V c b.val h.val r.val d.val (512 * (r.val / 512) + 512)
      = refO (refP (refE (refZ (qV V c) (kV V c) sel))) (vV V c) (ix3 b r ⟨128 * h.val + d.val, by omega⟩) := by
  rw [refO_apply]
  have hr := r.isLt
  have hn : 512 * (r.val / 512) + 512 + (16384 - (512 * (r.val / 512) + 512)) = 16384 := by omega
  have hx : ∀ w : ℕ → EReal, ac (scV V c b.val h.val r.val) w (512 * (r.val / 512) + 512) = ac (scV V c b.val h.val r.val) w 16384 := fun w => by
    rw [ac_extend _ w (512 * (r.val / 512) + 512) (16384 - (512 * (r.val / 512) + 512)) fun j h1 h2 =>
      scV_bot g b h.val r ⟨j, by omega⟩ (by show r.val < j; omega), hn]
  unfold attV
  rw [hx, hx, ac_fin, ac_fin]
  obtain ⟨j0, hj0⟩ := g.some b r
  clear hn hx
  have hex : ∃ j : Fin 16384, refZ (qV V c) (kV V c) sel (ix4 b r h j) ≠ ⊥ := by
    refine ⟨j0, fun hz => ?_⟩
    rcases same_scV g b h r j0 with ⟨hs, _⟩ | ⟨t, _, ht⟩
    · unfold scV at hs
      obtain ⟨t, ht⟩ := dot_real g b.val h.val r.val j0.val
      have hb : at4 (α := EReal) (V c main_v12) b.val r.val j0.val = 0 := (at4_fin _ b r j0).trans ((g.bias b r j0).trans (if_pos hj0))
      rw [ht, hb, add_zero] at hs
      unfold cst at hs
      rw [← EReal.coe_mul] at hs
      exact EReal.coe_ne_bot _ hs
    · rw [hz] at ht
      exact EReal.coe_ne_bot _ ht.symm
  have key := softmax_eq (fun j : Fin 16384 => scV V c b.val h.val r.val j.val) (fun j => refZ (qV V c) (kV V c) sel (ix4 b r h j))
    (fun j => woV V c b.val h.val d.val j.val) (fun j => same_scV g b h r j) hex
  refine key.trans (Finset.sum_congr rfl fun j _ => ?_)
  rw [weights_eq, ← woV_eq V c b h d j]

/-- The launch's result is the reference's. -/
theorem outV_eq {c : Dev nD} {sel : S2x16384x16384.Idx → BitVec 32} (g : Given V c sel) :
    outV V c = refO (refP (refE (refZ (qV V c) (kV V c) sel))) (vV V c) := by
  funext i
  have h2 : (i 2).val < 1024 := (i 2).isLt
  have hi : i = ix3 (i 0) (i 1) ⟨128 * ((i 2).val / 128) + (i 2).val % 128, by omega⟩ := by
    funext a
    match a with
    | ⟨0, _⟩ => rfl
    | ⟨1, _⟩ => rfl
    | ⟨2, _⟩ => exact Fin.ext (Nat.div_add_mod (i 2).val 128).symm
  have e := att_eq g (i 0) (i 1) ⟨(i 2).val / 128, by omega⟩ ⟨(i 2).val % 128, Nat.mod_lt _ (by norm_num)⟩
  refine Eq.trans ?_ (e.trans (congrArg _ hi.symm))
  rfl

end Cert.KernelIdeal.Attn
-- ==== Proof.AttnValue.Precondition.lean ====
/-
What the precondition says of an argument list: the queries and keys are real numbers, and every row of every batch
keeps a key at or before itself.
-/
module

public import proofs.«01_k».proof.Pre_finite_logits_and_a_kept_key
public import Idealize.ShloMosaic.Lib.Affine
public import Idealize.ShloMosaic.Lib.Decide
public import Idealize.ShloMosaic.Lib.Pointwise
public import Idealize.ShloMosaic.Lib.WordCmp

@[expose] public section

set_option maxRecDepth 16384
set_option Elab.async false

noncomputable section

namespace Cert.Pre_finite_logits_and_a_kept_key

open Idealize.ShloMosaic

/-- The shape relations of the precondition hold. -/
instance preFacts : Facts where
  bcast_S_S2x16384x16384 := by decide
  bcast_S16384_S1x1x16384_2 := by decide
  bcast_S16384_S1x16384x1_1 := by decide
  bcast_S1x1x16384_S1x16384x16384_0_1_2 := by decide
  bcast_S1x16384x1_S1x16384x16384_0_1_2 := by decide
  bcast_S1x16384x16384_S2x16384x16384_0_1_2 := by decide
  bcast_S_S2x16384x1024 := by decide
  reducesTo_S2x16384x16384_S2x16384_d2 := by decide
  h_S_ := by decide
  bcast_S2x16384_S2x16384x1_0_1 := by decide
  bcast_S2x16384x1_S2x16384x1024_0_1_2 := by decide

open Facts

/-- The bits of the kept pairs. -/
def keepBits (sel : IVec S2x16384x16384 32) : IVec S2x16384x16384 1 :=
  andi (cmpi .ne sel (broadcastInDim S2x16384x16384 ![] bcast_S_S2x16384x16384 (constantI S_ 32 0#32)))
    (broadcastInDim S2x16384x16384 ![0, 1, 2] bcast_S1x16384x16384_S2x16384x16384_0_1_2
      (cmpi .sle
        (broadcastInDim S1x16384x16384 ![0, 1, 2] bcast_S1x1x16384_S1x16384x16384_0_1_2 (broadcastInDim S1x1x16384 ![2] bcast_S16384_S1x1x16384_2 (iotaInDim S16384 32 0)))
        (broadcastInDim S1x16384x16384 ![0, 1, 2] bcast_S1x16384x1_S1x16384x16384_0_1_2 (broadcastInDim S1x16384x1 ![1] bcast_S16384_S1x16384x1_1 (iotaInDim S16384 32 0)))))

/-- The rows with a kept key. -/
def rowBits (K : IVec S2x16384x16384 1) : IVec S2x16384 1 :=
  Host.reduce IntOp.ori K (constantI S_ 1 0#1) reducesTo_S2x16384x16384_S2x16384_d2 h_S_

/-- The finite entries. -/
def finBits (q : FVec Ideal S2x16384x1024 .bf16) : IVec S2x16384x1024 1 :=
  cmpf .olt (Host.absf q) (broadcastInDim S2x16384x1024 ![] bcast_S_S2x16384x1024 (constant S_ .bf16 0x7F80#16))

/-- The rows' bits, repeated along the last axis. -/
def spread (R : IVec S2x16384 1) : IVec S2x16384x1024 1 :=
  broadcastInDim S2x16384x1024 ![0, 1, 2] bcast_S2x16384x1_S2x16384x1024_0_1_2 (broadcastInDim S2x16384x1 ![0, 1] bcast_S2x16384_S2x16384x1_0_1 R)

/-- The precondition in these pieces. -/
theorem fn_eq (q k v : FVec Ideal S2x16384x1024 .bf16) (sel : IVec S2x16384x16384 32) :
    fn (F := Ideal) q k v sel = andi (andi (finBits q) (finBits k)) (spread (rowBits (keepBits sel))) := rfl

/-- The kept pairs, read. -/
theorem keepBits_apply (sel : IVec S2x16384x16384 32) (b : Fin 2) (r j : Fin 16384) :
    keepBits sel (ix3 b r j) = BitVec.ofBool (decide (sel (ix3 b r j) ≠ 0#32 ∧ j.val ≤ r.val)) := by
  unfold keepBits
  pointwise
  have hj := j.isLt
  have hr := r.isLt
  rw [WordCmp.cmpi_ne_eq, WordCmp.cmpi_sle_ofNat (by omega) (by omega), WordCmp.andi_ofBool]
  by_cases h1 : sel (ix3 b r j) = 0#32 <;> by_cases h2 : j.val ≤ r.val <;> simp [h1, h2]

/-- The spread bits, read. -/
theorem spread_apply (R : IVec S2x16384 1) (b : Fin 2) (r : Fin 16384) (x : Fin 1024) :
    spread R (ix3 b r x) = R (ix2 b r) := by
  unfold spread
  pointwise

/-- The finite bits, read. -/
theorem finBits_apply (q : FVec Ideal S2x16384x1024 .bf16) (b : Fin 2) (r : Fin 16384) (x : Fin 1024)
    (h : finBits q (ix3 b r x) = 1#1) : ∃ t : ℝ, (q (ix3 b r x) : EReal) = t := by
  unfold finBits at h
  pointwise at h
  have hb : Ideal.ofBits FTy.bf16 32640#16 = (⊤ : EReal) := by simp [Ideal.ofBits, Ideal.ieee]
  rw [hb] at h
  have h' : max (q (ix3 b r x) : EReal) (-(q (ix3 b r x) : EReal)) < ⊤ := by
    by_contra hn
    have e : decide ((FloatOps.absf (q (ix3 b r x)) : Ideal .bf16) < (⊤ : EReal)) = false := decide_eq_false hn
    rw [e] at h
    exact absurd h (by decide)
  obtain ⟨h1, h2⟩ := max_lt_iff.1 h'
  generalize (q (ix3 b r x) : EReal) = z at h1 h2
  induction z using EReal.rec with
  | bot => simp at h2
  | top => simp at h1
  | coe t => exact ⟨t, rfl⟩

/-- An or over the last of three axes is one only where some entry is. -/
theorem or_gen {n0 n1 n2 : ℕ} {t u : Shape} (h : (⟨3, ![n0, n1, n2]⟩ : Shape).ReducesTo [2] t) (hu : 0 < u.numel)
    (Z : (⟨3, ![n0, n1, n2]⟩ : Shape).Idx → BitVec 1) (j : t.Idx)
    (h1 : Host.reduce IntOp.ori Z (constantI u 1 0#1) h hu j = 1#1) :
    ∃ k : Fin n2, Z (ix3 ⟨(j ⟨0, h.lt_r3_a2_0⟩).val, Shape.coordLt (j ⟨0, h.lt_r3_a2_0⟩) h.size_r3_a2_0⟩ ⟨(j ⟨1, h.lt_r3_a2_1⟩).val, Shape.coordLt (j ⟨1, h.lt_r3_a2_1⟩) h.size_r3_a2_1⟩ k) = 1#1 := by
  classical
  by_contra hc
  rw [Host.reduce_eq_fold, Shape.ReducesTo.fold_fiber_r3_a2, Finset.fold_congr (g := fun _ => 0#1) (fun k _ => by
    rcases BitVec.eq_zero_or_eq_one (Z (ix3 ⟨(j ⟨0, h.lt_r3_a2_0⟩).val, Shape.coordLt (j ⟨0, h.lt_r3_a2_0⟩) h.size_r3_a2_0⟩ ⟨(j ⟨1, h.lt_r3_a2_1⟩).val, Shape.coordLt (j ⟨1, h.lt_r3_a2_1⟩) h.size_r3_a2_1⟩ k)) with e | e
    · exact e
    · exact absurd ⟨k, e⟩ hc)] at h1
  have hf : ∀ S : Finset (Fin n2), S.fold IntOp.ori (constantI u 1 0#1 (Shape.Idx.first hu)) (fun _ => 0#1) = 0#1 := by
    intro S
    induction S using Finset.cons_induction with
    | empty => rfl
    | cons a S ha ih => rw [Finset.fold_cons, ih]; rfl
  rw [hf] at h1
  exact absurd h1 (by decide)

/-- A row with its bit set keeps a key. -/
theorem rowBits_apply (K : IVec S2x16384x16384 1) (b : Fin 2) (r : Fin 16384) (h : rowBits K (ix2 b r) = 1#1) :
    ∃ j : Fin 16384, K (ix3 b r j) = 1#1 :=
  or_gen reducesTo_S2x16384x16384_S2x16384_d2 h_S_ K (ix2 b r) h

/-- The precondition, in words: real queries and keys, and a kept key in every row. -/
theorem holds {q k v : FVec Ideal S2x16384x1024 .bf16} {sel : IVec S2x16384x16384 32}
    (h : fn (F := Ideal) q k v sel = fun _ => 1#1) :
    (∀ b r x, ∃ t : ℝ, (q (ix3 b r x) : EReal) = t) ∧ (∀ b r x, ∃ t : ℝ, (k (ix3 b r x) : EReal) = t)
      ∧ ∀ (b : Fin 2) (r : Fin 16384), ∃ j : Fin 16384, sel (ix3 b r j) ≠ 0#32 ∧ j.val ≤ r.val := by
  rw [fn_eq] at h
  have hand : ∀ x y : BitVec 1, IntOp.andi x y = 1#1 → x = 1#1 ∧ y = 1#1 := by decide
  have key : ∀ (b : Fin 2) (r : Fin 16384) (x : Fin 1024), finBits q (ix3 b r x) = 1#1 ∧ finBits k (ix3 b r x) = 1#1 ∧ spread (rowBits (keepBits sel)) (ix3 b r x) = 1#1 := fun b r x => by
    have e := congrFun h (ix3 b r x)
    obtain ⟨e1, e2⟩ := hand _ _ e
    obtain ⟨e3, e4⟩ := hand _ _ e1
    exact ⟨e3, e4, e2⟩
  refine ⟨fun b r x => finBits_apply q b r x (key b r x).1, fun b r x => finBits_apply k b r x (key b r x).2.1, fun b r => ?_⟩
  have e := (key b r 0).2.2
  rw [spread_apply] at e
  obtain ⟨j, hj⟩ := rowBits_apply _ b r e
  rw [keepBits_apply] at hj
  refine ⟨j, ?_⟩
  by_contra hn
  rw [decide_eq_false hn] at hj
  exact absurd hj (by decide)

end Cert.Pre_finite_logits_and_a_kept_key
-- ==== Proof.Calls.Norm.lean ====
/-
Rows normalised by their root mean square: the formula that several calls share.
-/
module

public import proofs.«01_k».proof.Proof.Gen.ResIdeal
public import Idealize.ShloMosaic.Lib.Pointwise

@[expose] public section

set_option maxRecDepth 16384
set_option Elab.async false

noncomputable section

namespace Cert.Calls

open Idealize.ShloMosaic
open Idealize.ShloMosaic.TcCoe Idealize.ShloMosaic.Tactic Idealize.ShloMosaic.Pointwise
open Idealize.SL.Sem

/-- A row over its root mean square, times the gains. -/
def rowNorm (x g : Fin 2048 → EReal) (d : Fin 2048) : EReal :=
  x d * Ideal.rsqrt (Ideal.div (∑ k, x k * x k) (Ideal.ofBits .f32 0x45000000#32) + Ideal.ofBits .f32 0x358637BD#32) * g d

end Cert.Calls

end
-- ==== Proof.Calls.Proj.lean ====
/-
The normalised rows times a block of columns of the input weights, entry by entry: the launch's array and the reference's result.
-/
module

public import proofs.«01_k».proof.Proof.Gen.ProjIdeal.Value
public import proofs.«01_k».proof.Proof.Gen.ProjReferenceIdeal.Run
public import proofs.«01_k».proof.Proof.Calls.Norm
public import Idealize.ShloMosaic.Lib.Pipeline.ValueKit
public import Idealize.ShloMosaic.Lib.Pointwise

@[expose] public section

set_option maxRecDepth 16384
set_option Elab.async false

noncomputable section

namespace Cert.Calls.Proj

open Idealize.ShloMosaic
open Idealize.ShloMosaic.TcCoe Idealize.ShloMosaic.Tactic Idealize.ShloMosaic.Pointwise
open Idealize.SL.Sem
open Cert.Calls Cert.ProjIdeal Cert.ProjIdeal.Gen Cert.ProjIdeal.Value

/-- The normalised rows the body keeps, at an entry. -/
theorem pay1_at (x0 : S1024x2048.Idx → EReal) (x1 : S1x2048.Idx → EReal) (r : Fin 1024) (d : Fin 2048) :
    (k0_pay1 (F := Ideal) x0 x1) (ix2 r d) = rowNorm (fun k => x0 (ix2 r k)) (fun k => x1 (ix2 0 k)) d := by
  unfold k0_pay1 rowNorm
  pointwise
  done

/-- What the body stores, at an entry, of the kept rows. -/
theorem pay2_at (h : S1024x2048.Idx → EReal) (w : S2048x896.Idx → EReal) (r : Fin 1024) (d : Fin 896) :
    (k0_pay2 (F := Ideal) h w) (ix2 r d) = ∑ j : Fin 2048, h (ix2 r j) * w (ix2 j d) := by
  unfold k0_pay2
  pointwise
  done

variable (m : (ℓ : Loc nD τ sig) → Buf (Elt Ideal) ℓ) (c : Dev nD)

/-- A point that starts a row tile keeps the tile's normalised rows. -/
theorem kept_A (t : Fin cfg0.N) (h0 : t.val % 4 = 0) :
    (outsAt0 m c t.val t.isLt).2 = k0_pay1 (F := Ideal) (iblk m c 0 t) (iblk m c 1 t) := by
  rw [outsAt0_A m c t h0]
  dsimp only
  frame_out

theorem left_A (t : Fin cfg0.N) (h0 : t.val % 4 = 0) :
    (outsAt0 m c t.val t.isLt).1 = k0_pay2 (F := Ideal) (outsAt0 m c t.val t.isLt).2 (iblk m c 2 t) := by
  rw [kept_A m c t h0, outsAt0_A m c t h0]
  dsimp only
  frame_out

/-- Any other keeps what the point before it kept. -/
theorem kept_B (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  rfl

theorem left_B (t : Fin cfg0.N) (h0 : ¬t.val % 4 = 0) :
    (outsAt0 m c t.val t.isLt).1 = k0_pay2 (F := Ideal) (outsAt0 m c t.val t.isLt).2 (iblk m c 2 t) := by
  rw [kept_B m c t h0, outsAt0_B m c t h0]
  dsimp only
  frame_out
  exact congrArg (fun z => k0_pay2 (F := Ideal) z (iblk m c 2 t)) (Memref.IsWhole.read_unread (m := Memref.whole cc0_scratch0) _ _)

theorem left_eq (t : Fin cfg0.N) :
    (outsAt0 m c t.val t.isLt).1 = k0_pay2 (F := Ideal) (outsAt0 m c t.val t.isLt).2 (iblk m c 2 t) := by
  by_cases h0 : t.val % 4 = 0
  · exact left_A m c t h0
  · exact left_B m c t h0

theorem grid_facts (t : Fin cfg0.N) : win0_0.index t (0 : Fin 2) = t.val / 4 ∧ win0_0.index t (1 : Fin 2) = 0 ∧ win0_1.index t (0 : Fin 2) = 0 ∧ win0_1.index t (1 : Fin 2) = 0
    ∧ win0_2.index t (0 : Fin 2) = 0 ∧ win0_2.index t (1 : Fin 2) = t.val % 4 ∧ win0_3.index t (0 : Fin 2) = t.val / 4 ∧ win0_3.index t (1 : Fin 2) = t.val % 4 := by
  revert t; decide +kernel

theorem blk0 (t : Fin cfg0.N) (r : Fin 1024) (d : Fin 2048) (q : Fin 32768) (h : q.val = 1024 * (t.val / 4) + r.val) :
    (iblk m c 0 t : S1024x2048.Idx → EReal) (ix2 r d) = (m ((c : Thread nD τ).loc main_arg0) : S32768x2048.Idx → EReal) (ix2 q d) := by
  have g := grid_facts t
  refine (congrArg (V m c main_arg0) (a₂ := ix2 q d) (funext fun a => Fin.ext ?_)).trans (congrFun (V_main_arg0 m c) _)
  fin_cases a
  · change win0_0.index t (0 : Fin 2) * 1024 + 1 * r.val = q.val
    omega
  · change win0_0.index t (1 : Fin 2) * 2048 + 1 * d.val = d.val
    omega

theorem blk1 (t : Fin cfg0.N) (d : Fin 2048) :
    (iblk m c 1 t : S1x2048.Idx → EReal) (ix2 0 d) = (m ((c : Thread nD τ).loc main_arg1) : S2048.Idx → EReal) (ix1 d) := by
  have g := grid_facts t
  refine (congrArg (V m c main_v2) (a₂ := ix2 0 d) (funext fun a => Fin.ext ?_)).trans ?_
  · fin_cases a
    · change win0_1.index t (0 : Fin 2) * 1 + 1 * 0 = 0
      omega
    · change win0_1.index t (1 : Fin 2) * 2048 + 1 * d.val = d.val
      omega
  · unfold V; after_results_simp
    generalize m (c, Proc.tc.devRef main_arg1) = a1
    pointwise

theorem blk2 (t : Fin cfg0.N) (j : Fin 2048) (d : Fin 896) (q : Fin 3584) (h : q.val = 896 * (t.val % 4) + d.val) :
    (iblk m c 2 t : S2048x896.Idx → EReal) (ix2 j d) = (m ((c : Thread nD τ).loc main_arg2) : S2048x9800.Idx → EReal) (ix2 j ⟨q.val + 0, by omega⟩) := by
  have g := grid_facts t
  refine (congrArg (V m c main_v1) (a₂ := ix2 j q) (funext fun a => Fin.ext ?_)).trans ?_
  · fin_cases a
    · change win0_2.index t (0 : Fin 2) * 2048 + 1 * j.val = j.val
      omega
    · change win0_2.index t (1 : Fin 2) * 896 + 1 * d.val = q.val
      omega
  · unfold V; after_results_simp
    generalize m (c, Proc.tc.devRef main_arg2) = a2
    pointwise
    done

/-- What the rows kept after any point are. -/
theorem kept_at : ∀ (n : ℕ) (h : n < cfg0.N) (r : Fin 1024) (d : Fin 2048) (q : Fin 32768), q.val = 1024 * (n / 4) + r.val →
    ((outsAt0 m c n h).2 : S1024x2048.Idx → EReal) (ix2 r d)
      = rowNorm (fun k => (m ((c : Thread nD τ).loc main_arg0) : S32768x2048.Idx → EReal) (ix2 q k)) (fun k => (m ((c : Thread nD τ).loc main_arg1) : S2048.Idx → EReal) (ix1 k)) d := by
  intro n
  induction n with
  | zero =>
    intro h r d q hq
    refine (congrFun (kept_A m c ⟨0, h⟩ rfl) (ix2 r d)).trans ((pay1_at _ _ r d).trans ?_)
    have f0 := fun k => blk0 m c ⟨0, h⟩ r k q hq
    simp only [f0, blk1]
  | succ n ih =>
    intro h r d q hq
    by_cases h0 : (n + 1) % 4 = 0
    · refine (congrFun (kept_A m c ⟨n + 1, h⟩ h0) (ix2 r d)).trans ((pay1_at _ _ r d).trans ?_)
      have f0 := fun k => blk0 m c ⟨n + 1, h⟩ r k q hq
      simp only [f0, blk1]
    · refine (congrFun (kept_B m c ⟨n + 1, h⟩ h0) (ix2 r d)).trans (ih (Nat.lt_of_succ_lt h) r d q ?_)
      have : n / 4 = (n + 1) / 4 := by omega
      omega

/-- What the launch computes, from its arguments. -/
def out (a0 : S32768x2048.Idx → EReal) (a1 : S2048.Idx → EReal) (a2 : S2048x9800.Idx → EReal) : S32768x3584.Idx → EReal := fun i =>
  ∑ j : Fin 2048, rowNorm (fun k => a0 (ix2 (i 0) k)) (fun k => a1 (ix1 k)) j * a2 (ix2 j ⟨(i 1).val + 0, by have h : (i 1).val < 3584 := (i 1).isLt; omega⟩)

theorem entry (t : Fin cfg0.N) (y : S1024x896.Idx) (i : S32768x3584.Idx) (h0 : (i 0).val = win0_3.index t (0 : Fin 2) * 1024 + 1 * (y 0).val)
    (h1 : (i 1).val = win0_3.index t (1 : Fin 2) * 896 + 1 * (y 1).val) :
    (outsAt0 m c t.val t.isLt).1 y
      = out (m ((c : Thread nD τ).loc main_arg0)) (m ((c : Thread nD τ).loc main_arg1)) (m ((c : Thread nD τ).loc main_arg2)) i := by
  have g := grid_facts t
  have hq : (i 0).val = 1024 * (t.val / 4) + (y 0).val := by omega
  have hd : (i 1).val = 896 * (t.val % 4) + (y 1).val := by omega
  have hy : y = ix2 (y 0) (y 1) := by
    funext a; fin_cases a <;> rfl
  rw [left_eq m c t, hy]
  refine (pay2_at _ _ _ _).trans ?_
  unfold out
  refine Finset.sum_congr rfl fun j _ => ?_
  rw [kept_at m c t.val t.isLt (y 0) j (i 0) hq]
  exact congrArg _ (blk2 m c t j (y 1) (i 1) hd)

theorem covers : ((cfg0).win 3).Covers := by decide +kernel

/-- The launch's array after the run. -/
theorem arr_eq : (dats m 0 c).arrAt 3 cfg0.N = out (m ((c : Thread nD τ).loc main_arg0)) (m ((c : Thread nD τ).loc main_arg1)) (m ((c : Thread nD τ).loc main_arg2)) := by
  have key := entry m c
  generalize hG : out (m ((c : Thread nD τ).loc main_arg0)) (m ((c : Thread nD τ).loc main_arg1)) (m ((c : Thread nD τ).loc main_arg2)) = G at key ⊢
  refine (dats m 0 c).arrAt_eq_of_covers 3 G covers fun t _ y => ?_
  have k := key t y
  generalize hT : (outsAt0 m c t.val t.isLt).1 = T at k
  have hA : (dats m 0 c).after 3 t = T := (after0_3 m c t).trans hT
  rw [hA]
  exact k _ rfl rfl

end Cert.Calls.Proj

namespace Cert.Calls.ProjRef

open Cert.Calls Cert.Calls.Proj Cert.ProjReferenceIdeal Cert.ProjReferenceIdeal.Gen
open Idealize.ShloMosaic Idealize.ShloMosaic.TcCoe Idealize.ShloMosaic.Tactic Idealize.ShloMosaic.Pointwise

/-- The reference's result at an entry. -/
theorem ref_at (a0 : FVec Ideal S32768x2048 .f32) (a1 : FVec Ideal S2048 .f32) (a2 : FVec Ideal S2048x9800 .f32) (r : Fin 32768) (d : Fin 3584) :
    (truncf .bf16 (Host.dotGeneral dot_S32768x2048_S2048x3584_S32768x3584_1_0_0_1_n_n none (mulf (mulf a0 (broadcastInDim S32768x2048 ![0, 1] bcast_S32768x1_S32768x2048_0_1 (Host.rsqrt (addf (Host.divf (broadcastInDim S32768x1 ![0] bcast_S32768_S32768x1_0 (Host.reduceAdd (mulf a0 a0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 a1))) (extractStridedSlice S2048x3584 ![0, 0] a2 slices_S2048x9800_S2048x3584_0_0)) bitsLt_bf16_f32 : FVec Ideal S32768x3584 .bf16) (ix2 r d)
      = ∑ j : Fin 2048, rowNorm (fun k => a0 (ix2 r k)) (fun k => a1 (ix1 k)) j * a2 (ix2 j ⟨d.val + 0, by omega⟩) := by
  unfold rowNorm
  pointwise
  done

theorem ref_eq (a0 : FVec Ideal S32768x2048 .f32) (a1 : FVec Ideal S2048 .f32) (a2 : FVec Ideal S2048x9800 .f32) :
    (truncf .bf16 (Host.dotGeneral dot_S32768x2048_S2048x3584_S32768x3584_1_0_0_1_n_n none (mulf (mulf a0 (broadcastInDim S32768x2048 ![0, 1] bcast_S32768x1_S32768x2048_0_1 (Host.rsqrt (addf (Host.divf (broadcastInDim S32768x1 ![0] bcast_S32768_S32768x1_0 (Host.reduceAdd (mulf a0 a0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 a1))) (extractStridedSlice S2048x3584 ![0, 0] a2 slices_S2048x9800_S2048x3584_0_0)) bitsLt_bf16_f32 : FVec Ideal S32768x3584 .bf16) = out a0 a1 a2 := by
  funext i
  have hi : i = ix2 (i 0) (i 1) := by funext a; fin_cases a <;> rfl
  exact (congrArg _ hi).trans (ref_at a0 a1 a2 (i 0) (i 1))

end Cert.Calls.ProjRef

end
-- ==== Proof.Calls.Gates.lean ====
/-
The normalised rows times a block of columns of the input weights, entry by entry: the launch's array and the reference's result.
-/
module

public import proofs.«01_k».proof.Proof.Gen.GatesIdeal.Value
public import proofs.«01_k».proof.Proof.Gen.GatesReferenceIdeal.Run
public import proofs.«01_k».proof.Proof.Calls.Norm
public import Idealize.ShloMosaic.Lib.Pipeline.ValueKit
public import Idealize.ShloMosaic.Lib.Pointwise

@[expose] public section

set_option maxRecDepth 16384
set_option Elab.async false

noncomputable section

namespace Cert.Calls.Gates

open Idealize.ShloMosaic
open Idealize.ShloMosaic.TcCoe Idealize.ShloMosaic.Tactic Idealize.ShloMosaic.Pointwise
open Idealize.SL.Sem
open Cert.Calls Cert.GatesIdeal Cert.GatesIdeal.Gen Cert.GatesIdeal.Value

/-- The normalised rows the body keeps, at an entry. -/
theorem pay1_at (x0 : S1024x2048.Idx → EReal) (x1 : S1x2048.Idx → EReal) (r : Fin 1024) (d : Fin 2048) :
    (k0_pay1 (F := Ideal) x0 x1) (ix2 r d) = rowNorm (fun k => x0 (ix2 r k)) (fun k => x1 (ix2 0 k)) d := by
  unfold k0_pay1 rowNorm
  pointwise
  done

/-- What the body stores, at an entry, of the kept rows. -/
theorem pay2_at (h : S1024x2048.Idx → EReal) (w : S2048x1024.Idx → EReal) (r : Fin 1024) (d : Fin 1024) :
    (k0_pay2 (F := Ideal) h w) (ix2 r d) = ∑ j : Fin 2048, h (ix2 r j) * w (ix2 j d) := by
  unfold k0_pay2
  pointwise
  done

variable (m : (ℓ : Loc nD τ sig) → Buf (Elt Ideal) ℓ) (c : Dev nD)

/-- A point that starts a row tile keeps the tile's normalised rows. -/
theorem kept_A (t : Fin cfg0.N) (h0 : t.val % 6 = 0) :
    (outsAt0 m c t.val t.isLt).2 = k0_pay1 (F := Ideal) (iblk m c 0 t) (iblk m c 1 t) := by
  rw [outsAt0_A m c t h0]
  dsimp only
  frame_out

theorem left_A (t : Fin cfg0.N) (h0 : t.val % 6 = 0) :
    (outsAt0 m c t.val t.isLt).1 = k0_pay2 (F := Ideal) (outsAt0 m c t.val t.isLt).2 (iblk m c 2 t) := by
  rw [kept_A m c t h0, outsAt0_A m c t h0]
  dsimp only
  frame_out

/-- Any other keeps what the point before it kept. -/
theorem kept_B (t : Fin cfg0.N) (h0 : ¬t.val % 6 = 0) :
    (outsAt0 m c t.val t.isLt).2 = (outsAt0 m c (t.val - 1) (Nat.lt_of_le_of_lt (Nat.sub_le _ _) t.isLt)).2 := by
  rw [outsAt0_B m c t h0]
  rfl

theorem left_B (t : Fin cfg0.N) (h0 : ¬t.val % 6 = 0) :
    (outsAt0 m c t.val t.isLt).1 = k0_pay2 (F := Ideal) (outsAt0 m c t.val t.isLt).2 (iblk m c 2 t) := by
  rw [kept_B m c t h0, outsAt0_B m c t h0]
  dsimp only
  frame_out
  exact congrArg (fun z => k0_pay2 (F := Ideal) z (iblk m c 2 t)) (Memref.IsWhole.read_unread (m := Memref.whole cc0_scratch0) _ _)

theorem left_eq (t : Fin cfg0.N) :
    (outsAt0 m c t.val t.isLt).1 = k0_pay2 (F := Ideal) (outsAt0 m c t.val t.isLt).2 (iblk m c 2 t) := by
  by_cases h0 : t.val % 6 = 0
  · exact left_A m c t h0
  · exact left_B m c t h0

theorem grid_facts (t : Fin cfg0.N) : win0_0.index t (0 : Fin 2) = t.val / 6 ∧ win0_0.index t (1 : Fin 2) = 0 ∧ win0_1.index t (0 : Fin 2) = 0 ∧ win0_1.index t (1 : Fin 2) = 0
    ∧ win0_2.index t (0 : Fin 2) = 0 ∧ win0_2.index t (1 : Fin 2) = t.val % 6 ∧ win0_3.index t (0 : Fin 2) = t.val / 6 ∧ win0_3.index t (1 : Fin 2) = t.val % 6 := by
  revert t; decide +kernel

theorem blk0 (t : Fin cfg0.N) (r : Fin 1024) (d : Fin 2048) (q : Fin 32768) (h : q.val = 1024 * (t.val / 6) + r.val) :
    (iblk m c 0 t : S1024x2048.Idx → EReal) (ix2 r d) = (m ((c : Thread nD τ).loc main_arg0) : S32768x2048.Idx → EReal) (ix2 q d) := by
  have g := grid_facts t
  refine (congrArg (V m c main_arg0) (a₂ := ix2 q d) (funext fun a => Fin.ext ?_)).trans (congrFun (V_main_arg0 m c) _)
  fin_cases a
  · change win0_0.index t (0 : Fin 2) * 1024 + 1 * r.val = q.val
    omega
  · change win0_0.index t (1 : Fin 2) * 2048 + 1 * d.val = d.val
    omega

theorem blk1 (t : Fin cfg0.N) (d : Fin 2048) :
    (iblk m c 1 t : S1x2048.Idx → EReal) (ix2 0 d) = (m ((c : Thread nD τ).loc main_arg1) : S2048.Idx → EReal) (ix1 d) := by
  have g := grid_facts t
  refine (congrArg (V m c main_v2) (a₂ := ix2 0 d) (funext fun a => Fin.ext ?_)).trans ?_
  · fin_cases a
    · change win0_1.index t (0 : Fin 2) * 1 + 1 * 0 = 0
      omega
    · change win0_1.index t (1 : Fin 2) * 2048 + 1 * d.val = d.val
      omega
  · unfold V; after_results_simp
    generalize m (c, Proc.tc.devRef main_arg1) = a1
    pointwise

theorem blk2 (t : Fin cfg0.N) (j : Fin 2048) (d : Fin 1024) (q : Fin 6144) (h : q.val = 1024 * (t.val % 6) + d.val) :
    (iblk m c 2 t : S2048x1024.Idx → EReal) (ix2 j d) = (m ((c : Thread nD τ).loc main_arg2) : S2048x9800.Idx → EReal) (ix2 j ⟨3656 + q.val, by omega⟩) := by
  have g := grid_facts t
  refine (congrArg (V m c main_v1) (a₂ := ix2 j q) (funext fun a => Fin.ext ?_)).trans ?_
  · fin_cases a
    · change win0_2.index t (0 : Fin 2) * 2048 + 1 * j.val = j.val
      omega
    · change win0_2.index t (1 : Fin 2) * 1024 + 1 * d.val = q.val
      omega
  · unfold V; after_results_simp
    generalize m (c, Proc.tc.devRef main_arg2) = a2
    pointwise
    done

/-- What the rows kept after any point are. -/
theorem kept_at : ∀ (n : ℕ) (h : n < cfg0.N) (r : Fin 1024) (d : Fin 2048) (q : Fin 32768), q.val = 1024 * (n / 6) + r.val →
    ((outsAt0 m c n h).2 : S1024x2048.Idx → EReal) (ix2 r d)
      = rowNorm (fun k => (m ((c : Thread nD τ).loc main_arg0) : S32768x2048.Idx → EReal) (ix2 q k)) (fun k => (m ((c : Thread nD τ).loc main_arg1) : S2048.Idx → EReal) (ix1 k)) d := by
  intro n
  induction n with
  | zero =>
    intro h r d q hq
    refine (congrFun (kept_A m c ⟨0, h⟩ rfl) (ix2 r d)).trans ((pay1_at _ _ r d).trans ?_)
    have f0 := fun k => blk0 m c ⟨0, h⟩ r k q hq
    simp only [f0, blk1]
  | succ n ih =>
    intro h r d q hq
    by_cases h0 : (n + 1) % 6 = 0
    · refine (congrFun (kept_A m c ⟨n + 1, h⟩ h0) (ix2 r d)).trans ((pay1_at _ _ r d).trans ?_)
      have f0 := fun k => blk0 m c ⟨n + 1, h⟩ r k q hq
      simp only [f0, blk1]
    · refine (congrFun (kept_B m c ⟨n + 1, h⟩ h0) (ix2 r d)).trans (ih (Nat.lt_of_succ_lt h) r d q ?_)
      have : n / 6 = (n + 1) / 6 := by omega
      omega

/-- What the launch computes, from its arguments. -/
def out (a0 : S32768x2048.Idx → EReal) (a1 : S2048.Idx → EReal) (a2 : S2048x9800.Idx → EReal) : S32768x6144.Idx → EReal := fun i =>
  ∑ j : Fin 2048, rowNorm (fun k => a0 (ix2 (i 0) k)) (fun k => a1 (ix1 k)) j * a2 (ix2 j ⟨3656 + (i 1).val, by have h : (i 1).val < 6144 := (i 1).isLt; omega⟩)

theorem entry (t : Fin cfg0.N) (y : S1024x1024.Idx) (i : S32768x6144.Idx) (h0 : (i 0).val = win0_3.index t (0 : Fin 2) * 1024 + 1 * (y 0).val)
    (h1 : (i 1).val = win0_3.index t (1 : Fin 2) * 1024 + 1 * (y 1).val) :
    (outsAt0 m c t.val t.isLt).1 y
      = out (m ((c : Thread nD τ).loc main_arg0)) (m ((c : Thread nD τ).loc main_arg1)) (m ((c : Thread nD τ).loc main_arg2)) i := by
  have g := grid_facts t
  have hq : (i 0).val = 1024 * (t.val / 6) + (y 0).val := by omega
  have hd : (i 1).val = 1024 * (t.val % 6) + (y 1).val := by omega
  have hy : y = ix2 (y 0) (y 1) := by
    funext a; fin_cases a <;> rfl
  rw [left_eq m c t, hy]
  refine (pay2_at _ _ _ _).trans ?_
  unfold out
  refine Finset.sum_congr rfl fun j _ => ?_
  rw [kept_at m c t.val t.isLt (y 0) j (i 0) hq]
  exact congrArg _ (blk2 m c t j (y 1) (i 1) hd)

theorem covers : ((cfg0).win 3).Covers := by decide +kernel

/-- The launch's array after the run. -/
theorem arr_eq : (dats m 0 c).arrAt 3 cfg0.N = out (m ((c : Thread nD τ).loc main_arg0)) (m ((c : Thread nD τ).loc main_arg1)) (m ((c : Thread nD τ).loc main_arg2)) := by
  have key := entry m c
  generalize hG : out (m ((c : Thread nD τ).loc main_arg0)) (m ((c : Thread nD τ).loc main_arg1)) (m ((c : Thread nD τ).loc main_arg2)) = G at key ⊢
  refine (dats m 0 c).arrAt_eq_of_covers 3 G covers fun t _ y => ?_
  have k := key t y
  generalize hT : (outsAt0 m c t.val t.isLt).1 = T at k
  have hA : (dats m 0 c).after 3 t = T := (after0_3 m c t).trans hT
  rw [hA]
  exact k _ rfl rfl

end Cert.Calls.Gates

namespace Cert.Calls.GatesRef

open Cert.Calls Cert.Calls.Gates Cert.GatesReferenceIdeal Cert.GatesReferenceIdeal.Gen
open Idealize.ShloMosaic Idealize.ShloMosaic.TcCoe Idealize.ShloMosaic.Tactic Idealize.ShloMosaic.Pointwise

/-- The reference's result at an entry. -/
theorem ref_at (a0 : FVec Ideal S32768x2048 .f32) (a1 : FVec Ideal S2048 .f32) (a2 : FVec Ideal S2048x9800 .f32) (r : Fin 32768) (d : Fin 6144) :
    (Host.dotGeneral dot_S32768x2048_S2048x6144_S32768x6144_1_0_0_1_n_n none (mulf (mulf a0 (broadcastInDim S32768x2048 ![0, 1] bcast_S32768x1_S32768x2048_0_1 (Host.rsqrt (addf (Host.divf (broadcastInDim S32768x1 ![0] bcast_S32768_S32768x1_0 (Host.reduceAdd (mulf a0 a0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 a1))) (extractStridedSlice S2048x6144 ![0, 3656] a2 slices_S2048x9800_S2048x6144_0_3656) : FVec Ideal S32768x6144 .f32) (ix2 r d)
      = ∑ j : Fin 2048, rowNorm (fun k => a0 (ix2 r k)) (fun k => a1 (ix1 k)) j * a2 (ix2 j ⟨3656 + d.val, by omega⟩) := by
  unfold rowNorm
  pointwise
  done

theorem ref_eq (a0 : FVec Ideal S32768x2048 .f32) (a1 : FVec Ideal S2048 .f32) (a2 : FVec Ideal S2048x9800 .f32) :
    (Host.dotGeneral dot_S32768x2048_S2048x6144_S32768x6144_1_0_0_1_n_n none (mulf (mulf a0 (broadcastInDim S32768x2048 ![0, 1] bcast_S32768x1_S32768x2048_0_1 (Host.rsqrt (addf (Host.divf (broadcastInDim S32768x1 ![0] bcast_S32768_S32768x1_0 (Host.reduceAdd (mulf a0 a0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 a1))) (extractStridedSlice S2048x6144 ![0, 3656] a2 slices_S2048x9800_S2048x6144_0_3656) : FVec Ideal S32768x6144 .f32) = out a0 a1 a2 := by
  funext i
  have hi : i = ix2 (i 0) (i 1) := by funext a; fin_cases a <;> rfl
  exact (congrArg _ hi).trans (ref_at a0 a1 a2 (i 0) (i 1))

end Cert.Calls.GatesRef

end
-- ==== Proof.Calls.Res.lean ====
/-
The normalised sum of two streams, entry by entry: the launch's array and the reference's result.
-/
module

public import proofs.«01_k».proof.Proof.Gen.ResIdeal.Value
public import proofs.«01_k».proof.Proof.Gen.ResReferenceIdeal.Run
public import proofs.«01_k».proof.Proof.Calls.Norm
public import Idealize.ShloMosaic.Lib.Pipeline.ValueKit
public import Idealize.ShloMosaic.Lib.Pointwise

@[expose] public section

set_option maxRecDepth 16384
set_option Elab.async false

noncomputable section

namespace Cert.Calls.Res

open Idealize.ShloMosaic
open Idealize.ShloMosaic.TcCoe Idealize.ShloMosaic.Tactic Idealize.ShloMosaic.Pointwise
open Idealize.SL.Sem
open Cert.Calls Cert.ResIdeal Cert.ResIdeal.Gen Cert.ResIdeal.Value

/-- What the body stores, at an entry of its block. -/
theorem pay_at (x0 x1 : S512x2048.Idx → EReal) (x2 : S1x2048.Idx → EReal) (r : Fin 512) (d : Fin 2048) :
    (k0_pay1 (F := Ideal) x0 x1 x2) (ix2 r d) = rowNorm (fun k => x0 (ix2 r k) + x1 (ix2 r k)) (fun k => x2 (ix2 0 k)) d := by
  unfold k0_pay1 rowNorm
  pointwise
  done

theorem out_at (x0 x1 : S512x2048.Idx → EReal) (x2 : S1x2048.Idx → EReal) (r : Fin 512) (d : Fin 2048) :
    (out0_3 (F := Ideal) x0 x1 x2) (ix2 r d) = rowNorm (fun k => x0 (ix2 r k) + x1 (ix2 r k)) (fun k => x2 (ix2 0 k)) d := by
  unfold out0_3
  rw [View.canon_unit_zero (by decide), View.ld_unit_zero (by decide), View.ld_unit_zero (by decide), View.ld_unit_zero (by decide), pay_at]

variable (m : (ℓ : Loc nD τ sig) → Buf (Elt Ideal) ℓ) (c : Dev nD)

theorem grid_facts (t : Fin cfg0.N) : win0_0.index t (0 : Fin 2) = t.val ∧ win0_0.index t (1 : Fin 2) = 0 ∧ win0_1.index t (0 : Fin 2) = t.val ∧ win0_1.index t (1 : Fin 2) = 0
    ∧ win0_2.index t (0 : Fin 2) = 0 ∧ win0_2.index t (1 : Fin 2) = 0 ∧ win0_3.index t (0 : Fin 2) = t.val ∧ win0_3.index t (1 : Fin 2) = 0 := by
  revert t; decide +kernel

theorem blk0 (t : Fin cfg0.N) (r : Fin 512) (d : Fin 2048) (q : Fin 32768) (h : q.val = 512 * t.val + r.val) :
    (iblk m c 0 t : S512x2048.Idx → EReal) (ix2 r d) = (m ((c : Thread nD τ).loc main_arg0) : S32768x2048.Idx → EReal) (ix2 q d) := by
  have g := grid_facts t
  refine (congrArg (V m c main_arg0) (a₂ := ix2 q d) (funext fun a => Fin.ext ?_)).trans (congrFun (V_main_arg0 m c) _)
  fin_cases a
  · change win0_0.index t (0 : Fin 2) * 512 + 1 * r.val = q.val
    omega
  · change win0_0.index t (1 : Fin 2) * 2048 + 1 * d.val = d.val
    omega

theorem blk1 (t : Fin cfg0.N) (r : Fin 512) (d : Fin 2048) (q : Fin 32768) (h : q.val = 512 * t.val + r.val) :
    (iblk m c 1 t : S512x2048.Idx → EReal) (ix2 r d) = (m ((c : Thread nD τ).loc main_arg1) : S32768x2048.Idx → EReal) (ix2 q d) := by
  have g := grid_facts t
  refine (congrArg (V m c main_arg1) (a₂ := ix2 q d) (funext fun a => Fin.ext ?_)).trans (congrFun (V_main_arg1 m c) _)
  fin_cases a
  · change win0_1.index t (0 : Fin 2) * 512 + 1 * r.val = q.val
    omega
  · change win0_1.index t (1 : Fin 2) * 2048 + 1 * d.val = d.val
    omega

theorem blk2 (t : Fin cfg0.N) (d : Fin 2048) :
    (iblk m c 2 t : S1x2048.Idx → EReal) (ix2 0 d) = (m ((c : Thread nD τ).loc main_arg2) : S2048.Idx → EReal) (ix1 d) := by
  have g := grid_facts t
  refine (congrArg (V m c main_v0) (a₂ := ix2 0 d) (funext fun a => Fin.ext ?_)).trans ?_
  · fin_cases a
    · change win0_2.index t (0 : Fin 2) * 1 + 1 * 0 = 0
      omega
    · change win0_2.index t (1 : Fin 2) * 2048 + 1 * d.val = d.val
      omega
  · unfold V; after_results_simp
    generalize m (c, Proc.tc.devRef main_arg2) = a2
    pointwise

/-- What the launch computes, from its arguments. -/
def out (a0 a1 : S32768x2048.Idx → EReal) (a2 : S2048.Idx → EReal) : S32768x2048.Idx → EReal := fun i =>
  rowNorm (fun k => a0 (ix2 (i 0) k) + a1 (ix2 (i 0) k)) (fun k => a2 (ix1 k)) (i 1)

theorem covers : ((cfg0).win 3).Covers := by decide +kernel

theorem entry (t : Fin cfg0.N) (y : S512x2048.Idx) (i : S32768x2048.Idx) (h0 : (i 0).val = win0_3.index t (0 : Fin 2) * 512 + 1 * (y 0).val)
    (h1 : (i 1).val = win0_3.index t (1 : Fin 2) * 2048 + 1 * (y 1).val) :
    out0_3 (F := Ideal) (iblk m c 0 t) (iblk m c 1 t) (iblk m c 2 t) y
      = out (m ((c : Thread nD τ).loc main_arg0)) (m ((c : Thread nD τ).loc main_arg1)) (m ((c : Thread nD τ).loc main_arg2)) i := by
  have g := grid_facts t
  have hq : (i 0).val = 512 * t.val + (y 0).val := by omega
  have hd : (i 1).val = (y 1).val := by omega
  have hy : y = ix2 (y 0) (y 1) := by
    funext a; fin_cases a <;> rfl
  rw [hy]
  refine (out_at _ _ _ _ _).trans ?_
  unfold out
  have f0 := fun k => blk0 m c t (y 0) k (i 0) hq
  have f1 := fun k => blk1 m c t (y 0) k (i 0) hq
  simp only [f0, f1, blk2]
  exact congrArg _ (Fin.ext hd.symm)

/-- The launch's array after the run. -/
theorem arr_eq : (dats m 0 c).arrAt 3 cfg0.N = out (m ((c : Thread nD τ).loc main_arg0)) (m ((c : Thread nD τ).loc main_arg1)) (m ((c : Thread nD τ).loc main_arg2)) := by
  have key : ∀ t : Fin cfg0.N, ∀ y : S512x2048.Idx, ∀ i : S32768x2048.Idx, (i 0).val = win0_3.index t (0 : Fin 2) * 512 + 1 * (y 0).val →
      (i 1).val = win0_3.index t (1 : Fin 2) * 2048 + 1 * (y 1).val →
      out0_3 (F := Ideal) (iblk m c 0 t) (iblk m c 1 t) (iblk m c 2 t) y
        = out (m ((c : Thread nD τ).loc main_arg0)) (m ((c : Thread nD τ).loc main_arg1)) (m ((c : Thread nD τ).loc main_arg2)) i := fun t y i h0 h1 => entry m c t y i h0 h1
  generalize hG : out (m ((c : Thread nD τ).loc main_arg0)) (m ((c : Thread nD τ).loc main_arg1)) (m ((c : Thread nD τ).loc main_arg2)) = G at key ⊢
  refine (dats m 0 c).arrAt_eq_of_covers 3 G covers fun t _ y => ?_
  have k := key t y
  generalize hT : out0_3 (F := Ideal) (iblk m c 0 t) (iblk m c 1 t) (iblk m c 2 t) = T at k
  have hA : (dats m 0 c).after 3 t = T := (after0_3 m c t).trans hT
  rw [hA]
  exact k _ rfl rfl

end Cert.Calls.Res

namespace Cert.Calls.ResRef

open Cert.Calls Cert.ResReferenceIdeal Cert.ResReferenceIdeal.Gen
open Idealize.ShloMosaic Idealize.ShloMosaic.TcCoe Idealize.ShloMosaic.Tactic Idealize.ShloMosaic.Pointwise

/-- The reference's result at an entry. -/
theorem ref_at (a0 a1 : S32768x2048.Idx → EReal) (a2 : S2048.Idx → EReal) (r : Fin 32768) (d : Fin 2048) :
    (mulf (mulf (addf a0 a1) (broadcastInDim S32768x2048 ![0, 1] bcast_S32768x1_S32768x2048_0_1 (Host.rsqrt (addf (Host.divf (broadcastInDim S32768x1 ![0] bcast_S32768_S32768x1_0 (Host.reduceAdd (mulf (addf a0 a1) (addf a0 a1)) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 a2)) : FVec Ideal S32768x2048 .f32) (ix2 r d) = rowNorm (fun k => a0 (ix2 r k) + a1 (ix2 r k)) (fun k => a2 (ix1 k)) d := by
  unfold rowNorm
  pointwise

theorem ref_eq (a0 a1 : FVec Ideal S32768x2048 .f32) (a2 : FVec Ideal S2048 .f32) :
    (mulf (mulf (addf a0 a1) (broadcastInDim S32768x2048 ![0, 1] bcast_S32768x1_S32768x2048_0_1 (Host.rsqrt (addf (Host.divf (broadcastInDim S32768x1 ![0] bcast_S32768_S32768x1_0 (Host.reduceAdd (mulf (addf a0 a1) (addf a0 a1)) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 a2)) : FVec Ideal S32768x2048 .f32) = Res.out a0 a1 a2 := by
  funext i
  have hi : i = ix2 (i 0) (i 1) := by funext a; fin_cases a <;> rfl
  exact (congrArg _ hi).trans (ref_at a0 a1 a2 (i 0) (i 1))

end Cert.Calls.ResRef

end
-- ==== Proof.Calls.Out.lean ====
/-
The output projection, entry by entry: the launch's two arrays and the reference's two results.
-/
module

public import proofs.«01_k».proof.Proof.Gen.OutIdeal.Value
public import proofs.«01_k».proof.Proof.Gen.OutReferenceIdeal.Run
public import proofs.«01_k».proof.Proof.Calls.Norm
public import Idealize.ShloMosaic.Lib.Pipeline.ValueKit
public import Idealize.ShloMosaic.Lib.Pointwise

@[expose] public section

set_option maxRecDepth 16384
set_option Elab.async false

noncomputable section

namespace Cert.Calls.Out

open Idealize.ShloMosaic
open Idealize.ShloMosaic.TcCoe Idealize.ShloMosaic.Tactic Idealize.ShloMosaic.Pointwise
open Idealize.SL.Sem
open Cert.Calls Cert.OutIdeal Cert.OutIdeal.Gen Cert.OutIdeal.Value

/-- A row of the residual stream plus the projected attention row. -/
def mixRow (x : Fin 2048 → EReal) (a : Fin 2048 → EReal) (w : Fin 2048 → Fin 2048 → EReal) (k : Fin 2048) : EReal := x k + ∑ j, a j * w j k

/-- What the body stores first, at an entry of its block. -/
theorem pay1_at (x0 x1 : S512x2048.Idx → EReal) (x2 : S2048x2048.Idx → EReal) (r : Fin 512) (d : Fin 2048) :
    (k0_pay1 (F := Ideal) x0 x1 x2) (ix2 r d) = mixRow (fun k => x0 (ix2 r k)) (fun k => x1 (ix2 r k)) (fun j k => x2 (ix2 j k)) d := by
  unfold k0_pay1 mixRow
  pointwise
  done

/-- What it stores second. -/
theorem pay2_at (x0 x1 : S512x2048.Idx → EReal) (x2 : S2048x2048.Idx → EReal) (x3 : S1x2048.Idx → EReal) (r : Fin 512) (d : Fin 2048) :
    (k0_pay2 (F := Ideal) x0 x1 x2 x3) (ix2 r d)
      = rowNorm (mixRow (fun k => x0 (ix2 r k)) (fun k => x1 (ix2 r k)) (fun j k => x2 (ix2 j k))) (fun k => x3 (ix2 0 k)) d := by
  unfold k0_pay2
  have e := pay1_at x0 x1 x2
  generalize k0_pay1 (F := Ideal) x0 x1 x2 = P at e ⊢
  unfold rowNorm
  simp only [← e]
  clear e
  pointwise
  done

theorem out4_at (x0 x1 : S512x2048.Idx → EReal) (x2 : S2048x2048.Idx → EReal) (x3 : S1x2048.Idx → EReal) (r : Fin 512) (d : Fin 2048) :
    (out0_4 (F := Ideal) x0 x1 x2 x3) (ix2 r d) = mixRow (fun k => x0 (ix2 r k)) (fun k => x1 (ix2 r k)) (fun j k => x2 (ix2 j k)) d := by
  unfold out0_4
  rw [View.canon_unit_zero (by decide), View.ld_unit_zero (by decide), View.ld_unit_zero (by decide), View.ld_unit_zero (by decide), pay1_at]

theorem out5_at (x0 x1 : S512x2048.Idx → EReal) (x2 : S2048x2048.Idx → EReal) (x3 : S1x2048.Idx → EReal) (r : Fin 512) (d : Fin 2048) :
    (out0_5 (F := Ideal) x0 x1 x2 x3) (ix2 r d)
      = rowNorm (mixRow (fun k => x0 (ix2 r k)) (fun k => x1 (ix2 r k)) (fun j k => x2 (ix2 j k))) (fun k => x3 (ix2 0 k)) d := by
  unfold out0_5
  rw [View.canon_unit_zero (by decide), View.ld_unit_zero (by decide), View.ld_unit_zero (by decide), View.ld_unit_zero (by decide), View.ld_unit_zero (by decide), pay2_at]

variable (m : (ℓ : Loc nD τ sig) → Buf (Elt Ideal) ℓ) (c : Dev nD)

theorem grid_facts (t : Fin cfg0.N) : win0_0.index t (0 : Fin 2) = t.val ∧ win0_0.index t (1 : Fin 2) = 0 ∧ win0_1.index t (0 : Fin 2) = t.val ∧ win0_1.index t (1 : Fin 2) = 0
    ∧ win0_2.index t (0 : Fin 2) = 0 ∧ win0_2.index t (1 : Fin 2) = 0 ∧ win0_3.index t (0 : Fin 2) = 0 ∧ win0_3.index t (1 : Fin 2) = 0
    ∧ win0_4.index t (0 : Fin 2) = t.val ∧ win0_4.index t (1 : Fin 2) = 0 ∧ win0_5.index t (0 : Fin 2) = t.val ∧ win0_5.index t (1 : Fin 2) = 0 := by
  revert t; decide +kernel

theorem blk0 (t : Fin cfg0.N) (r : Fin 512) (d : Fin 2048) (q : Fin 32768) (h : q.val = 512 * t.val + r.val) :
    (iblk m c 0 t : S512x2048.Idx → EReal) (ix2 r d) = (m ((c : Thread nD τ).loc main_arg0) : S32768x2048.Idx → EReal) (ix2 q d) := by
  have g := grid_facts t
  refine (congrArg (V m c main_arg0) (a₂ := ix2 q d) (funext fun a => Fin.ext ?_)).trans (congrFun (V_main_arg0 m c) _)
  fin_cases a
  · change win0_0.index t (0 : Fin 2) * 512 + 1 * r.val = q.val
    omega
  · change win0_0.index t (1 : Fin 2) * 2048 + 1 * d.val = d.val
    omega

theorem blk1 (t : Fin cfg0.N) (r : Fin 512) (d : Fin 2048) (q : Fin 32768) (h : q.val = 512 * t.val + r.val) :
    (iblk m c 1 t : S512x2048.Idx → EReal) (ix2 r d) = (m ((c : Thread nD τ).loc main_arg1) : S32768x2048.Idx → EReal) (ix2 q d) := by
  have g := grid_facts t
  refine (congrArg (V m c main_arg1) (a₂ := ix2 q d) (funext fun a => Fin.ext ?_)).trans (congrFun (V_main_arg1 m c) _)
  fin_cases a
  · change win0_1.index t (0 : Fin 2) * 512 + 1 * r.val = q.val
    omega
  · change win0_1.index t (1 : Fin 2) * 2048 + 1 * d.val = d.val
    omega

theorem blk2 (t : Fin cfg0.N) (j d : Fin 2048) :
    (iblk m c 2 t : S2048x2048.Idx → EReal) (ix2 j d) = (m ((c : Thread nD τ).loc main_arg2) : S2048x2048.Idx → EReal) (ix2 j d) := by
  have g := grid_facts t
  refine (congrArg (V m c main_v0) (a₂ := ix2 j d) (funext fun a => Fin.ext ?_)).trans ?_
  · fin_cases a
    · change win0_2.index t (0 : Fin 2) * 2048 + 1 * j.val = j.val
      omega
    · change win0_2.index t (1 : Fin 2) * 2048 + 1 * d.val = d.val
      omega
  · unfold V; after_results_simp
    generalize m (c, Proc.tc.devRef main_arg2) = a2
    pointwise

theorem blk3 (t : Fin cfg0.N) (d : Fin 2048) :
    (iblk m c 3 t : S1x2048.Idx → EReal) (ix2 0 d) = (m ((c : Thread nD τ).loc main_arg3) : S2048.Idx → EReal) (ix1 d) := by
  have g := grid_facts t
  refine (congrArg (V m c main_v1) (a₂ := ix2 0 d) (funext fun a => Fin.ext ?_)).trans ?_
  · fin_cases a
    · change win0_3.index t (0 : Fin 2) * 1 + 1 * 0 = 0
      omega
    · change win0_3.index t (1 : Fin 2) * 2048 + 1 * d.val = d.val
      omega
  · unfold V; after_results_simp
    generalize m (c, Proc.tc.devRef main_arg3) = a3
    pointwise

/-- The first array the launch computes, from its arguments. -/
def out4 (a0 a1 : S32768x2048.Idx → EReal) (a2 : S2048x2048.Idx → EReal) : S32768x2048.Idx → EReal := fun i =>
  mixRow (fun k => a0 (ix2 (i 0) k)) (fun k => a1 (ix2 (i 0) k)) (fun j k => a2 (ix2 j k)) (i 1)

/-- The second. -/
def out5 (a0 a1 : S32768x2048.Idx → EReal) (a2 : S2048x2048.Idx → EReal) (a3 : S2048.Idx → EReal) : S32768x2048.Idx → EReal := fun i =>
  rowNorm (mixRow (fun k => a0 (ix2 (i 0) k)) (fun k => a1 (ix2 (i 0) k)) (fun j k => a2 (ix2 j k))) (fun k => a3 (ix1 k)) (i 1)

theorem entry4 (t : Fin cfg0.N) (y : S512x2048.Idx) (i : S32768x2048.Idx) (h0 : (i 0).val = win0_4.index t (0 : Fin 2) * 512 + 1 * (y 0).val)
    (h1 : (i 1).val = win0_4.index t (1 : Fin 2) * 2048 + 1 * (y 1).val) :
    out0_4 (F := Ideal) (iblk m c 0 t) (iblk m c 1 t) (iblk m c 2 t) (iblk m c 3 t) y
      = out4 (m ((c : Thread nD τ).loc main_arg0)) (m ((c : Thread nD τ).loc main_arg1)) (m ((c : Thread nD τ).loc main_arg2)) i := by
  have g := grid_facts t
  have hq : (i 0).val = 512 * t.val + (y 0).val := by omega
  have hd : (i 1).val = (y 1).val := by omega
  have hy : y = ix2 (y 0) (y 1) := by
    funext a; fin_cases a <;> rfl
  rw [hy]
  refine (out4_at _ _ _ _ _ _).trans ?_
  unfold out4
  have f0 := fun k => blk0 m c t (y 0) k (i 0) hq
  have f1 := fun k => blk1 m c t (y 0) k (i 0) hq
  simp only [f0, f1, blk2, blk3]
  exact congrArg _ (Fin.ext hd.symm)

theorem covers4 : ((cfg0).win 4).Covers := by decide +kernel

/-- The launch's array after the run. -/
theorem arr4_eq : (dats m 0 c).arrAt 4 cfg0.N = out4 (m ((c : Thread nD τ).loc main_arg0)) (m ((c : Thread nD τ).loc main_arg1)) (m ((c : Thread nD τ).loc main_arg2)) := by
  have key := entry4 m c
  generalize hG : out4 (m ((c : Thread nD τ).loc main_arg0)) (m ((c : Thread nD τ).loc main_arg1)) (m ((c : Thread nD τ).loc main_arg2)) = G at key ⊢
  refine (dats m 0 c).arrAt_eq_of_covers 4 G covers4 fun t _ y => ?_
  have k := key t y
  generalize hT : out0_4 (F := Ideal) (iblk m c 0 t) (iblk m c 1 t) (iblk m c 2 t) (iblk m c 3 t) = T at k
  have hA : (dats m 0 c).after 4 t = T := (after0_4 m c t).trans hT
  rw [hA]
  exact k _ rfl rfl

theorem entry5 (t : Fin cfg0.N) (y : S512x2048.Idx) (i : S32768x2048.Idx) (h0 : (i 0).val = win0_5.index t (0 : Fin 2) * 512 + 1 * (y 0).val)
    (h1 : (i 1).val = win0_5.index t (1 : Fin 2) * 2048 + 1 * (y 1).val) :
    out0_5 (F := Ideal) (iblk m c 0 t) (iblk m c 1 t) (iblk m c 2 t) (iblk m c 3 t) y
      = out5 (m ((c : Thread nD τ).loc main_arg0)) (m ((c : Thread nD τ).loc main_arg1)) (m ((c : Thread nD τ).loc main_arg2)) (m ((c : Thread nD τ).loc main_arg3)) i := by
  have g := grid_facts t
  have hq : (i 0).val = 512 * t.val + (y 0).val := by omega
  have hd : (i 1).val = (y 1).val := by omega
  have hy : y = ix2 (y 0) (y 1) := by
    funext a; fin_cases a <;> rfl
  rw [hy]
  refine (out5_at _ _ _ _ _ _).trans ?_
  unfold out5
  have f0 := fun k => blk0 m c t (y 0) k (i 0) hq
  have f1 := fun k => blk1 m c t (y 0) k (i 0) hq
  simp only [f0, f1, blk2, blk3]
  exact congrArg _ (Fin.ext hd.symm)

theorem covers5 : ((cfg0).win 5).Covers := by decide +kernel

/-- The launch's array after the run. -/
theorem arr5_eq : (dats m 0 c).arrAt 5 cfg0.N = out5 (m ((c : Thread nD τ).loc main_arg0)) (m ((c : Thread nD τ).loc main_arg1)) (m ((c : Thread nD τ).loc main_arg2)) (m ((c : Thread nD τ).loc main_arg3)) := by
  have key := entry5 m c
  generalize hG : out5 (m ((c : Thread nD τ).loc main_arg0)) (m ((c : Thread nD τ).loc main_arg1)) (m ((c : Thread nD τ).loc main_arg2)) (m ((c : Thread nD τ).loc main_arg3)) = G at key ⊢
  refine (dats m 0 c).arrAt_eq_of_covers 5 G covers5 fun t _ y => ?_
  have k := key t y
  generalize hT : out0_5 (F := Ideal) (iblk m c 0 t) (iblk m c 1 t) (iblk m c 2 t) (iblk m c 3 t) = T at k
  have hA : (dats m 0 c).after 5 t = T := (after0_5 m c t).trans hT
  rw [hA]
  exact k _ rfl rfl

end Cert.Calls.Out

namespace Cert.Calls.OutRef

open Cert.Calls Cert.Calls.Out Cert.OutReferenceIdeal Cert.OutReferenceIdeal.Gen
open Idealize.ShloMosaic Idealize.ShloMosaic.TcCoe Idealize.ShloMosaic.Tactic Idealize.ShloMosaic.Pointwise

/-- The reference's first result at an entry. -/
theorem ref4_at (a0 : FVec Ideal S32768x2048 .f32) (a1 : FVec Ideal S32768x2048 .bf16) (a2 : FVec Ideal S2048x2048 .f32) (r : Fin 32768) (d : Fin 2048) :
    (addf a0 (Host.dotGeneral dot_S32768x2048_S2048x2048_S32768x2048_1_0_0_1_n_n none (extf .f32 a1 bitsLt_bf16_f32) a2) : FVec Ideal S32768x2048 .f32) (ix2 r d) = mixRow (fun k => a0 (ix2 r k)) (fun k => a1 (ix2 r k)) (fun j k => a2 (ix2 j k)) d := by
  unfold mixRow
  pointwise
  done

theorem ref4_eq (a0 : FVec Ideal S32768x2048 .f32) (a1 : FVec Ideal S32768x2048 .bf16) (a2 : FVec Ideal S2048x2048 .f32) :
    (addf a0 (Host.dotGeneral dot_S32768x2048_S2048x2048_S32768x2048_1_0_0_1_n_n none (extf .f32 a1 bitsLt_bf16_f32) a2) : FVec Ideal S32768x2048 .f32) = out4 a0 a1 a2 := by
  funext i
  have hi : i = ix2 (i 0) (i 1) := by funext a; fin_cases a <;> rfl
  exact (congrArg _ hi).trans (ref4_at a0 a1 a2 (i 0) (i 1))

/-- The reference's second result at an entry, of its first. -/
theorem ref5_at (P : S32768x2048.Idx → EReal) (a3 : S2048.Idx → EReal) (r : Fin 32768) (d : Fin 2048) :
    (truncf .bf16 (mulf (mulf P (broadcastInDim S32768x2048 ![0, 1] bcast_S32768x1_S32768x2048_0_1 (Host.rsqrt (addf (Host.divf (broadcastInDim S32768x1 ![0] bcast_S32768_S32768x1_0 (Host.reduceAdd (mulf P P) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 a3))) bitsLt_bf16_f32 : FVec Ideal S32768x2048 .bf16) (ix2 r d) = rowNorm (fun k => P (ix2 r k)) (fun k => a3 (ix1 k)) d := by
  unfold rowNorm
  pointwise
  done

theorem ref5_eq (a0 : FVec Ideal S32768x2048 .f32) (a1 : FVec Ideal S32768x2048 .bf16) (a2 : FVec Ideal S2048x2048 .f32) (a3 : FVec Ideal S2048 .f32) :
    (truncf .bf16 (mulf (mulf (addf a0 (Host.dotGeneral dot_S32768x2048_S2048x2048_S32768x2048_1_0_0_1_n_n none (extf .f32 a1 bitsLt_bf16_f32) a2)) (broadcastInDim S32768x2048 ![0, 1] bcast_S32768x1_S32768x2048_0_1 (Host.rsqrt (addf (Host.divf (broadcastInDim S32768x1 ![0] bcast_S32768_S32768x1_0 (Host.reduceAdd (mulf (addf a0 (Host.dotGeneral dot_S32768x2048_S2048x2048_S32768x2048_1_0_0_1_n_n none (extf .f32 a1 bitsLt_bf16_f32) a2)) (addf a0 (Host.dotGeneral dot_S32768x2048_S2048x2048_S32768x2048_1_0_0_1_n_n none (extf .f32 a1 bitsLt_bf16_f32) a2))) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 a3))) bitsLt_bf16_f32 : FVec Ideal S32768x2048 .bf16) = out5 a0 a1 a2 a3 := by
  rw [ref4_eq]
  funext i
  have hi : i = ix2 (i 0) (i 1) := by funext a; fin_cases a <;> rfl
  exact (congrArg _ hi).trans (ref5_at _ a3 (i 0) (i 1))

end Cert.Calls.OutRef

end
-- ==== Proof.Calls.Scores.lean ====
/-
The retrieval queries against the sub-keys, entry by entry: the launch's array and the reference's result.
-/
module

public import proofs.«01_k».proof.Proof.Gen.ScoresIdeal.Value
public import proofs.«01_k».proof.Proof.Gen.ScoresReferenceIdeal.Run
public import Idealize.ShloMosaic.Lib.Pipeline.ValueKit
public import Idealize.ShloMosaic.Lib.Pointwise

@[expose] public section

set_option maxRecDepth 16384
set_option Elab.async false

noncomputable section

namespace Cert.Calls.Scores

open Idealize.ShloMosaic
open Idealize.ShloMosaic.TcCoe Idealize.ShloMosaic.Tactic Idealize.ShloMosaic.Pointwise
open Idealize.SL.Sem
open Cert.ScoresIdeal Cert.ScoresIdeal.Gen Cert.ScoresIdeal.Value

/-- The queries of a block of rows, at an entry. -/
theorem query_at (x0 : S512x2048.Idx → EReal) (x1 : S2048x2048.Idx → EReal) (r : Fin 512) (d : Fin 2048) :
    (k0_pay2 (F := Ideal) x0 x1) (ix2 r d) = ∑ j : Fin 2048, x0 (ix2 r j) * x1 (ix2 j d) := by
  unfold k0_pay2
  pointwise
  done

/-- A query's slice against a table of sub-keys. -/
def scoreOf (Q : S512x2048.Idx → EReal) (x2 : S16x128x128.Idx → EReal) : S16x128x512.Idx → EReal := fun i =>
  ∑ k : Fin 128, x2 (ix3 (i 0) (i 1) k) * Q (ix2 (i 2) ⟨128 * (i 0).val + k.val, by have h : (i 0).val < 16 := (i 0).isLt; have := k.isLt; omega⟩)

theorem pay_0 (x0 : S512x2048.Idx → EReal) (x1 : S2048x2048.Idx → EReal) (v : S1x128x128.Idx → EReal) (n : Fin 128) (r : Fin 512) :
    (k0_pay3 (F := Ideal) x0 x1 v) (ix3 0 n r) = ∑ k : Fin 128, v (ix3 0 n k) * (k0_pay2 (F := Ideal) x0 x1 : S512x2048.Idx → EReal) (ix2 r ⟨k.val, by omega⟩) := by
  unfold k0_pay3
  generalize k0_pay2 (F := Ideal) x0 x1 = Q
  pointwise
  done

theorem piece_0 (x0 : S512x2048.Idx → EReal) (x1 : S2048x2048.Idx → EReal) (x2 : S16x128x128.Idx → EReal) (x : S1x128x512.Idx) :
    (k0_pay3 (F := Ideal) x0 x1 (View.ld x2 r0_2) : S1x128x512.Idx → EReal) x = scoreOf (k0_pay2 (F := Ideal) x0 x1) x2 (r0_3.emb x) := by
  have h0 : (x 0).val = 0 := by have : (x 0).val < 1 := (x 0).isLt; omega
  have hx : x = ix3 0 (x 1) (x 2) := by
    funext a; fin_cases a
    · exact Fin.ext h0
    · rfl
    · rfl
  have he : r0_3.emb x = ix3 (0 : Fin 16) (x 1) (x 2) := by
    funext a; apply Fin.ext; fin_cases a
    · show 0 + 1 * (x 0).val = 0
      omega
    · show 0 + 1 * (x 1).val = (x 1).val
      omega
    · show 0 + 1 * (x 2).val = (x 2).val
      omega
  refine (congrArg _ hx).trans ((pay_0 x0 x1 _ _ _).trans ?_)
  rw [he]
  unfold scoreOf
  refine Finset.sum_congr rfl fun k _ => ?_
  have el : (View.ld (Val := Elt Ideal) (e' := .bf16) x2 r0_2 : S1x128x128.Idx → EReal) (ix3 0 (x 1) k) = x2 (ix3 (0 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg (k0_pay2 (F := Ideal) x0 x1) (congrArg (ix2 (x 2)) (Fin.ext ?_)))
  show k.val = 128 * 0 + k.val
  omega

theorem pay_1 (x0 : S512x2048.Idx → EReal) (x1 : S2048x2048.Idx → EReal) (v : S1x128x128.Idx → EReal) (n : Fin 128) (r : Fin 512) :
    (k0_pay4 (F := Ideal) x0 x1 v) (ix3 0 n r) = ∑ k : Fin 128, v (ix3 0 n k) * (k0_pay2 (F := Ideal) x0 x1 : S512x2048.Idx → EReal) (ix2 r ⟨128 + k.val, by omega⟩) := by
  unfold k0_pay4
  generalize k0_pay2 (F := Ideal) x0 x1 = Q
  pointwise
  done

theorem piece_1 (x0 : S512x2048.Idx → EReal) (x1 : S2048x2048.Idx → EReal) (x2 : S16x128x128.Idx → EReal) (x : S1x128x512.Idx) :
    (k0_pay4 (F := Ideal) x0 x1 (View.ld x2 r0_4) : S1x128x512.Idx → EReal) x = scoreOf (k0_pay2 (F := Ideal) x0 x1) x2 (r0_5.emb x) := by
  have h0 : (x 0).val = 0 := by have : (x 0).val < 1 := (x 0).isLt; omega
  have hx : x = ix3 0 (x 1) (x 2) := by
    funext a; fin_cases a
    · exact Fin.ext h0
    · rfl
    · rfl
  have he : r0_5.emb x = ix3 (1 : Fin 16) (x 1) (x 2) := by
    funext a; apply Fin.ext; fin_cases a
    · show 1 + 1 * (x 0).val = 1
      omega
    · show 0 + 1 * (x 1).val = (x 1).val
      omega
    · show 0 + 1 * (x 2).val = (x 2).val
      omega
  refine (congrArg _ hx).trans ((pay_1 x0 x1 _ _ _).trans ?_)
  rw [he]
  unfold scoreOf
  refine Finset.sum_congr rfl fun k _ => ?_
  have el : (View.ld (Val := Elt Ideal) (e' := .bf16) x2 r0_4 : S1x128x128.Idx → EReal) (ix3 0 (x 1) k) = x2 (ix3 (1 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg (k0_pay2 (F := Ideal) x0 x1) (congrArg (ix2 (x 2)) (Fin.ext ?_)))
  show 128 + k.val = 128 * 1 + k.val
  omega

theorem pay_2 (x0 : S512x2048.Idx → EReal) (x1 : S2048x2048.Idx → EReal) (v : S1x128x128.Idx → EReal) (n : Fin 128) (r : Fin 512) :
    (k0_pay5 (F := Ideal) x0 x1 v) (ix3 0 n r) = ∑ k : Fin 128, v (ix3 0 n k) * (k0_pay2 (F := Ideal) x0 x1 : S512x2048.Idx → EReal) (ix2 r ⟨256 + k.val, by omega⟩) := by
  unfold k0_pay5
  generalize k0_pay2 (F := Ideal) x0 x1 = Q
  pointwise
  done

theorem piece_2 (x0 : S512x2048.Idx → EReal) (x1 : S2048x2048.Idx → EReal) (x2 : S16x128x128.Idx → EReal) (x : S1x128x512.Idx) :
    (k0_pay5 (F := Ideal) x0 x1 (View.ld x2 r0_6) : S1x128x512.Idx → EReal) x = scoreOf (k0_pay2 (F := Ideal) x0 x1) x2 (r0_7.emb x) := by
  have h0 : (x 0).val = 0 := by have : (x 0).val < 1 := (x 0).isLt; omega
  have hx : x = ix3 0 (x 1) (x 2) := by
    funext a; fin_cases a
    · exact Fin.ext h0
    · rfl
    · rfl
  have he : r0_7.emb x = ix3 (2 : Fin 16) (x 1) (x 2) := by
    funext a; apply Fin.ext; fin_cases a
    · show 2 + 1 * (x 0).val = 2
      omega
    · show 0 + 1 * (x 1).val = (x 1).val
      omega
    · show 0 + 1 * (x 2).val = (x 2).val
      omega
  refine (congrArg _ hx).trans ((pay_2 x0 x1 _ _ _).trans ?_)
  rw [he]
  unfold scoreOf
  refine Finset.sum_congr rfl fun k _ => ?_
  have el : (View.ld (Val := Elt Ideal) (e' := .bf16) x2 r0_6 : S1x128x128.Idx → EReal) (ix3 0 (x 1) k) = x2 (ix3 (2 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg (k0_pay2 (F := Ideal) x0 x1) (congrArg (ix2 (x 2)) (Fin.ext ?_)))
  show 256 + k.val = 128 * 2 + k.val
  omega

theorem pay_3 (Q : S512x2048.Idx → EReal) (v : S1x128x128.Idx → EReal) (n : Fin 128) (r : Fin 512) :
    (k0_pay6 (F := Ideal) Q v) (ix3 0 n r) = ∑ k : Fin 128, v (ix3 0 n k) * Q (ix2 r ⟨384 + k.val, by omega⟩) := by
  unfold k0_pay6
  pointwise
  done

theorem piece_3 (Q : S512x2048.Idx → EReal) (x2 : S16x128x128.Idx → EReal) (x : S1x128x512.Idx) :
    (k0_pay6 (F := Ideal) Q (View.ld x2 r0_8) : S1x128x512.Idx → EReal) x = scoreOf Q x2 (r0_9.emb x) := by
  have h0 : (x 0).val = 0 := by have : (x 0).val < 1 := (x 0).isLt; omega
  have hx : x = ix3 0 (x 1) (x 2) := by
    funext a; fin_cases a
    · exact Fin.ext h0
    · rfl
    · rfl
  have he : r0_9.emb x = ix3 (3 : Fin 16) (x 1) (x 2) := by
    funext a; apply Fin.ext; fin_cases a
    · show 3 + 1 * (x 0).val = 3
      omega
    · show 0 + 1 * (x 1).val = (x 1).val
      omega
    · show 0 + 1 * (x 2).val = (x 2).val
      omega
  refine (congrArg _ hx).trans ((pay_3 Q _ _ _).trans ?_)
  rw [he]
  unfold scoreOf
  refine Finset.sum_congr rfl fun k _ => ?_
  have el : (View.ld (Val := Elt Ideal) (e' := .bf16) x2 r0_8 : S1x128x128.Idx → EReal) (ix3 0 (x 1) k) = x2 (ix3 (3 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg Q (congrArg (ix2 (x 2)) (Fin.ext ?_)))
  show 384 + k.val = 128 * 3 + k.val
  omega

theorem pay_4 (Q : S512x2048.Idx → EReal) (v : S1x128x128.Idx → EReal) (n : Fin 128) (r : Fin 512) :
    (k0_pay7 (F := Ideal) Q v) (ix3 0 n r) = ∑ k : Fin 128, v (ix3 0 n k) * Q (ix2 r ⟨512 + k.val, by omega⟩) := by
  unfold k0_pay7
  pointwise
  done

theorem piece_4 (Q : S512x2048.Idx → EReal) (x2 : S16x128x128.Idx → EReal) (x : S1x128x512.Idx) :
    (k0_pay7 (F := Ideal) Q (View.ld x2 r0_10) : S1x128x512.Idx → EReal) x = scoreOf Q x2 (r0_11.emb x) := by
  have h0 : (x 0).val = 0 := by have : (x 0).val < 1 := (x 0).isLt; omega
  have hx : x = ix3 0 (x 1) (x 2) := by
    funext a; fin_cases a
    · exact Fin.ext h0
    · rfl
    · rfl
  have he : r0_11.emb x = ix3 (4 : Fin 16) (x 1) (x 2) := by
    funext a; apply Fin.ext; fin_cases a
    · show 4 + 1 * (x 0).val = 4
      omega
    · show 0 + 1 * (x 1).val = (x 1).val
      omega
    · show 0 + 1 * (x 2).val = (x 2).val
      omega
  refine (congrArg _ hx).trans ((pay_4 Q _ _ _).trans ?_)
  rw [he]
  unfold scoreOf
  refine Finset.sum_congr rfl fun k _ => ?_
  have el : (View.ld (Val := Elt Ideal) (e' := .bf16) x2 r0_10 : S1x128x128.Idx → EReal) (ix3 0 (x 1) k) = x2 (ix3 (4 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg Q (congrArg (ix2 (x 2)) (Fin.ext ?_)))
  show 512 + k.val = 128 * 4 + k.val
  omega

theorem pay_5 (Q : S512x2048.Idx → EReal) (v : S1x128x128.Idx → EReal) (n : Fin 128) (r : Fin 512) :
    (k0_pay8 (F := Ideal) Q v) (ix3 0 n r) = ∑ k : Fin 128, v (ix3 0 n k) * Q (ix2 r ⟨640 + k.val, by omega⟩) := by
  unfold k0_pay8
  pointwise
  done

theorem piece_5 (Q : S512x2048.Idx → EReal) (x2 : S16x128x128.Idx → EReal) (x : S1x128x512.Idx) :
    (k0_pay8 (F := Ideal) Q (View.ld x2 r0_12) : S1x128x512.Idx → EReal) x = scoreOf Q x2 (r0_13.emb x) := by
  have h0 : (x 0).val = 0 := by have : (x 0).val < 1 := (x 0).isLt; omega
  have hx : x = ix3 0 (x 1) (x 2) := by
    funext a; fin_cases a
    · exact Fin.ext h0
    · rfl
    · rfl
  have he : r0_13.emb x = ix3 (5 : Fin 16) (x 1) (x 2) := by
    funext a; apply Fin.ext; fin_cases a
    · show 5 + 1 * (x 0).val = 5
      omega
    · show 0 + 1 * (x 1).val = (x 1).val
      omega
    · show 0 + 1 * (x 2).val = (x 2).val
      omega
  refine (congrArg _ hx).trans ((pay_5 Q _ _ _).trans ?_)
  rw [he]
  unfold scoreOf
  refine Finset.sum_congr rfl fun k _ => ?_
  have el : (View.ld (Val := Elt Ideal) (e' := .bf16) x2 r0_12 : S1x128x128.Idx → EReal) (ix3 0 (x 1) k) = x2 (ix3 (5 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg Q (congrArg (ix2 (x 2)) (Fin.ext ?_)))
  show 640 + k.val = 128 * 5 + k.val
  omega

theorem pay_6 (Q : S512x2048.Idx → EReal) (v : S1x128x128.Idx → EReal) (n : Fin 128) (r : Fin 512) :
    (k0_pay9 (F := Ideal) Q v) (ix3 0 n r) = ∑ k : Fin 128, v (ix3 0 n k) * Q (ix2 r ⟨768 + k.val, by omega⟩) := by
  unfold k0_pay9
  pointwise
  done

theorem piece_6 (Q : S512x2048.Idx → EReal) (x2 : S16x128x128.Idx → EReal) (x : S1x128x512.Idx) :
    (k0_pay9 (F := Ideal) Q (View.ld x2 r0_14) : S1x128x512.Idx → EReal) x = scoreOf Q x2 (r0_15.emb x) := by
  have h0 : (x 0).val = 0 := by have : (x 0).val < 1 := (x 0).isLt; omega
  have hx : x = ix3 0 (x 1) (x 2) := by
    funext a; fin_cases a
    · exact Fin.ext h0
    · rfl
    · rfl
  have he : r0_15.emb x = ix3 (6 : Fin 16) (x 1) (x 2) := by
    funext a; apply Fin.ext; fin_cases a
    · show 6 + 1 * (x 0).val = 6
      omega
    · show 0 + 1 * (x 1).val = (x 1).val
      omega
    · show 0 + 1 * (x 2).val = (x 2).val
      omega
  refine (congrArg _ hx).trans ((pay_6 Q _ _ _).trans ?_)
  rw [he]
  unfold scoreOf
  refine Finset.sum_congr rfl fun k _ => ?_
  have el : (View.ld (Val := Elt Ideal) (e' := .bf16) x2 r0_14 : S1x128x128.Idx → EReal) (ix3 0 (x 1) k) = x2 (ix3 (6 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg Q (congrArg (ix2 (x 2)) (Fin.ext ?_)))
  show 768 + k.val = 128 * 6 + k.val
  omega

theorem pay_7 (Q : S512x2048.Idx → EReal) (v : S1x128x128.Idx → EReal) (n : Fin 128) (r : Fin 512) :
    (k0_pay10 (F := Ideal) Q v) (ix3 0 n r) = ∑ k : Fin 128, v (ix3 0 n k) * Q (ix2 r ⟨896 + k.val, by omega⟩) := by
  unfold k0_pay10
  pointwise
  done

theorem piece_7 (Q : S512x2048.Idx → EReal) (x2 : S16x128x128.Idx → EReal) (x : S1x128x512.Idx) :
    (k0_pay10 (F := Ideal) Q (View.ld x2 r0_16) : S1x128x512.Idx → EReal) x = scoreOf Q x2 (r0_17.emb x) := by
  have h0 : (x 0).val = 0 := by have : (x 0).val < 1 := (x 0).isLt; omega
  have hx : x = ix3 0 (x 1) (x 2) := by
    funext a; fin_cases a
    · exact Fin.ext h0
    · rfl
    · rfl
  have he : r0_17.emb x = ix3 (7 : Fin 16) (x 1) (x 2) := by
    funext a; apply Fin.ext; fin_cases a
    · show 7 + 1 * (x 0).val = 7
      omega
    · show 0 + 1 * (x 1).val = (x 1).val
      omega
    · show 0 + 1 * (x 2).val = (x 2).val
      omega
  refine (congrArg _ hx).trans ((pay_7 Q _ _ _).trans ?_)
  rw [he]
  unfold scoreOf
  refine Finset.sum_congr rfl fun k _ => ?_
  have el : (View.ld (Val := Elt Ideal) (e' := .bf16) x2 r0_16 : S1x128x128.Idx → EReal) (ix3 0 (x 1) k) = x2 (ix3 (7 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg Q (congrArg (ix2 (x 2)) (Fin.ext ?_)))
  show 896 + k.val = 128 * 7 + k.val
  omega

theorem pay_8 (Q : S512x2048.Idx → EReal) (v : S1x128x128.Idx → EReal) (n : Fin 128) (r : Fin 512) :
    (k0_pay11 (F := Ideal) Q v) (ix3 0 n r) = ∑ k : Fin 128, v (ix3 0 n k) * Q (ix2 r ⟨1024 + k.val, by omega⟩) := by
  unfold k0_pay11
  pointwise
  done

theorem piece_8 (Q : S512x2048.Idx → EReal) (x2 : S16x128x128.Idx → EReal) (x : S1x128x512.Idx) :
    (k0_pay11 (F := Ideal) Q (View.ld x2 r0_18) : S1x128x512.Idx → EReal) x = scoreOf Q x2 (r0_19.emb x) := by
  have h0 : (x 0).val = 0 := by have : (x 0).val < 1 := (x 0).isLt; omega
  have hx : x = ix3 0 (x 1) (x 2) := by
    funext a; fin_cases a
    · exact Fin.ext h0
    · rfl
    · rfl
  have he : r0_19.emb x = ix3 (8 : Fin 16) (x 1) (x 2) := by
    funext a; apply Fin.ext; fin_cases a
    · show 8 + 1 * (x 0).val = 8
      omega
    · show 0 + 1 * (x 1).val = (x 1).val
      omega
    · show 0 + 1 * (x 2).val = (x 2).val
      omega
  refine (congrArg _ hx).trans ((pay_8 Q _ _ _).trans ?_)
  rw [he]
  unfold scoreOf
  refine Finset.sum_congr rfl fun k _ => ?_
  have el : (View.ld (Val := Elt Ideal) (e' := .bf16) x2 r0_18 : S1x128x128.Idx → EReal) (ix3 0 (x 1) k) = x2 (ix3 (8 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg Q (congrArg (ix2 (x 2)) (Fin.ext ?_)))
  show 1024 + k.val = 128 * 8 + k.val
  omega

theorem pay_9 (Q : S512x2048.Idx → EReal) (v : S1x128x128.Idx → EReal) (n : Fin 128) (r : Fin 512) :
    (k0_pay12 (F := Ideal) Q v) (ix3 0 n r) = ∑ k : Fin 128, v (ix3 0 n k) * Q (ix2 r ⟨1152 + k.val, by omega⟩) := by
  unfold k0_pay12
  pointwise
  done

theorem piece_9 (Q : S512x2048.Idx → EReal) (x2 : S16x128x128.Idx → EReal) (x : S1x128x512.Idx) :
    (k0_pay12 (F := Ideal) Q (View.ld x2 r0_20) : S1x128x512.Idx → EReal) x = scoreOf Q x2 (r0_21.emb x) := by
  have h0 : (x 0).val = 0 := by have : (x 0).val < 1 := (x 0).isLt; omega
  have hx : x = ix3 0 (x 1) (x 2) := by
    funext a; fin_cases a
    · exact Fin.ext h0
    · rfl
    · rfl
  have he : r0_21.emb x = ix3 (9 : Fin 16) (x 1) (x 2) := by
    funext a; apply Fin.ext; fin_cases a
    · show 9 + 1 * (x 0).val = 9
      omega
    · show 0 + 1 * (x 1).val = (x 1).val
      omega
    · show 0 + 1 * (x 2).val = (x 2).val
      omega
  refine (congrArg _ hx).trans ((pay_9 Q _ _ _).trans ?_)
  rw [he]
  unfold scoreOf
  refine Finset.sum_congr rfl fun k _ => ?_
  have el : (View.ld (Val := Elt Ideal) (e' := .bf16) x2 r0_20 : S1x128x128.Idx → EReal) (ix3 0 (x 1) k) = x2 (ix3 (9 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg Q (congrArg (ix2 (x 2)) (Fin.ext ?_)))
  show 1152 + k.val = 128 * 9 + k.val
  omega

theorem pay_10 (Q : S512x2048.Idx → EReal) (v : S1x128x128.Idx → EReal) (n : Fin 128) (r : Fin 512) :
    (k0_pay13 (F := Ideal) Q v) (ix3 0 n r) = ∑ k : Fin 128, v (ix3 0 n k) * Q (ix2 r ⟨1280 + k.val, by omega⟩) := by
  unfold k0_pay13
  pointwise
  done

theorem piece_10 (Q : S512x2048.Idx → EReal) (x2 : S16x128x128.Idx → EReal) (x : S1x128x512.Idx) :
    (k0_pay13 (F := Ideal) Q (View.ld x2 r0_22) : S1x128x512.Idx → EReal) x = scoreOf Q x2 (r0_23.emb x) := by
  have h0 : (x 0).val = 0 := by have : (x 0).val < 1 := (x 0).isLt; omega
  have hx : x = ix3 0 (x 1) (x 2) := by
    funext a; fin_cases a
    · exact Fin.ext h0
    · rfl
    · rfl
  have he : r0_23.emb x = ix3 (10 : Fin 16) (x 1) (x 2) := by
    funext a; apply Fin.ext; fin_cases a
    · show 10 + 1 * (x 0).val = 10
      omega
    · show 0 + 1 * (x 1).val = (x 1).val
      omega
    · show 0 + 1 * (x 2).val = (x 2).val
      omega
  refine (congrArg _ hx).trans ((pay_10 Q _ _ _).trans ?_)
  rw [he]
  unfold scoreOf
  refine Finset.sum_congr rfl fun k _ => ?_
  have el : (View.ld (Val := Elt Ideal) (e' := .bf16) x2 r0_22 : S1x128x128.Idx → EReal) (ix3 0 (x 1) k) = x2 (ix3 (10 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg Q (congrArg (ix2 (x 2)) (Fin.ext ?_)))
  show 1280 + k.val = 128 * 10 + k.val
  omega

theorem pay_11 (Q : S512x2048.Idx → EReal) (v : S1x128x128.Idx → EReal) (n : Fin 128) (r : Fin 512) :
    (k0_pay14 (F := Ideal) Q v) (ix3 0 n r) = ∑ k : Fin 128, v (ix3 0 n k) * Q (ix2 r ⟨1408 + k.val, by omega⟩) := by
  unfold k0_pay14
  pointwise
  done

theorem piece_11 (Q : S512x2048.Idx → EReal) (x2 : S16x128x128.Idx → EReal) (x : S1x128x512.Idx) :
    (k0_pay14 (F := Ideal) Q (View.ld x2 r0_24) : S1x128x512.Idx → EReal) x = scoreOf Q x2 (r0_25.emb x) := by
  have h0 : (x 0).val = 0 := by have : (x 0).val < 1 := (x 0).isLt; omega
  have hx : x = ix3 0 (x 1) (x 2) := by
    funext a; fin_cases a
    · exact Fin.ext h0
    · rfl
    · rfl
  have he : r0_25.emb x = ix3 (11 : Fin 16) (x 1) (x 2) := by
    funext a; apply Fin.ext; fin_cases a
    · show 11 + 1 * (x 0).val = 11
      omega
    · show 0 + 1 * (x 1).val = (x 1).val
      omega
    · show 0 + 1 * (x 2).val = (x 2).val
      omega
  refine (congrArg _ hx).trans ((pay_11 Q _ _ _).trans ?_)
  rw [he]
  unfold scoreOf
  refine Finset.sum_congr rfl fun k _ => ?_
  have el : (View.ld (Val := Elt Ideal) (e' := .bf16) x2 r0_24 : S1x128x128.Idx → EReal) (ix3 0 (x 1) k) = x2 (ix3 (11 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg Q (congrArg (ix2 (x 2)) (Fin.ext ?_)))
  show 1408 + k.val = 128 * 11 + k.val
  omega

theorem pay_12 (Q : S512x2048.Idx → EReal) (v : S1x128x128.Idx → EReal) (n : Fin 128) (r : Fin 512) :
    (k0_pay15 (F := Ideal) Q v) (ix3 0 n r) = ∑ k : Fin 128, v (ix3 0 n k) * Q (ix2 r ⟨1536 + k.val, by omega⟩) := by
  unfold k0_pay15
  pointwise
  done

theorem piece_12 (Q : S512x2048.Idx → EReal) (x2 : S16x128x128.Idx → EReal) (x : S1x128x512.Idx) :
    (k0_pay15 (F := Ideal) Q (View.ld x2 r0_26) : S1x128x512.Idx → EReal) x = scoreOf Q x2 (r0_27.emb x) := by
  have h0 : (x 0).val = 0 := by have : (x 0).val < 1 := (x 0).isLt; omega
  have hx : x = ix3 0 (x 1) (x 2) := by
    funext a; fin_cases a
    · exact Fin.ext h0
    · rfl
    · rfl
  have he : r0_27.emb x = ix3 (12 : Fin 16) (x 1) (x 2) := by
    funext a; apply Fin.ext; fin_cases a
    · show 12 + 1 * (x 0).val = 12
      omega
    · show 0 + 1 * (x 1).val = (x 1).val
      omega
    · show 0 + 1 * (x 2).val = (x 2).val
      omega
  refine (congrArg _ hx).trans ((pay_12 Q _ _ _).trans ?_)
  rw [he]
  unfold scoreOf
  refine Finset.sum_congr rfl fun k _ => ?_
  have el : (View.ld (Val := Elt Ideal) (e' := .bf16) x2 r0_26 : S1x128x128.Idx → EReal) (ix3 0 (x 1) k) = x2 (ix3 (12 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg Q (congrArg (ix2 (x 2)) (Fin.ext ?_)))
  show 1536 + k.val = 128 * 12 + k.val
  omega

theorem pay_13 (Q : S512x2048.Idx → EReal) (v : S1x128x128.Idx → EReal) (n : Fin 128) (r : Fin 512) :
    (k0_pay16 (F := Ideal) Q v) (ix3 0 n r) = ∑ k : Fin 128, v (ix3 0 n k) * Q (ix2 r ⟨1664 + k.val, by omega⟩) := by
  unfold k0_pay16
  pointwise
  done

theorem piece_13 (Q : S512x2048.Idx → EReal) (x2 : S16x128x128.Idx → EReal) (x : S1x128x512.Idx) :
    (k0_pay16 (F := Ideal) Q (View.ld x2 r0_28) : S1x128x512.Idx → EReal) x = scoreOf Q x2 (r0_29.emb x) := by
  have h0 : (x 0).val = 0 := by have : (x 0).val < 1 := (x 0).isLt; omega
  have hx : x = ix3 0 (x 1) (x 2) := by
    funext a; fin_cases a
    · exact Fin.ext h0
    · rfl
    · rfl
  have he : r0_29.emb x = ix3 (13 : Fin 16) (x 1) (x 2) := by
    funext a; apply Fin.ext; fin_cases a
    · show 13 + 1 * (x 0).val = 13
      omega
    · show 0 + 1 * (x 1).val = (x 1).val
      omega
    · show 0 + 1 * (x 2).val = (x 2).val
      omega
  refine (congrArg _ hx).trans ((pay_13 Q _ _ _).trans ?_)
  rw [he]
  unfold scoreOf
  refine Finset.sum_congr rfl fun k _ => ?_
  have el : (View.ld (Val := Elt Ideal) (e' := .bf16) x2 r0_28 : S1x128x128.Idx → EReal) (ix3 0 (x 1) k) = x2 (ix3 (13 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg Q (congrArg (ix2 (x 2)) (Fin.ext ?_)))
  show 1664 + k.val = 128 * 13 + k.val
  omega

theorem pay_14 (Q : S512x2048.Idx → EReal) (v : S1x128x128.Idx → EReal) (n : Fin 128) (r : Fin 512) :
    (k0_pay17 (F := Ideal) Q v) (ix3 0 n r) = ∑ k : Fin 128, v (ix3 0 n k) * Q (ix2 r ⟨1792 + k.val, by omega⟩) := by
  unfold k0_pay17
  pointwise
  done

theorem piece_14 (Q : S512x2048.Idx → EReal) (x2 : S16x128x128.Idx → EReal) (x : S1x128x512.Idx) :
    (k0_pay17 (F := Ideal) Q (View.ld x2 r0_30) : S1x128x512.Idx → EReal) x = scoreOf Q x2 (r0_31.emb x) := by
  have h0 : (x 0).val = 0 := by have : (x 0).val < 1 := (x 0).isLt; omega
  have hx : x = ix3 0 (x 1) (x 2) := by
    funext a; fin_cases a
    · exact Fin.ext h0
    · rfl
    · rfl
  have he : r0_31.emb x = ix3 (14 : Fin 16) (x 1) (x 2) := by
    funext a; apply Fin.ext; fin_cases a
    · show 14 + 1 * (x 0).val = 14
      omega
    · show 0 + 1 * (x 1).val = (x 1).val
      omega
    · show 0 + 1 * (x 2).val = (x 2).val
      omega
  refine (congrArg _ hx).trans ((pay_14 Q _ _ _).trans ?_)
  rw [he]
  unfold scoreOf
  refine Finset.sum_congr rfl fun k _ => ?_
  have el : (View.ld (Val := Elt Ideal) (e' := .bf16) x2 r0_30 : S1x128x128.Idx → EReal) (ix3 0 (x 1) k) = x2 (ix3 (14 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg Q (congrArg (ix2 (x 2)) (Fin.ext ?_)))
  show 1792 + k.val = 128 * 14 + k.val
  omega

theorem pay_15 (Q : S512x2048.Idx → EReal) (v : S1x128x128.Idx → EReal) (n : Fin 128) (r : Fin 512) :
    (k0_pay1 (F := Ideal) Q v) (ix3 0 n r) = ∑ k : Fin 128, v (ix3 0 n k) * Q (ix2 r ⟨1920 + k.val, by omega⟩) := by
  unfold k0_pay1
  pointwise
  done

theorem piece_15 (Q : S512x2048.Idx → EReal) (x2 : S16x128x128.Idx → EReal) (x : S1x128x512.Idx) :
    (k0_pay1 (F := Ideal) Q (View.ld x2 r0_32) : S1x128x512.Idx → EReal) x = scoreOf Q x2 (r0_33.emb x) := by
  have h0 : (x 0).val = 0 := by have : (x 0).val < 1 := (x 0).isLt; omega
  have hx : x = ix3 0 (x 1) (x 2) := by
    funext a; fin_cases a
    · exact Fin.ext h0
    · rfl
    · rfl
  have he : r0_33.emb x = ix3 (15 : Fin 16) (x 1) (x 2) := by
    funext a; apply Fin.ext; fin_cases a
    · show 15 + 1 * (x 0).val = 15
      omega
    · show 0 + 1 * (x 1).val = (x 1).val
      omega
    · show 0 + 1 * (x 2).val = (x 2).val
      omega
  refine (congrArg _ hx).trans ((pay_15 Q _ _ _).trans ?_)
  rw [he]
  unfold scoreOf
  refine Finset.sum_congr rfl fun k _ => ?_
  have el : (View.ld (Val := Elt Ideal) (e' := .bf16) x2 r0_32 : S1x128x128.Idx → EReal) (ix3 0 (x 1) k) = x2 (ix3 (15 : Fin 16) (x 1) k) := by
    refine congrArg x2 (funext fun a => Fin.ext ?_)
    fin_cases a
    · rfl
    · show 0 + 1 * (x 1).val = (x 1).val
      omega
    · show 0 + 1 * k.val = k.val
      omega
  rw [el]
  refine congrArg _ (congrArg Q (congrArg (ix2 (x 2)) (Fin.ext ?_)))
  show 1920 + k.val = 128 * 15 + k.val
  omega

/-- What the body leaves in its block. -/
theorem out_eq (x0 : S512x2048.Idx → EReal) (x1 : S2048x2048.Idx → EReal) (x2 : S16x128x128.Idx → EReal) (y : S16x128x512.Idx) :
    (out0_3 (F := Ideal) x0 x1 x2 : S16x128x512.Idx → EReal) y = scoreOf (k0_pay2 (F := Ideal) x0 x1) x2 y := by
  have e0 : View.ld (Val := Elt Ideal) (e' := .bf16) x0 r0_0 = x0 := View.ld_unit_zero (by decide) _ _
  have e1 : View.ld (Val := Elt Ideal) (e' := .bf16) x1 r0_1 = x1 := View.ld_unit_zero (by decide) _ _
  have eq : k0_pay18 (F := Ideal) x0 x1 x2 = k0_pay2 (F := Ideal) x0 x1 := by
    unfold k0_pay18
    rw [e0, e1]
  unfold out0_3
  rw [eq, e0, e1]
  refine View.canon_apply_of_pieces (Val := Elt Ideal) (e := .f32) (scoreOf (k0_pay2 (F := Ideal) x0 x1) x2) _ ?_ y (cover0_3 _ _ _ _ _ _ _ _ _ _ _ _ _ _ _ _ y)
  intro pc hpc
  rcases List.mem_cons.mp hpc with rfl | hpc
  · exact fun x => piece_15 (k0_pay2 (F := Ideal) x0 x1) x2 x
  rcases List.mem_cons.mp hpc with rfl | hpc
  · exact fun x => piece_14 (k0_pay2 (F := Ideal) x0 x1) x2 x
  rcases List.mem_cons.mp hpc with rfl | hpc
  · exact fun x => piece_13 (k0_pay2 (F := Ideal) x0 x1) x2 x
  rcases List.mem_cons.mp hpc with rfl | hpc
  · exact fun x => piece_12 (k0_pay2 (F := Ideal) x0 x1) x2 x
  rcases List.mem_cons.mp hpc with rfl | hpc
  · exact fun x => piece_11 (k0_pay2 (F := Ideal) x0 x1) x2 x
  rcases List.mem_cons.mp hpc with rfl | hpc
  · exact fun x => piece_10 (k0_pay2 (F := Ideal) x0 x1) x2 x
  rcases List.mem_cons.mp hpc with rfl | hpc
  · exact fun x => piece_9 (k0_pay2 (F := Ideal) x0 x1) x2 x
  rcases List.mem_cons.mp hpc with rfl | hpc
  · exact fun x => piece_8 (k0_pay2 (F := Ideal) x0 x1) x2 x
  rcases List.mem_cons.mp hpc with rfl | hpc
  · exact fun x => piece_7 (k0_pay2 (F := Ideal) x0 x1) x2 x
  rcases List.mem_cons.mp hpc with rfl | hpc
  · exact fun x => piece_6 (k0_pay2 (F := Ideal) x0 x1) x2 x
  rcases List.mem_cons.mp hpc with rfl | hpc
  · exact fun x => piece_5 (k0_pay2 (F := Ideal) x0 x1) x2 x
  rcases List.mem_cons.mp hpc with rfl | hpc
  · exact fun x => piece_4 (k0_pay2 (F := Ideal) x0 x1) x2 x
  rcases List.mem_cons.mp hpc with rfl | hpc
  · exact fun x => piece_3 (k0_pay2 (F := Ideal) x0 x1) x2 x
  rcases List.mem_cons.mp hpc with rfl | hpc
  · exact fun x => piece_2 x0 x1 x2 x
  rcases List.mem_cons.mp hpc with rfl | hpc
  · exact fun x => piece_1 x0 x1 x2 x
  rcases List.mem_cons.mp hpc with rfl | hpc
  · exact fun x => piece_0 x0 x1 x2 x
  nomatch hpc

variable (m : (ℓ : Loc nD τ sig) → Buf (Elt Ideal) ℓ) (c : Dev nD)

theorem grid_facts (t : Fin cfg0.N) : win0_0.index t (0 : Fin 2) = t.val ∧ win0_0.index t (1 : Fin 2) = 0 ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = t.val := by
  revert t; decide +kernel

theorem blk0 (t : Fin cfg0.N) (r : Fin 512) (d : Fin 2048) (q : Fin 32768) (h : q.val = 512 * t.val + r.val) :
    (iblk m c 0 t : S512x2048.Idx → EReal) (ix2 r d) = (m ((c : Thread nD τ).loc main_arg0) : S32768x2048.Idx → EReal) (ix2 q d) := by
  have g := grid_facts t
  refine (congrArg (V m c main_arg0) (a₂ := ix2 q d) (funext fun a => Fin.ext ?_)).trans (congrFun (V_main_arg0 m c) _)
  fin_cases a
  · change win0_0.index t (0 : Fin 2) * 512 + 1 * r.val = q.val
    omega
  · change win0_0.index t (1 : Fin 2) * 2048 + 1 * d.val = d.val
    omega

theorem blk1 (t : Fin cfg0.N) (j d : Fin 2048) :
    (iblk m c 1 t : S2048x2048.Idx → EReal) (ix2 j d) = (m ((c : Thread nD τ).loc main_arg1) : S2048x2048.Idx → EReal) (ix2 j d) := by
  have g := grid_facts t
  refine (congrArg (V m c main_v2) (a₂ := ix2 j d) (funext fun a => Fin.ext ?_)).trans ?_
  · fin_cases a
    · change win0_1.index t (0 : Fin 2) * 2048 + 1 * j.val = j.val
      omega
    · change win0_1.index t (1 : Fin 2) * 2048 + 1 * d.val = d.val
      omega
  · unfold V; after_results_simp
    generalize m (c, Proc.tc.devRef main_arg1) = a1
    pointwise

theorem blk2 (t : Fin cfg0.N) (i : Fin 16) (n k : Fin 128) :
    (iblk m c 2 t : S16x128x128.Idx → EReal) (ix3 i n k)
      = (m ((c : Thread nD τ).loc main_arg2) : S8x2x128x128.Idx → EReal) (ix4 ⟨i.val / 2, by omega⟩ ⟨i.val % 2, by omega⟩ n k) := by
  have g := grid_facts t
  refine (congrArg (V m c main_v1) (a₂ := ix3 i n k) (funext fun a => Fin.ext ?_)).trans ?_
  · fin_cases a
    · change win0_2.index t (0 : Fin 3) * 16 + 1 * i.val = i.val
      omega
    · change win0_2.index t (1 : Fin 3) * 128 + 1 * n.val = n.val
      omega
    · change win0_2.index t (2 : Fin 3) * 128 + 1 * k.val = k.val
      omega
  · unfold V; after_results_simp
    generalize m (c, Proc.tc.devRef main_arg2) = a2
    pointwise
    done

/-- What the launch computes, from its arguments. -/
def out (a0 : S32768x2048.Idx → EReal) (a1 : S2048x2048.Idx → EReal) (a2 : S8x2x128x128.Idx → EReal) : S16x128x32768.Idx → EReal := fun i =>
  ∑ k : Fin 128, a2 (ix4 ⟨(i 0).val / 2, by have h : (i 0).val < 16 := (i 0).isLt; omega⟩ ⟨(i 0).val % 2, by omega⟩ (i 1) k)
    * ∑ j : Fin 2048, a0 (ix2 (i 2) j) * a1 (ix2 j ⟨128 * (i 0).val + k.val, by have h : (i 0).val < 16 := (i 0).isLt; have := k.isLt; omega⟩)

theorem entry (t : Fin cfg0.N) (y : S16x128x512.Idx) (i : S16x128x32768.Idx) (h0 : (i 0).val = win0_3.index t (0 : Fin 3) * 16 + 1 * (y 0).val)
    (h1 : (i 1).val = win0_3.index t (1 : Fin 3) * 128 + 1 * (y 1).val) (h2 : (i 2).val = win0_3.index t (2 : Fin 3) * 512 + 1 * (y 2).val) :
    out0_3 (F := Ideal) (iblk m c 0 t) (iblk m c 1 t) (iblk m c 2 t) y
      = out (m ((c : Thread nD τ).loc main_arg0)) (m ((c : Thread nD τ).loc main_arg1)) (m ((c : Thread nD τ).loc main_arg2)) i := by
  have g := grid_facts t
  have q0 : (i 0) = (y 0) := Fin.ext (by omega)
  have q1 : (i 1) = (y 1) := Fin.ext (by omega)
  have q2 : (i 2).val = 512 * t.val + (y 2).val := by omega
  refine (out_eq _ _ _ _).trans ?_
  unfold scoreOf out
  refine Finset.sum_congr rfl fun k _ => ?_
  have f0 := fun j => blk0 m c t (y 2) j (i 2) q2
  have key : ∀ (u : Fin 16) (v : Fin 128), u = y 0 → v = y 1 →
      @HMul.hMul EReal EReal EReal _ ((iblk m c 2 t : S16x128x128.Idx → EReal) (ix3 (y 0) (y 1) k)) ((k0_pay2 (F := Ideal) (iblk m c 0 t) (iblk m c 1 t) : S512x2048.Idx → EReal) (ix2 (y 2) ⟨128 * (y 0).val + k.val, by have h : (y 0).val < 16 := (y 0).isLt; have := k.isLt; omega⟩))
        = @HMul.hMul EReal EReal EReal _ ((m ((c : Thread nD τ).loc main_arg2) : S8x2x128x128.Idx → EReal) (ix4 ⟨u.val / 2, by omega⟩ ⟨u.val % 2, by omega⟩ v k))
          (∑ j : Fin 2048, @HMul.hMul EReal EReal EReal _ ((m ((c : Thread nD τ).loc main_arg0) : S32768x2048.Idx → EReal) (ix2 (i 2) j)) ((m ((c : Thread nD τ).loc main_arg1) : S2048x2048.Idx → EReal) (ix2 j ⟨128 * u.val + k.val, by have := k.isLt; omega⟩))) := by
    rintro u v rfl rfl
    exact congrArg₂ (fun A B : EReal => A * B) (blk2 m c t (y 0) (y 1) k) ((query_at _ _ _ _).trans
      (Finset.sum_congr rfl fun j _ => congrArg₂ (fun A B : EReal => A * B) (f0 j) (blk1 m c t j _)))
  exact key (i 0) (i 1) q0 q1

theorem covers : ((cfg0).win 3).Covers := by decide +kernel

/-- The launch's array after the run. -/
theorem arr_eq : (dats m 0 c).arrAt 3 cfg0.N = out (m ((c : Thread nD τ).loc main_arg0)) (m ((c : Thread nD τ).loc main_arg1)) (m ((c : Thread nD τ).loc main_arg2)) := by
  have key := entry m c
  generalize hG : out (m ((c : Thread nD τ).loc main_arg0)) (m ((c : Thread nD τ).loc main_arg1)) (m ((c : Thread nD τ).loc main_arg2)) = G at key ⊢
  refine (dats m 0 c).arrAt_eq_of_covers 3 G covers fun t _ y => ?_
  have k := key t y
  generalize hT : out0_3 (F := Ideal) (iblk m c 0 t) (iblk m c 1 t) (iblk m c 2 t) = T at k
  have hA : (dats m 0 c).after 3 t = T := (after0_3 m c t).trans hT
  rw [hA]
  exact k _ rfl rfl rfl

end Cert.Calls.Scores

namespace Cert.Calls.ScoresRef

open Cert.Calls Cert.Calls.Scores Cert.ScoresReferenceIdeal Cert.ScoresReferenceIdeal.Gen
open Idealize.ShloMosaic Idealize.ShloMosaic.TcCoe Idealize.ShloMosaic.Tactic Idealize.ShloMosaic.Pointwise

/-- The reference's result at an entry. -/
theorem ref_at (a0 : FVec Ideal S32768x2048 .bf16) (a1 : FVec Ideal S2048x2048 .f32) (a2 : FVec Ideal S8x2x128x128 .f32) (i : Fin 16) (n : Fin 128) (r : Fin 32768) :
    (shapeCast _ (transpose S8x2x128x32768 [1, 2, 3, 0] (transpose S32768x8x2x128 [3, 0, 1, 2] (Host.dotGeneral dot_S8x2x128x128_S32768x8x2x128_S8x2x128x32768_3_3_2_0_01_12 none a2 (shapeCast _ (Host.dotGeneral dot_S32768x2048_S2048x2048_S32768x2048_1_0_0_1_n_n none (extf .f32 a0 bitsLt_bf16_f32) a1) shapeCasts_S32768x2048_S32768x8x2x128)) transposes_S8x2x128x32768_S32768x8x2x128_3_0_1_2) transposes_S32768x8x2x128_S8x2x128x32768_1_2_3_0) shapeCasts_S8x2x128x32768_S16x128x32768 : FVec Ideal S16x128x32768 .f32) (ix3 i n r)
      = ∑ k : Fin 128, a2 (ix4 ⟨i.val / 2, by omega⟩ ⟨i.val % 2, by omega⟩ n k) * ∑ j : Fin 2048, a0 (ix2 r j) * a1 (ix2 j ⟨128 * i.val + k.val, by omega⟩) := by
  pointwise
  refine Finset.sum_congr rfl fun k _ => congrArg _ (Finset.sum_congr rfl fun j _ => congrArg _ (congrArg a1 (congrArg (ix2 j) (Fin.ext ?_))))
  show i.val / 2 * 256 + i.val % 2 * 128 + k.val = 128 * i.val + k.val
  omega

theorem ref_eq (a0 : FVec Ideal S32768x2048 .bf16) (a1 : FVec Ideal S2048x2048 .f32) (a2 : FVec Ideal S8x2x128x128 .f32) :
    (shapeCast _ (transpose S8x2x128x32768 [1, 2, 3, 0] (transpose S32768x8x2x128 [3, 0, 1, 2] (Host.dotGeneral dot_S8x2x128x128_S32768x8x2x128_S8x2x128x32768_3_3_2_0_01_12 none a2 (shapeCast _ (Host.dotGeneral dot_S32768x2048_S2048x2048_S32768x2048_1_0_0_1_n_n none (extf .f32 a0 bitsLt_bf16_f32) a1) shapeCasts_S32768x2048_S32768x8x2x128)) transposes_S8x2x128x32768_S32768x8x2x128_3_0_1_2) transposes_S32768x8x2x128_S8x2x128x32768_1_2_3_0) shapeCasts_S8x2x128x32768_S16x128x32768 : FVec Ideal S16x128x32768 .f32) = out a0 a1 a2 := by
  funext i
  have hi : i = ix3 (i 0) (i 1) (i 2) := by funext a; fin_cases a <;> rfl
  exact (congrArg _ hi).trans (ref_at a0 a1 a2 (i 0) (i 1) (i 2))

end Cert.Calls.ScoresRef

end
-- ==== Proof.Calls.Mix.lean ====
/-
The gated mixing of the two branches, entry by entry: the launch's array and the reference's result.
-/
module

public import proofs.«01_k».proof.Proof.Gen.MixIdeal.Value
public import proofs.«01_k».proof.Proof.Gen.MixReferenceIdeal.Run
public import Idealize.ShloMosaic.Lib.Pipeline.ValueKit
public import Idealize.ShloMosaic.Lib.Pointwise
public import Idealize.ShloMosaic.Lib.WordCmp

@[expose] public section

set_option maxRecDepth 16384
set_option Elab.async false

noncomputable section

namespace Cert.Calls.Mix

open Idealize.ShloMosaic
open Idealize.ShloMosaic.TcCoe Idealize.ShloMosaic.Tactic Idealize.ShloMosaic.Pointwise
open Idealize.SL.Sem
open Cert.MixIdeal Cert.MixIdeal.Gen Cert.MixIdeal.Value

/-- The smooth gate, in its tanh form. -/
def gel (x : EReal) : EReal :=
  x * (Ideal.ofBits .f32 0x3F000000#32 * (1 + Ideal.tanh (Ideal.ofBits .f32 0x3F4C422A#32 * (x + Ideal.ofBits .f32 0x3D372713#32 * (x * (x * x))))))

/-- A row of 1024 over its root mean square, times the gains. -/
def normed (v g : Fin 1024 → EReal) (d : Fin 1024) : EReal :=
  v d * Ideal.rsqrt (Ideal.div (∑ k, v k * v k) (Ideal.ofBits .f32 0x44800000#32) + Ideal.ofBits .f32 0x358637BD#32) * g d

/-- The weights on and below the diagonal. -/
def tri (r s : Fin 128) (w : EReal) : EReal := if s.val ≤ r.val then w else 0

/-- An entry of the spatially gated rows: its own row `gu`, the rows `gv` of its chunk, its place `p` in the chunk. -/
def ybv (gu : Fin 1024 → EReal) (gv : Fin 128 → Fin 1024 → EReal) (ng : Fin 1024 → EReal) (w : Fin 8 → Fin 128 → Fin 128 → EReal) (b : Fin 8 → Fin 128 → EReal)
    (p : Fin 128) (k : Fin 1024) : EReal :=
  gel (gu k) * ((∑ s : Fin 128, tri p s (w ⟨k.val / 128, by omega⟩ p s) * normed (fun j => gel (gv s j)) ng k) + b ⟨k.val / 128, by omega⟩ p)

/-- An entry of the gated sum of the two branches. -/
def mixv (ga gb : EReal) (ya wa yb wb : Fin 1024 → EReal) : EReal :=
  Ideal.logistic ga * (∑ k, ya k * wa k) + Ideal.logistic gb * (∑ k, yb k * wb k)

theorem mixv_ext {ga gb ga' gb' : EReal} {ya wa yb wb ya' wa' yb' wb' : Fin 1024 → EReal} (h0 : ga = ga') (h1 : gb = gb')
    (h2 : ∀ k, ya k = ya' k) (h3 : ∀ k, wa k = wa' k) (h4 : ∀ k, yb k = yb' k) (h5 : ∀ k, wb k = wb' k) :
    mixv ga gb ya wa yb wb = mixv ga' gb' ya' wa' yb' wb' := by
  obtain rfl := h0; obtain rfl := h1; obtain rfl := funext h2; obtain rfl := funext h3; obtain rfl := funext h4; obtain rfl := funext h5
  rfl

theorem ybv_ext {gu gu' : Fin 1024 → EReal} {gv gv' : Fin 128 → Fin 1024 → EReal} {ng ng' : Fin 1024 → EReal} {w w' : Fin 8 → Fin 128 → Fin 128 → EReal} {b b' : Fin 8 → Fin 128 → EReal}
    {p p' : Fin 128} (k : Fin 1024) (h0 : ∀ j, gu j = gu' j) (h1 : ∀ s j, gv s j = gv' s j) (h2 : ∀ j, ng j = ng' j) (h3 : ∀ g r s, w g r s = w' g r s)
    (h4 : ∀ g r, b g r = b' g r) (h5 : p = p') : ybv gu gv ng w b p k = ybv gu' gv' ng' w' b' p' k := by
  obtain rfl := funext h0; obtain rfl := funext fun s => funext (h1 s); obtain rfl := funext h2
  obtain rfl := funext fun g => funext fun r => funext (h3 g r); obtain rfl := funext fun g => funext (h4 g); obtain rfl := h5
  rfl

/-- The mask's choice. -/
theorem choose (r s : Fin 128) (w : EReal) : Scalar.select (k0_pay3 (ix2 r s)) w 0 = tri r s w := by
  have e : k0_pay3 (ix2 r s) = BitVec.ofBool (decide (s.val ≤ r.val)) := by
    unfold k0_pay3
    pointwise
    exact WordCmp.cmpi_sle_ofNat (by norm_num; omega) (by norm_num; omega)
  rw [e]
  unfold tri Scalar.select
  by_cases h : s.val ≤ r.val <;> simp [h]

theorem gate_0 (x : S128x1024.Idx → EReal) (r : Fin 128) (d : Fin 1024) : (k0_pay4 (F := Ideal) x : S128x1024.Idx → EReal) (ix2 r d) = gel (x (ix2 r d)) := by
  unfold k0_pay4 gel
  pointwise

theorem gate_1 (x : S128x1024.Idx → EReal) (r : Fin 128) (d : Fin 1024) : (k0_pay17 (F := Ideal) x : S128x1024.Idx → EReal) (ix2 r d) = gel (x (ix2 r d)) := by
  unfold k0_pay17 gel
  pointwise

theorem norm_0 (x : S128x1024.Idx → EReal) (g : S1x1024.Idx → EReal) (r : Fin 128) (d : Fin 1024) :
    (k0_pay6 (F := Ideal) (k0_pay5 (F := Ideal) x) g : S128x1024.Idx → EReal) (ix2 r d) = normed (fun j => gel (x (ix2 r j))) (fun j => g (ix2 0 j)) d := by
  unfold k0_pay6 k0_pay5 normed gel
  pointwise

theorem norm_1 (x : S128x1024.Idx → EReal) (g : S1x1024.Idx → EReal) (r : Fin 128) (d : Fin 1024) :
    (k0_pay18 (F := Ideal) x g : S128x1024.Idx → EReal) (ix2 r d) = normed (fun j => gel (x (ix2 r j))) (fun j => g (ix2 0 j)) d := by
  unfold k0_pay18 normed gel
  pointwise

/-- What the body stores last, at an entry. -/
theorem last_at (x4 : S256x1024.Idx → EReal) (x8 : S1024x2048.Idx → EReal) (z : S256x1024.Idx → EReal) (x9 : S1024x2048.Idx → EReal) (x2 x3 : S256x2048.Idx → EReal) (r : Fin 256) (d : Fin 2048) :
    (k0_pay2 (F := Ideal) x4 x8 z x9 x2 x3 : S256x2048.Idx → EReal) (ix2 r d)
      = mixv (x2 (ix2 r d)) (x3 (ix2 r d)) (fun k => x4 (ix2 r k)) (fun k => x8 (ix2 k d)) (fun k => z (ix2 r k)) (fun k => x9 (ix2 k d)) := by
  unfold k0_pay2 mixv
  pointwise

/-- A group's entry from the gates `u`, the normalised rows `vb`, the weights `W` and the offsets `b`. -/
def combine (u vb : S128x1024.Idx → EReal) (W : S1x128x128.Idx → EReal) (b : S128x1.Idx → EReal) (k : Fin 1024) (r : Fin 128) : EReal :=
  u (ix2 r k) * ((∑ s : Fin 128, Scalar.select (k0_pay3 (ix2 r s)) (W (ix3 0 r s)) 0 * vb (ix2 s k)) + b (ix2 r 0))

/-- The gated rows of a block. -/
def ybOf (x0 x1 : S256x1024.Idx → EReal) (x5 : S1x1024.Idx → EReal) (x6 : S8x128x128.Idx → EReal) (x7 : S128x8.Idx → EReal) : S256x1024.Idx → EReal := fun i =>
  ybv (fun k => x0 (ix2 (i 0) k)) (fun s j => x1 (ix2 ⟨128 * ((i 0).val / 128) + s.val, by have h : (i 0).val < 256 := (i 0).isLt; have := s.isLt; omega⟩ j)) (fun j => x5 (ix2 0 j))
    (fun g r s => x6 (ix3 g r s)) (fun g r => x7 (ix2 r g)) ⟨(i 0).val % 128, by omega⟩ (i 1)

theorem combine_eq (x0 x1 : S256x1024.Idx → EReal) (x5 : S1x1024.Idx → EReal) (x6 : S8x128x128.Idx → EReal) (x7 : S128x8.Idx → EReal) (C : Nat) (hC : C < 2) (g : Fin 8)
    (u vb : S128x1024.Idx → EReal) (W : S1x128x128.Idx → EReal) (b : S128x1.Idx → EReal)
    (hu : ∀ (r : Fin 128) (d : Fin 1024), u (ix2 r d) = gel (x0 (ix2 ⟨128 * C + r.val, by omega⟩ d)))
    (hv : ∀ (r : Fin 128) (d : Fin 1024), vb (ix2 r d) = normed (fun j => gel (x1 (ix2 ⟨128 * C + r.val, by omega⟩ j))) (fun j => x5 (ix2 0 j)) d)
    (hW : ∀ r s : Fin 128, W (ix3 0 r s) = x6 (ix3 g r s)) (hb : ∀ r : Fin 128, b (ix2 r 0) = x7 (ix2 r g))
    (r ch : Fin 128) (k : Fin 1024) (hk : k.val = 128 * g.val + ch.val) (q : Fin 256) (hq : q.val = 128 * C + r.val) :
    combine u vb W b k r = ybOf x0 x1 x5 x6 x7 (ix2 q k) := by
  have hA : (⟨q.val % 128, by omega⟩ : Fin 128) = r := Fin.ext (by show q.val % 128 = r.val; omega)
  have hB : (⟨128 * C + r.val, by omega⟩ : Fin 256) = q := Fin.ext hq.symm
  have hG : (⟨k.val / 128, by omega⟩ : Fin 8) = g := Fin.ext (by show k.val / 128 = g.val; omega)
  have hS : q.val / 128 = C := by omega
  show _ = ybv (fun k => x0 (ix2 q k)) (fun s j => x1 (ix2 ⟨128 * (q.val / 128) + s.val, by omega⟩ j)) (fun j => x5 (ix2 0 j))
    (fun g r s => x6 (ix3 g r s)) (fun g r => x7 (ix2 r g)) ⟨q.val % 128, by omega⟩ k
  rw [hA]
  unfold combine ybv
  simp only [hu, hv, hW, hb, choose, hG, hB, hS]

theorem weights_0 (x6 : S8x128x128.Idx → EReal) (r s : Fin 128) :
    (View.ld (Val := Elt Ideal) (e' := .f32) x6 (Rect.unit (s := S8x128x128) ![0, 0, 0] ![1, 128, 128] inb_S8x128x128_S1x128x128_0_0_0) : S1x128x128.Idx → EReal) (ix3 0 r s) = x6 (ix3 (0 : Fin 8) r s) := by
  refine congrArg x6 (funext fun a => Fin.ext ?_)
  fin_cases a
  · rfl
  · show 0 + 1 * r.val = r.val
    omega
  · show 0 + 1 * s.val = s.val
    omega

theorem offset_0 (x7 : S128x8.Idx → EReal) (r : Fin 128) :
    (View.ld (Val := Elt Ideal) (e' := .f32) x7 (Rect.unit (s := S128x8) ![0, 0] ![128, 1] inb_S128x8_S128x1_0_0) : S128x1.Idx → EReal) (ix2 r 0) = x7 (ix2 r (0 : Fin 8)) := by
  refine congrArg x7 (funext fun a => Fin.ext ?_)
  fin_cases a
  · show 0 + 1 * r.val = r.val
    omega
  · rfl

theorem weights_1 (x6 : S8x128x128.Idx → EReal) (r s : Fin 128) :
    (View.ld (Val := Elt Ideal) (e' := .f32) x6 (Rect.unit (s := S8x128x128) ![1, 0, 0] ![1, 128, 128] inb_S8x128x128_S1x128x128_1_0_0) : S1x128x128.Idx → EReal) (ix3 0 r s) = x6 (ix3 (1 : Fin 8) r s) := by
  refine congrArg x6 (funext fun a => Fin.ext ?_)
  fin_cases a
  · rfl
  · show 0 + 1 * r.val = r.val
    omega
  · show 0 + 1 * s.val = s.val
    omega

theorem offset_1 (x7 : S128x8.Idx → EReal) (r : Fin 128) :
    (View.ld (Val := Elt Ideal) (e' := .f32) x7 (Rect.unit (s := S128x8) ![0, 1] ![128, 1] inb_S128x8_S128x1_0_1) : S128x1.Idx → EReal) (ix2 r 0) = x7 (ix2 r (1 : Fin 8)) := by
  refine congrArg x7 (funext fun a => Fin.ext ?_)
  fin_cases a
  · show 0 + 1 * r.val = r.val
    omega
  · rfl

theorem weights_2 (x6 : S8x128x128.Idx → EReal) (r s : Fin 128) :
    (View.ld (Val := Elt Ideal) (e' := .f32) x6 (Rect.unit (s := S8x128x128) ![2, 0, 0] ![1, 128, 128] inb_S8x128x128_S1x128x128_2_0_0) : S1x128x128.Idx → EReal) (ix3 0 r s) = x6 (ix3 (2 : Fin 8) r s) := by
  refine congrArg x6 (funext fun a => Fin.ext ?_)
  fin_cases a
  · rfl
  · show 0 + 1 * r.val = r.val
    omega
  · show 0 + 1 * s.val = s.val
    omega

theorem offset_2 (x7 : S128x8.Idx → EReal) (r : Fin 128) :
    (View.ld (Val := Elt Ideal) (e' := .f32) x7 (Rect.unit (s := S128x8) ![0, 2] ![128, 1] inb_S128x8_S128x1_0_2) : S128x1.Idx → EReal) (ix2 r 0) = x7 (ix2 r (2 : Fin 8)) := by
  refine congrArg x7 (funext fun a => Fin.ext ?_)
  fin_cases a
  · show 0 + 1 * r.val = r.val
    omega
  · rfl

theorem weights_3 (x6 : S8x128x128.Idx → EReal) (r s : Fin 128) :
    (View.ld (Val := Elt Ideal) (e' := .f32) x6 (Rect.unit (s := S8x128x128) ![3, 0, 0] ![1, 128, 128] inb_S8x128x128_S1x128x128_3_0_0) : S1x128x128.Idx → EReal) (ix3 0 r s) = x6 (ix3 (3 : Fin 8) r s) := by
  refine congrArg x6 (funext fun a => Fin.ext ?_)
  fin_cases a
  · rfl
  · show 0 + 1 * r.val = r.val
    omega
  · show 0 + 1 * s.val = s.val
    omega

theorem offset_3 (x7 : S128x8.Idx → EReal) (r : Fin 128) :
    (View.ld (Val := Elt Ideal) (e' := .f32) x7 (Rect.unit (s := S128x8) ![0, 3] ![128, 1] inb_S128x8_S128x1_0_3) : S128x1.Idx → EReal) (ix2 r 0) = x7 (ix2 r (3 : Fin 8)) := by
  refine congrArg x7 (funext fun a => Fin.ext ?_)
  fin_cases a
  · show 0 + 1 * r.val = r.val
    omega
  · rfl

theorem weights_4 (x6 : S8x128x128.Idx → EReal) (r s : Fin 128) :
    (View.ld (Val := Elt Ideal) (e' := .f32) x6 (Rect.unit (s := S8x128x128) ![4, 0, 0] ![1, 128, 128] inb_S8x128x128_S1x128x128_4_0_0) : S1x128x128.Idx → EReal) (ix3 0 r s) = x6 (ix3 (4 : Fin 8) r s) := by
  refine congrArg x6 (funext fun a => Fin.ext ?_)
  fin_cases a
  · rfl
  · show 0 + 1 * r.val = r.val
    omega
  · show 0 + 1 * s.val = s.val
    omega

theorem offset_4 (x7 : S128x8.Idx → EReal) (r : Fin 128) :
    (View.ld (Val := Elt Ideal) (e' := .f32) x7 (Rect.unit (s := S128x8) ![0, 4] ![128, 1] inb_S128x8_S128x1_0_4) : S128x1.Idx → EReal) (ix2 r 0) = x7 (ix2 r (4 : Fin 8)) := by
  refine congrArg x7 (funext fun a => Fin.ext ?_)
  fin_cases a
  · show 0 + 1 * r.val = r.val
    omega
  · rfl

theorem weights_5 (x6 : S8x128x128.Idx → EReal) (r s : Fin 128) :
    (View.ld (Val := Elt Ideal) (e' := .f32) x6 (Rect.unit (s := S8x128x128) ![5, 0, 0] ![1, 128, 128] inb_S8x128x128_S1x128x128_5_0_0) : S1x128x128.Idx → EReal) (ix3 0 r s) = x6 (ix3 (5 : Fin 8) r s) := by
  refine congrArg x6 (funext fun a => Fin.ext ?_)
  fin_cases a
  · rfl
  · show 0 + 1 * r.val = r.val
    omega
  · show 0 + 1 * s.val = s.val
    omega

theorem offset_5 (x7 : S128x8.Idx → EReal) (r : Fin 128) :
    (View.ld (Val := Elt Ideal) (e' := .f32) x7 (Rect.unit (s := S128x8) ![0, 5] ![128, 1] inb_S128x8_S128x1_0_5) : S128x1.Idx → EReal) (ix2 r 0) = x7 (ix2 r (5 : Fin 8)) := by
  refine congrArg x7 (funext fun a => Fin.ext ?_)
  fin_cases a
  · show 0 + 1 * r.val = r.val
    omega
  · rfl

theorem weights_6 (x6 : S8x128x128.Idx → EReal) (r s : Fin 128) :
    (View.ld (Val := Elt Ideal) (e' := .f32) x6 (Rect.unit (s := S8x128x128) ![6, 0, 0] ![1, 128, 128] inb_S8x128x128_S1x128x128_6_0_0) : S1x128x128.Idx → EReal) (ix3 0 r s) = x6 (ix3 (6 : Fin 8) r s) := by
  refine congrArg x6 (funext fun a => Fin.ext ?_)
  fin_cases a
  · rfl
  · show 0 + 1 * r.val = r.val
    omega
  · show 0 + 1 * s.val = s.val
    omega

theorem offset_6 (x7 : S128x8.Idx → EReal) (r : Fin 128) :
    (View.ld (Val := Elt Ideal) (e' := .f32) x7 (Rect.unit (s := S128x8) ![0, 6] ![128, 1] inb_S128x8_S128x1_0_6) : S128x1.Idx → EReal) (ix2 r 0) = x7 (ix2 r (6 : Fin 8)) := by
  refine congrArg x7 (funext fun a => Fin.ext ?_)
  fin_cases a
  · show 0 + 1 * r.val = r.val
    omega
  · rfl

theorem weights_7 (x6 : S8x128x128.Idx → EReal) (r s : Fin 128) :
    (View.ld (Val := Elt Ideal) (e' := .f32) x6 (Rect.unit (s := S8x128x128) ![7, 0, 0] ![1, 128, 128] inb_S8x128x128_S1x128x128_7_0_0) : S1x128x128.Idx → EReal) (ix3 0 r s) = x6 (ix3 (7 : Fin 8) r s) := by
  refine congrArg x6 (funext fun a => Fin.ext ?_)
  fin_cases a
  · rfl
  · show 0 + 1 * r.val = r.val
    omega
  · show 0 + 1 * s.val = s.val
    omega

theorem offset_7 (x7 : S128x8.Idx → EReal) (r : Fin 128) :
    (View.ld (Val := Elt Ideal) (e' := .f32) x7 (Rect.unit (s := S128x8) ![0, 7] ![128, 1] inb_S128x8_S128x1_0_7) : S128x1.Idx → EReal) (ix2 r 0) = x7 (ix2 r (7 : Fin 8)) := by
  refine congrArg x7 (funext fun a => Fin.ext ?_)
  fin_cases a
  · show 0 + 1 * r.val = r.val
    omega
  · rfl

theorem rows_0 (x : S256x1024.Idx → EReal) (r : Fin 128) (d : Fin 1024) :
    (View.ld (Val := Elt Ideal) (e' := .f32) x (Rect.unit (s := S256x1024) ![0, 0] ![128, 1024] inb_S256x1024_S128x1024_0_0) : S128x1024.Idx → EReal) (ix2 r d) = x (ix2 ⟨128 * 0 + r.val, by omega⟩ d) := by
  refine congrArg x (funext fun a => Fin.ext ?_)
  fin_cases a
  · show 0 + 1 * r.val = 128 * 0 + r.val
    omega
  · show 0 + 1 * d.val = d.val
    omega

theorem gates_0 (x0 : S256x1024.Idx → EReal) (r : Fin 128) (d : Fin 1024) :
    (k0_pay4 (F := Ideal) (View.ld (Val := Elt Ideal) (e' := .f32) x0 (Rect.unit (s := S256x1024) ![0, 0] ![128, 1024] inb_S256x1024_S128x1024_0_0)) : S128x1024.Idx → EReal) (ix2 r d) = gel (x0 (ix2 ⟨128 * 0 + r.val, by omega⟩ d)) :=
  (gate_0 _ r d).trans (congrArg gel (rows_0 x0 r d))

theorem normed_0 (x1 : S256x1024.Idx → EReal) (x5 : S1x1024.Idx → EReal) (r : Fin 128) (d : Fin 1024) :
    (k0_pay6 (F := Ideal) (k0_pay5 (F := Ideal) (View.ld (Val := Elt Ideal) (e' := .f32) x1 (Rect.unit (s := S256x1024) ![0, 0] ![128, 1024] inb_S256x1024_S128x1024_0_0))) x5 : S128x1024.Idx → EReal) (ix2 r d)
      = normed (fun j => gel (x1 (ix2 ⟨128 * 0 + r.val, by omega⟩ j))) (fun j => x5 (ix2 0 j)) d :=
  (norm_0 _ _ r d).trans (congrArg (fun v => normed v (fun j => x5 (ix2 0 j)) d) (funext fun j => congrArg gel (rows_0 x1 r j)))

theorem rows_1 (x : S256x1024.Idx → EReal) (r : Fin 128) (d : Fin 1024) :
    (View.ld (Val := Elt Ideal) (e' := .f32) x (Rect.unit (s := S256x1024) ![128, 0] ![128, 1024] inb_S256x1024_S128x1024_128_0) : S128x1024.Idx → EReal) (ix2 r d) = x (ix2 ⟨128 * 1 + r.val, by omega⟩ d) := by
  refine congrArg x (funext fun a => Fin.ext ?_)
  fin_cases a
  · show 128 + 1 * r.val = 128 * 1 + r.val
    omega
  · show 0 + 1 * d.val = d.val
    omega

theorem gates_1 (x0 : S256x1024.Idx → EReal) (r : Fin 128) (d : Fin 1024) :
    (k0_pay17 (F := Ideal) (View.ld (Val := Elt Ideal) (e' := .f32) x0 (Rect.unit (s := S256x1024) ![128, 0] ![128, 1024] inb_S256x1024_S128x1024_128_0)) : S128x1024.Idx → EReal) (ix2 r d) = gel (x0 (ix2 ⟨128 * 1 + r.val, by omega⟩ d)) :=
  (gate_1 _ r d).trans (congrArg gel (rows_1 x0 r d))

theorem normed_1 (x1 : S256x1024.Idx → EReal) (x5 : S1x1024.Idx → EReal) (r : Fin 128) (d : Fin 1024) :
    (k0_pay18 (F := Ideal) (View.ld (Val := Elt Ideal) (e' := .f32) x1 (Rect.unit (s := S256x1024) ![128, 0] ![128, 1024] inb_S256x1024_S128x1024_128_0)) x5 : S128x1024.Idx → EReal) (ix2 r d)
      = normed (fun j => gel (x1 (ix2 ⟨128 * 1 + r.val, by omega⟩ j))) (fun j => x5 (ix2 0 j)) d :=
  (norm_1 _ _ r d).trans (congrArg (fun v => normed v (fun j => x5 (ix2 0 j)) d) (funext fun j => congrArg gel (rows_1 x1 r j)))

theorem group_1_7 (u vb : S128x1024.Idx → EReal) (W : S1x128x128.Idx → EReal) (b : S128x1.Idx → EReal) (r ch : Fin 128) :
    (k0_pay1 (F := Ideal) u (k0_pay28 (F := Ideal) k0_pay3 W) (k0_pay29 (F := Ideal) vb) (constant (F := Ideal) S128x128 .f32 0x00000000#32) b : S128x128.Idx → EReal) (ix2 r ch) = combine u vb W b ⟨896 + ch.val, by omega⟩ r := by
  unfold k0_pay1 k0_pay28 k0_pay29 combine
  generalize k0_pay3 = M
  pointwise
  done

theorem piece_1_7 (x0 x1 : S256x1024.Idx → EReal) (x5 : S1x1024.Idx → EReal) (x6 : S8x128x128.Idx → EReal) (x7 : S128x8.Idx → EReal) (x : S128x128.Idx) :
    (k0_pay1 (F := Ideal) (k0_pay17 (F := Ideal) (View.ld (Val := Elt Ideal) (e' := .f32) x0 (Rect.unit (s := S256x1024) ![128, 0] ![128, 1024] inb_S256x1024_S128x1024_128_0))) (k0_pay28 (F := Ideal) k0_pay3 (View.ld (Val := Elt Ideal) (e' := .f32) x6 (Rect.unit (s := S8x128x128) ![7, 0, 0] ![1, 128, 128] inb_S8x128x128_S1x128x128_7_0_0))) (k0_pay29 (F := Ideal) (k0_pay18 (F := Ideal) (View.ld (Val := Elt Ideal) (e' := .f32) x1 (Rect.unit (s := S256x1024) ![128, 0] ![128, 1024] inb_S256x1024_S128x1024_128_0)) x5)) (constant (F := Ideal) S128x128 .f32 0x00000000#32) (View.ld (Val := Elt Ideal) (e' := .f32) x7 (Rect.unit (s := S128x8) ![0, 7] ![128, 1] inb_S128x8_S128x1_0_7)) : S128x128.Idx → EReal) x
      = ybOf x0 x1 x5 x6 x7 ((Rect.unit (s := S256x1024) ![128, 896] ![128, 128] inb_S256x1024_S128x128_128_896).emb x) := by
  have hx : x = ix2 (x 0) (x 1) := by funext a; fin_cases a <;> rfl
  have he : (Rect.unit (s := S256x1024) ![128, 896] ![128, 128] inb_S256x1024_S128x128_128_896).emb x = ix2 ⟨128 * 1 + (x 0).val, by have h : (x 0).val < 128 := (x 0).isLt; omega⟩ ⟨896 + (x 1).val, by have h : (x 1).val < 128 := (x 1).isLt; omega⟩ := by
    funext a; apply Fin.ext; fin_cases a
    · show 128 + 1 * (x 0).val = 128 * 1 + (x 0).val
      omega
    · show 896 + 1 * (x 1).val = 896 + (x 1).val
      omega
  refine (congrArg _ hx).trans ((group_1_7 _ _ _ _ _ _).trans ?_)
  rw [he]
  exact combine_eq x0 x1 x5 x6 x7 1 (by omega) 7 _ _ _ _ (gates_1 x0) (normed_1 x1 x5) (weights_7 x6) (offset_7 x7) (x 0) (x 1) _ (by show 896 + (x 1).val = 128 * 7 + (x 1).val; omega) _ rfl

theorem group_1_6 (u vb : S128x1024.Idx → EReal) (W : S1x128x128.Idx → EReal) (b : S128x1.Idx → EReal) (r ch : Fin 128) :
    (k0_pay27 (F := Ideal) k0_pay3 u vb W b : S128x128.Idx → EReal) (ix2 r ch) = combine u vb W b ⟨768 + ch.val, by omega⟩ r := by
  unfold k0_pay27 combine
  generalize k0_pay3 = M
  pointwise
  done

theorem piece_1_6 (x0 x1 : S256x1024.Idx → EReal) (x5 : S1x1024.Idx → EReal) (x6 : S8x128x128.Idx → EReal) (x7 : S128x8.Idx → EReal) (x : S128x128.Idx) :
    (k0_pay27 (F := Ideal) k0_pay3 (k0_pay17 (F := Ideal) (View.ld (Val := Elt Ideal) (e' := .f32) x0 (Rect.unit (s := S256x1024) ![128, 0] ![128, 1024] inb_S256x1024_S128x1024_128_0))) (k0_pay18 (F := Ideal) (View.ld (Val := Elt Ideal) (e' := .f32) x1 (Rect.unit (s := S256x1024) ![128, 0] ![128, 1024] inb_S256x1024_S128x1024_128_0)) x5) (View.ld (Val := Elt Ideal) (e' := .f32) x6 (Rect.unit (s := S8x128x128) ![6, 0, 0] ![1, 128, 128] inb_S8x128x128_S1x128x128_6_0_0)) (View.ld (Val := Elt Ideal) (e' := .f32) x7 (Rect.unit (s := S128x8) ![0, 6] ![128, 1] inb_S128x8_S128x1_0_6)) : S128x128.Idx → EReal) x
      = ybOf x0 x1 x5 x6 x7 ((Rect.unit (s := S256x1024) ![128, 768] ![128, 128] inb_S256x1024_S128x128_128_768).emb x) := by
  have hx : x = ix2 (x 0) (x 1) := by funext a; fin_cases a <;> rfl
  have he : (Rect.unit (s := S256x1024) ![128, 768] ![128, 128] inb_S256x1024_S128x128_128_768).emb x = ix2 ⟨128 * 1 + (x 0).val, by have h : (x 0).val < 128 := (x 0).isLt; omega⟩ ⟨768 + (x 1).val, by have h : (x 1).val < 128 := (x 1).isLt; omega⟩ := by
    funext a; apply Fin.ext; fin_cases a
    · show 128 + 1 * (x 0).val = 128 * 1 + (x 0).val
      omega
    · show 768 + 1 * (x 1).val = 768 + (x 1).val
      omega
  refine (congrArg _ hx).trans ((group_1_6 _ _ _ _ _ _).trans ?_)
  rw [he]
  exact combine_eq x0 x1 x5 x6 x7 1 (by omega) 6 _ _ _ _ (gates_1 x0) (normed_1 x1 x5) (weights_6 x6) (offset_6 x7) (x 0) (x 1) _ (by show 768 + (x 1).val = 128 * 6 + (x 1).val; omega) _ rfl

theorem group_1_5 (u vb : S128x1024.Idx → EReal) (W : S1x128x128.Idx → EReal) (b : S128x1.Idx → EReal) (r ch : Fin 128) :
    (k0_pay26 (F := Ideal) k0_pay3 u vb (k0_pay25 (F := Ideal) W) b : S128x128.Idx → EReal) (ix2 r ch) = combine u vb W b ⟨640 + ch.val, by omega⟩ r := by
  unfold k0_pay26 k0_pay25 combine
  generalize k0_pay3 = M
  pointwise
  done

theorem piece_1_5 (x0 x1 : S256x1024.Idx → EReal) (x5 : S1x1024.Idx → EReal) (x6 : S8x128x128.Idx → EReal) (x7 : S128x8.Idx → EReal) (x : S128x128.Idx) :
    (k0_pay26 (F := Ideal) k0_pay3 (k0_pay17 (F := Ideal) (View.ld (Val := Elt Ideal) (e' := .f32) x0 (Rect.unit (s := S256x1024) ![128, 0] ![128, 1024] inb_S256x1024_S128x1024_128_0))) (k0_pay18 (F := Ideal) (View.ld (Val := Elt Ideal) (e' := .f32) x1 (Rect.unit (s := S256x1024) ![128, 0] ![128, 1024] inb_S256x1024_S128x1024_128_0)) x5) (k0_pay25 (F := Ideal) (View.ld (Val := Elt Ideal) (e' := .f32) x6 (Rect.unit (s := S8x128x128) ![5, 0, 0] ![1, 128, 128] inb_S8x128x128_S1x128x128_5_0_0))) (View.ld (Val := Elt Ideal) (e' := .f32) x7 (Rect.unit (s := S128x8) ![0, 5] ![128, 1] inb_S128x8_S128x1_0_5)) : S128x128.Idx → EReal) x
      = ybOf x0 x1 x5 x6 x7 ((Rect.unit (s := S256x1024) ![128, 640] ![128, 128] inb_S256x1024_S128x128_128_640).emb x) := by
  have hx : x = ix2 (x 0) (x 1) := by funext a; fin_cases a <;> rfl
  have he : (Rect.unit (s := S256x1024) ![128, 640] ![128, 128] inb_S256x1024_S128x128_128_640).emb x = ix2 ⟨128 * 1 + (x 0).val, by have h : (x 0).val < 128 := (x 0).isLt; omega⟩ ⟨640 + (x 1).val, by have h : (x 1).val < 128 := (x 1).isLt; omega⟩ := by
    funext a; apply Fin.ext; fin_cases a
    · show 128 + 1 * (x 0).val = 128 * 1 + (x 0).val
      omega
    · show 640 + 1 * (x 1).val = 640 + (x 1).val
      omega
  refine (congrArg _ hx).trans ((group_1_5 _ _ _ _ _ _).trans ?_)
  rw [he]
  exact combine_eq x0 x1 x5 x6 x7 1 (by omega) 5 _ _ _ _ (gates_1 x0) (normed_1 x1 x5) (weights_5 x6) (offset_5 x7) (x 0) (x 1) _ (by show 640 + (x 1).val = 128 * 5 + (x 1).val; omega) _ rfl

theorem group_1_4 (u vb : S128x1024.Idx → EReal) (W : S1x128x128.Idx → EReal) (b : S128x1.Idx → EReal) (r ch : Fin 128) :
    (k0_pay24 (F := Ideal) k0_pay3 u vb W b : S128x128.Idx → EReal) (ix2 r ch) = combine u vb W b ⟨512 + ch.val, by omega⟩ r := by
  unfold k0_pay24 combine
  generalize k0_pay3 = M
  pointwise
  done

theorem piece_1_4 (x0 x1 : S256x1024.Idx → EReal) (x5 : S1x1024.Idx → EReal) (x6 : S8x128x128.Idx → EReal) (x7 : S128x8.Idx → EReal) (x : S128x128.Idx) :
    (k0_pay24 (F := Ideal) k0_pay3 (k0_pay17 (F := Ideal) (View.ld (Val := Elt Ideal) (e' := .f32) x0 (Rect.unit (s := S256x1024) ![128, 0] ![128, 1024] inb_S256x1024_S128x1024_128_0))) (k0_pay18 (F := Ideal) (View.ld (Val := Elt Ideal) (e' := .f32) x1 (Rect.unit (s := S256x1024) ![128, 0] ![128, 1024] inb_S256x1024_S128x1024_128_0)) x5) (View.ld (Val := Elt Ideal) (e' := .f32) x6 (Rect.unit (s := S8x128x128) ![4, 0, 0] ![1, 128, 128] inb_S8x128x128_S1x128x128_4_0_0)) (View.ld (Val := Elt Ideal) (e' := .f32) x7 (Rect.unit (s := S128x8) ![0, 4] ![128, 1] inb_S128x8_S128x1_0_4)) : S128x128.Idx → EReal) x
      = ybOf x0 x1 x5 x6 x7 ((Rect.unit (s := S256x1024) ![128, 512] ![128, 128] inb_S256x1024_S128x128_128_512).emb x) := by
  have hx : x = ix2 (x 0) (x 1) := by funext a; fin_cases a <;> rfl
  have he : (Rect.unit (s := S256x1024) ![128, 512] ![128, 128] inb_S256x1024_S128x128_128_512).emb x = ix2 ⟨128 * 1 + (x 0).val, by have h : (x 0).val < 128 := (x 0).isLt; omega⟩ ⟨512 + (x 1).val, by have h : (x 1).val < 128 := (x 1).isLt; omega⟩ := by
    funext a; apply Fin.ext; fin_cases a
    · show 128 + 1 * (x 0).val = 128 * 1 + (x 0).val
      omega
    · show 512 + 1 * (x 1).val = 512 + (x 1).val
      omega
  refine (congrArg _ hx).trans ((group_1_4 _ _ _ _ _ _).trans ?_)
  rw [he]
  exact combine_eq x0 x1 x5 x6 x7 1 (by omega) 4 _ _ _ _ (gates_1 x0) (normed_1 x1 x5) (weights_4 x6) (offset_4 x7) (x 0) (x 1) _ (by show 512 + (x 1).val = 128 * 4 + (x 1).val; omega) _ rfl

theorem group_1_3 (u vb : S128x1024.Idx → EReal) (W : S1x128x128.Idx → EReal) (b : S128x1.Idx → EReal) (r ch : Fin 128) :
    (k0_pay23 (F := Ideal) k0_pay3 u vb W b : S128x128.Idx → EReal) (ix2 r ch) = combine u vb W b ⟨384 + ch.val, by omega⟩ r := by
  unfold k0_pay23 combine
  generalize k0_pay3 = M
  pointwise
  done

theorem piece_1_3 (x0 x1 : S256x1024.Idx → EReal) (x5 : S1x1024.Idx → EReal) (x6 : S8x128x128.Idx → EReal) (x7 : S128x8.Idx → EReal) (x : S128x128.Idx) :
    (k0_pay23 (F := Ideal) k0_pay3 (k0_pay17 (F := Ideal) (View.ld (Val := Elt Ideal) (e' := .f32) x0 (Rect.unit (s := S256x1024) ![128, 0] ![128, 1024] inb_S256x1024_S128x1024_128_0))) (k0_pay18 (F := Ideal) (View.ld (Val := Elt Ideal) (e' := .f32) x1 (Rect.unit (s := S256x1024) ![128, 0] ![128, 1024] inb_S256x1024_S128x1024_128_0)) x5) (View.ld (Val := Elt Ideal) (e' := .f32) x6 (Rect.unit (s := S8x128x128) ![3, 0, 0] ![1, 128, 128] inb_S8x128x128_S1x128x128_3_0_0)) (View.ld (Val := Elt Ideal) (e' := .f32) x7 (Rect.unit (s := S128x8) ![0, 3] ![128, 1] inb_S128x8_S128x1_0_3)) : S128x128.Idx → EReal) x
      = ybOf x0 x1 x5 x6 x7 ((Rect.unit (s := S256x1024) ![128, 384] ![128, 128] inb_S256x1024_S128x128_128_384).emb x) := by
  have hx : x = ix2 (x 0) (x 1) := by funext a; fin_cases a <;> rfl
  have he : (Rect.unit (s := S256x1024) ![128, 384] ![128, 128] inb_S256x1024_S128x128_128_384).emb x = ix2 ⟨128 * 1 + (x 0).val, by have h : (x 0).val < 128 := (x 0).isLt; omega⟩ ⟨384 + (x 1).val, by have h : (x 1).val < 128 := (x 1).isLt; omega⟩ := by
    funext a; apply Fin.ext; fin_cases a
    · show 128 + 1 * (x 0).val = 128 * 1 + (x 0).val
      omega
    · show 384 + 1 * (x 1).val = 384 + (x 1).val
      omega
  refine (congrArg _ hx).trans ((group_1_3 _ _ _ _ _ _).trans ?_)
  rw [he]
  exact combine_eq x0 x1 x5 x6 x7 1 (by omega) 3 _ _ _ _ (gates_1 x0) (normed_1 x1 x5) (weights_3 x6) (offset_3 x7) (x 0) (x 1) _ (by show 384 + (x 1).val = 128 * 3 + (x 1).val; omega) _ rfl

theorem group_1_2 (u vb : S128x1024.Idx → EReal) (W : S1x128x128.Idx → EReal) (b : S128x1.Idx → EReal) (r ch : Fin 128) :
    (k0_pay22 (F := Ideal) k0_pay3 u vb W b : S128x128.Idx → EReal) (ix2 r ch) = combine u vb W b ⟨256 + ch.val, by omega⟩ r := by
  unfold k0_pay22 combine
  generalize k0_pay3 = M
  pointwise
  done

theorem piece_1_2 (x0 x1 : S256x1024.Idx → EReal) (x5 : S1x1024.Idx → EReal) (x6 : S8x128x128.Idx → EReal) (x7 : S128x8.Idx → EReal) (x : S128x128.Idx) :
    (k0_pay22 (F := Ideal) k0_pay3 (k0_pay17 (F := Ideal) (View.ld (Val := Elt Ideal) (e' := .f32) x0 (Rect.unit (s := S256x1024) ![128, 0] ![128, 1024] inb_S256x1024_S128x1024_128_0))) (k0_pay18 (F := Ideal) (View.ld (Val := Elt Ideal) (e' := .f32) x1 (Rect.unit (s := S256x1024) ![128, 0] ![128, 1024] inb_S256x1024_S128x1024_128_0)) x5) (View.ld (Val := Elt Ideal) (e' := .f32) x6 (Rect.unit (s := S8x128x128) ![2, 0, 0] ![1, 128, 128] inb_S8x128x128_S1x128x128_2_0_0)) (View.ld (Val := Elt Ideal) (e' := .f32) x7 (Rect.unit (s := S128x8) ![0, 2] ![128, 1] inb_S128x8_S128x1_0_2)) : S128x128.Idx → EReal) x
      = ybOf x0 x1 x5 x6 x7 ((Rect.unit (s := S256x1024) ![128, 256] ![128, 128] inb_S256x1024_S128x128_128_256).emb x) := by
  have hx : x = ix2 (x 0) (x 1) := by funext a; fin_cases a <;> rfl
  have he : (Rect.unit (s := S256x1024) ![128, 256] ![128, 128] inb_S256x1024_S128x128_128_256).emb x = ix2 ⟨128 * 1 + (x 0).val, by have h : (x 0).val < 128 := (x 0).isLt; omega⟩ ⟨256 + (x 1).val, by have h : (x 1).val < 128 := (x 1).isLt; omega⟩ := by
    funext a; apply Fin.ext; fin_cases a
    · show 128 + 1 * (x 0).val = 128 * 1 + (x 0).val
      omega
    · show 256 + 1 * (x 1).val = 256 + (x 1).val
      omega
  refine (congrArg _ hx).trans ((group_1_2 _ _ _ _ _ _).trans ?_)
  rw [he]
  exact combine_eq x0 x1 x5 x6 x7 1 (by omega) 2 _ _ _ _ (gates_1 x0) (normed_1 x1 x5) (weights_2 x6) (offset_2 x7) (x 0) (x 1) _ (by show 256 + (x 1).val = 128 * 2 + (x 1).val; omega) _ rfl

theorem group_1_1 (u vb : S128x1024.Idx → EReal) (W : S1x128x128.Idx → EReal) (b : S128x1.Idx → EReal) (r ch : Fin 128) :
    (k0_pay21 (F := Ideal) k0_pay3 u vb W b : S128x128.Idx → EReal) (ix2 r ch) = combine u vb W b ⟨128 + ch.val, by omega⟩ r := by
  unfold k0_pay21 combine
  generalize k0_pay3 = M
  pointwise
  done

theorem piece_1_1 (x0 x1 : S256x1024.Idx → EReal) (x5 : S1x1024.Idx → EReal) (x6 : S8x128x128.Idx → EReal) (x7 : S128x8.Idx → EReal) (x : S128x128.Idx) :
    (k0_pay21 (F := Ideal) k0_pay3 (k0_pay17 (F := Ideal) (View.ld (Val := Elt Ideal) (e' := .f32) x0 (Rect.unit (s := S256x1024) ![128, 0] ![128, 1024] inb_S256x1024_S128x1024_128_0))) (k0_pay18 (F := Ideal) (View.ld (Val := Elt Ideal) (e' := .f32) x1 (Rect.unit (s := S256x1024) ![128, 0] ![128, 1024] inb_S256x1024_S128x1024_128_0)) x5) (View.ld (Val := Elt Ideal) (e' := .f32) x6 (Rect.unit (s := S8x128x128) ![1, 0, 0] ![1, 128, 128] inb_S8x128x128_S1x128x128_1_0_0)) (View.ld (Val := Elt Ideal) (e' := .f32) x7 (Rect.unit (s := S128x8) ![0, 1] ![128, 1] inb_S128x8_S128x1_0_1)) : S128x128.Idx → EReal) x
      = ybOf x0 x1 x5 x6 x7 ((Rect.unit (s := S256x1024) ![128, 128] ![128, 128] inb_S256x1024_S128x128_128_128).emb x) := by
  have hx : x = ix2 (x 0) (x 1) := by funext a; fin_cases a <;> rfl
  have he : (Rect.unit (s := S256x1024) ![128, 128] ![128, 128] inb_S256x1024_S128x128_128_128).emb x = ix2 ⟨128 * 1 + (x 0).val, by have h : (x 0).val < 128 := (x 0).isLt; omega⟩ ⟨128 + (x 1).val, by have h : (x 1).val < 128 := (x 1).isLt; omega⟩ := by
    funext a; apply Fin.ext; fin_cases a
    · show 128 + 1 * (x 0).val = 128 * 1 + (x 0).val
      omega
    · show 128 + 1 * (x 1).val = 128 + (x 1).val
      omega
  refine (congrArg _ hx).trans ((group_1_1 _ _ _ _ _ _).trans ?_)
  rw [he]
  exact combine_eq x0 x1 x5 x6 x7 1 (by omega) 1 _ _ _ _ (gates_1 x0) (normed_1 x1 x5) (weights_1 x6) (offset_1 x7) (x 0) (x 1) _ (by show 128 + (x 1).val = 128 * 1 + (x 1).val; omega) _ rfl

theorem group_1_0 (u v40 : S128x1024.Idx → EReal) (x5 : S1x1024.Idx → EReal) (W : S1x128x128.Idx → EReal) (b : S128x1.Idx → EReal) (r ch : Fin 128) :
    (k0_pay20 (F := Ideal) (k0_pay19 (F := Ideal) k0_pay3 u v40 x5 W b) : S128x128.Idx → EReal) (ix2 r ch) = combine u (k0_pay18 (F := Ideal) v40 x5) W b ⟨ch.val, by omega⟩ r := by
  unfold k0_pay20 k0_pay19 combine
  generalize k0_pay18 (F := Ideal) v40 x5 = vb
  generalize k0_pay3 = M
  pointwise
  done

theorem piece_1_0 (x0 x1 : S256x1024.Idx → EReal) (x5 : S1x1024.Idx → EReal) (x6 : S8x128x128.Idx → EReal) (x7 : S128x8.Idx → EReal) (x : S128x128.Idx) :
    (k0_pay20 (F := Ideal) (k0_pay19 (F := Ideal) k0_pay3 (k0_pay17 (F := Ideal) (View.ld (Val := Elt Ideal) (e' := .f32) x0 (Rect.unit (s := S256x1024) ![128, 0] ![128, 1024] inb_S256x1024_S128x1024_128_0))) (View.ld (Val := Elt Ideal) (e' := .f32) x1 (Rect.unit (s := S256x1024) ![128, 0] ![128, 1024] inb_S256x1024_S128x1024_128_0)) x5 (View.ld (Val := Elt Ideal) (e' := .f32) x6 (Rect.unit (s := S8x128x128) ![0, 0, 0] ![1, 128, 128] inb_S8x128x128_S1x128x128_0_0_0)) (View.ld (Val := Elt Ideal) (e' := .f32) x7 (Rect.unit (s := S128x8) ![0, 0] ![128, 1] inb_S128x8_S128x1_0_0))) : S128x128.Idx → EReal) x
      = ybOf x0 x1 x5 x6 x7 ((Rect.unit (s := S256x1024) ![128, 0] ![128, 128] inb_S256x1024_S128x128_128_0).emb x) := by
  have hx : x = ix2 (x 0) (x 1) := by funext a; fin_cases a <;> rfl
  have he : (Rect.unit (s := S256x1024) ![128, 0] ![128, 128] inb_S256x1024_S128x128_128_0).emb x = ix2 ⟨128 * 1 + (x 0).val, by have h : (x 0).val < 128 := (x 0).isLt; omega⟩ ⟨(x 1).val, by have h : (x 1).val < 128 := (x 1).isLt; omega⟩ := by
    funext a; apply Fin.ext; fin_cases a
    · show 128 + 1 * (x 0).val = 128 * 1 + (x 0).val
      omega
    · show 0 + 1 * (x 1).val = (x 1).val
      omega
  refine (congrArg _ hx).trans ((group_1_0 _ _ _ _ _ _ _).trans ?_)
  rw [he]
  exact combine_eq x0 x1 x5 x6 x7 1 (by omega) 0 _ _ _ _ (gates_1 x0) (normed_1 x1 x5) (weights_0 x6) (offset_0 x7) (x 0) (x 1) _ (by show (x 1).val = 128 * 0 + (x 1).val; omega) _ rfl

theorem group_0_7 (u vb : S128x1024.Idx → EReal) (W : S1x128x128.Idx → EReal) (b : S128x1.Idx → EReal) (r ch : Fin 128) :
    (k0_pay16 (F := Ideal) k0_pay3 u vb W b : S128x128.Idx → EReal) (ix2 r ch) = combine u vb W b ⟨896 + ch.val, by omega⟩ r := by
  unfold k0_pay16 combine
  generalize k0_pay3 = M
  pointwise
  done

theorem piece_0_7 (x0 x1 : S256x1024.Idx → EReal) (x5 : S1x1024.Idx → EReal) (x6 : S8x128x128.Idx → EReal) (x7 : S128x8.Idx → EReal) (x : S128x128.Idx) :
    (k0_pay16 (F := Ideal) k0_pay3 (k0_pay4 (F := Ideal) (View.ld (Val := Elt Ideal) (e' := .f32) x0 (Rect.unit (s := S256x1024) ![0, 0] ![128, 1024] inb_S256x1024_S128x1024_0_0))) (k0_pay6 (F := Ideal) (k0_pay5 (F := Ideal) (View.ld (Val := Elt Ideal) (e' := .f32) x1 (Rect.unit (s := S256x1024) ![0, 0] ![128, 1024] inb_S256x1024_S128x1024_0_0))) x5) (View.ld (Val := Elt Ideal) (e' := .f32) x6 (Rect.unit (s := S8x128x128) ![7, 0, 0] ![1, 128, 128] inb_S8x128x128_S1x128x128_7_0_0)) (View.ld (Val := Elt Ideal) (e' := .f32) x7 (Rect.unit (s := S128x8) ![0, 7] ![128, 1] inb_S128x8_S128x1_0_7)) : S128x128.Idx → EReal) x
      = ybOf x0 x1 x5 x6 x7 ((Rect.unit (s := S256x1024) ![0, 896] ![128, 128] inb_S256x1024_S128x128_0_896).emb x) := by
  have hx : x = ix2 (x 0) (x 1) := by funext a; fin_cases a <;> rfl
  have he : (Rect.unit (s := S256x1024) ![0, 896] ![128, 128] inb_S256x1024_S128x128_0_896).emb x = ix2 ⟨128 * 0 + (x 0).val, by have h : (x 0).val < 128 := (x 0).isLt; omega⟩ ⟨896 + (x 1).val, by have h : (x 1).val < 128 := (x 1).isLt; omega⟩ := by
    funext a; apply Fin.ext; fin_cases a
    · show 0 + 1 * (x 0).val = 128 * 0 + (x 0).val
      omega
    · show 896 + 1 * (x 1).val = 896 + (x 1).val
      omega
  refine (congrArg _ hx).trans ((group_0_7 _ _ _ _ _ _).trans ?_)
  rw [he]
  exact combine_eq x0 x1 x5 x6 x7 0 (by omega) 7 _ _ _ _ (gates_0 x0) (normed_0 x1 x5) (weights_7 x6) (offset_7 x7) (x 0) (x 1) _ (by show 896 + (x 1).val = 128 * 7 + (x 1).val; omega) _ rfl

theorem group_0_6 (u vb : S128x1024.Idx → EReal) (W : S1x128x128.Idx → EReal) (b : S128x1.Idx → EReal) (r ch : Fin 128) :
    (k0_pay15 (F := Ideal) u (k0_pay14 (F := Ideal) k0_pay3 vb W) b : S128x128.Idx → EReal) (ix2 r ch) = combine u vb W b ⟨768 + ch.val, by omega⟩ r := by
  unfold k0_pay15 k0_pay14 combine
  generalize k0_pay3 = M
  pointwise
  done

theorem piece_0_6 (x0 x1 : S256x1024.Idx → EReal) (x5 : S1x1024.Idx → EReal) (x6 : S8x128x128.Idx → EReal) (x7 : S128x8.Idx → EReal) (x : S128x128.Idx) :
    (k0_pay15 (F := Ideal) (k0_pay4 (F := Ideal) (View.ld (Val := Elt Ideal) (e' := .f32) x0 (Rect.unit (s := S256x1024) ![0, 0] ![128, 1024] inb_S256x1024_S128x1024_0_0))) (k0_pay14 (F := Ideal) k0_pay3 (k0_pay6 (F := Ideal) (k0_pay5 (F := Ideal) (View.ld (Val := Elt Ideal) (e' := .f32) x1 (Rect.unit (s := S256x1024) ![0, 0] ![128, 1024] inb_S256x1024_S128x1024_0_0))) x5) (View.ld (Val := Elt Ideal) (e' := .f32) x6 (Rect.unit (s := S8x128x128) ![6, 0, 0] ![1, 128, 128] inb_S8x128x128_S1x128x128_6_0_0))) (View.ld (Val := Elt Ideal) (e' := .f32) x7 (Rect.unit (s := S128x8) ![0, 6] ![128, 1] inb_S128x8_S128x1_0_6)) : S128x128.Idx → EReal) x
      = ybOf x0 x1 x5 x6 x7 ((Rect.unit (s := S256x1024) ![0, 768] ![128, 128] inb_S256x1024_S128x128_0_768).emb x) := by
  have hx : x = ix2 (x 0) (x 1) := by funext a; fin_cases a <;> rfl
  have he : (Rect.unit (s := S256x1024) ![0, 768] ![128, 128] inb_S256x1024_S128x128_0_768).emb x = ix2 ⟨128 * 0 + (x 0).val, by have h : (x 0).val < 128 := (x 0).isLt; omega⟩ ⟨768 + (x 1).val, by have h : (x 1).val < 128 := (x 1).isLt; omega⟩ := by
    funext a; apply Fin.ext; fin_cases a
    · show 0 + 1 * (x 0).val = 128 * 0 + (x 0).val
      omega
    · show 768 + 1 * (x 1).val = 768 + (x 1).val
      omega
  refine (congrArg _ hx).trans ((group_0_6 _ _ _ _ _ _).trans ?_)
  rw [he]
  exact combine_eq x0 x1 x5 x6 x7 0 (by omega) 6 _ _ _ _ (gates_0 x0) (normed_0 x1 x5) (weights_6 x6) (offset_6 x7) (x 0) (x 1) _ (by show 768 + (x 1).val = 128 * 6 + (x 1).val; omega) _ rfl

theorem group_0_5 (u vb : S128x1024.Idx → EReal) (W : S1x128x128.Idx → EReal) (b : S128x1.Idx → EReal) (r ch : Fin 128) :
    (k0_pay13 (F := Ideal) k0_pay3 u vb W b : S128x128.Idx → EReal) (ix2 r ch) = combine u vb W b ⟨640 + ch.val, by omega⟩ r := by
  unfold k0_pay13 combine
  generalize k0_pay3 = M
  pointwise
  done

theorem piece_0_5 (x0 x1 : S256x1024.Idx → EReal) (x5 : S1x1024.Idx → EReal) (x6 : S8x128x128.Idx → EReal) (x7 : S128x8.Idx → EReal) (x : S128x128.Idx) :
    (k0_pay13 (F := Ideal) k0_pay3 (k0_pay4 (F := Ideal) (View.ld (Val := Elt Ideal) (e' := .f32) x0 (Rect.unit (s := S256x1024) ![0, 0] ![128, 1024] inb_S256x1024_S128x1024_0_0))) (k0_pay6 (F := Ideal) (k0_pay5 (F := Ideal) (View.ld (Val := Elt Ideal) (e' := .f32) x1 (Rect.unit (s := S256x1024) ![0, 0] ![128, 1024] inb_S256x1024_S128x1024_0_0))) x5) (View.ld (Val := Elt Ideal) (e' := .f32) x6 (Rect.unit (s := S8x128x128) ![5, 0, 0] ![1, 128, 128] inb_S8x128x128_S1x128x128_5_0_0)) (View.ld (Val := Elt Ideal) (e' := .f32) x7 (Rect.unit (s := S128x8) ![0, 5] ![128, 1] inb_S128x8_S128x1_0_5)) : S128x128.Idx → EReal) x
      = ybOf x0 x1 x5 x6 x7 ((Rect.unit (s := S256x1024) ![0, 640] ![128, 128] inb_S256x1024_S128x128_0_640).emb x) := by
  have hx : x = ix2 (x 0) (x 1) := by funext a; fin_cases a <;> rfl
  have he : (Rect.unit (s := S256x1024) ![0, 640] ![128, 128] inb_S256x1024_S128x128_0_640).emb x = ix2 ⟨128 * 0 + (x 0).val, by have h : (x 0).val < 128 := (x 0).isLt; omega⟩ ⟨640 + (x 1).val, by have h : (x 1).val < 128 := (x 1).isLt; omega⟩ := by
    funext a; apply Fin.ext; fin_cases a
    · show 0 + 1 * (x 0).val = 128 * 0 + (x 0).val
      omega
    · show 640 + 1 * (x 1).val = 640 + (x 1).val
      omega
  refine (congrArg _ hx).trans ((group_0_5 _ _ _ _ _ _).trans ?_)
  rw [he]
  exact combine_eq x0 x1 x5 x6 x7 0 (by omega) 5 _ _ _ _ (gates_0 x0) (normed_0 x1 x5) (weights_5 x6) (offset_5 x7) (x 0) (x 1) _ (by show 640 + (x 1).val = 128 * 5 + (x 1).val; omega) _ rfl

theorem group_0_4 (u vb : S128x1024.Idx → EReal) (W : S1x128x128.Idx → EReal) (b : S128x1.Idx → EReal) (r ch : Fin 128) :
    (k0_pay12 (F := Ideal) u vb (k0_pay11 (F := Ideal) k0_pay3 W) b : S128x128.Idx → EReal) (ix2 r ch) = combine u vb W b ⟨512 + ch.val, by omega⟩ r := by
  unfold k0_pay12 k0_pay11 combine
  generalize k0_pay3 = M
  pointwise
  done

theorem piece_0_4 (x0 x1 : S256x1024.Idx → EReal) (x5 : S1x1024.Idx → EReal) (x6 : S8x128x128.Idx → EReal) (x7 : S128x8.Idx → EReal) (x : S128x128.Idx) :
    (k0_pay12 (F := Ideal) (k0_pay4 (F := Ideal) (View.ld (Val := Elt Ideal) (e' := .f32) x0 (Rect.unit (s := S256x1024) ![0, 0] ![128, 1024] inb_S256x1024_S128x1024_0_0))) (k0_pay6 (F := Ideal) (k0_pay5 (F := Ideal) (View.ld (Val := Elt Ideal) (e' := .f32) x1 (Rect.unit (s := S256x1024) ![0, 0] ![128, 1024] inb_S256x1024_S128x1024_0_0))) x5) (k0_pay11 (F := Ideal) k0_pay3 (View.ld (Val := Elt Ideal) (e' := .f32) x6 (Rect.unit (s := S8x128x128) ![4, 0, 0] ![1, 128, 128] inb_S8x128x128_S1x128x128_4_0_0))) (View.ld (Val := Elt Ideal) (e' := .f32) x7 (Rect.unit (s := S128x8) ![0, 4] ![128, 1] inb_S128x8_S128x1_0_4)) : S128x128.Idx → EReal) x
      = ybOf x0 x1 x5 x6 x7 ((Rect.unit (s := S256x1024) ![0, 512] ![128, 128] inb_S256x1024_S128x128_0_512).emb x) := by
  have hx : x = ix2 (x 0) (x 1) := by funext a; fin_cases a <;> rfl
  have he : (Rect.unit (s := S256x1024) ![0, 512] ![128, 128] inb_S256x1024_S128x128_0_512).emb x = ix2 ⟨128 * 0 + (x 0).val, by have h : (x 0).val < 128 := (x 0).isLt; omega⟩ ⟨512 + (x 1).val, by have h : (x 1).val < 128 := (x 1).isLt; omega⟩ := by
    funext a; apply Fin.ext; fin_cases a
    · show 0 + 1 * (x 0).val = 128 * 0 + (x 0).val
      omega
    · show 512 + 1 * (x 1).val = 512 + (x 1).val
      omega
  refine (congrArg _ hx).trans ((group_0_4 _ _ _ _ _ _).trans ?_)
  rw [he]
  exact combine_eq x0 x1 x5 x6 x7 0 (by omega) 4 _ _ _ _ (gates_0 x0) (normed_0 x1 x5) (weights_4 x6) (offset_4 x7) (x 0) (x 1) _ (by show 512 + (x 1).val = 128 * 4 + (x 1).val; omega) _ rfl

theorem group_0_3 (u vb : S128x1024.Idx → EReal) (W : S1x128x128.Idx → EReal) (b : S128x1.Idx → EReal) (r ch : Fin 128) :
    (k0_pay10 (F := Ideal) k0_pay3 u vb W b : S128x128.Idx → EReal) (ix2 r ch) = combine u vb W b ⟨384 + ch.val, by omega⟩ r := by
  unfold k0_pay10 combine
  generalize k0_pay3 = M
  pointwise
  done

theorem piece_0_3 (x0 x1 : S256x1024.Idx → EReal) (x5 : S1x1024.Idx → EReal) (x6 : S8x128x128.Idx → EReal) (x7 : S128x8.Idx → EReal) (x : S128x128.Idx) :
    (k0_pay10 (F := Ideal) k0_pay3 (k0_pay4 (F := Ideal) (View.ld (Val := Elt Ideal) (e' := .f32) x0 (Rect.unit (s := S256x1024) ![0, 0] ![128, 1024] inb_S256x1024_S128x1024_0_0))) (k0_pay6 (F := Ideal) (k0_pay5 (F := Ideal) (View.ld (Val := Elt Ideal) (e' := .f32) x1 (Rect.unit (s := S256x1024) ![0, 0] ![128, 1024] inb_S256x1024_S128x1024_0_0))) x5) (View.ld (Val := Elt Ideal) (e' := .f32) x6 (Rect.unit (s := S8x128x128) ![3, 0, 0] ![1, 128, 128] inb_S8x128x128_S1x128x128_3_0_0)) (View.ld (Val := Elt Ideal) (e' := .f32) x7 (Rect.unit (s := S128x8) ![0, 3] ![128, 1] inb_S128x8_S128x1_0_3)) : S128x128.Idx → EReal) x
      = ybOf x0 x1 x5 x6 x7 ((Rect.unit (s := S256x1024) ![0, 384] ![128, 128] inb_S256x1024_S128x128_0_384).emb x) := by
  have hx : x = ix2 (x 0) (x 1) := by funext a; fin_cases a <;> rfl
  have he : (Rect.unit (s := S256x1024) ![0, 384] ![128, 128] inb_S256x1024_S128x128_0_384).emb x = ix2 ⟨128 * 0 + (x 0).val, by have h : (x 0).val < 128 := (x 0).isLt; omega⟩ ⟨384 + (x 1).val, by have h : (x 1).val < 128 := (x 1).isLt; omega⟩ := by
    funext a; apply Fin.ext; fin_cases a
    · show 0 + 1 * (x 0).val = 128 * 0 + (x 0).val
      omega
    · show 384 + 1 * (x 1).val = 384 + (x 1).val
      omega
  refine (congrArg _ hx).trans ((group_0_3 _ _ _ _ _ _).trans ?_)
  rw [he]
  exact combine_eq x0 x1 x5 x6 x7 0 (by omega) 3 _ _ _ _ (gates_0 x0) (normed_0 x1 x5) (weights_3 x6) (offset_3 x7) (x 0) (x 1) _ (by show 384 + (x 1).val = 128 * 3 + (x 1).val; omega) _ rfl

theorem group_0_2 (u vb : S128x1024.Idx → EReal) (W : S1x128x128.Idx → EReal) (b : S128x1.Idx → EReal) (r ch : Fin 128) :
    (k0_pay9 (F := Ideal) k0_pay3 u vb W b : S128x128.Idx → EReal) (ix2 r ch) = combine u vb W b ⟨256 + ch.val, by omega⟩ r := by
  unfold k0_pay9 combine
  generalize k0_pay3 = M
  pointwise
  done

theorem piece_0_2 (x0 x1 : S256x1024.Idx → EReal) (x5 : S1x1024.Idx → EReal) (x6 : S8x128x128.Idx → EReal) (x7 : S128x8.Idx → EReal) (x : S128x128.Idx) :
    (k0_pay9 (F := Ideal) k0_pay3 (k0_pay4 (F := Ideal) (View.ld (Val := Elt Ideal) (e' := .f32) x0 (Rect.unit (s := S256x1024) ![0, 0] ![128, 1024] inb_S256x1024_S128x1024_0_0))) (k0_pay6 (F := Ideal) (k0_pay5 (F := Ideal) (View.ld (Val := Elt Ideal) (e' := .f32) x1 (Rect.unit (s := S256x1024) ![0, 0] ![128, 1024] inb_S256x1024_S128x1024_0_0))) x5) (View.ld (Val := Elt Ideal) (e' := .f32) x6 (Rect.unit (s := S8x128x128) ![2, 0, 0] ![1, 128, 128] inb_S8x128x128_S1x128x128_2_0_0)) (View.ld (Val := Elt Ideal) (e' := .f32) x7 (Rect.unit (s := S128x8) ![0, 2] ![128, 1] inb_S128x8_S128x1_0_2)) : S128x128.Idx → EReal) x
      = ybOf x0 x1 x5 x6 x7 ((Rect.unit (s := S256x1024) ![0, 256] ![128, 128] inb_S256x1024_S128x128_0_256).emb x) := by
  have hx : x = ix2 (x 0) (x 1) := by funext a; fin_cases a <;> rfl
  have he : (Rect.unit (s := S256x1024) ![0, 256] ![128, 128] inb_S256x1024_S128x128_0_256).emb x = ix2 ⟨128 * 0 + (x 0).val, by have h : (x 0).val < 128 := (x 0).isLt; omega⟩ ⟨256 + (x 1).val, by have h : (x 1).val < 128 := (x 1).isLt; omega⟩ := by
    funext a; apply Fin.ext; fin_cases a
    · show 0 + 1 * (x 0).val = 128 * 0 + (x 0).val
      omega
    · show 256 + 1 * (x 1).val = 256 + (x 1).val
      omega
  refine (congrArg _ hx).trans ((group_0_2 _ _ _ _ _ _).trans ?_)
  rw [he]
  exact combine_eq x0 x1 x5 x6 x7 0 (by omega) 2 _ _ _ _ (gates_0 x0) (normed_0 x1 x5) (weights_2 x6) (offset_2 x7) (x 0) (x 1) _ (by show 256 + (x 1).val = 128 * 2 + (x 1).val; omega) _ rfl

theorem group_0_1 (u v40 : S128x1024.Idx → EReal) (x5 : S1x1024.Idx → EReal) (W : S1x128x128.Idx → EReal) (b : S128x1.Idx → EReal) (r ch : Fin 128) :
    (k0_pay8 (F := Ideal) k0_pay3 u v40 x5 W b : S128x128.Idx → EReal) (ix2 r ch) = combine u (k0_pay6 (F := Ideal) v40 x5) W b ⟨128 + ch.val, by omega⟩ r := by
  unfold k0_pay8 combine
  generalize k0_pay6 (F := Ideal) v40 x5 = vb
  generalize k0_pay3 = M
  pointwise
  done

theorem piece_0_1 (x0 x1 : S256x1024.Idx → EReal) (x5 : S1x1024.Idx → EReal) (x6 : S8x128x128.Idx → EReal) (x7 : S128x8.Idx → EReal) (x : S128x128.Idx) :
    (k0_pay8 (F := Ideal) k0_pay3 (k0_pay4 (F := Ideal) (View.ld (Val := Elt Ideal) (e' := .f32) x0 (Rect.unit (s := S256x1024) ![0, 0] ![128, 1024] inb_S256x1024_S128x1024_0_0))) (k0_pay5 (F := Ideal) (View.ld (Val := Elt Ideal) (e' := .f32) x1 (Rect.unit (s := S256x1024) ![0, 0] ![128, 1024] inb_S256x1024_S128x1024_0_0))) x5 (View.ld (Val := Elt Ideal) (e' := .f32) x6 (Rect.unit (s := S8x128x128) ![1, 0, 0] ![1, 128, 128] inb_S8x128x128_S1x128x128_1_0_0)) (View.ld (Val := Elt Ideal) (e' := .f32) x7 (Rect.unit (s := S128x8) ![0, 1] ![128, 1] inb_S128x8_S128x1_0_1)) : S128x128.Idx → EReal) x
      = ybOf x0 x1 x5 x6 x7 ((Rect.unit (s := S256x1024) ![0, 128] ![128, 128] inb_S256x1024_S128x128_0_128).emb x) := by
  have hx : x = ix2 (x 0) (x 1) := by funext a; fin_cases a <;> rfl
  have he : (Rect.unit (s := S256x1024) ![0, 128] ![128, 128] inb_S256x1024_S128x128_0_128).emb x = ix2 ⟨128 * 0 + (x 0).val, by have h : (x 0).val < 128 := (x 0).isLt; omega⟩ ⟨128 + (x 1).val, by have h : (x 1).val < 128 := (x 1).isLt; omega⟩ := by
    funext a; apply Fin.ext; fin_cases a
    · show 0 + 1 * (x 0).val = 128 * 0 + (x 0).val
      omega
    · show 128 + 1 * (x 1).val = 128 + (x 1).val
      omega
  refine (congrArg _ hx).trans ((group_0_1 _ _ _ _ _ _ _).trans ?_)
  rw [he]
  exact combine_eq x0 x1 x5 x6 x7 0 (by omega) 1 _ _ _ _ (gates_0 x0) (normed_0 x1 x5) (weights_1 x6) (offset_1 x7) (x 0) (x 1) _ (by show 128 + (x 1).val = 128 * 1 + (x 1).val; omega) _ rfl

theorem group_0_0 (u v40 : S128x1024.Idx → EReal) (x5 : S1x1024.Idx → EReal) (W : S1x128x128.Idx → EReal) (b : S128x1.Idx → EReal) (r ch : Fin 128) :
    (k0_pay7 (F := Ideal) k0_pay3 u v40 x5 W b : S128x128.Idx → EReal) (ix2 r ch) = combine u (k0_pay6 (F := Ideal) v40 x5) W b ⟨ch.val, by omega⟩ r := by
  unfold k0_pay7 combine
  generalize k0_pay6 (F := Ideal) v40 x5 = vb
  generalize k0_pay3 = M
  pointwise
  done

theorem piece_0_0 (x0 x1 : S256x1024.Idx → EReal) (x5 : S1x1024.Idx → EReal) (x6 : S8x128x128.Idx → EReal) (x7 : S128x8.Idx → EReal) (x : S128x128.Idx) :
    (k0_pay7 (F := Ideal) k0_pay3 (k0_pay4 (F := Ideal) (View.ld (Val := Elt Ideal) (e' := .f32) x0 (Rect.unit (s := S256x1024) ![0, 0] ![128, 1024] inb_S256x1024_S128x1024_0_0))) (k0_pay5 (F := Ideal) (View.ld (Val := Elt Ideal) (e' := .f32) x1 (Rect.unit (s := S256x1024) ![0, 0] ![128, 1024] inb_S256x1024_S128x1024_0_0))) x5 (View.ld (Val := Elt Ideal) (e' := .f32) x6 (Rect.unit (s := S8x128x128) ![0, 0, 0] ![1, 128, 128] inb_S8x128x128_S1x128x128_0_0_0)) (View.ld (Val := Elt Ideal) (e' := .f32) x7 (Rect.unit (s := S128x8) ![0, 0] ![128, 1] inb_S128x8_S128x1_0_0)) : S128x128.Idx → EReal) x
      = ybOf x0 x1 x5 x6 x7 ((Rect.unit (s := S256x1024) ![0, 0] ![128, 128] inb_S256x1024_S128x128_0_0).emb x) := by
  have hx : x = ix2 (x 0) (x 1) := by funext a; fin_cases a <;> rfl
  have he : (Rect.unit (s := S256x1024) ![0, 0] ![128, 128] inb_S256x1024_S128x128_0_0).emb x = ix2 ⟨128 * 0 + (x 0).val, by have h : (x 0).val < 128 := (x 0).isLt; omega⟩ ⟨(x 1).val, by have h : (x 1).val < 128 := (x 1).isLt; omega⟩ := by
    funext a; apply Fin.ext; fin_cases a
    · show 0 + 1 * (x 0).val = 128 * 0 + (x 0).val
      omega
    · show 0 + 1 * (x 1).val = (x 1).val
      omega
  refine (congrArg _ hx).trans ((group_0_0 _ _ _ _ _ _ _).trans ?_)
  rw [he]
  exact combine_eq x0 x1 x5 x6 x7 0 (by omega) 0 _ _ _ _ (gates_0 x0) (normed_0 x1 x5) (weights_0 x6) (offset_0 x7) (x 0) (x 1) _ (by show (x 1).val = 128 * 0 + (x 1).val; omega) _ rfl

variable (m : (ℓ : Loc nD τ sig) → Buf (Elt Ideal) ℓ) (c : Dev nD)

/-- What a point leaves: the two branches' gated sum, of the gated rows it has kept in scratch. -/
theorem left_eq (t : Fin cfg0.N) : outsAt0 m c t
    = k0_pay2 (F := Ideal) (iblk m c 4 t) (iblk m c 8 t) (ybOf (iblk m c 0 t) (iblk m c 1 t) (iblk m c 5 t) (iblk m c 6 t) (iblk m c 7 t)) (iblk m c 9 t) (iblk m c 2 t) (iblk m c 3 t) := by
  unfold outsAt0 out0_A_10
  frame_out
  refine congrArg (fun z => k0_pay2 (F := Ideal) (iblk m c 4 t) (iblk m c 8 t) z (iblk m c 9 t) (iblk m c 2 t) (iblk m c 3 t)) ?_
  rw [View.readCov_eq_canon']
  funext y
  refine (View.canon_apply_of_pieces (Val := Elt Ideal) (e := .bf16) (ybOf (iblk m c 0 t) (iblk m c 1 t) (iblk m c 5 t) (iblk m c 6 t) (iblk m c 7 t)) _ ?_ _ ?_).trans ?_
  · intro pc hpc
    rcases List.mem_cons.mp hpc with rfl | hpc
    · exact fun x => piece_1_7 _ _ _ _ _ x
    rcases List.mem_cons.mp hpc with rfl | hpc
    · exact fun x => piece_1_6 _ _ _ _ _ x
    rcases List.mem_cons.mp hpc with rfl | hpc
    · exact fun x => piece_1_5 _ _ _ _ _ x
    rcases List.mem_cons.mp hpc with rfl | hpc
    · exact fun x => piece_1_4 _ _ _ _ _ x
    rcases List.mem_cons.mp hpc with rfl | hpc
    · exact fun x => piece_1_3 _ _ _ _ _ x
    rcases List.mem_cons.mp hpc with rfl | hpc
    · exact fun x => piece_1_2 _ _ _ _ _ x
    rcases List.mem_cons.mp hpc with rfl | hpc
    · exact fun x => piece_1_1 _ _ _ _ _ x
    rcases List.mem_cons.mp hpc with rfl | hpc
    · exact fun x => piece_1_0 _ _ _ _ _ x
    rcases List.mem_cons.mp hpc with rfl | hpc
    · exact fun x => piece_0_7 _ _ _ _ _ x
    rcases List.mem_cons.mp hpc with rfl | hpc
    · exact fun x => piece_0_6 _ _ _ _ _ x
    rcases List.mem_cons.mp hpc with rfl | hpc
    · exact fun x => piece_0_5 _ _ _ _ _ x
    rcases List.mem_cons.mp hpc with rfl | hpc
    · exact fun x => piece_0_4 _ _ _ _ _ x
    rcases List.mem_cons.mp hpc with rfl | hpc
    · exact fun x => piece_0_3 _ _ _ _ _ x
    rcases List.mem_cons.mp hpc with rfl | hpc
    · exact fun x => piece_0_2 _ _ _ _ _ x
    rcases List.mem_cons.mp hpc with rfl | hpc
    · exact fun x => piece_0_1 _ _ _ _ _ x
    rcases List.mem_cons.mp hpc with rfl | hpc
    · exact fun x => piece_0_0 _ _ _ _ _ x
    nomatch hpc
  · exact View.cover_of_tiledL (s := S256x1024) _ ![128, 128] (by sl_kernel_rfl) _
  · refine congrArg _ (funext fun a => Fin.ext ?_)
    fin_cases a
    · show 0 + 1 * (y 0).val = (y 0).val
      omega
    · show 0 + 1 * (y 1).val = (y 1).val
      omega

theorem grid_facts (t : Fin cfg0.N) : (win0_0.index t (0 : Fin 2) = t.val ∧ win0_0.index t (1 : Fin 2) = 0 ∧ win0_1.index t (0 : Fin 2) = t.val ∧ win0_1.index t (1 : Fin 2) = 1
    ∧ win0_2.index t (0 : Fin 2) = t.val ∧ win0_2.index t (1 : Fin 2) = 1 ∧ win0_3.index t (0 : Fin 2) = t.val ∧ win0_3.index t (1 : Fin 2) = 2
    ∧ win0_4.index t (0 : Fin 2) = t.val ∧ win0_4.index t (1 : Fin 2) = 0)
    ∧ (win0_5.index t (0 : Fin 2) = 0 ∧ win0_5.index t (1 : Fin 2) = 0 ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0 ∧ win0_8.index t (0 : Fin 2) = 0 ∧ win0_8.index t (1 : Fin 2) = 0
    ∧ win0_9.index t (0 : Fin 2) = 0 ∧ win0_9.index t (1 : Fin 2) = 0 ∧ win0_10.index t (0 : Fin 2) = t.val ∧ win0_10.index t (1 : Fin 2) = 0) := by
  revert t; decide +kernel

theorem blk0 (t : Fin cfg0.N) (r : Fin 256) (d : Fin 1024) (q : Fin 32768) (h : q.val = 256 * t.val + r.val) :
    (iblk m c 0 t : S256x1024.Idx → EReal) (ix2 r d) = (m ((c : Thread nD τ).loc main_arg0) : S32768x6144.Idx → EReal) (ix2 q ⟨d.val, by omega⟩) := by
  have g := grid_facts t
  refine (congrArg (V m c main_arg0) (a₂ := ix2 q ⟨d.val, by omega⟩) (funext fun a => Fin.ext ?_)).trans (congrFun (V_main_arg0 m c) _)
  fin_cases a
  · change win0_0.index t (0 : Fin 2) * 256 + 1 * r.val = q.val
    omega
  · change win0_0.index t (1 : Fin 2) * 1024 + 1 * d.val = d.val
    omega

theorem blk1 (t : Fin cfg0.N) (r : Fin 256) (d : Fin 1024) (q : Fin 32768) (h : q.val = 256 * t.val + r.val) :
    (iblk m c 1 t : S256x1024.Idx → EReal) (ix2 r d) = (m ((c : Thread nD τ).loc main_arg0) : S32768x6144.Idx → EReal) (ix2 q ⟨1024 + d.val, by omega⟩) := by
  have g := grid_facts t
  refine (congrArg (V m c main_arg0) (a₂ := ix2 q ⟨1024 + d.val, by omega⟩) (funext fun a => Fin.ext ?_)).trans (congrFun (V_main_arg0 m c) _)
  fin_cases a
  · change win0_1.index t (0 : Fin 2) * 256 + 1 * r.val = q.val
    omega
  · change win0_1.index t (1 : Fin 2) * 1024 + 1 * d.val = 1024 + d.val
    omega

theorem blk2 (t : Fin cfg0.N) (r : Fin 256) (d : Fin 2048) (q : Fin 32768) (h : q.val = 256 * t.val + r.val) :
    (iblk m c 2 t : S256x2048.Idx → EReal) (ix2 r d) = (m ((c : Thread nD τ).loc main_arg0) : S32768x6144.Idx → EReal) (ix2 q ⟨2048 + d.val, by omega⟩) := by
  have g := grid_facts t
  refine (congrArg (V m c main_arg0) (a₂ := ix2 q ⟨2048 + d.val, by omega⟩) (funext fun a => Fin.ext ?_)).trans (congrFun (V_main_arg0 m c) _)
  fin_cases a
  · change win0_2.index t (0 : Fin 2) * 256 + 1 * r.val = q.val
    omega
  · change win0_2.index t (1 : Fin 2) * 2048 + 1 * d.val = 2048 + d.val
    omega

theorem blk3 (t : Fin cfg0.N) (r : Fin 256) (d : Fin 2048) (q : Fin 32768) (h : q.val = 256 * t.val + r.val) :
    (iblk m c 3 t : S256x2048.Idx → EReal) (ix2 r d) = (m ((c : Thread nD τ).loc main_arg0) : S32768x6144.Idx → EReal) (ix2 q ⟨4096 + d.val, by omega⟩) := by
  have g := grid_facts t
  refine (congrArg (V m c main_arg0) (a₂ := ix2 q ⟨4096 + d.val, by omega⟩) (funext fun a => Fin.ext ?_)).trans (congrFun (V_main_arg0 m c) _)
  fin_cases a
  · change win0_3.index t (0 : Fin 2) * 256 + 1 * r.val = q.val
    omega
  · change win0_3.index t (1 : Fin 2) * 2048 + 1 * d.val = 4096 + d.val
    omega

theorem blk4 (t : Fin cfg0.N) (r : Fin 256) (d : Fin 1024) (q : Fin 32768) (h : q.val = 256 * t.val + r.val) :
    (iblk m c 4 t : S256x1024.Idx → EReal) (ix2 r d) = (m ((c : Thread nD τ).loc main_arg1) : S32768x1024.Idx → EReal) (ix2 q d) := by
  have g := grid_facts t
  refine (congrArg (V m c main_arg1) (a₂ := ix2 q d) (funext fun a => Fin.ext ?_)).trans (congrFun (V_main_arg1 m c) _)
  fin_cases a
  · change win0_4.index t (0 : Fin 2) * 256 + 1 * r.val = q.val
    omega
  · change win0_4.index t (1 : Fin 2) * 1024 + 1 * d.val = d.val
    omega

theorem blk5 (t : Fin cfg0.N) (d : Fin 1024) :
    (iblk m c 5 t : S1x1024.Idx → EReal) (ix2 0 d) = (m ((c : Thread nD τ).loc main_arg2) : S1024.Idx → EReal) (ix1 d) := by
  have g := grid_facts t
  refine (congrArg (V m c main_v3) (a₂ := ix2 0 d) (funext fun a => Fin.ext ?_)).trans ?_
  · fin_cases a
    · change win0_5.index t (0 : Fin 2) * 1 + 1 * 0 = 0
      omega
    · change win0_5.index t (1 : Fin 2) * 1024 + 1 * d.val = d.val
      omega
  · unfold V; after_results_simp
    generalize m (c, Proc.tc.devRef main_arg2) = a2
    pointwise

theorem blk6 (t : Fin cfg0.N) (i : Fin 8) (n k : Fin 128) :
    (iblk m c 6 t : S8x128x128.Idx → EReal) (ix3 i n k) = (m ((c : Thread nD τ).loc main_arg3) : S8x128x128.Idx → EReal) (ix3 i n k) := by
  have g := grid_facts t
  refine (congrArg (V m c main_arg3) (a₂ := ix3 i n k) (funext fun a => Fin.ext ?_)).trans (congrFun (V_main_arg3 m c) _)
  fin_cases a
  · change win0_6.index t (0 : Fin 3) * 8 + 1 * i.val = i.val
    omega
  · change win0_6.index t (1 : Fin 3) * 128 + 1 * n.val = n.val
    omega
  · change win0_6.index t (2 : Fin 3) * 128 + 1 * k.val = k.val
    omega

theorem blk7 (t : Fin cfg0.N) (p : Fin 128) (i : Fin 8) :
    (iblk m c 7 t : S128x8.Idx → EReal) (ix2 p i) = (m ((c : Thread nD τ).loc main_arg4) : S8x128.Idx → EReal) (ix2 i p) := by
  have g := grid_facts t
  refine (congrArg (V m c main_v0) (a₂ := ix2 p i) (funext fun a => Fin.ext ?_)).trans ?_
  · fin_cases a
    · change win0_7.index t (0 : Fin 2) * 128 + 1 * p.val = p.val
      omega
    · change win0_7.index t (1 : Fin 2) * 8 + 1 * i.val = i.val
      omega
  · unfold V; after_results_simp
    generalize m (c, Proc.tc.devRef main_arg4) = a4
    pointwise

theorem blk8 (t : Fin cfg0.N) (j : Fin 1024) (d : Fin 2048) :
    (iblk m c 8 t : S1024x2048.Idx → EReal) (ix2 j d) = (m ((c : Thread nD τ).loc main_arg5) : S1024x2048.Idx → EReal) (ix2 j d) := by
  have g := grid_facts t
  refine (congrArg (V m c main_v1) (a₂ := ix2 j d) (funext fun a => Fin.ext ?_)).trans ?_
  · fin_cases a
    · change win0_8.index t (0 : Fin 2) * 1024 + 1 * j.val = j.val
      omega
    · change win0_8.index t (1 : Fin 2) * 2048 + 1 * d.val = d.val
      omega
  · unfold V; after_results_simp
    generalize m (c, Proc.tc.devRef main_arg5) = a5
    pointwise

theorem blk9 (t : Fin cfg0.N) (j : Fin 1024) (d : Fin 2048) :
    (iblk m c 9 t : S1024x2048.Idx → EReal) (ix2 j d) = (m ((c : Thread nD τ).loc main_arg6) : S1024x2048.Idx → EReal) (ix2 j d) := by
  have g := grid_facts t
  refine (congrArg (V m c main_v2) (a₂ := ix2 j d) (funext fun a => Fin.ext ?_)).trans ?_
  · fin_cases a
    · change win0_9.index t (0 : Fin 2) * 1024 + 1 * j.val = j.val
      omega
    · change win0_9.index t (1 : Fin 2) * 2048 + 1 * d.val = d.val
      omega
  · unfold V; after_results_simp
    generalize m (c, Proc.tc.devRef main_arg6) = a6
    pointwise

/-- What the launch computes, from its arguments. -/
def out (a0 : S32768x6144.Idx → EReal) (a1 : S32768x1024.Idx → EReal) (a2 : S1024.Idx → EReal) (a3 : S8x128x128.Idx → EReal) (a4 : S8x128.Idx → EReal) (a5 a6 : S1024x2048.Idx → EReal) : S32768x2048.Idx → EReal := fun i =>
  mixv (a0 (ix2 (i 0) ⟨2048 + (i 1).val, by have h : (i 1).val < 2048 := (i 1).isLt; omega⟩)) (a0 (ix2 (i 0) ⟨4096 + (i 1).val, by have h : (i 1).val < 2048 := (i 1).isLt; omega⟩)) (fun k => a1 (ix2 (i 0) k)) (fun k => a5 (ix2 k (i 1)))
    (fun k => ybv (fun k => a0 (ix2 (i 0) ⟨k.val, by omega⟩)) (fun s j => a0 (ix2 ⟨128 * ((i 0).val / 128) + s.val, by have h : (i 0).val < 32768 := (i 0).isLt; have := s.isLt; omega⟩ ⟨1024 + j.val, by omega⟩)) (fun j => a2 (ix1 j))
      (fun g p s => a3 (ix3 g p s)) (fun g p => a4 (ix2 g p)) ⟨(i 0).val % 128, by omega⟩ k) (fun k => a6 (ix2 k (i 1)))

theorem entry (t : Fin cfg0.N) (y : S256x2048.Idx) (i : S32768x2048.Idx) (h0 : (i 0).val = win0_10.index t (0 : Fin 2) * 256 + 1 * (y 0).val)
    (h1 : (i 1).val = win0_10.index t (1 : Fin 2) * 2048 + 1 * (y 1).val) :
    outsAt0 m c t y = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  have g := grid_facts t
  have q0 : (i 0).val = 256 * t.val + (y 0).val := by omega
  have q1 : (i 1) = (y 1) := Fin.ext (by omega)
  have hy : y = ix2 (y 0) (y 1) := by funext a; fin_cases a <;> rfl
  have hr : (y 0).val < 256 := (y 0).isLt
  have hi : i = ix2 (i 0) (y 1) := by
    funext a; fin_cases a
    · rfl
    · exact q1
  rw [left_eq m c t]
  refine (congrArg _ hy).trans ((last_at _ _ _ _ _ _ (y 0) (y 1)).trans (Eq.trans ?_ (congrArg _ hi).symm))
  refine mixv_ext (blk2 m c t (y 0) (y 1) (i 0) q0) (blk3 m c t (y 0) (y 1) (i 0) q0) (fun k => blk4 m c t (y 0) k (i 0) q0) (fun k => blk8 m c t k (y 1)) (fun k => ?_) (fun k => blk9 m c t k (y 1))
  refine ybv_ext k (fun j => blk0 m c t (y 0) j (i 0) q0) (fun s j => blk1 m c t _ j _ ?_) (fun j => blk5 m c t j) (fun g r s => blk6 m c t g r s) (fun g r => blk7 m c t r g) (Fin.ext ?_)
  · show 128 * ((i 0).val / 128) + s.val = 256 * t.val + (128 * ((y 0).val / 128) + s.val)
    omega
  · show (y 0).val % 128 = (i 0).val % 128
    omega

theorem covers : ((cfg0).win 10).Covers := by decide +kernel

/-- The launch's array after the run. -/
theorem arr_eq : (dats m 0 c).arrAt 10 cfg0.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have key := entry m c
  generalize hG : out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = G at key ⊢
  refine (dats m 0 c).arrAt_eq_of_covers 10 G covers fun t _ y => ?_
  have k := key t y
  generalize hT : outsAt0 m c t = T at k
  have hA : (dats m 0 c).after 10 t = T := (after0_10 m c t).trans hT
  rw [hA]
  exact k _ rfl rfl

end Cert.Calls.Mix

namespace Cert.Calls.MixRef

open Cert.Calls Cert.Calls.Mix Cert.MixReferenceIdeal Cert.MixReferenceIdeal.Gen
open Idealize.ShloMosaic Idealize.ShloMosaic.TcCoe Idealize.ShloMosaic.Tactic Idealize.ShloMosaic.Pointwise

/-- The reference's mask is the launch's: the choice between a product and nothing is the product with the choice. -/
theorem choose (r : Nat) (hr : r < 128) (s : Fin 128) (v w : EReal) :
    Scalar.select (IntOp.cmpi .sge (IntOp.addi (BitVec.ofNat 32 r) 0#32) (BitVec.ofNat 32 s.val)) (v * w) 0 = tri ⟨r, hr⟩ s w * v := by
  have e : IntOp.cmpi .sge (IntOp.addi (BitVec.ofNat 32 r) 0#32) (BitVec.ofNat 32 s.val) = BitVec.ofBool (decide (s.val ≤ r)) := by
    have z : IntOp.addi (BitVec.ofNat 32 r) 0#32 = BitVec.ofNat 32 r := BitVec.add_zero _
    rw [z]
    exact WordCmp.cmpi_sge_ofNat (by norm_num; omega) (by norm_num; omega)
  rw [e]
  unfold tri Scalar.select
  by_cases h : s.val ≤ r
  · simp [h, mul_comm]
  · simp [h]

/-- The smooth gate with its cube bracketed the other way. -/
theorem gel_eq (x : EReal) : x * (Ideal.ofBits .f32 0x3F000000#32 * (1 + Ideal.tanh (Ideal.ofBits .f32 0x3F4C422A#32 * (x + Ideal.ofBits .f32 0x3D372713#32 * (x * x * x))))) = gel x := by
  unfold gel
  rw [mul_comm (x * x) x]

/-- The reference's result at an entry. -/
theorem ref_at (a0 : FVec Ideal S32768x6144 .f32) (a1 : FVec Ideal S32768x1024 .bf16) (a2 : FVec Ideal S1024 .f32) (a3 : FVec Ideal S8x128x128 .f32) (a4 : FVec Ideal S8x128 .f32)
    (a5 a6 : FVec Ideal S1024x2048 .f32) (r : Fin 32768) (d : Fin 2048) :
    (truncf .bf16 (addf (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 2048] a0 slices_S32768x6144_S32768x2048_0_2048))))) (Host.dotGeneral dot_S32768x1024_S1024x2048_S32768x2048_1_0_0_1_n_n none (extf .f32 a1 bitsLt_bf16_f32) a5)) (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 4096] a0 slices_S32768x6144_S32768x2048_0_4096))))) (Host.dotGeneral dot_S32768x1024_S1024x2048_S32768x2048_1_0_0_1_n_n none (mulf (mulf (extractStridedSlice S32768x1024 ![0, 0] a0 slices_S32768x6144_S32768x1024_0_0) (mulf (broadcastInDim S32768x1024 ![] bcast_S_S32768x1024 (constant S_ .f32 0x3F000000#32)) (addf (broadcastInDim S32768x1024 ![] bcast_S_S32768x1024 (constant S_ .f32 0x3F800000#32)) (Host.tanh (mulf (broadcastInDim S32768x1024 ![] bcast_S_S32768x1024 (constant S_ .f32 0x3F4C422A#32)) (addf (extractStridedSlice S32768x1024 ![0, 0] a0 slices_S32768x6144_S32768x1024_0_0) (mulf (broadcastInDim S32768x1024 ![] bcast_S_S32768x1024 (constant S_ .f32 0x3D372713#32)) (mulf (mulf (extractStridedSlice S32768x1024 ![0, 0] a0 slices_S32768x6144_S32768x1024_0_0) (extractStridedSlice S32768x1024 ![0, 0] a0 slices_S32768x6144_S32768x1024_0_0)) (extractStridedSlice S32768x1024 ![0, 0] a0 slices_S32768x6144_S32768x1024_0_0))))))))) (shapeCast _ (addf (transpose S256x128x8x128 [1, 3, 0, 2] (Host.dotGeneral dot_S256x128x8x128_S8x128x128_S8x256x128x128_1_2_03_1_2_0 none (shapeCast _ (mulf (mulf (mulf (extractStridedSlice S32768x1024 ![0, 1024] a0 slices_S32768x6144_S32768x1024_0_1024) (mulf (broadcastInDim S32768x1024 ![] bcast_S_S32768x1024 (constant S_ .f32 0x3F000000#32)) (addf (broadcastInDim S32768x1024 ![] bcast_S_S32768x1024 (constant S_ .f32 0x3F800000#32)) (Host.tanh (mulf (broadcastInDim S32768x1024 ![] bcast_S_S32768x1024 (constant S_ .f32 0x3F4C422A#32)) (addf (extractStridedSlice S32768x1024 ![0, 1024] a0 slices_S32768x6144_S32768x1024_0_1024) (mulf (broadcastInDim S32768x1024 ![] bcast_S_S32768x1024 (constant S_ .f32 0x3D372713#32)) (mulf (mulf (extractStridedSlice S32768x1024 ![0, 1024] a0 slices_S32768x6144_S32768x1024_0_1024) (extractStridedSlice S32768x1024 ![0, 1024] a0 slices_S32768x6144_S32768x1024_0_1024)) (extractStridedSlice S32768x1024 ![0, 1024] a0 slices_S32768x6144_S32768x1024_0_1024))))))))) (broadcastInDim S32768x1024 ![0, 1] bcast_S32768x1_S32768x1024_0_1 (Host.rsqrt (addf (Host.divf (broadcastInDim S32768x1 ![0] bcast_S32768_S32768x1_0 (Host.reduceAdd (mulf (mulf (extractStridedSlice S32768x1024 ![0, 1024] a0 slices_S32768x6144_S32768x1024_0_1024) (mulf (broadcastInDim S32768x1024 ![] bcast_S_S32768x1024 (constant S_ .f32 0x3F000000#32)) (addf (broadcastInDim S32768x1024 ![] bcast_S_S32768x1024 (constant S_ .f32 0x3F800000#32)) (Host.tanh (mulf (broadcastInDim S32768x1024 ![] bcast_S_S32768x1024 (constant S_ .f32 0x3F4C422A#32)) (addf (extractStridedSlice S32768x1024 ![0, 1024] a0 slices_S32768x6144_S32768x1024_0_1024) (mulf (broadcastInDim S32768x1024 ![] bcast_S_S32768x1024 (constant S_ .f32 0x3D372713#32)) (mulf (mulf (extractStridedSlice S32768x1024 ![0, 1024] a0 slices_S32768x6144_S32768x1024_0_1024) (extractStridedSlice S32768x1024 ![0, 1024] a0 slices_S32768x6144_S32768x1024_0_1024)) (extractStridedSlice S32768x1024 ![0, 1024] a0 slices_S32768x6144_S32768x1024_0_1024))))))))) (mulf (extractStridedSlice S32768x1024 ![0, 1024] a0 slices_S32768x6144_S32768x1024_0_1024) (mulf (broadcastInDim S32768x1024 ![] bcast_S_S32768x1024 (constant S_ .f32 0x3F000000#32)) (addf (broadcastInDim S32768x1024 ![] bcast_S_S32768x1024 (constant S_ .f32 0x3F800000#32)) (Host.tanh (mulf (broadcastInDim S32768x1024 ![] bcast_S_S32768x1024 (constant S_ .f32 0x3F4C422A#32)) (addf (extractStridedSlice S32768x1024 ![0, 1024] a0 slices_S32768x6144_S32768x1024_0_1024) (mulf (broadcastInDim S32768x1024 ![] bcast_S_S32768x1024 (constant S_ .f32 0x3D372713#32)) (mulf (mulf (extractStridedSlice S32768x1024 ![0, 1024] a0 slices_S32768x6144_S32768x1024_0_1024) (extractStridedSlice S32768x1024 ![0, 1024] a0 slices_S32768x6144_S32768x1024_0_1024)) (extractStridedSlice S32768x1024 ![0, 1024] a0 slices_S32768x6144_S32768x1024_0_1024)))))))))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 a2))) shapeCasts_S32768x1024_S256x128x8x128) (mulf a3 (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))) transposes_S8x256x128x128_S256x128x8x128_1_3_0_2) (broadcastInDim S256x128x8x128 ![0, 1, 2, 3] bcast_S1x128x8x1_S256x128x8x128_0_1_2_3 (broadcastInDim S1x128x8x1 ![1, 2] bcast_S128x8_S1x128x8x1_1_2 (transpose S128x8 [1, 0] a4 transposes_S8x128_S128x8_1_0)))) shapeCasts_S256x128x8x128_S32768x1024)) a6))) bitsLt_bf16_f32 : FVec Ideal S32768x2048 .bf16) (ix2 r d)
      = mixv (a0 (ix2 r ⟨2048 + d.val, by omega⟩)) (a0 (ix2 r ⟨4096 + d.val, by omega⟩)) (fun k => a1 (ix2 r k)) (fun k => a5 (ix2 k d))
    (fun k => ybv (fun k => a0 (ix2 r ⟨k.val, by omega⟩)) (fun s j => a0 (ix2 ⟨128 * (r.val / 128) + s.val, by have := s.isLt; omega⟩ ⟨1024 + j.val, by omega⟩)) (fun j => a2 (ix1 j))
      (fun g p s => a3 (ix3 g p s)) (fun g p => a4 (ix2 g p)) ⟨r.val % 128, by omega⟩ k) (fun k => a6 (ix2 k d)) := by
  pointwise
  simp only [gel_eq, choose _ (Nat.mod_lt r.val (by norm_num : 0 < 128))]
  have hrow : ∀ s : Fin 128, (⟨r.val / 128 * 128 + s.val, by omega⟩ : Fin 32768) = ⟨128 * (r.val / 128) + s.val, by omega⟩ := fun s => Fin.ext (by show r.val / 128 * 128 + s.val = 128 * (r.val / 128) + s.val; omega)
  simp only [hrow]
  rfl

theorem ref_eq (a0 : FVec Ideal S32768x6144 .f32) (a1 : FVec Ideal S32768x1024 .bf16) (a2 : FVec Ideal S1024 .f32) (a3 : FVec Ideal S8x128x128 .f32) (a4 : FVec Ideal S8x128 .f32)
    (a5 a6 : FVec Ideal S1024x2048 .f32) :
    (truncf .bf16 (addf (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 2048] a0 slices_S32768x6144_S32768x2048_0_2048))))) (Host.dotGeneral dot_S32768x1024_S1024x2048_S32768x2048_1_0_0_1_n_n none (extf .f32 a1 bitsLt_bf16_f32) a5)) (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 4096] a0 slices_S32768x6144_S32768x2048_0_4096))))) (Host.dotGeneral dot_S32768x1024_S1024x2048_S32768x2048_1_0_0_1_n_n none (mulf (mulf (extractStridedSlice S32768x1024 ![0, 0] a0 slices_S32768x6144_S32768x1024_0_0) (mulf (broadcastInDim S32768x1024 ![] bcast_S_S32768x1024 (constant S_ .f32 0x3F000000#32)) (addf (broadcastInDim S32768x1024 ![] bcast_S_S32768x1024 (constant S_ .f32 0x3F800000#32)) (Host.tanh (mulf (broadcastInDim S32768x1024 ![] bcast_S_S32768x1024 (constant S_ .f32 0x3F4C422A#32)) (addf (extractStridedSlice S32768x1024 ![0, 0] a0 slices_S32768x6144_S32768x1024_0_0) (mulf (broadcastInDim S32768x1024 ![] bcast_S_S32768x1024 (constant S_ .f32 0x3D372713#32)) (mulf (mulf (extractStridedSlice S32768x1024 ![0, 0] a0 slices_S32768x6144_S32768x1024_0_0) (extractStridedSlice S32768x1024 ![0, 0] a0 slices_S32768x6144_S32768x1024_0_0)) (extractStridedSlice S32768x1024 ![0, 0] a0 slices_S32768x6144_S32768x1024_0_0))))))))) (shapeCast _ (addf (transpose S256x128x8x128 [1, 3, 0, 2] (Host.dotGeneral dot_S256x128x8x128_S8x128x128_S8x256x128x128_1_2_03_1_2_0 none (shapeCast _ (mulf (mulf (mulf (extractStridedSlice S32768x1024 ![0, 1024] a0 slices_S32768x6144_S32768x1024_0_1024) (mulf (broadcastInDim S32768x1024 ![] bcast_S_S32768x1024 (constant S_ .f32 0x3F000000#32)) (addf (broadcastInDim S32768x1024 ![] bcast_S_S32768x1024 (constant S_ .f32 0x3F800000#32)) (Host.tanh (mulf (broadcastInDim S32768x1024 ![] bcast_S_S32768x1024 (constant S_ .f32 0x3F4C422A#32)) (addf (extractStridedSlice S32768x1024 ![0, 1024] a0 slices_S32768x6144_S32768x1024_0_1024) (mulf (broadcastInDim S32768x1024 ![] bcast_S_S32768x1024 (constant S_ .f32 0x3D372713#32)) (mulf (mulf (extractStridedSlice S32768x1024 ![0, 1024] a0 slices_S32768x6144_S32768x1024_0_1024) (extractStridedSlice S32768x1024 ![0, 1024] a0 slices_S32768x6144_S32768x1024_0_1024)) (extractStridedSlice S32768x1024 ![0, 1024] a0 slices_S32768x6144_S32768x1024_0_1024))))))))) (broadcastInDim S32768x1024 ![0, 1] bcast_S32768x1_S32768x1024_0_1 (Host.rsqrt (addf (Host.divf (broadcastInDim S32768x1 ![0] bcast_S32768_S32768x1_0 (Host.reduceAdd (mulf (mulf (extractStridedSlice S32768x1024 ![0, 1024] a0 slices_S32768x6144_S32768x1024_0_1024) (mulf (broadcastInDim S32768x1024 ![] bcast_S_S32768x1024 (constant S_ .f32 0x3F000000#32)) (addf (broadcastInDim S32768x1024 ![] bcast_S_S32768x1024 (constant S_ .f32 0x3F800000#32)) (Host.tanh (mulf (broadcastInDim S32768x1024 ![] bcast_S_S32768x1024 (constant S_ .f32 0x3F4C422A#32)) (addf (extractStridedSlice S32768x1024 ![0, 1024] a0 slices_S32768x6144_S32768x1024_0_1024) (mulf (broadcastInDim S32768x1024 ![] bcast_S_S32768x1024 (constant S_ .f32 0x3D372713#32)) (mulf (mulf (extractStridedSlice S32768x1024 ![0, 1024] a0 slices_S32768x6144_S32768x1024_0_1024) (extractStridedSlice S32768x1024 ![0, 1024] a0 slices_S32768x6144_S32768x1024_0_1024)) (extractStridedSlice S32768x1024 ![0, 1024] a0 slices_S32768x6144_S32768x1024_0_1024))))))))) (mulf (extractStridedSlice S32768x1024 ![0, 1024] a0 slices_S32768x6144_S32768x1024_0_1024) (mulf (broadcastInDim S32768x1024 ![] bcast_S_S32768x1024 (constant S_ .f32 0x3F000000#32)) (addf (broadcastInDim S32768x1024 ![] bcast_S_S32768x1024 (constant S_ .f32 0x3F800000#32)) (Host.tanh (mulf (broadcastInDim S32768x1024 ![] bcast_S_S32768x1024 (constant S_ .f32 0x3F4C422A#32)) (addf (extractStridedSlice S32768x1024 ![0, 1024] a0 slices_S32768x6144_S32768x1024_0_1024) (mulf (broadcastInDim S32768x1024 ![] bcast_S_S32768x1024 (constant S_ .f32 0x3D372713#32)) (mulf (mulf (extractStridedSlice S32768x1024 ![0, 1024] a0 slices_S32768x6144_S32768x1024_0_1024) (extractStridedSlice S32768x1024 ![0, 1024] a0 slices_S32768x6144_S32768x1024_0_1024)) (extractStridedSlice S32768x1024 ![0, 1024] a0 slices_S32768x6144_S32768x1024_0_1024)))))))))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 a2))) shapeCasts_S32768x1024_S256x128x8x128) (mulf a3 (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))) transposes_S8x256x128x128_S256x128x8x128_1_3_0_2) (broadcastInDim S256x128x8x128 ![0, 1, 2, 3] bcast_S1x128x8x1_S256x128x8x128_0_1_2_3 (broadcastInDim S1x128x8x1 ![1, 2] bcast_S128x8_S1x128x8x1_1_2 (transpose S128x8 [1, 0] a4 transposes_S8x128_S128x8_1_0)))) shapeCasts_S256x128x8x128_S32768x1024)) a6))) bitsLt_bf16_f32 : FVec Ideal S32768x2048 .bf16) = out a0 a1 a2 a3 a4 a5 a6 := by
  funext i
  have hi : i = ix2 (i 0) (i 1) := by funext a; fin_cases a <;> rfl
  exact (congrArg _ hi).trans (ref_at a0 a1 a2 a3 a4 a5 a6 (i 0) (i 1))

end Cert.Calls.MixRef

end
-- ==== Proof.lean ====
/-
The proof of the claims. Of every launch taken: the frames of the two readings of the kernel and of the reference, and
the equality of the kernel's and the reference's results over the extended reals; of the attention also the two named
constants.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.ReferenceIdeal
public import proofs.«01_k».proof.Proof.AttnBits.Frame
public import proofs.«01_k».proof.Proof.AttnIdeal.Frame
public import proofs.«01_k».proof.Proof.AttnValue.Equal
public import proofs.«01_k».proof.Proof.AttnValue.Precondition
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Calls.Proj
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesReferenceIdeal
public import proofs.«01_k».proof.Proof.Gen.GatesReferenceIdeal.Run
public import proofs.«01_k».proof.Proof.Calls.Gates
public import proofs.«01_k».proof.Proof.Gen.Res
public import proofs.«01_k».proof.Proof.Gen.Res.Frame
public import proofs.«01_k».proof.Proof.Gen.ResIdeal
public import proofs.«01_k».proof.Proof.Gen.ResIdeal.Frame
public import proofs.«01_k».proof.Proof.Gen.ResReferenceIdeal
public import proofs.«01_k».proof.Proof.Gen.ResReferenceIdeal.Run
public import proofs.«01_k».proof.Proof.Calls.Res
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutReferenceIdeal
public import proofs.«01_k».proof.Proof.Gen.OutReferenceIdeal.Run
public import proofs.«01_k».proof.Proof.Calls.Out
public import proofs.«01_k».proof.Proof.Gen.Scores
public import proofs.«01_k».proof.Proof.Gen.Scores.Frame
public import proofs.«01_k».proof.Proof.Gen.ScoresIdeal
public import proofs.«01_k».proof.Proof.Gen.ScoresIdeal.Frame
public import proofs.«01_k».proof.Proof.Gen.ScoresReferenceIdeal
public import proofs.«01_k».proof.Proof.Gen.ScoresReferenceIdeal.Run
public import proofs.«01_k».proof.Proof.Calls.Scores
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixReferenceIdeal
public import proofs.«01_k».proof.Proof.Gen.MixReferenceIdeal.Run
public import proofs.«01_k».proof.Proof.Calls.Mix
public import Idealize.ShloMosaic.Lib.Quiescent
public import Idealize.ShloMosaic.Adequacy
public import Idealize.ShloMosaic.Init

@[expose] public section

set_option Elab.async false

noncomputable section

namespace Cert.Proof

open Idealize.ShloMosaic Idealize.SL.Sem

/-- The reference runs, leaves its arguments, and has no counter to leave raised. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩) (Cert.ReferenceIdeal.Value.run m g)

/-- What the precondition gives a launch. -/
theorem given (m : (ℓ : Loc Cert.KernelIdeal.nD Cert.KernelIdeal.τ Cert.KernelIdeal.sig) → Buf (Elt Ideal) ℓ)
    (hp : Pre_KernelIdeal_finite_logits_and_a_kept_key m) (c : Dev Cert.KernelIdeal.nD) :
    Cert.KernelIdeal.Attn.Given (Cert.KernelIdeal.Attn.V m) c (m ((c.tc : Thread Cert.KernelIdeal.nD Cert.KernelIdeal.τ).loc Cert.KernelIdeal.main_arg3)) :=
  have h := Cert.Pre_finite_logits_and_a_kept_key.holds (hp c)
  { q := fun b r x => by
      obtain ⟨t, ht⟩ := h.1 b r x
      exact ⟨t, (congrFun (Cert.KernelIdeal.Attn.V_q m c) _).trans ht⟩
    k := fun b r x => by
      obtain ⟨t, ht⟩ := h.2.1 b r x
      exact ⟨t, (congrFun (Cert.KernelIdeal.Attn.V_k m c) _).trans ht⟩
    bias := fun b r j => Cert.KernelIdeal.Attn.V_bias m c b r j
    some := h.2.2 }

/-- The two programs end in equal arrays. -/
theorem equal_results : algebraic_KernelIdeal_ReferenceIdeal_pre_finite_logits_and_a_kept_key := fun m g m' g' hp ha => by
  refine ⟨fun c => Cert.KernelIdeal.Attn.outV (Cert.KernelIdeal.Attn.V m) c, ?_, ?_⟩
  · exact (θ_run Cert.KernelIdeal.defs _ _).mono (fun r h c =>
      ⟨((h.1 c).1 (4 : Fin 5)).trans (Cert.KernelIdeal.Attn.arrAt_eq (Cert.KernelIdeal.Attn.V m) c (Cert.KernelIdeal.Attn.score_scV (given m hp c))),
        (((h.1 c).1 (0 : Fin 5)).trans ((Cert.KernelIdeal.Attn.dats (Cert.KernelIdeal.Attn.V m) 0 c).arrAt_in (0 : Fin 5) rfl _)).trans (Cert.KernelIdeal.Attn.V_q m c),
        (((h.1 c).1 (1 : Fin 5)).trans ((Cert.KernelIdeal.Attn.dats (Cert.KernelIdeal.Attn.V m) 0 c).arrAt_in (1 : Fin 5) rfl _)).trans (Cert.KernelIdeal.Attn.V_k m c),
        (((h.1 c).1 (2 : Fin 5)).trans ((Cert.KernelIdeal.Attn.dats (Cert.KernelIdeal.Attn.V m) 0 c).arrAt_in (2 : Fin 5) rfl _)).trans (Cert.KernelIdeal.Attn.V_v m c),
        ((h.1 c).2 Cert.KernelIdeal.main_arg3 Cert.KernelIdeal.Attn.sel_bypasses).trans (Cert.KernelIdeal.Attn.V_sel m c)⟩)
      (Cert.KernelIdeal.Attn.run m g)
  · refine (θ_run Cert.ReferenceIdeal.defs _ _).mono (fun r h c => ⟨(h c).1.trans ?_, (h c).2⟩) (Cert.ReferenceIdeal.Value.run m' g')
    obtain ⟨e0, e1, e2, e3⟩ := ha c
    refine (Cert.ReferenceIdeal.Attn.res_eq m' c).trans (Eq.trans ?_ (Cert.KernelIdeal.Attn.outV_eq (given m hp c)).symm)
    have q0 : Cert.KernelIdeal.Attn.qV (Cert.KernelIdeal.Attn.V m) c = _ := (Cert.KernelIdeal.Attn.V_q m c).trans e0.symm
    have k0 : Cert.KernelIdeal.Attn.kV (Cert.KernelIdeal.Attn.V m) c = _ := (Cert.KernelIdeal.Attn.V_k m c).trans e1.symm
    have v0 : Cert.KernelIdeal.Attn.vV (Cert.KernelIdeal.Attn.V m) c = _ := (Cert.KernelIdeal.Attn.V_v m c).trans e2.symm
    rw [q0, k0, v0, ← e3]

/-- The reference of the projection onto the attention columns runs, leaves its arguments, and has no counter to leave raised. -/
theorem proj_reference_frame [hProjReferenceIdeal : Cert.ProjReferenceIdeal.Facts] : quiescent_ProjReferenceIdeal := fun m g _ =>
  (θ_run Cert.ProjReferenceIdeal.defs _ _).mono (fun r h => ⟨fun c => (h c).2, sem_eq_zero_of_no_sems (by decide) r.2⟩) (Cert.ProjReferenceIdeal.Value.run m g)

/-- The kernel of the projection onto the attention columns and its reference end in equal arrays. -/
theorem proj_equal : algebraic_ProjIdeal_ProjReferenceIdeal := fun m g m' g' _ ha => by
  refine ⟨fun c => Cert.Calls.Proj.out (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), ?_, ?_⟩
  · exact (θ_run Cert.ProjIdeal.defs _ _).mono (fun r h c => ⟨(h c).1.trans (Cert.Calls.Proj.arr_eq m c), (h c).2⟩)
      (Cert.ProjIdeal.Value.run_blocks m g)
  · refine (θ_run Cert.ProjReferenceIdeal.defs _ _).mono (fun r h c => ⟨(h c).1.trans ?_, (h c).2⟩) (Cert.ProjReferenceIdeal.Value.run m' g')
    obtain ⟨e0, e1, e2⟩ := ha c
    refine (Cert.Calls.ProjRef.ref_eq (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))).trans ?_
    rw [e0, e1, e2]

/-- The reference of the projection onto the gate columns runs, leaves its arguments, and has no counter to leave raised. -/
theorem gates_reference_frame [hGatesReferenceIdeal : Cert.GatesReferenceIdeal.Facts] : quiescent_GatesReferenceIdeal := fun m g _ =>
  (θ_run Cert.GatesReferenceIdeal.defs _ _).mono (fun r h => ⟨fun c => (h c).2, sem_eq_zero_of_no_sems (by decide) r.2⟩) (Cert.GatesReferenceIdeal.Value.run m g)

/-- The kernel of the projection onto the gate columns and its reference end in equal arrays. -/
theorem gates_equal : algebraic_GatesIdeal_GatesReferenceIdeal := fun m g m' g' _ ha => by
  refine ⟨fun c => Cert.Calls.Gates.out (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)), ?_, ?_⟩
  · exact (θ_run Cert.GatesIdeal.defs _ _).mono (fun r h c => ⟨(h c).1.trans (Cert.Calls.Gates.arr_eq m c), (h c).2⟩)
      (Cert.GatesIdeal.Value.run_blocks m g)
  · refine (θ_run Cert.GatesReferenceIdeal.defs _ _).mono (fun r h c => ⟨(h c).1.trans ?_, (h c).2⟩) (Cert.GatesReferenceIdeal.Value.run m' g')
    obtain ⟨e0, e1, e2⟩ := ha c
    refine (Cert.Calls.GatesRef.ref_eq (m' ((c.tc : Thread Cert.GatesReferenceIdeal.nD Cert.GatesReferenceIdeal.τ).loc Cert.GatesReferenceIdeal.main_arg0)) (m' ((c.tc : Thread Cert.GatesReferenceIdeal.nD Cert.GatesReferenceIdeal.τ).loc Cert.GatesReferenceIdeal.main_arg1)) (m' ((c.tc : Thread Cert.GatesReferenceIdeal.nD Cert.GatesReferenceIdeal.τ).loc Cert.GatesReferenceIdeal.main_arg2))).trans ?_
    rw [e0, e1, e2]

/-- The reference of the residual norm runs, leaves its arguments, and has no counter to leave raised. -/
theorem res_reference_frame [hResReferenceIdeal : Cert.ResReferenceIdeal.Facts] : quiescent_ResReferenceIdeal := fun m g _ =>
  (θ_run Cert.ResReferenceIdeal.defs _ _).mono (fun r h => ⟨fun c => (h c).2, sem_eq_zero_of_no_sems (by decide) r.2⟩) (Cert.ResReferenceIdeal.Value.run m g)

/-- The kernel of the residual norm and its reference end in equal arrays. -/
theorem res_equal : algebraic_ResIdeal_ResReferenceIdeal := fun m g m' g' _ ha => by
  refine ⟨fun c => Cert.Calls.Res.out (m ((c.tc : Thread Cert.ResIdeal.nD Cert.ResIdeal.τ).loc Cert.ResIdeal.main_arg0)) (m ((c.tc : Thread Cert.ResIdeal.nD Cert.ResIdeal.τ).loc Cert.ResIdeal.main_arg1)) (m ((c.tc : Thread Cert.ResIdeal.nD Cert.ResIdeal.τ).loc Cert.ResIdeal.main_arg2)), ?_, ?_⟩
  · exact (θ_run Cert.ResIdeal.defs _ _).mono (fun r h c => ⟨(h c).1.trans (Cert.Calls.Res.arr_eq m c), (h c).2⟩)
      (Cert.ResIdeal.Value.run_blocks m g)
  · refine (θ_run Cert.ResReferenceIdeal.defs _ _).mono (fun r h c => ⟨(h c).1.trans ?_, (h c).2⟩) (Cert.ResReferenceIdeal.Value.run m' g')
    obtain ⟨e0, e1, e2⟩ := ha c
    refine (Cert.Calls.ResRef.ref_eq (m' ((c.tc : Thread Cert.ResReferenceIdeal.nD Cert.ResReferenceIdeal.τ).loc Cert.ResReferenceIdeal.main_arg0)) (m' ((c.tc : Thread Cert.ResReferenceIdeal.nD Cert.ResReferenceIdeal.τ).loc Cert.ResReferenceIdeal.main_arg1)) (m' ((c.tc : Thread Cert.ResReferenceIdeal.nD Cert.ResReferenceIdeal.τ).loc Cert.ResReferenceIdeal.main_arg2))).trans ?_
    rw [e0, e1, e2]

/-- The reference of the output projection runs, leaves its arguments, and has no counter to leave raised. -/
theorem out_reference_frame [hOutReferenceIdeal : Cert.OutReferenceIdeal.Facts] : quiescent_OutReferenceIdeal := fun m g _ =>
  (θ_run Cert.OutReferenceIdeal.defs _ _).mono (fun r h => ⟨fun c => (h c).2.2, sem_eq_zero_of_no_sems (by decide) r.2⟩) (Cert.OutReferenceIdeal.Value.run m g)

/-- The kernel of the output projection and its reference end in equal arrays. -/
theorem out_equal : algebraic_OutIdeal_OutReferenceIdeal := fun m g m' g' _ ha => by
  refine ⟨fun c => Cert.Calls.Out.out4 (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)),
    fun c => Cert.Calls.Out.out5 (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)), ?_, ?_⟩
  · exact (θ_run Cert.OutIdeal.defs _ _).mono (fun r h c => ⟨(h c).1.trans (Cert.Calls.Out.arr4_eq m c), (h c).2.1.trans (Cert.Calls.Out.arr5_eq m c), (h c).2.2⟩)
      (Cert.OutIdeal.Value.run_blocks m g)
  · refine (θ_run Cert.OutReferenceIdeal.defs _ _).mono (fun r h c => ⟨(h c).1.trans ?_, (h c).2.1.trans ?_, (h c).2.2⟩) (Cert.OutReferenceIdeal.Value.run m' g')
    · obtain ⟨e0, e1, e2, e3⟩ := ha c
      refine (Cert.Calls.OutRef.ref4_eq (m' ((c.tc : Thread Cert.OutReferenceIdeal.nD Cert.OutReferenceIdeal.τ).loc Cert.OutReferenceIdeal.main_arg0)) (m' ((c.tc : Thread Cert.OutReferenceIdeal.nD Cert.OutReferenceIdeal.τ).loc Cert.OutReferenceIdeal.main_arg1)) (m' ((c.tc : Thread Cert.OutReferenceIdeal.nD Cert.OutReferenceIdeal.τ).loc Cert.OutReferenceIdeal.main_arg2))).trans ?_
      rw [e0, e1, e2]
    · obtain ⟨e0, e1, e2, e3⟩ := ha c
      refine (Cert.Calls.OutRef.ref5_eq (m' ((c.tc : Thread Cert.OutReferenceIdeal.nD Cert.OutReferenceIdeal.τ).loc Cert.OutReferenceIdeal.main_arg0)) (m' ((c.tc : Thread Cert.OutReferenceIdeal.nD Cert.OutReferenceIdeal.τ).loc Cert.OutReferenceIdeal.main_arg1)) (m' ((c.tc : Thread Cert.OutReferenceIdeal.nD Cert.OutReferenceIdeal.τ).loc Cert.OutReferenceIdeal.main_arg2)) (m' ((c.tc : Thread Cert.OutReferenceIdeal.nD Cert.OutReferenceIdeal.τ).loc Cert.OutReferenceIdeal.main_arg3))).trans ?_
      rw [e0, e1, e2, e3]

/-- The reference of the PEER scores runs, leaves its arguments, and has no counter to leave raised. -/
theorem scores_reference_frame [hScoresReferenceIdeal : Cert.ScoresReferenceIdeal.Facts] : quiescent_ScoresReferenceIdeal := fun m g _ =>
  (θ_run Cert.ScoresReferenceIdeal.defs _ _).mono (fun r h => ⟨fun c => (h c).2, sem_eq_zero_of_no_sems (by decide) r.2⟩) (Cert.ScoresReferenceIdeal.Value.run m g)

/-- The kernel of the PEER scores and its reference end in equal arrays. -/
theorem scores_equal : algebraic_ScoresIdeal_ScoresReferenceIdeal := fun m g m' g' _ ha => by
  refine ⟨fun c => Cert.Calls.Scores.out (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)), ?_, ?_⟩
  · exact (θ_run Cert.ScoresIdeal.defs _ _).mono (fun r h c => ⟨(h c).1.trans (Cert.Calls.Scores.arr_eq m c), (h c).2⟩)
      (Cert.ScoresIdeal.Value.run_blocks m g)
  · refine (θ_run Cert.ScoresReferenceIdeal.defs _ _).mono (fun r h c => ⟨(h c).1.trans ?_, (h c).2⟩) (Cert.ScoresReferenceIdeal.Value.run m' g')
    obtain ⟨e0, e1, e2⟩ := ha c
    refine (Cert.Calls.ScoresRef.ref_eq (m' ((c.tc : Thread Cert.ScoresReferenceIdeal.nD Cert.ScoresReferenceIdeal.τ).loc Cert.ScoresReferenceIdeal.main_arg0)) (m' ((c.tc : Thread Cert.ScoresReferenceIdeal.nD Cert.ScoresReferenceIdeal.τ).loc Cert.ScoresReferenceIdeal.main_arg1)) (m' ((c.tc : Thread Cert.ScoresReferenceIdeal.nD Cert.ScoresReferenceIdeal.τ).loc Cert.ScoresReferenceIdeal.main_arg2))).trans ?_
    rw [e0, e1, e2]

/-- The reference of the gated mixing runs, leaves its arguments, and has no counter to leave raised. -/
theorem mix_reference_frame [hMixReferenceIdeal : Cert.MixReferenceIdeal.Facts] : quiescent_MixReferenceIdeal := fun m g _ =>
  (θ_run Cert.MixReferenceIdeal.defs _ _).mono (fun r h => ⟨fun c => (h c).2, sem_eq_zero_of_no_sems (by decide) r.2⟩) (Cert.MixReferenceIdeal.Value.run m g)

/-- The kernel of the gated mixing and its reference end in equal arrays. -/
theorem mix_equal : algebraic_MixIdeal_MixReferenceIdeal := fun m g m' g' _ ha => by
  refine ⟨fun c => Cert.Calls.Mix.out (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)), ?_, ?_⟩
  · exact (θ_run Cert.MixIdeal.defs _ _).mono (fun r h c => ⟨(h c).1.trans (Cert.Calls.Mix.arr_eq m c), (h c).2⟩)
      (Cert.MixIdeal.Value.run_blocks m g)
  · refine (θ_run Cert.MixReferenceIdeal.defs _ _).mono (fun r h c => ⟨(h c).1.trans ?_, (h c).2⟩) (Cert.MixReferenceIdeal.Value.run m' g')
    obtain ⟨e0, e1, e2, e3, e4, e5, e6⟩ := ha c
    refine (Cert.Calls.MixRef.ref_eq (m' ((c.tc : Thread Cert.MixReferenceIdeal.nD Cert.MixReferenceIdeal.τ).loc Cert.MixReferenceIdeal.main_arg0)) (m' ((c.tc : Thread Cert.MixReferenceIdeal.nD Cert.MixReferenceIdeal.τ).loc Cert.MixReferenceIdeal.main_arg1)) (m' ((c.tc : Thread Cert.MixReferenceIdeal.nD Cert.MixReferenceIdeal.τ).loc Cert.MixReferenceIdeal.main_arg2)) (m' ((c.tc : Thread Cert.MixReferenceIdeal.nD Cert.MixReferenceIdeal.τ).loc Cert.MixReferenceIdeal.main_arg3)) (m' ((c.tc : Thread Cert.MixReferenceIdeal.nD Cert.MixReferenceIdeal.τ).loc Cert.MixReferenceIdeal.main_arg4)) (m' ((c.tc : Thread Cert.MixReferenceIdeal.nD Cert.MixReferenceIdeal.τ).loc Cert.MixReferenceIdeal.main_arg5)) (m' ((c.tc : Thread Cert.MixReferenceIdeal.nD Cert.MixReferenceIdeal.τ).loc Cert.MixReferenceIdeal.main_arg6))).trans ?_
    rw [e0, e1, e2, e3, e4, e5, e6]

theorem claim : Cert.Claim :=
  ⟨Cert.Kernel.Gen.facts, Cert.KernelIdeal.Gen.facts, Cert.ReferenceIdeal.Gen.facts, Cert.Proj.Gen.facts, Cert.ProjIdeal.Gen.facts, Cert.ProjReferenceIdeal.Gen.facts,
    Cert.Gates.Gen.facts, Cert.GatesIdeal.Gen.facts, Cert.GatesReferenceIdeal.Gen.facts,
    Cert.Res.Gen.facts, Cert.ResIdeal.Gen.facts, Cert.ResReferenceIdeal.Gen.facts,
    Cert.Out.Gen.facts, Cert.OutIdeal.Gen.facts, Cert.OutReferenceIdeal.Gen.facts,
    Cert.Scores.Gen.facts, Cert.ScoresIdeal.Gen.facts, Cert.ScoresReferenceIdeal.Gen.facts,
    Cert.Mix.Gen.facts, Cert.MixIdeal.Gen.facts, Cert.MixReferenceIdeal.Gen.facts,
    Cert.Pre_finite_logits_and_a_kept_key.preFacts,
    fun m g _ => Cert.Kernel.Attn.frame m g,
    fun m g _ => Cert.KernelIdeal.Attn.frame m g,
    fun m g _ => Cert.KernelIdeal.Attn.frame m g,
    fun m g _ => reference_frame m g,
    fun m g _ => reference_frame m g,
    fun m g _ => Cert.Proj.Gen.frame m g,
    fun m g _ => Cert.ProjIdeal.Gen.frame m g,
    proj_reference_frame,
    fun m g _ => Cert.Gates.Gen.frame m g,
    fun m g _ => Cert.GatesIdeal.Gen.frame m g,
    gates_reference_frame,
    fun m g _ => Cert.Res.Gen.frame m g,
    fun m g _ => Cert.ResIdeal.Gen.frame m g,
    res_reference_frame,
    fun m g _ => Cert.Out.Gen.frame m g,
    fun m g _ => Cert.OutIdeal.Gen.frame m g,
    out_reference_frame,
    fun m g _ => Cert.Scores.Gen.frame m g,
    fun m g _ => Cert.ScoresIdeal.Gen.frame m g,
    scores_reference_frame,
    fun m g _ => Cert.Mix.Gen.frame m g,
    fun m g _ => Cert.MixIdeal.Gen.frame m g,
    mix_reference_frame,
    ⟨IdealRules.named_const.statement _ _ _ _ _ rfl, IdealRules.named_const.statement _ _ _ _ _ rfl⟩,
    equal_results,
    trivial,
    proj_equal,
    trivial,
    gates_equal,
    trivial,
    res_equal,
    trivial,
    out_equal,
    trivial,
    scores_equal,
    trivial,
    mix_equal⟩

end Cert.Proof

end
